-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite24 [hPre_finite24 : Cert.Pre_finite24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite24 [hPre_finite24 : Cert.Pre_finite24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2))) = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_finite25 [hPre_finite25 : Cert.Pre_finite25.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_finite25 [hPre_finite25 : Cert.Pre_finite25.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3))) = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite26 [hPre_finite26 : Cert.Pre_finite26.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite26.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite26 [hPre_finite26 : Cert.Pre_finite26.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite26.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Kernel24Ideal_pre_finite24 [hKernel24Ideal : Cert.Kernel24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite24 m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Reference24Ideal_pre_finite24 [hReference24Ideal : Cert.Reference24Ideal.Facts] [hPre_finite24 : Cert.Pre_finite24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Kernel25Ideal_pre_finite25 [hKernel25Ideal : Cert.Kernel25Ideal.Facts] [hPre_finite25 : Cert.Pre_finite25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_finite25 m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Reference25Ideal_pre_finite25 [hReference25Ideal : Cert.Reference25Ideal.Facts] [hPre_finite25 : Cert.Pre_finite25.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_finite25 m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Kernel26Ideal_pre_finite26 [hKernel26Ideal : Cert.Kernel26Ideal.Facts] [hPre_finite26 : Cert.Pre_finite26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite26 m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Reference26Ideal_pre_finite26 [hReference26Ideal : Cert.Reference26Ideal.Facts] [hPre_finite26 : Cert.Pre_finite26.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite26 m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def preserves_Kernel_KernelIdeal : Prop :=
  True

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v0_0) i = v0 c i)
          ∧ (∀ i : (⟨2, ![4096, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v0_1) i = v1 c i)
          ∧ (∀ i : (⟨2, ![4096, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 i = 1#1 → r.2.mem ((c.tc : Thread Cert.KernelIdeal.nD Cert.KernelIdeal.τ).loc Cert.KernelIdeal.main_v0_2) i = v2 c i)
          ∧ (∀ i : (⟨2, ![8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v183) i = v0 c i)
          ∧ (∀ i : (⟨2, ![4096, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v179) i = v1 c i)
          ∧ (∀ i : (⟨2, ![4096, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 i = 1#1 → r.2.mem ((c.tc : Thread Cert.ReferenceIdeal.nD Cert.ReferenceIdeal.τ).loc Cert.ReferenceIdeal.main_v174) i = v2 c i)
          ∧ (∀ i : (⟨2, ![8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 i = 1#1 → r.2.mem ((c.tc : Thread Cert.ReferenceIdeal.nD Cert.ReferenceIdeal.τ).loc Cert.ReferenceIdeal.main_v182) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_on_written3 [hKernel3Ideal : Cert.Kernel3Ideal.Facts] [hReference3Ideal : Cert.Reference3Ideal.Facts] [hOn_written3 : Cert.On_written3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨4, ![4, 1, 1024, 1408]⟩ : Shape).Idx, (Cert.On_written3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) i = 1#1 → r.2.mem ((c.tc : Thread Cert.Kernel3Ideal.nD Cert.Kernel3Ideal.τ).loc Cert.Kernel3Ideal.main_v0) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨4, ![4, 1, 1024, 1408]⟩ : Shape).Idx, (Cert.On_written3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) i = 1#1 → r.2.mem ((c.tc : Thread Cert.Reference3Ideal.nD Cert.Reference3Ideal.τ).loc Cert.Reference3Ideal.main_v12) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v27) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v27) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal_on_written24_pre_finite24 [hKernel24Ideal : Cert.Kernel24Ideal.Facts] [hReference24Ideal : Cert.Reference24Ideal.Facts] [hPre_finite24 : Cert.Pre_finite24.Facts] [hOn_written24 : Cert.On_written24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite24 m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          (∀ i : (⟨2, ![4096, 1024]⟩ : Shape).Idx, (Cert.On_written24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2))) i = 1#1 → r.2.mem ((c.tc : Thread Cert.Kernel24Ideal.nD Cert.Kernel24Ideal.τ).loc Cert.Kernel24Ideal.main_v0) i = v0 c i)
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          (∀ i : (⟨2, ![4096, 1024]⟩ : Shape).Idx, (Cert.On_written24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2))) i = 1#1 → r.2.mem ((c.tc : Thread Cert.Reference24Ideal.nD Cert.Reference24Ideal.τ).loc Cert.Reference24Ideal.main_v96) i = v0 c i)
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal_pre_finite25 [hKernel25Ideal : Cert.Kernel25Ideal.Facts] [hReference25Ideal : Cert.Reference25Ideal.Facts] [hPre_finite25 : Cert.Pre_finite25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_finite25 m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v77) = v0 c
          ∧ r.2.mem ((c.tc : Thread Cert.Reference25Ideal.nD Cert.Reference25Ideal.τ).loc Cert.Reference25Ideal.main_v74) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal_pre_finite26 [hKernel26Ideal : Cert.Kernel26Ideal.Facts] [hReference26Ideal : Cert.Reference26Ideal.Facts] [hPre_finite26 : Cert.Pre_finite26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite26 m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v77) = v0 c
          ∧ r.2.mem ((c.tc : Thread Cert.Reference26Ideal.nD Cert.Reference26Ideal.τ).loc Cert.Reference26Ideal.main_v74) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite24 : Cert.Pre_finite24.Facts) (hPre_finite25 : Cert.Pre_finite25.Facts) (hPre_finite26 : Cert.Pre_finite26.Facts) (hOn_written : Cert.On_written.Facts) (hOn_written3 : Cert.On_written3.Facts) (hOn_written24 : Cert.On_written24.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Kernel24Ideal_pre_finite24 (hKernel24Ideal := hKernel24Ideal) (hPre_finite24 := hPre_finite24)
    ∧ quiescent_Reference24Ideal (hReference24Ideal := hReference24Ideal)
    ∧ quiescent_Reference24Ideal_pre_finite24 (hReference24Ideal := hReference24Ideal) (hPre_finite24 := hPre_finite24)
    ∧ quiescent_Kernel25 (hKernel25 := hKernel25)
    ∧ quiescent_Kernel25Ideal (hKernel25Ideal := hKernel25Ideal)
    ∧ quiescent_Kernel25Ideal_pre_finite25 (hKernel25Ideal := hKernel25Ideal) (hPre_finite25 := hPre_finite25)
    ∧ quiescent_Reference25Ideal (hReference25Ideal := hReference25Ideal)
    ∧ quiescent_Reference25Ideal_pre_finite25 (hReference25Ideal := hReference25Ideal) (hPre_finite25 := hPre_finite25)
    ∧ quiescent_Kernel26 (hKernel26 := hKernel26)
    ∧ quiescent_Kernel26Ideal (hKernel26Ideal := hKernel26Ideal)
    ∧ quiescent_Kernel26Ideal_pre_finite26 (hKernel26Ideal := hKernel26Ideal) (hPre_finite26 := hPre_finite26)
    ∧ quiescent_Reference26Ideal (hReference26Ideal := hReference26Ideal)
    ∧ quiescent_Reference26Ideal_pre_finite26 (hReference26Ideal := hReference26Ideal) (hPre_finite26 := hPre_finite26)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_written3 (hKernel3Ideal := hKernel3Ideal) (hReference3Ideal := hReference3Ideal) (hOn_written3 := hOn_written3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_on_written24_pre_finite24 (hKernel24Ideal := hKernel24Ideal) (hReference24Ideal := hReference24Ideal) (hPre_finite24 := hPre_finite24) (hOn_written24 := hOn_written24)
    ∧ preserves_Kernel25_Kernel25Ideal
    ∧ algebraic_Kernel25Ideal_Reference25Ideal_pre_finite25 (hKernel25Ideal := hKernel25Ideal) (hReference25Ideal := hReference25Ideal) (hPre_finite25 := hPre_finite25)
    ∧ preserves_Kernel26_Kernel26Ideal
    ∧ algebraic_Kernel26Ideal_Reference26Ideal_pre_finite26 (hKernel26Ideal := hKernel26Ideal) (hReference26Ideal := hReference26Ideal) (hPre_finite26 := hPre_finite26)
-- ==== On_written.lean ====
abbrev S4096x1024 : Shape := ⟨2, ![4096, 1024]⟩
abbrev S4096x512 : Shape := ⟨2, ![4096, 512]⟩
abbrev S12 : Shape := ⟨1, ![12]⟩
abbrev S_ : Shape := ⟨0, ![]⟩
abbrev S8x128 : Shape := ⟨2, ![8, 128]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S8x128 : S_.BroadcastsInDim S8x128 (![] : Fin 0 → Fin S8x128.rank)

variable [Facts]

def fn {F : FTy → Type} [FloatOps F] (main_arg0 : FVec F S4096x1024 .f32) (main_arg1 : FVec F S4096x512 .f32) (main_arg2 : FVec F S12 .f32) (main_arg3 : FVec F S4096x1024 .bf16) : IVec S4096x1024 1 × IVec S4096x512 1 × IVec S4096x512 1 × IVec S8x128 1 :=
  let main_v0 : IVec S4096x1024 32 := iotaInDim S4096x1024 32 1
  let main_c : IVec S_ 32 := constantI S_ 32 768#32
  let main_v1 : IVec S4096x1024 32 := broadcastInDim S4096x1024 ![] bcast_S_S4096x1024 main_c
  let main_v2 : IVec S4096x1024 1 := cmpi .slt main_v0 main_v1
  let main_c_0 : IVec S_ 1 := constantI S_ 1 1#1
  let main_v3 : IVec S4096x512 1 := broadcastInDim S4096x512 ![] bcast_S_S4096x512 main_c_0
  let main_c_1 : IVec S_ 1 := constantI S_ 1 1#1
  let main_v4 : IVec S4096x512 1 := broadcastInDim S4096x512 ![] bcast_S_S4096x512 main_c_1
  let main_c_2 : IVec S_ 1 := constantI S_ 1 1#1
  let main_v5 : IVec S8x128 1 := broadcastInDim S8x128 ![] bcast_S_S8x128 main_c_2
  (main_v2, main_v3, main_v4, main_v5)
-- ==== On_written24.lean ====
abbrev S4096x1024 : Shape := ⟨2, ![4096, 1024]⟩
abbrev S4096x512 : Shape := ⟨2, ![4096, 512]⟩
abbrev S12 : Shape := ⟨1, ![12]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x512 .f32) (main_arg2 : FVec F S12 .f32) : IVec S4096x1024 1 :=
  let main_v0 : IVec S4096x1024 32 := iotaInDim S4096x1024 32 1
  let main_c : IVec S_ 32 := constantI S_ 32 768#32
  let main_v1 : IVec S4096x1024 32 := broadcastInDim S4096x1024 ![] bcast_S_S4096x1024 main_c
  let main_v2 : IVec S4096x1024 1 := cmpi .slt main_v0 main_v1
  main_v2
-- ==== On_written3.lean ====
abbrev S4096x1024 : Shape := ⟨2, ![4096, 1024]⟩
abbrev S4096x2816 : Shape := ⟨2, ![4096, 2816]⟩
abbrev S4x1x1024x1408 : Shape := ⟨4, ![4, 1, 1024, 1408]⟩
abbrev S_ : Shape := ⟨0, ![]⟩

class Facts : Prop where
  bcast_S_S4x1x1024x1408 : S_.BroadcastsInDim S4x1x1024x1408 (![] : Fin 0 → Fin S4x1x1024x1408.rank)

variable [Facts]

def fn {F : FTy → Type} [FloatOps F] (main_arg0 : FVec F S4096x1024 .bf16) (main_arg1 : FVec F S4096x2816 .bf16) : IVec S4x1x1024x1408 1 :=
  let main_v0 : IVec S4x1x1024x1408 32 := iotaInDim S4x1x1024x1408 32 0
  let main_c : IVec S_ 32 := constantI S_ 32 2#32
  let main_v1 : IVec S4x1x1024x1408 32 := broadcastInDim S4x1x1024x1408 ![] bcast_S_S4x1x1024x1408 main_c
  let main_v2 : IVec S4x1x1024x1408 1 := cmpi .slt main_v0 main_v1
  main_v2
-- ==== Pre_finite.lean ====
abbrev S4096x1024 : Shape := ⟨2, ![4096, 1024]⟩
abbrev S4096x512 : Shape := ⟨2, ![4096, 512]⟩
abbrev S12 : Shape := ⟨1, ![12]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S12 : S_.BroadcastsInDim S12 (![] : Fin 0 → Fin S12.rank)
  reducesTo_S12_S_d0 : S12.ReducesTo [0] S_
  bitsLt_bf16_f32 : FTy.bits .bf16 < FTy.bits .f32

variable [Facts]

def fn_part1 {F : FTy → Type} [FloatOps F] (main_v13 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v13 main_v18
  main_v19

def fn {F : FTy → Type} [FloatOps F] (main_arg0 : FVec F S4096x1024 .f32) (main_arg1 : FVec F S4096x512 .f32) (main_arg2 : FVec F S12 .f32) (main_arg3 : FVec F S4096x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S4096x1024 .f32 := (extf .f32 · bitsLt_bf16_f32) main_arg3
  let main_v15 : FVec F S4096x1024 .f32 := Host.absf main_v14
  let main_cst_4 : FVec F S_ .f32 := constant S_ .f32 0x7F800000#32
  let main_v16 : FVec F S4096x1024 .f32 := broadcastInDim S4096x1024 ![] bcast_S_S4096x1024 main_cst_4
  fn_part1 (F := F) main_v13 main_v15 main_v16
-- ==== Pre_finite24.lean ====
abbrev S4096x1024 : Shape := ⟨2, ![4096, 1024]⟩
abbrev S4096x512 : Shape := ⟨2, ![4096, 512]⟩
abbrev S12 : Shape := ⟨1, ![12]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S12 : S_.BroadcastsInDim S12 (![] : Fin 0 → Fin S12.rank)
  reducesTo_S12_S_d0 : S12.ReducesTo [0] S_

variable [Facts]

def fn {F : FTy → Type} [FloatOps F] (main_arg0 : FVec F S4096x1024 .f32) (main_arg1 : FVec F S4096x512 .f32) (main_arg2 : FVec F S12 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  main_v13
-- ==== Pre_finite25.lean ====
abbrev S4096x1024 : Shape := ⟨2, ![4096, 1024]⟩
abbrev S512x512 : Shape := ⟨2, ![512, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bitsLt_bf16_f32 : FTy.bits .bf16 < FTy.bits .f32

variable [Facts]

def fn {F : FTy → Type} [FloatOps F] (main_arg0 : FVec F S4096x1024 .f32) (main_arg1 : FVec F S512x512 .f32) (main_arg2 : FVec F S4096x1024 .bf16) (main_arg3 : FVec F S4096x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S4096x1024 .f32 := (extf .f32 · bitsLt_bf16_f32) main_arg2
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v8 main_v13
  main_v14
-- ==== Pre_finite26.lean ====
abbrev S4096x1792 : Shape := ⟨2, ![4096, 1792]⟩
abbrev S512x512 : Shape := ⟨2, ![512, 512]⟩
abbrev S4096x1024 : Shape := ⟨2, ![4096, 1024]⟩
abbrev S_ : Shape := ⟨0, ![]⟩

class Facts : Prop where
  bcast_S_S4096x1792 : S_.BroadcastsInDim S4096x1792 (![] : Fin 0 → Fin S4096x1792.rank)
  reducesTo_S4096x1792_S_d0_1 : S4096x1792.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x1792 .f32) (main_arg1 : FVec F S512x512 .f32) (main_arg2 : FVec F S4096x1024 .bf16) (main_arg3 : FVec F S4096x1792 .bf16) : IVec S_ 1 :=
  let main_v0 : FVec F S4096x1792 .f32 := Host.absf main_arg0
  let main_cst : FVec F S_ .f32 := constant S_ .f32 0x7F800000#32
  let main_v1 : FVec F S4096x1792 .f32 := broadcastInDim S4096x1792 ![] bcast_S_S4096x1792 main_cst
  let main_v2 : IVec S4096x1792 1 := cmpf .olt main_v0 main_v1
  let main_c : IVec S_ 1 := constantI S_ 1 1#1
  let main_v3 : IVec S_ 1 := (fun x v => Host.reduce IntOp.andi x v reducesTo_S4096x1792_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S4096x1024 .f32 := (extf .f32 · bitsLt_bf16_f32) main_arg2
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v8 main_v13
  main_v14
-- ==== Kernel.lean ====
abbrev S4096x1024 : Shape := ⟨2, ![4096, 1024]⟩
abbrev S4096x512 : Shape := ⟨2, ![4096, 512]⟩
abbrev S12 : Shape := ⟨1, ![12]⟩
abbrev S8x128 : Shape := ⟨2, ![8, 128]⟩
abbrev S128x768 : Shape := ⟨2, ![128, 768]⟩
abbrev S128x512 : Shape := ⟨2, ![128, 512]⟩
abbrev S128x256 : Shape := ⟨2, ![128, 256]⟩
abbrev S256x256 : Shape := ⟨2, ![256, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩
abbrev S1x1 : Shape := ⟨2, ![1, 1]⟩
abbrev S256x512 : Shape := ⟨2, ![256, 512]⟩

abbrev nBuf : Space → Nat
  | .hbm => 8
  | .vmem => 15
  | .smem => 1
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S12, .f32⟩
  | .hbm, ⟨3, _⟩ => ⟨S4096x1024, .bf16⟩
  | .hbm, ⟨4, _⟩ => ⟨S4096x1024, .bf16⟩
  | .hbm, ⟨5, _⟩ => ⟨S4096x512, .f32⟩
  | .hbm, ⟨6, _⟩ => ⟨S4096x512, .f32⟩
  | .hbm, ⟨7, _⟩ => ⟨S8x128, .f32⟩
  | .local _ .vmem, ⟨0, _⟩ => ⟨S128x768, .f32⟩
  | .local _ .vmem, ⟨1, _⟩ => ⟨S128x768, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x768, .bf16⟩
  | .local _ .vmem, ⟨7, _⟩ => ⟨S128x768, .bf16⟩
  | .local _ .vmem, ⟨8, _⟩ => ⟨S128x768, .bf16⟩
  | .local _ .vmem, ⟨9, _⟩ => ⟨S128x768, .bf16⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S8x128, .f32⟩
  | .local _ .smem, ⟨0, _⟩ => ⟨S12, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S4096x1024 : Shape := ⟨2, ![4096, 1024]⟩
abbrev S4096x512 : Shape := ⟨2, ![4096, 512]⟩
abbrev S12 : Shape := ⟨1, ![12]⟩
abbrev S4096x768 : Shape := ⟨2, ![4096, 768]⟩
abbrev S2x2048x12x64 : Shape := ⟨4, ![2, 2048, 12, 64]⟩
abbrev S2x2048x2x4x64 : Shape := ⟨5, ![2, 2048, 2, 4, 64]⟩
abbrev S2x2048x1x4x64 : Shape := ⟨5, ![2, 2048, 1, 4, 64]⟩
abbrev S2x2048x4x64 : Shape := ⟨4, ![2, 2048, 4, 64]⟩
abbrev S2x16x128x4x64 : Shape := ⟨5, ![2, 16, 128, 4, 64]⟩
abbrev S_ : Shape := ⟨0, ![]⟩
abbrev S2x17x128x4x64 : Shape := ⟨5, ![2, 17, 128, 4, 64]⟩
abbrev S2x16x256x4x64 : Shape := ⟨5, ![2, 16, 256, 4, 64]⟩
abbrev S2x2048x768 : Shape := ⟨3, ![2, 2048, 768]⟩
abbrev S1 : Shape := ⟨1, ![1]⟩
abbrev S2x16x128x4x3x64 : Shape := ⟨6, ![2, 16, 128, 4, 3, 64]⟩
abbrev S2x16x4x256x128x3 : Shape := ⟨6, ![2, 16, 4, 256, 128, 3]⟩
abbrev S2x16x4x3x128x256 : Shape := ⟨6, ![2, 16, 4, 3, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x3x1x1 : Shape := ⟨4, ![4, 3, 1, 1]⟩
abbrev S1x1x128x256 : Shape := ⟨4, ![1, 1, 128, 256]⟩
abbrev S4x3x128x256 : Shape := ⟨4, ![4, 3, 128, 256]⟩
abbrev S1x16x1x1x128x256 : Shape := ⟨6, ![1, 16, 1, 1, 128, 256]⟩
abbrev S1x1x4x3x128x256 : Shape := ⟨6, ![1, 1, 4, 3, 128, 256]⟩
abbrev S1x1x4x3x1x1 : Shape := ⟨6, ![1, 1, 4, 3, 1, 1]⟩
abbrev S2x16x4x3x128 : Shape := ⟨5, ![2, 16, 4, 3, 128]⟩
abbrev S2x16x4x3x128x1 : Shape := ⟨6, ![2, 16, 4, 3, 128, 1]⟩
abbrev S2x16x4x64x3x128 : Shape := ⟨6, ![2, 16, 4, 64, 3, 128]⟩
abbrev S2x16x4x64x256 : Shape := ⟨5, ![2, 16, 4, 64, 256]⟩
abbrev S4x3x1 : Shape := ⟨3, ![4, 3, 1]⟩
abbrev S2x16x4x128x3x64 : Shape := ⟨6, ![2, 16, 4, 128, 3, 64]⟩
abbrev S2x16x4x256x64 : Shape := ⟨5, ![2, 16, 4, 256, 64]⟩
abbrev S4096x256 : Shape := ⟨2, ![4096, 256]⟩
abbrev S1x128 : Shape := ⟨2, ![1, 128]⟩
abbrev S8x128 : Shape := ⟨2, ![8, 128]⟩

abbrev nBuf : Space → Nat
  | .hbm => 239
  | .vmem => 0
  | .smem => 0
  | _ => 0

abbrev hbmTy0_0 (i : Nat) : BufTy := match i % 128 with
  | 0 => ⟨S4096x1024, .f32⟩
  | 1 => ⟨S4096x512, .f32⟩
  | 2 => ⟨S12, .f32⟩
  | 3 => ⟨S4096x1024, .bf16⟩
  | 4 => ⟨S4096x768, .f32⟩
  | 5 => ⟨S2x2048x12x64, .f32⟩
  | 6 => ⟨S2x2048x2x4x64, .f32⟩
  | 7 => ⟨S2x2048x1x4x64, .f32⟩
  | 8 => ⟨S2x2048x4x64, .f32⟩
  | 9 => ⟨S2x16x128x4x64, .f32⟩
  | 10 => ⟨S_, .i32⟩
  | 11 => ⟨S_, .f32⟩
  | 12 => ⟨S2x17x128x4x64, .f32⟩
  | 13 => ⟨S2x16x128x4x64, .f32⟩
  | 14 => ⟨S2x16x128x4x64, .f32⟩
  | 15 => ⟨S2x16x256x4x64, .f32⟩
  | 16 => ⟨S2x2048x1x4x64, .f32⟩
  | 17 => ⟨S2x2048x4x64, .f32⟩
  | 18 => ⟨S2x16x128x4x64, .f32⟩
  | 19 => ⟨S_, .i32⟩
  | 20 => ⟨S_, .f32⟩
  | 21 => ⟨S2x17x128x4x64, .f32⟩
  | 22 => ⟨S2x16x128x4x64, .f32⟩
  | 23 => ⟨S2x16x128x4x64, .f32⟩
  | 24 => ⟨S2x16x256x4x64, .f32⟩
  | 25 => ⟨S4096x768, .bf16⟩
  | 26 => ⟨S4096x768, .f32⟩
  | 27 => ⟨S2x2048x768, .f32⟩
  | 28 => ⟨S_, .f32⟩
  | 29 => ⟨S1, .f32⟩
  | 30 => ⟨S_, .f32⟩
  | 31 => ⟨S1, .f32⟩
  | 32 => ⟨S_, .f32⟩
  | 33 => ⟨S1, .f32⟩
  | 34 => ⟨S_, .f32⟩
  | 35 => ⟨S1, .f32⟩
  | 36 => ⟨S_, .f32⟩
  | 37 => ⟨S1, .f32⟩
  | 38 => ⟨S_, .f32⟩
  | 39 => ⟨S1, .f32⟩
  | 40 => ⟨S_, .f32⟩
  | 41 => ⟨S1, .f32⟩
  | 42 => ⟨S_, .f32⟩
  | 43 => ⟨S1, .f32⟩
  | 44 => ⟨S_, .f32⟩
  | 45 => ⟨S1, .f32⟩
  | 46 => ⟨S_, .f32⟩
  | 47 => ⟨S1, .f32⟩
  | 48 => ⟨S_, .f32⟩
  | 49 => ⟨S1, .f32⟩
  | 50 => ⟨S_, .f32⟩
  | 51 => ⟨S1, .f32⟩
  | 52 => ⟨S12, .f32⟩
  | 53 => ⟨S2x16x128x4x3x64, .f32⟩
  | 54 => ⟨S2x16x4x256x128x3, .f32⟩
  | 55 => ⟨S2x16x4x3x128x256, .f32⟩
  | 56 => ⟨S_, .f32⟩
  | 57 => ⟨S2x16x4x3x128x256, .f32⟩
  | 58 => ⟨S2x16x4x3x128x256, .f32⟩
  | 59 => ⟨S128, .i32⟩
  | 60 => ⟨S128x1, .i32⟩
  | 61 => ⟨S_, .i32⟩
  | 62 => ⟨S128x1, .i32⟩
  | 63 => ⟨S128x1, .i32⟩
  | 64 => ⟨S256, .i32⟩
  | 65 => ⟨S1x256, .i32⟩
  | 66 => ⟨S128x256, .i32⟩
  | 67 => ⟨S128x256, .i32⟩
  | 68 => ⟨S128x256, .i32⟩
  | 69 => ⟨S_, .i32⟩
  | 70 => ⟨S128x256, .i32⟩
  | 71 => ⟨S128x256, .i1⟩
  | 72 => ⟨S_, .i32⟩
  | 73 => ⟨S128x256, .i32⟩
  | 74 => ⟨S128x256, .i1⟩
  | 75 => ⟨S128x256, .i1⟩
  | 76 => ⟨S16, .i32⟩
  | 77 => ⟨S16x1x1, .i32⟩
  | 78 => ⟨S_, .i32⟩
  | 79 => ⟨S16x1x1, .i32⟩
  | 80 => ⟨S16x1x1, .i1⟩
  | 81 => ⟨S1x1x256, .i32⟩
  | 82 => ⟨S_, .i32⟩
  | 83 => ⟨S1x1x256, .i32⟩
  | 84 => ⟨S1x1x256, .i1⟩
  | 85 => ⟨S16x1x256, .i1⟩
  | 86 => ⟨S16x1x256, .i1⟩
  | 87 => ⟨S16x1x256, .i1⟩
  | 88 => ⟨S1x128x256, .i1⟩
  | 89 => ⟨S16x128x256, .i1⟩
  | 90 => ⟨S16x128x256, .i1⟩
  | 91 => ⟨S16x128x256, .i1⟩
  | 92 => ⟨S4x3x1x1, .f32⟩
  | 93 => ⟨S4x3x1x1, .f32⟩
  | 94 => ⟨S128x256, .f32⟩
  | 95 => ⟨S1x1x128x256, .f32⟩
  | 96 => ⟨S4x3x128x256, .f32⟩
  | 97 => ⟨S4x3x128x256, .f32⟩
  | 98 => ⟨S4x3x128x256, .f32⟩
  | 99 => ⟨S1x16x1x1x128x256, .i1⟩
  | 100 => ⟨S1x1x4x3x128x256, .f32⟩
  | 101 => ⟨S2x16x4x3x128x256, .f32⟩
  | 102 => ⟨S2x16x4x3x128x256, .f32⟩
  | 103 => ⟨S_, .f32⟩
  | 104 => ⟨S_, .f32⟩
  | 105 => ⟨S2x16x4x3x128x256, .i1⟩
  | 106 => ⟨S2x16x4x3x128x256, .f32⟩
  | 107 => ⟨S2x16x4x3x128x256, .f32⟩
  | 108 => ⟨S_, .f32⟩
  | 109 => ⟨S2x16x4x3x128x256, .f32⟩
  | 110 => ⟨S1x1x4x3x1x1, .f32⟩
  | 111 => ⟨S_, .f32⟩
  | 112 => ⟨S2x16x4x3x128, .f32⟩
  | 113 => ⟨S2x16x4x3x128x1, .f32⟩
  | 114 => ⟨S2x16x4x3x128x256, .f32⟩
  | 115 => ⟨S2x16x4x3x128x256, .i1⟩
  | 116 => ⟨S2x16x4x3x128x256, .f32⟩
  | 117 => ⟨S_, .f32⟩
  | 118 => ⟨S2x16x4x3x128, .f32⟩
  | 119 => ⟨S2x16x4x3x128x1, .f32⟩
  | 120 => ⟨S2x16x4x3x128x1, .f32⟩
  | 121 => ⟨S2x16x4x3x128x1, .f32⟩
  | 122 => ⟨S2x16x4x3x128x1, .f32⟩
  | 123 => ⟨S2x16x4x3x128x1, .i1⟩
  | 124 => ⟨S2x16x4x3x128x1, .f32⟩
  | 125 => ⟨S2x16x4x3x128x1, .i1⟩
  | 126 => ⟨S_, .f32⟩
  | 127 => ⟨S2x16x4x3x128x1, .f32⟩
  | _ => ⟨S4096x1024, .f32⟩

abbrev hbmTy0_1 (i : Nat) : BufTy := match i % 128 with
  | 0 => ⟨S_, .f32⟩
  | 1 => ⟨S2x16x4x3x128x1, .f32⟩
  | 2 => ⟨S_, .f32⟩
  | 3 => ⟨S2x16x4x3x128x1, .f32⟩
  | 4 => ⟨S2x16x4x3x128x1, .f32⟩
  | 5 => ⟨S2x16x4x3x128x1, .f32⟩
  | 6 => ⟨S2x16x4x3x128x1, .f32⟩
  | 7 => ⟨S2x16x4x3x128x1, .i1⟩
  | 8 => ⟨S2x16x4x3x128x1, .f32⟩
  | 9 => ⟨S2x16x4x3x128x1, .i1⟩
  | 10 => ⟨S_, .f32⟩
  | 11 => ⟨S2x16x4x3x128x1, .f32⟩
  | 12 => ⟨S_, .f32⟩
  | 13 => ⟨S2x16x4x3x128x1, .f32⟩
  | 14 => ⟨S_, .f32⟩
  | 15 => ⟨S2x16x4x3x128x1, .f32⟩
  | 16 => ⟨S2x16x4x3x128x1, .f32⟩
  | 17 => ⟨S2x16x4x3x128x1, .f32⟩
  | 18 => ⟨S2x16x4x3x128x256, .f32⟩
  | 19 => ⟨S2x16x4x3x128x256, .f32⟩
  | 20 => ⟨S2x16x4x3x128x256, .f32⟩
  | 21 => ⟨S_, .f32⟩
  | 22 => ⟨S2x16x4x3x128, .f32⟩
  | 23 => ⟨S2x16x4x3x128x1, .f32⟩
  | 24 => ⟨S2x16x4x3x128x1, .f32⟩
  | 25 => ⟨S2x16x4x3x128x1, .f32⟩
  | 26 => ⟨S2x16x4x3x128x1, .f32⟩
  | 27 => ⟨S2x16x4x3x128x1, .f32⟩
  | 28 => ⟨S2x16x4x3x128x256, .f32⟩
  | 29 => ⟨S2x16x4x3x128x256, .f32⟩
  | 30 => ⟨S2x16x4x3x128x1, .f32⟩
  | 31 => ⟨S_, .f32⟩
  | 32 => ⟨S2x16x4x3x128x1, .f32⟩
  | 33 => ⟨S2x16x4x3x128x1, .f32⟩
  | 34 => ⟨S2x16x4x64x3x128, .f32⟩
  | 35 => ⟨S2x16x128x4x3x64, .f32⟩
  | 36 => ⟨S2x2048x768, .f32⟩
  | 37 => ⟨S2x16x128x4x3x64, .f32⟩
  | 38 => ⟨S2x16x4x64x3x128, .f32⟩
  | 39 => ⟨S2x16x4x3x128x256, .f32⟩
  | 40 => ⟨S2x16x4x64x256, .f32⟩
  | 41 => ⟨S2x16x256x4x64, .f32⟩
  | 42 => ⟨S2x16x4x3x128x256, .f32⟩
  | 43 => ⟨S2x16x4x3x128x256, .f32⟩
  | 44 => ⟨S2x16x4x3x128x256, .f32⟩
  | 45 => ⟨S_, .f32⟩
  | 46 => ⟨S2x16x4x3x128, .f32⟩
  | 47 => ⟨S2x16x4x3x128x1, .f32⟩
  | 48 => ⟨S2x16x4x3x128x1, .f32⟩
  | 49 => ⟨S2x16x4x3x128x256, .f32⟩
  | 50 => ⟨S2x16x4x3x128x256, .f32⟩
  | 51 => ⟨S2x16x4x3x128x1, .f32⟩
  | 52 => ⟨S_, .f32⟩
  | 53 => ⟨S4x3x1, .f32⟩
  | 54 => ⟨S1x1x4x3x1x1, .f32⟩
  | 55 => ⟨S2x16x4x3x128x1, .f32⟩
  | 56 => ⟨S_, .f32⟩
  | 57 => ⟨S2x16x4x3x128, .f32⟩
  | 58 => ⟨S2x16x4x3x128x256, .f32⟩
  | 59 => ⟨S2x16x4x3x128x256, .f32⟩
  | 60 => ⟨S2x16x4x3x128x256, .f32⟩
  | 61 => ⟨S2x16x4x3x128x256, .f32⟩
  | 62 => ⟨S_, .f32⟩
  | 63 => ⟨S2x16x4x3x128, .f32⟩
  | 64 => ⟨S2x16x4x3x128x1, .f32⟩
  | 65 => ⟨S2x16x4x3x128x1, .f32⟩
  | 66 => ⟨S2x16x4x3x128x1, .f32⟩
  | 67 => ⟨S_, .f32⟩
  | 68 => ⟨S4x3x1, .f32⟩
  | 69 => ⟨S1x1x4x3x1x1, .f32⟩
  | 70 => ⟨S1x1x4x3x1x1, .f32⟩
  | 71 => ⟨S2x16x4x3x128x1, .f32⟩
  | 72 => ⟨S_, .f32⟩
  | 73 => ⟨S2x16x4x3x128, .f32⟩
  | 74 => ⟨S2x16x4x3x128, .f32⟩
  | 75 => ⟨S2x16x4x3x128x256, .f32⟩
  | 76 => ⟨S2x16x4x3x128x256, .f32⟩
  | 77 => ⟨S2x16x4x3x128x256, .f32⟩
  | 78 => ⟨S12, .f32⟩
  | 79 => ⟨S_, .f32⟩
  | 80 => ⟨S2x16x4x3x128x256, .f32⟩
  | 81 => ⟨S2x16x4x3x128x256, .f32⟩
  | 82 => ⟨S_, .f32⟩
  | 83 => ⟨S2x16x4x3x128x256, .f32⟩
  | 84 => ⟨S2x16x4x3x128x256, .f32⟩
  | 85 => ⟨S2x16x4x256x128x3, .f32⟩
  | 86 => ⟨S2x16x4x128x3x64, .f32⟩
  | 87 => ⟨S2x16x128x4x3x64, .f32⟩
  | 88 => ⟨S2x16x4x256x64, .f32⟩
  | 89 => ⟨S2x16x256x4x64, .f32⟩
  | 90 => ⟨S2x2048x12x64, .f32⟩
  | 91 => ⟨S4096x768, .f32⟩
  | 92 => ⟨S_, .i32⟩
  | 93 => ⟨S_, .f32⟩
  | 94 => ⟨S4096x1024, .f32⟩
  | 95 => ⟨S2x16x128x4x64, .f32⟩
  | 96 => ⟨S4096x256, .f32⟩
  | 97 => ⟨S2x16x128x4x64, .f32⟩
  | 98 => ⟨S4096x256, .f32⟩
  | 99 => ⟨S4096x512, .f32⟩
  | 100 => ⟨S2x16x128x4x64, .f32⟩
  | 101 => ⟨S4096x256, .f32⟩
  | 102 => ⟨S2x16x128x4x64, .f32⟩
  | 103 => ⟨S4096x256, .f32⟩
  | 104 => ⟨S4096x512, .f32⟩
  | 105 => ⟨S_, .i32⟩
  | 106 => ⟨S_, .f32⟩
  | 107 => ⟨S128, .f32⟩
  | 108 => ⟨S1x128, .f32⟩
  | 109 => ⟨S8x128, .f32⟩
  | 110 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_12 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_13 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_14 : Ref sig .tc := ⟨.hbm, 69, rfl⟩
abbrev main_v47 : Ref sig .tc := ⟨.hbm, 70, rfl⟩
abbrev main_v48 : Ref sig .tc := ⟨.hbm, 71, rfl⟩
abbrev main_c_15 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_16 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_17 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_18 : Ref sig .tc := ⟨.hbm, 103, rfl⟩
abbrev main_call2_v0 : Ref sig .tc := ⟨.hbm, 104, rfl⟩
abbrev main_v77_1 : Ref sig .tc := ⟨.hbm, 105, rfl⟩
abbrev main_call2_v2 : Ref sig .tc := ⟨.hbm, 106, rfl⟩
abbrev main_v77_0 : Ref sig .tc := ⟨.hbm, 107, rfl⟩
abbrev main_call2_cst : Ref sig .tc := ⟨.hbm, 108, rfl⟩
abbrev main_v77_2 : Ref sig .tc := ⟨.hbm, 109, rfl⟩
abbrev main_v78 : Ref sig .tc := ⟨.hbm, 110, rfl⟩
abbrev main_cst_19 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_20 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_21 : Ref sig .tc := ⟨.hbm, 126, rfl⟩
abbrev main_v92 : Ref sig .tc := ⟨.hbm, 127, rfl⟩
abbrev main_cst_22 : Ref sig .tc := ⟨.hbm, 128, rfl⟩
abbrev main_v93 : Ref sig .tc := ⟨.hbm, 129, rfl⟩
abbrev main_cst_23 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_24 : Ref sig .tc := ⟨.hbm, 138, rfl⟩
abbrev main_v101 : Ref sig .tc := ⟨.hbm, 139, rfl⟩
abbrev main_cst_25 : Ref sig .tc := ⟨.hbm, 140, rfl⟩
abbrev main_v102 : Ref sig .tc := ⟨.hbm, 141, rfl⟩
abbrev main_cst_26 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_27 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_28 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_29 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_cst_30 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_31 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_cst_32 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_cst_33 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_34 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_call3_cst : Ref sig .tc := ⟨.hbm, 207, rfl⟩
abbrev main_call3_v0 : Ref sig .tc := ⟨.hbm, 208, rfl⟩
abbrev main_v159 : Ref sig .tc := ⟨.hbm, 209, rfl⟩
abbrev main_cst_35 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_c_36 : Ref sig .tc := ⟨.hbm, 220, rfl⟩
abbrev main_call4_v0 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_c_37 : Ref sig .tc := ⟨.hbm, 233, rfl⟩
abbrev main_call5_v0 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩

abbrev nD : Nat := 1
abbrev τ : Topo := Topo.v7x

variable {F : FTy → Type} [FloatOps F]
-- ==== Kernel2.lean ====
abbrev S4096x2816 : Shape := ⟨2, ![4096, 2816]⟩
abbrev S4x1x1024x1408 : Shape := ⟨4, ![4, 1, 1024, 1408]⟩
abbrev S4096x1024 : Shape := ⟨2, ![4096, 1024]⟩
abbrev S512x2816 : Shape := ⟨2, ![512, 2816]⟩
abbrev S1x1x1024x1408 : Shape := ⟨4, ![1, 1, 1024, 1408]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4x1x1024x1408, .bf16⟩
  | .hbm, ⟨3, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4096x2816 : Shape := ⟨2, ![4096, 2816]⟩
abbrev S4x1x1024x1408 : Shape := ⟨4, ![4, 1, 1024, 1408]⟩
abbrev S4096x5632 : Shape := ⟨2, ![4096, 5632]⟩
abbrev S_ : Shape := ⟨0, ![]⟩
abbrev S4096x1024 : Shape := ⟨2, ![4096, 1024]⟩
abbrev S1x1x1024x1408 : Shape := ⟨4, ![1, 1, 1024, 1408]⟩
abbrev S1024x1408 : Shape := ⟨2, ![1024, 1408]⟩
abbrev S1024x5632 : Shape := ⟨2, ![1024, 5632]⟩

abbrev nBuf : Space → Nat
  | .hbm => 20
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4x1x1024x1408, .bf16⟩
  | .hbm, ⟨3, _⟩ => ⟨S4096x5632, .bf16⟩
  | .hbm, ⟨4, _⟩ => ⟨S4096x5632, .f32⟩
  | .hbm, ⟨5, _⟩ => ⟨S_, .f32⟩
  | .hbm, ⟨6, _⟩ => ⟨S4096x1024, .f32⟩
  | .hbm, ⟨7, _⟩ => ⟨S4x1x1024x1408, .f32⟩
  | .hbm, ⟨8, _⟩ => ⟨S1x1x1024x1408, .f32⟩
  | .hbm, ⟨9, _⟩ => ⟨S1024x1408, .f32⟩
  | .hbm, ⟨10, _⟩ => ⟨S1x1x1024x1408, .f32⟩
  | .hbm, ⟨11, _⟩ => ⟨S1024x1408, .f32⟩
  | .hbm, ⟨12, _⟩ => ⟨S1x1x1024x1408, .f32⟩
  | .hbm, ⟨13, _⟩ => ⟨S1024x1408, .f32⟩
  | .hbm, ⟨14, _⟩ => ⟨S1x1x1024x1408, .f32⟩
  | .hbm, ⟨15, _⟩ => ⟨S1024x1408, .f32⟩
  | .hbm, ⟨16, _⟩ => ⟨S1024x5632, .f32⟩
  | .hbm, ⟨17, _⟩ => ⟨S4096x5632, .f32⟩
  | .hbm, ⟨18, _⟩ => ⟨S4096x1024, .f32⟩
  | .hbm, ⟨19, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel3.lean ====
abbrev S4096x1024 : Shape := ⟨2, ![4096, 1024]⟩
abbrev S4096x2816 : Shape := ⟨2, ![4096, 2816]⟩
abbrev S4x1x1024x1408 : Shape := ⟨4, ![4, 1, 1024, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, arg0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x1408 : Shape := ⟨2, ![1024, 1408]⟩
abbrev S1x1x1024x1408 : Shape := ⟨4, ![1, 1, 1024, 1408]⟩
abbrev S2x1x1024x1408 : Shape := ⟨4, ![2, 1, 1024, 1408]⟩
abbrev S4x1x1024x1408 : Shape := ⟨4, ![4, 1, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x1408, .f32⟩
  | .hbm, ⟨10, _⟩ => ⟨S1x1x1024x1408, .f32⟩
  | .hbm, ⟨11, _⟩ => ⟨S1024x1408, .f32⟩
  | .hbm, ⟨12, _⟩ => ⟨S1x1x1024x1408, .f32⟩
  | .hbm, ⟨13, _⟩ => ⟨S2x1x1024x1408, .f32⟩
  | .hbm, ⟨14, _⟩ => ⟨S_, .f32⟩
  | .hbm, ⟨15, _⟩ => ⟨S2x1x1024x1408, .f32⟩
  | .hbm, ⟨16, _⟩ => ⟨S4x1x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel4.lean ====
abbrev S4096x1024 : Shape := ⟨2, ![4096, 1024]⟩
abbrev S4096x2816 : Shape := ⟨2, ![4096, 2816]⟩
abbrev S4x1x1024x1408 : Shape := ⟨4, ![4, 1, 1024, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1x1024x1408, .f32⟩
  | .hbm, ⟨3, _⟩ => ⟨S4x1x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x2816 : Shape := ⟨2, ![4096, 2816]⟩
abbrev S4x1x1024x1408 : Shape := ⟨4, ![4, 1, 1024, 1408]⟩
abbrev S_ : Shape := ⟨0, ![]⟩
abbrev S1024x2816 : Shape := ⟨2, ![1024, 2816]⟩
abbrev S2816x1024 : Shape := ⟨2, ![2816, 1024]⟩
abbrev S1024x1408 : Shape := ⟨2, ![1024, 1408]⟩
abbrev S1x1x1024x1408 : Shape := ⟨4, ![1, 1, 1024, 1408]⟩
abbrev S2x1x1024x1408 : Shape := ⟨4, ![2, 1, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1x1024x1408, .f32⟩
  | .hbm, ⟨3, _⟩ => ⟨S4096x1024, .f32⟩
  | .hbm, ⟨4, _⟩ => ⟨S_, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S1024x1408, .f32⟩
  | .hbm, ⟨11, _⟩ => ⟨S1x1x1024x1408, .f32⟩
  | .hbm, ⟨12, _⟩ => ⟨S1024x1408, .f32⟩
  | .hbm, ⟨13, _⟩ => ⟨S1x1x1024x1408, .f32⟩
  | .hbm, ⟨14, _⟩ => ⟨S2x1x1024x1408, .f32⟩
  | .hbm, ⟨15, _⟩ => ⟨S2x1x1024x1408, .f32⟩
  | .hbm, ⟨16, _⟩ => ⟨S4x1x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel5.lean ====
abbrev S4096x1024 : Shape := ⟨2, ![4096, 1024]⟩
abbrev S1x2816x1024 : Shape := ⟨3, ![1, 2816, 1024]⟩
abbrev S4096x2816 : Shape := ⟨2, ![4096, 2816]⟩
abbrev S1024x1024 : Shape := ⟨2, ![1024, 1024]⟩
abbrev S1024x2816 : Shape := ⟨2, ![1024, 2816]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x2816x1024, .bf16⟩
  | .local _ .vmem, ⟨3, _⟩ => ⟨S1024x2816, .bf16⟩
  | .local _ .vmem, ⟨4, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S1x2816x1024 : Shape := ⟨3, ![1, 2816, 1024]⟩
abbrev S_ : Shape := ⟨0, ![]⟩
abbrev S4096x2816 : Shape := ⟨2, ![4096, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x2816x1024, .bf16⟩
  | .hbm, ⟨2, _⟩ => ⟨S_, .f32⟩
  | .hbm, ⟨3, _⟩ => ⟨S4096x2816, .f32⟩
  | .hbm, ⟨4, _⟩ => ⟨S2816x1024, .bf16⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x2816, .f32⟩
  | .hbm, ⟨9, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S1x2816x1024 : Shape := ⟨3, ![1, 2816, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S1x2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S1x2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S4x1x1024x1408 : Shape := ⟨4, ![4, 1, 1024, 1408]⟩
abbrev S4096x5632 : Shape := ⟨2, ![4096, 5632]⟩
abbrev S2048x1024 : Shape := ⟨2, ![2048, 1024]⟩
abbrev S1x1x1024x1408 : Shape := ⟨4, ![1, 1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x1408, .bf16⟩
  | .hbm, ⟨2, _⟩ => ⟨S4096x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S2048x1408, .bf16⟩
  | .local _ .vmem, ⟨5, _⟩ => ⟨S2048x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S4x1x1024x1408 : Shape := ⟨4, ![4, 1, 1024, 1408]⟩
abbrev S1x1x1024x1408 : Shape := ⟨4, ![1, 1, 1024, 1408]⟩
abbrev S1024x1408 : Shape := ⟨2, ![1024, 1408]⟩
abbrev S1024x5632 : Shape := ⟨2, ![1024, 5632]⟩
abbrev S4096x5632 : Shape := ⟨2, ![4096, 5632]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x1408, .bf16⟩
  | .hbm, ⟨2, _⟩ => ⟨S4096x1024, .f32⟩
  | .hbm, ⟨3, _⟩ => ⟨S4x1x1024x1408, .f32⟩
  | .hbm, ⟨4, _⟩ => ⟨S1x1x1024x1408, .f32⟩
  | .hbm, ⟨5, _⟩ => ⟨S1024x1408, .f32⟩
  | .hbm, ⟨6, _⟩ => ⟨S1x1x1024x1408, .f32⟩
  | .hbm, ⟨7, _⟩ => ⟨S1024x1408, .f32⟩
  | .hbm, ⟨8, _⟩ => ⟨S1x1x1024x1408, .f32⟩
  | .hbm, ⟨9, _⟩ => ⟨S1024x1408, .f32⟩
  | .hbm, ⟨10, _⟩ => ⟨S1x1x1024x1408, .f32⟩
  | .hbm, ⟨11, _⟩ => ⟨S1024x1408, .f32⟩
  | .hbm, ⟨12, _⟩ => ⟨S1024x5632, .f32⟩
  | .hbm, ⟨13, _⟩ => ⟨S4096x5632, .f32⟩
  | .hbm, ⟨14, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel8.lean ====
abbrev S4096x2816 : Shape := ⟨2, ![4096, 2816]⟩
abbrev S1x2816x1024 : Shape := ⟨3, ![1, 2816, 1024]⟩
abbrev S4096x1024 : Shape := ⟨2, ![4096, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .bf16⟩
  | .local _ .vmem, ⟨4, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x2816 : Shape := ⟨2, ![4096, 2816]⟩
abbrev S1x2816x1024 : Shape := ⟨3, ![1, 2816, 1024]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x2816, .f32⟩
  | .hbm, ⟨3, _⟩ => ⟨S2816x1024, .bf16⟩
  | .hbm, ⟨4, _⟩ => ⟨S2816x1024, .f32⟩
  | .hbm, ⟨5, _⟩ => ⟨S4096x1024, .f32⟩
  | .hbm, ⟨6, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1024x1024, .bf16⟩
  | .hbm, ⟨4, _⟩ => ⟨S1024x1024, .f32⟩
  | .hbm, ⟨5, _⟩ => ⟨S4096x1024, .f32⟩
  | .hbm, ⟨6, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S_, .f32⟩
  | .hbm, ⟨3, _⟩ => ⟨S4096x1024, .f32⟩
  | .hbm, ⟨4, _⟩ => ⟨S1024x1024, .bf16⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1024x1024, .bf16⟩
  | .hbm, ⟨4, _⟩ => ⟨S1024x1024, .f32⟩
  | .hbm, ⟨5, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S4096x1024 : Shape := ⟨2, ![4096, 1024]⟩
abbrev S1x1024x1792 : Shape := ⟨3, ![1, 1024, 1792]⟩
abbrev S4096x1792 : Shape := ⟨2, ![4096, 1792]⟩
abbrev S1024x1024 : Shape := ⟨2, ![1024, 1024]⟩
abbrev S1024x1792 : Shape := ⟨2, ![1024, 1792]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1024x1792, .bf16⟩
  | .hbm, ⟨2, _⟩ => ⟨S4096x1792, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1792, .bf16⟩
  | .local _ .vmem, ⟨3, _⟩ => ⟨S1024x1792, .f32⟩
  | .local _ .vmem, ⟨4, _⟩ => ⟨S1024x1792, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x1024 : Shape := ⟨2, ![4096, 1024]⟩
abbrev S1x1024x1792 : Shape := ⟨3, ![1, 1024, 1792]⟩
abbrev S1024x1792 : Shape := ⟨2, ![1024, 1792]⟩
abbrev S4096x1792 : Shape := ⟨2, ![4096, 1792]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1792, .bf16⟩
  | .hbm, ⟨2, _⟩ => ⟨S4096x1024, .f32⟩
  | .hbm, ⟨3, _⟩ => ⟨S1024x1792, .bf16⟩
  | .hbm, ⟨4, _⟩ => ⟨S1024x1792, .f32⟩
  | .hbm, ⟨5, _⟩ => ⟨S4096x1792, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x1792 : Shape := ⟨2, ![4096, 1792]⟩
abbrev S1x1024x1792 : Shape := ⟨3, ![1, 1024, 1792]⟩
abbrev S4096x1024 : Shape := ⟨2, ![4096, 1024]⟩
abbrev S1024x1792 : Shape := ⟨2, ![1024, 1792]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1792, .bf16⟩
  | .hbm, ⟨1, _⟩ => ⟨S1x1024x1792, .bf16⟩
  | .hbm, ⟨2, _⟩ => ⟨S4096x1024, .bf16⟩
  | .local _ .vmem, ⟨0, _⟩ => ⟨S1024x1792, .bf16⟩
  | .local _ .vmem, ⟨1, _⟩ => ⟨S1024x1792, .bf16⟩
  | .local _ .vmem, ⟨2, _⟩ => ⟨S1x1024x1792, .bf16⟩
  | .local _ .vmem, ⟨3, _⟩ => ⟨S1024x1024, .bf16⟩
  | .local _ .vmem, ⟨4, _⟩ => ⟨S1024x1024, .bf16⟩
  | _, _ => ⟨S4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1792 : Shape := ⟨2, ![4096, 1792]⟩
abbrev S1x1024x1792 : Shape := ⟨3, ![1, 1024, 1792]⟩
abbrev S_ : Shape := ⟨0, ![]⟩
abbrev S4096x1024 : Shape := ⟨2, ![4096, 1024]⟩
abbrev S1024x1792 : Shape := ⟨2, ![1024, 1792]⟩

abbrev nBuf : Space → Nat
  | .hbm => 10
  | .vmem => 0
  | .smem => 0
  | _ => 0

abbrev bufTy : (tb : Table) → Fin (tcTables nBuf tb) → BufTy
  | .hbm, ⟨0, _⟩ => ⟨S4096x1792, .bf16⟩
  | .hbm, ⟨1, _⟩ => ⟨S1x1024x1792, .bf16⟩
  | .hbm, ⟨2, _⟩ => ⟨S_, .f32⟩
  | .hbm, ⟨3, _⟩ => ⟨S4096x1024, .f32⟩
  | .hbm, ⟨4, _⟩ => ⟨S1024x1792, .bf16⟩
  | .hbm, ⟨5, _⟩ => ⟨S1024x1792, .f32⟩
  | .hbm, ⟨6, _⟩ => ⟨S4096x1792, .f32⟩
  | .hbm, ⟨7, _⟩ => ⟨S4096x1792, .f32⟩
  | .hbm, ⟨8, _⟩ => ⟨S4096x1024, .f32⟩
  | .hbm, ⟨9, _⟩ => ⟨S4096x1024, .bf16⟩
  | _, _ => ⟨S4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x1024 : Shape := ⟨2, ![4096, 1024]⟩
abbrev S4096x1792 : Shape := ⟨2, ![4096, 1792]⟩
abbrev S1x1024x1792 : Shape := ⟨3, ![1, 1024, 1792]⟩
abbrev S2048x1024 : Shape := ⟨2, ![2048, 1024]⟩
abbrev S2048x1792 : Shape := ⟨2, ![2048, 1792]⟩
abbrev S1024x1792 : Shape := ⟨2, ![1024, 1792]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1792, .bf16⟩
  | .hbm, ⟨2, _⟩ => ⟨S1x1024x1792, .f32⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S1x1024x1792, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S4096x1792 : Shape := ⟨2, ![4096, 1792]⟩
abbrev S_ : Shape := ⟨0, ![]⟩
abbrev S1024x1792 : Shape := ⟨2, ![1024, 1792]⟩
abbrev S1792x1024 : Shape := ⟨2, ![1792, 1024]⟩
abbrev S1x1024x1792 : Shape := ⟨3, ![1, 1024, 1792]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1792, .bf16⟩
  | .hbm, ⟨2, _⟩ => ⟨S4096x1024, .f32⟩
  | .hbm, ⟨3, _⟩ => ⟨S_, .f32⟩
  | .hbm, ⟨4, _⟩ => ⟨S1024x1792, .f32⟩
  | .hbm, ⟨5, _⟩ => ⟨S4096x1792, .f32⟩
  | .hbm, ⟨6, _⟩ => ⟨S4096x1792, .f32⟩
  | .hbm, ⟨7, _⟩ => ⟨S1792x1024, .f32⟩
  | .hbm, ⟨8, _⟩ => ⟨S1024x1792, .f32⟩
  | .hbm, ⟨9, _⟩ => ⟨S1x1024x1792, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x1024 : Shape := ⟨2, ![4096, 1024]⟩
abbrev S1x1024x512 : Shape := ⟨3, ![1, 1024, 512]⟩
abbrev S4096x512 : Shape := ⟨2, ![4096, 512]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1024x512, .bf16⟩
  | .hbm, ⟨2, _⟩ => ⟨S4096x512, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S2048x512, .f32⟩
  | .local _ .vmem, ⟨4, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x1024 : Shape := ⟨2, ![4096, 1024]⟩
abbrev S1x1024x512 : Shape := ⟨3, ![1, 1024, 512]⟩
abbrev S1024x512 : Shape := ⟨2, ![1024, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x512, .bf16⟩
  | .hbm, ⟨2, _⟩ => ⟨S4096x1024, .f32⟩
  | .hbm, ⟨3, _⟩ => ⟨S1024x512, .bf16⟩
  | .hbm, ⟨4, _⟩ => ⟨S1024x512, .f32⟩
  | .hbm, ⟨5, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x512 : Shape := ⟨2, ![4096, 512]⟩
abbrev S1x1024x512 : Shape := ⟨3, ![1, 1024, 512]⟩
abbrev S4096x1024 : Shape := ⟨2, ![4096, 1024]⟩
abbrev S2048x512 : Shape := ⟨2, ![2048, 512]⟩
abbrev S2048x1024 : Shape := ⟨2, ![2048, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S1x1024x512, .bf16⟩
  | .hbm, ⟨2, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S1x1024x512, .bf16⟩
  | .local _ .vmem, ⟨3, _⟩ => ⟨S2048x1024, .bf16⟩
  | .local _ .vmem, ⟨4, _⟩ => ⟨S2048x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4096x512 : Shape := ⟨2, ![4096, 512]⟩
abbrev S1x1024x512 : Shape := ⟨3, ![1, 1024, 512]⟩
abbrev S_ : Shape := ⟨0, ![]⟩
abbrev S4096x1024 : Shape := ⟨2, ![4096, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1x1024x512, .bf16⟩
  | .hbm, ⟨2, _⟩ => ⟨S_, .f32⟩
  | .hbm, ⟨3, _⟩ => ⟨S4096x1024, .f32⟩
  | .hbm, ⟨4, _⟩ => ⟨S1024x512, .bf16⟩
  | .hbm, ⟨5, _⟩ => ⟨S1024x512, .f32⟩
  | .hbm, ⟨6, _⟩ => ⟨S4096x512, .f32⟩
  | .hbm, ⟨7, _⟩ => ⟨S4096x512, .f32⟩
  | .hbm, ⟨8, _⟩ => ⟨S4096x1024, .f32⟩
  | .hbm, ⟨9, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1x1024x512, .f32⟩
  | .local _ .vmem, ⟨0, _⟩ => ⟨S4096x1024, .bf16⟩
  | .local _ .vmem, ⟨1, _⟩ => ⟨S4096x512, .bf16⟩
  | .local _ .vmem, ⟨2, _⟩ => ⟨S1x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩
abbrev S1x1024x512 : Shape := ⟨3, ![1, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .f32⟩
  | .hbm, ⟨3, _⟩ => ⟨S_, .f32⟩
  | .hbm, ⟨4, _⟩ => ⟨S1024x512, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S1x1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S512x1024 : Shape := ⟨2, ![512, 1024]⟩
abbrev S1x1024x512 : Shape := ⟨3, ![1, 1024, 512]⟩
abbrev S512x512 : Shape := ⟨2, ![512, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1x1024x512, .bf16⟩
  | .hbm, ⟨2, _⟩ => ⟨S512x512, .f32⟩
  | .local _ .vmem, ⟨0, _⟩ => ⟨S512x1024, .bf16⟩
  | .local _ .vmem, ⟨1, _⟩ => ⟨S1x1024x512, .bf16⟩
  | .local _ .vmem, ⟨2, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference19Ideal.lean ====
abbrev S512x1024 : Shape := ⟨2, ![512, 1024]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1x1024x512, .bf16⟩
  | .hbm, ⟨2, _⟩ => ⟨S512x1024, .f32⟩
  | .hbm, ⟨3, _⟩ => ⟨S1024x512, .bf16⟩
  | .hbm, ⟨4, _⟩ => ⟨S1024x512, .f32⟩
  | .hbm, ⟨5, _⟩ => ⟨S512x512, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S512x512 : Shape := ⟨2, ![512, 512]⟩
abbrev S1x1024x512 : Shape := ⟨3, ![1, 1024, 512]⟩
abbrev S512x1024 : Shape := ⟨2, ![512, 1024]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S512x512, .bf16⟩
  | .hbm, ⟨1, _⟩ => ⟨S1x1024x512, .bf16⟩
  | .hbm, ⟨2, _⟩ => ⟨S512x1024, .f32⟩
  | .local _ .vmem, ⟨0, _⟩ => ⟨S512x512, .bf16⟩
  | .local _ .vmem, ⟨1, _⟩ => ⟨S1x1024x512, .bf16⟩
  | .local _ .vmem, ⟨2, _⟩ => ⟨S512x1024, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference20Ideal.lean ====
abbrev S512x512 : Shape := ⟨2, ![512, 512]⟩
abbrev S1x1024x512 : Shape := ⟨3, ![1, 1024, 512]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S1x1024x512, .bf16⟩
  | .hbm, ⟨2, _⟩ => ⟨S_, .f32⟩
  | .hbm, ⟨3, _⟩ => ⟨S512x1024, .f32⟩
  | .hbm, ⟨4, _⟩ => ⟨S1024x512, .bf16⟩
  | .hbm, ⟨5, _⟩ => ⟨S1024x512, .f32⟩
  | .hbm, ⟨6, _⟩ => ⟨S512x512, .f32⟩
  | .hbm, ⟨7, _⟩ => ⟨S512x512, .f32⟩
  | .hbm, ⟨8, _⟩ => ⟨S512x1024, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S512x512, .bf16⟩
  | .hbm, ⟨2, _⟩ => ⟨S1x1024x512, .f32⟩
  | .local _ .vmem, ⟨0, _⟩ => ⟨S512x1024, .bf16⟩
  | .local _ .vmem, ⟨1, _⟩ => ⟨S512x512, .bf16⟩
  | .local _ .vmem, ⟨2, _⟩ => ⟨S1x1024x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S512x1024 : Shape := ⟨2, ![512, 1024]⟩
abbrev S512x512 : Shape := ⟨2, ![512, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x512, .bf16⟩
  | .hbm, ⟨2, _⟩ => ⟨S512x1024, .f32⟩
  | .hbm, ⟨3, _⟩ => ⟨S_, .f32⟩
  | .hbm, ⟨4, _⟩ => ⟨S1024x512, .f32⟩
  | .hbm, ⟨5, _⟩ => ⟨S512x512, .f32⟩
  | .hbm, ⟨6, _⟩ => ⟨S512x512, .f32⟩
  | .hbm, ⟨7, _⟩ => ⟨S512x1024, .f32⟩
  | .hbm, ⟨8, _⟩ => ⟨S1024x512, .f32⟩
  | .hbm, ⟨9, _⟩ => ⟨S1x1024x512, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel22.lean ====
abbrev S4096x1024 : Shape := ⟨2, ![4096, 1024]⟩
abbrev S512x512 : Shape := ⟨2, ![512, 512]⟩
abbrev S512x256 : Shape := ⟨2, ![512, 256]⟩
abbrev S256x512 : Shape := ⟨2, ![256, 512]⟩
abbrev S512x64 : Shape := ⟨2, ![512, 64]⟩
abbrev S256x64 : Shape := ⟨2, ![256, 64]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S512x512, .f32⟩
  | .hbm, ⟨2, _⟩ => ⟨S4096x1024, .bf16⟩
  | .hbm, ⟨3, _⟩ => ⟨S4096x1024, .bf16⟩
  | .local _ .vmem, ⟨0, _⟩ => ⟨S512x256, .f32⟩
  | .local _ .vmem, ⟨1, _⟩ => ⟨S512x256, .f32⟩
  | .local _ .vmem, ⟨2, _⟩ => ⟨S256x512, .f32⟩
  | .local _ .vmem, ⟨3, _⟩ => ⟨S256x512, .f32⟩
  | .local _ .vmem, ⟨4, _⟩ => ⟨S512x256, .bf16⟩
  | .local _ .vmem, ⟨5, _⟩ => ⟨S512x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S4096x1024 : Shape := ⟨2, ![4096, 1024]⟩
abbrev S512x512 : Shape := ⟨2, ![512, 512]⟩
abbrev S4096x256 : Shape := ⟨2, ![4096, 256]⟩
abbrev S2x256x2x4x64 : Shape := ⟨5, ![2, 256, 2, 4, 64]⟩
abbrev S2x2048x4x64 : Shape := ⟨4, ![2, 2048, 4, 64]⟩
abbrev S2x256x1x4x64 : Shape := ⟨5, ![2, 256, 1, 4, 64]⟩
abbrev S2x256x4x64 : Shape := ⟨4, ![2, 256, 4, 64]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S2x2048x256 : Shape := ⟨3, ![2, 2048, 256]⟩
abbrev S4096x768 : Shape := ⟨2, ![4096, 768]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x512, .f32⟩
  | .hbm, ⟨2, _⟩ => ⟨S4096x1024, .bf16⟩
  | .hbm, ⟨3, _⟩ => ⟨S4096x256, .f32⟩
  | .hbm, ⟨4, _⟩ => ⟨S2x256x2x4x64, .f32⟩
  | .hbm, ⟨5, _⟩ => ⟨S2x2048x4x64, .f32⟩
  | .hbm, ⟨6, _⟩ => ⟨S2x256x1x4x64, .f32⟩
  | .hbm, ⟨7, _⟩ => ⟨S2x256x4x64, .f32⟩
  | .hbm, ⟨8, _⟩ => ⟨S2x256x1x4x64, .f32⟩
  | .hbm, ⟨9, _⟩ => ⟨S2x256x4x64, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S_, .f32⟩
  | .hbm, ⟨17, _⟩ => ⟨S2x4x2048, .f32⟩
  | .hbm, ⟨18, _⟩ => ⟨S2x4x2048, .f32⟩
  | .hbm, ⟨19, _⟩ => ⟨S2x4x2048x1, .f32⟩
  | .hbm, ⟨20, _⟩ => ⟨S2x4x2048x256, .f32⟩
  | .hbm, ⟨21, _⟩ => ⟨S2x4x2048x256, .f32⟩
  | .hbm, ⟨22, _⟩ => ⟨S2x4x2048x256, .f32⟩
  | .hbm, ⟨23, _⟩ => ⟨S_, .f32⟩
  | .hbm, ⟨24, _⟩ => ⟨S2x4x2048, .f32⟩
  | .hbm, ⟨25, _⟩ => ⟨S2x4x2048x1, .f32⟩
  | .hbm, ⟨26, _⟩ => ⟨S2x4x2048x256, .f32⟩
  | .hbm, ⟨27, _⟩ => ⟨S2x4x2048x256, .f32⟩
  | .hbm, ⟨28, _⟩ => ⟨S2x4x64x2048, .f32⟩
  | .hbm, ⟨29, _⟩ => ⟨S2x2048x4x64, .f32⟩
  | .hbm, ⟨30, _⟩ => ⟨S2x2048x256, .f32⟩
  | .hbm, ⟨31, _⟩ => ⟨S4096x256, .f32⟩
  | .hbm, ⟨32, _⟩ => ⟨S4096x768, .bf16⟩
  | .hbm, ⟨33, _⟩ => ⟨S4096x256, .bf16⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel23.lean ====
abbrev S4096x1792 : Shape := ⟨2, ![4096, 1792]⟩
abbrev S512x512 : Shape := ⟨2, ![512, 512]⟩
abbrev S4096x1024 : Shape := ⟨2, ![4096, 1024]⟩
abbrev S512x256 : Shape := ⟨2, ![512, 256]⟩
abbrev S256x512 : Shape := ⟨2, ![256, 512]⟩
abbrev S512x64 : Shape := ⟨2, ![512, 64]⟩
abbrev S256x64 : Shape := ⟨2, ![256, 64]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1792, .f32⟩
  | .hbm, ⟨1, _⟩ => ⟨S512x512, .f32⟩
  | .hbm, ⟨2, _⟩ => ⟨S4096x1024, .bf16⟩
  | .hbm, ⟨3, _⟩ => ⟨S4096x1024, .bf16⟩
  | .local _ .vmem, ⟨0, _⟩ => ⟨S512x256, .f32⟩
  | .local _ .vmem, ⟨1, _⟩ => ⟨S512x256, .f32⟩
  | .local _ .vmem, ⟨2, _⟩ => ⟨S256x512, .f32⟩
  | .local _ .vmem, ⟨3, _⟩ => ⟨S256x512, .f32⟩
  | .local _ .vmem, ⟨4, _⟩ => ⟨S512x256, .bf16⟩
  | .local _ .vmem, ⟨5, _⟩ => ⟨S512x256, .bf16⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S4096x1792 : Shape := ⟨2, ![4096, 1792]⟩
abbrev S512x512 : Shape := ⟨2, ![512, 512]⟩
abbrev S4096x1024 : Shape := ⟨2, ![4096, 1024]⟩
abbrev S4096x256 : Shape := ⟨2, ![4096, 256]⟩
abbrev S2x256x2x4x64 : Shape := ⟨5, ![2, 256, 2, 4, 64]⟩
abbrev S2x2048x4x64 : Shape := ⟨4, ![2, 2048, 4, 64]⟩
abbrev S2x256x1x4x64 : Shape := ⟨5, ![2, 256, 1, 4, 64]⟩
abbrev S2x256x4x64 : Shape := ⟨4, ![2, 256, 4, 64]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S2x2048x256 : Shape := ⟨3, ![2, 2048, 256]⟩
abbrev S4096x768 : Shape := ⟨2, ![4096, 768]⟩

abbrev nBuf : Space → Nat
  | .hbm => 35
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S512x512, .f32⟩
  | .hbm, ⟨2, _⟩ => ⟨S4096x1024, .bf16⟩
  | .hbm, ⟨3, _⟩ => ⟨S4096x256, .f32⟩
  | .hbm, ⟨4, _⟩ => ⟨S2x256x2x4x64, .f32⟩
  | .hbm, ⟨5, _⟩ => ⟨S2x2048x4x64, .f32⟩
  | .hbm, ⟨6, _⟩ => ⟨S2x256x1x4x64, .f32⟩
  | .hbm, ⟨7, _⟩ => ⟨S2x256x4x64, .f32⟩
  | .hbm, ⟨8, _⟩ => ⟨S2x256x1x4x64, .f32⟩
  | .hbm, ⟨9, _⟩ => ⟨S2x256x4x64, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S_, .f32⟩
  | .hbm, ⟨17, _⟩ => ⟨S2x4x2048, .f32⟩
  | .hbm, ⟨18, _⟩ => ⟨S2x4x2048, .f32⟩
  | .hbm, ⟨19, _⟩ => ⟨S2x4x2048x1, .f32⟩
  | .hbm, ⟨20, _⟩ => ⟨S2x4x2048x256, .f32⟩
  | .hbm, ⟨21, _⟩ => ⟨S2x4x2048x256, .f32⟩
  | .hbm, ⟨22, _⟩ => ⟨S2x4x2048x256, .f32⟩
  | .hbm, ⟨23, _⟩ => ⟨S_, .f32⟩
  | .hbm, ⟨24, _⟩ => ⟨S2x4x2048, .f32⟩
  | .hbm, ⟨25, _⟩ => ⟨S2x4x2048x1, .f32⟩
  | .hbm, ⟨26, _⟩ => ⟨S2x4x2048x256, .f32⟩
  | .hbm, ⟨27, _⟩ => ⟨S2x4x2048x256, .f32⟩
  | .hbm, ⟨28, _⟩ => ⟨S2x4x64x2048, .f32⟩
  | .hbm, ⟨29, _⟩ => ⟨S2x2048x4x64, .f32⟩
  | .hbm, ⟨30, _⟩ => ⟨S2x2048x256, .f32⟩
  | .hbm, ⟨31, _⟩ => ⟨S4096x256, .f32⟩
  | .hbm, ⟨32, _⟩ => ⟨S4096x768, .bf16⟩
  | .hbm, ⟨33, _⟩ => ⟨S4096x256, .bf16⟩
  | .hbm, ⟨34, _⟩ => ⟨S4096x1024, .bf16⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel24.lean ====
abbrev S4096x1024 : Shape := ⟨2, ![4096, 1024]⟩
abbrev S4096x512 : Shape := ⟨2, ![4096, 512]⟩
abbrev S12 : Shape := ⟨1, ![12]⟩
abbrev S128x768 : Shape := ⟨2, ![128, 768]⟩
abbrev S128x512 : Shape := ⟨2, ![128, 512]⟩
abbrev S128x256 : Shape := ⟨2, ![128, 256]⟩
abbrev S256x256 : Shape := ⟨2, ![256, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 4
  | .vmem => 8
  | .smem => 1
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S12, .f32⟩
  | .hbm, ⟨3, _⟩ => ⟨S4096x1024, .bf16⟩
  | .local _ .vmem, ⟨0, _⟩ => ⟨S128x768, .f32⟩
  | .local _ .vmem, ⟨1, _⟩ => ⟨S128x768, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x768, .bf16⟩
  | .local _ .vmem, ⟨7, _⟩ => ⟨S128x768, .bf16⟩
  | .local _ .smem, ⟨0, _⟩ => ⟨S12, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference24Ideal.lean ====
abbrev S4096x1024 : Shape := ⟨2, ![4096, 1024]⟩
abbrev S4096x512 : Shape := ⟨2, ![4096, 512]⟩
abbrev S12 : Shape := ⟨1, ![12]⟩
abbrev S4096x768 : Shape := ⟨2, ![4096, 768]⟩
abbrev S2x2048x12x64 : Shape := ⟨4, ![2, 2048, 12, 64]⟩
abbrev S2x2048x2x4x64 : Shape := ⟨5, ![2, 2048, 2, 4, 64]⟩
abbrev S2x2048x1x4x64 : Shape := ⟨5, ![2, 2048, 1, 4, 64]⟩
abbrev S2x2048x4x64 : Shape := ⟨4, ![2, 2048, 4, 64]⟩
abbrev S2x16x128x4x64 : Shape := ⟨5, ![2, 16, 128, 4, 64]⟩
abbrev S_ : Shape := ⟨0, ![]⟩
abbrev S2x17x128x4x64 : Shape := ⟨5, ![2, 17, 128, 4, 64]⟩
abbrev S2x16x256x4x64 : Shape := ⟨5, ![2, 16, 256, 4, 64]⟩
abbrev S1 : Shape := ⟨1, ![1]⟩
abbrev S2x16x128x4x3x64 : Shape := ⟨6, ![2, 16, 128, 4, 3, 64]⟩
abbrev S2x16x4x256x128x3 : Shape := ⟨6, ![2, 16, 4, 256, 128, 3]⟩
abbrev S2x16x4x3x128x256 : Shape := ⟨6, ![2, 16, 4, 3, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x3x1x1 : Shape := ⟨4, ![4, 3, 1, 1]⟩
abbrev S1x1x128x256 : Shape := ⟨4, ![1, 1, 128, 256]⟩
abbrev S4x3x128x256 : Shape := ⟨4, ![4, 3, 128, 256]⟩
abbrev S1x16x1x1x128x256 : Shape := ⟨6, ![1, 16, 1, 1, 128, 256]⟩
abbrev S1x1x4x3x128x256 : Shape := ⟨6, ![1, 1, 4, 3, 128, 256]⟩
abbrev S1x1x4x3x1x1 : Shape := ⟨6, ![1, 1, 4, 3, 1, 1]⟩
abbrev S2x16x4x3x128 : Shape := ⟨5, ![2, 16, 4, 3, 128]⟩
abbrev S2x16x4x3x128x1 : Shape := ⟨6, ![2, 16, 4, 3, 128, 1]⟩
abbrev S2x16x4x64x3x128 : Shape := ⟨6, ![2, 16, 4, 64, 3, 128]⟩
abbrev S2x2048x768 : Shape := ⟨3, ![2, 2048, 768]⟩

abbrev nBuf : Space → Nat
  | .hbm => 130
  | .vmem => 0
  | .smem => 0
  | _ => 0

abbrev hbmTy0_0 (i : Nat) : BufTy := match i % 128 with
  | 0 => ⟨S4096x1024, .f32⟩
  | 1 => ⟨S4096x512, .f32⟩
  | 2 => ⟨S12, .f32⟩
  | 3 => ⟨S4096x768, .f32⟩
  | 4 => ⟨S2x2048x12x64, .f32⟩
  | 5 => ⟨S2x2048x2x4x64, .f32⟩
  | 6 => ⟨S2x2048x1x4x64, .f32⟩
  | 7 => ⟨S2x2048x4x64, .f32⟩
  | 8 => ⟨S2x16x128x4x64, .f32⟩
  | 9 => ⟨S_, .i32⟩
  | 10 => ⟨S_, .f32⟩
  | 11 => ⟨S2x17x128x4x64, .f32⟩
  | 12 => ⟨S2x16x128x4x64, .f32⟩
  | 13 => ⟨S2x16x128x4x64, .f32⟩
  | 14 => ⟨S2x16x256x4x64, .f32⟩
  | 15 => ⟨S2x2048x1x4x64, .f32⟩
  | 16 => ⟨S2x2048x4x64, .f32⟩
  | 17 => ⟨S2x16x128x4x64, .f32⟩
  | 18 => ⟨S_, .i32⟩
  | 19 => ⟨S_, .f32⟩
  | 20 => ⟨S2x17x128x4x64, .f32⟩
  | 21 => ⟨S2x16x128x4x64, .f32⟩
  | 22 => ⟨S2x16x128x4x64, .f32⟩
  | 23 => ⟨S2x16x256x4x64, .f32⟩
  | 24 => ⟨S_, .f32⟩
  | 25 => ⟨S1, .f32⟩
  | 26 => ⟨S_, .f32⟩
  | 27 => ⟨S1, .f32⟩
  | 28 => ⟨S_, .f32⟩
  | 29 => ⟨S1, .f32⟩
  | 30 => ⟨S_, .f32⟩
  | 31 => ⟨S1, .f32⟩
  | 32 => ⟨S_, .f32⟩
  | 33 => ⟨S1, .f32⟩
  | 34 => ⟨S_, .f32⟩
  | 35 => ⟨S1, .f32⟩
  | 36 => ⟨S_, .f32⟩
  | 37 => ⟨S1, .f32⟩
  | 38 => ⟨S_, .f32⟩
  | 39 => ⟨S1, .f32⟩
  | 40 => ⟨S_, .f32⟩
  | 41 => ⟨S1, .f32⟩
  | 42 => ⟨S_, .f32⟩
  | 43 => ⟨S1, .f32⟩
  | 44 => ⟨S_, .f32⟩
  | 45 => ⟨S1, .f32⟩
  | 46 => ⟨S_, .f32⟩
  | 47 => ⟨S1, .f32⟩
  | 48 => ⟨S12, .f32⟩
  | 49 => ⟨S2x16x128x4x3x64, .f32⟩
  | 50 => ⟨S2x16x4x256x128x3, .f32⟩
  | 51 => ⟨S2x16x4x3x128x256, .f32⟩
  | 52 => ⟨S_, .f32⟩
  | 53 => ⟨S2x16x4x3x128x256, .f32⟩
  | 54 => ⟨S2x16x4x3x128x256, .f32⟩
  | 55 => ⟨S128, .i32⟩
  | 56 => ⟨S128x1, .i32⟩
  | 57 => ⟨S_, .i32⟩
  | 58 => ⟨S128x1, .i32⟩
  | 59 => ⟨S128x1, .i32⟩
  | 60 => ⟨S256, .i32⟩
  | 61 => ⟨S1x256, .i32⟩
  | 62 => ⟨S128x256, .i32⟩
  | 63 => ⟨S128x256, .i32⟩
  | 64 => ⟨S128x256, .i32⟩
  | 65 => ⟨S_, .i32⟩
  | 66 => ⟨S128x256, .i32⟩
  | 67 => ⟨S128x256, .i1⟩
  | 68 => ⟨S_, .i32⟩
  | 69 => ⟨S128x256, .i32⟩
  | 70 => ⟨S128x256, .i1⟩
  | 71 => ⟨S128x256, .i1⟩
  | 72 => ⟨S16, .i32⟩
  | 73 => ⟨S16x1x1, .i32⟩
  | 74 => ⟨S_, .i32⟩
  | 75 => ⟨S16x1x1, .i32⟩
  | 76 => ⟨S16x1x1, .i1⟩
  | 77 => ⟨S1x1x256, .i32⟩
  | 78 => ⟨S_, .i32⟩
  | 79 => ⟨S1x1x256, .i32⟩
  | 80 => ⟨S1x1x256, .i1⟩
  | 81 => ⟨S16x1x256, .i1⟩
  | 82 => ⟨S16x1x256, .i1⟩
  | 83 => ⟨S16x1x256, .i1⟩
  | 84 => ⟨S1x128x256, .i1⟩
  | 85 => ⟨S16x128x256, .i1⟩
  | 86 => ⟨S16x128x256, .i1⟩
  | 87 => ⟨S16x128x256, .i1⟩
  | 88 => ⟨S4x3x1x1, .f32⟩
  | 89 => ⟨S4x3x1x1, .f32⟩
  | 90 => ⟨S128x256, .f32⟩
  | 91 => ⟨S1x1x128x256, .f32⟩
  | 92 => ⟨S4x3x128x256, .f32⟩
  | 93 => ⟨S4x3x128x256, .f32⟩
  | 94 => ⟨S4x3x128x256, .f32⟩
  | 95 => ⟨S1x16x1x1x128x256, .i1⟩
  | 96 => ⟨S1x1x4x3x128x256, .f32⟩
  | 97 => ⟨S2x16x4x3x128x256, .f32⟩
  | 98 => ⟨S2x16x4x3x128x256, .f32⟩
  | 99 => ⟨S_, .f32⟩
  | 100 => ⟨S_, .f32⟩
  | 101 => ⟨S2x16x4x3x128x256, .i1⟩
  | 102 => ⟨S2x16x4x3x128x256, .f32⟩
  | 103 => ⟨S2x16x4x3x128x256, .f32⟩
  | 104 => ⟨S1x1x4x3x1x1, .f32⟩
  | 105 => ⟨S_, .f32⟩
  | 106 => ⟨S2x16x4x3x128, .f32⟩
  | 107 => ⟨S2x16x4x3x128x1, .f32⟩
  | 108 => ⟨S2x16x4x3x128x1, .f32⟩
  | 109 => ⟨S2x16x4x3x128x1, .f32⟩
  | 110 => ⟨S2x16x4x3x128x256, .f32⟩
  | 111 => ⟨S2x16x4x3x128x256, .f32⟩
  | 112 => ⟨S2x16x4x3x128x256, .f32⟩
  | 113 => ⟨S_, .f32⟩
  | 114 => ⟨S2x16x4x3x128, .f32⟩
  | 115 => ⟨S2x16x4x3x128x1, .f32⟩
  | 116 => ⟨S2x16x4x3x128x1, .f32⟩
  | 117 => ⟨S2x16x4x3x128x1, .f32⟩
  | 118 => ⟨S2x16x4x3x128x1, .f32⟩
  | 119 => ⟨S2x16x4x3x128x1, .f32⟩
  | 120 => ⟨S2x16x4x3x128x256, .f32⟩
  | 121 => ⟨S2x16x4x3x128x256, .f32⟩
  | 122 => ⟨S2x16x4x64x3x128, .f32⟩
  | 123 => ⟨S2x16x128x4x3x64, .f32⟩
  | 124 => ⟨S2x2048x768, .f32⟩
  | 125 => ⟨S4096x768, .f32⟩
  | 126 => ⟨S_, .i32⟩
  | 127 => ⟨S_, .f32⟩
  | _ => ⟨S4096x1024, .f32⟩

abbrev hbmTy0_1 (i : Nat) : BufTy := match i % 128 with
  | 0 => ⟨S4096x1024, .f32⟩
  | 1 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_cst_11 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_12 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_13 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_14 : Ref sig .tc := ⟨.hbm, 65, rfl⟩
abbrev main_v44 : Ref sig .tc := ⟨.hbm, 66, rfl⟩
abbrev main_v45 : Ref sig .tc := ⟨.hbm, 67, rfl⟩
abbrev main_c_15 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_17 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_18 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v74 : Ref sig .tc := ⟨.hbm, 103, rfl⟩
abbrev main_v75 : Ref sig .tc := ⟨.hbm, 104, rfl⟩
abbrev main_cst_19 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_20 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_21 : Ref sig .tc := ⟨.hbm, 126, rfl⟩
abbrev main_call3_v0 : Ref sig .tc := ⟨.hbm, 127, rfl⟩
abbrev main_v95 : Ref sig .tc := ⟨.hbm, 128, rfl⟩
abbrev main_v96 : Ref sig .tc := ⟨.hbm, 129, rfl⟩

abbrev nD : Nat := 1
abbrev τ : Topo := Topo.v7x

variable {F : FTy → Type} [FloatOps F]
-- ==== Kernel25.lean ====
abbrev S4096x1024 : Shape := ⟨2, ![4096, 1024]⟩
abbrev S512x512 : Shape := ⟨2, ![512, 512]⟩
abbrev S512x256 : Shape := ⟨2, ![512, 256]⟩
abbrev S256x512 : Shape := ⟨2, ![256, 512]⟩
abbrev S512x64 : Shape := ⟨2, ![512, 64]⟩
abbrev S256x64 : Shape := ⟨2, ![256, 64]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S512x512, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S512x512, .f32⟩
  | .local _ .vmem, ⟨0, _⟩ => ⟨S512x256, .f32⟩
  | .local _ .vmem, ⟨1, _⟩ => ⟨S512x256, .f32⟩
  | .local _ .vmem, ⟨2, _⟩ => ⟨S256x512, .f32⟩
  | .local _ .vmem, ⟨3, _⟩ => ⟨S256x512, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S256x512, .f32⟩
  | .local _ .vmem, ⟨9, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference25Ideal.lean ====
abbrev S4096x1024 : Shape := ⟨2, ![4096, 1024]⟩
abbrev S512x512 : Shape := ⟨2, ![512, 512]⟩
abbrev S4096x256 : Shape := ⟨2, ![4096, 256]⟩
abbrev S2x256x2x4x64 : Shape := ⟨5, ![2, 256, 2, 4, 64]⟩
abbrev S2x2048x4x64 : Shape := ⟨4, ![2, 2048, 4, 64]⟩
abbrev S2x256x1x4x64 : Shape := ⟨5, ![2, 256, 1, 4, 64]⟩
abbrev S2x256x4x64 : Shape := ⟨4, ![2, 256, 4, 64]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S2x2048x256 : Shape := ⟨3, ![2, 2048, 256]⟩
abbrev S2x4x64x256 : Shape := ⟨4, ![2, 4, 64, 256]⟩
abbrev S2x4x256x64 : Shape := ⟨4, ![2, 4, 256, 64]⟩
abbrev S2x4x2048x64 : Shape := ⟨4, ![2, 4, 2048, 64]⟩
abbrev S4096x768 : Shape := ⟨2, ![4096, 768]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x512, .f32⟩
  | .hbm, ⟨2, _⟩ => ⟨S4096x1024, .bf16⟩
  | .hbm, ⟨3, _⟩ => ⟨S4096x1024, .bf16⟩
  | .hbm, ⟨4, _⟩ => ⟨S4096x256, .f32⟩
  | .hbm, ⟨5, _⟩ => ⟨S2x256x2x4x64, .f32⟩
  | .hbm, ⟨6, _⟩ => ⟨S2x2048x4x64, .f32⟩
  | .hbm, ⟨7, _⟩ => ⟨S2x256x1x4x64, .f32⟩
  | .hbm, ⟨8, _⟩ => ⟨S2x256x4x64, .f32⟩
  | .hbm, ⟨9, _⟩ => ⟨S2x256x1x4x64, .f32⟩
  | .hbm, ⟨10, _⟩ => ⟨S2x256x4x64, .f32⟩
  | .hbm, ⟨11, _⟩ => ⟨S2x4x2048x256, .f32⟩
  | .hbm, ⟨12, _⟩ => ⟨S_, .f32⟩
  | .hbm, ⟨13, _⟩ => ⟨S2x4x2048x256, .f32⟩
  | .hbm, ⟨14, _⟩ => ⟨S2x4x2048x256, .f32⟩
  | .hbm, ⟨15, _⟩ => ⟨S_, .f32⟩
  | .hbm, ⟨16, _⟩ => ⟨S2x4x2048, .f32⟩
  | .hbm, ⟨17, _⟩ => ⟨S2x4x2048x1, .f32⟩
  | .hbm, ⟨18, _⟩ => ⟨S2x4x2048x256, .f32⟩
  | .hbm, ⟨19, _⟩ => ⟨S2x4x2048x256, .i1⟩
  | .hbm, ⟨20, _⟩ => ⟨S2x4x2048x256, .f32⟩
  | .hbm, ⟨21, _⟩ => ⟨S_, .f32⟩
  | .hbm, ⟨22, _⟩ => ⟨S2x4x2048, .f32⟩
  | .hbm, ⟨23, _⟩ => ⟨S_, .f32⟩
  | .hbm, ⟨24, _⟩ => ⟨S2x4x2048, .f32⟩
  | .hbm, ⟨25, _⟩ => ⟨S2x4x2048, .f32⟩
  | .hbm, ⟨26, _⟩ => ⟨S_, .f32⟩
  | .hbm, ⟨27, _⟩ => ⟨S2x4x2048, .f32⟩
  | .hbm, ⟨28, _⟩ => ⟨S2x4x2048, .i1⟩
  | .hbm, ⟨29, _⟩ => ⟨S_, .f32⟩
  | .hbm, ⟨30, _⟩ => ⟨S2x4x2048, .f32⟩
  | .hbm, ⟨31, _⟩ => ⟨S2x4x2048, .i1⟩
  | .hbm, ⟨32, _⟩ => ⟨S_, .f32⟩
  | .hbm, ⟨33, _⟩ => ⟨S2x4x2048, .f32⟩
  | .hbm, ⟨34, _⟩ => ⟨S_, .f32⟩
  | .hbm, ⟨35, _⟩ => ⟨S2x4x2048, .f32⟩
  | .hbm, ⟨36, _⟩ => ⟨S_, .f32⟩
  | .hbm, ⟨37, _⟩ => ⟨S2x4x2048, .f32⟩
  | .hbm, ⟨38, _⟩ => ⟨S2x4x2048, .f32⟩
  | .hbm, ⟨39, _⟩ => ⟨S2x4x2048, .f32⟩
  | .hbm, ⟨40, _⟩ => ⟨S2x4x2048x1, .f32⟩
  | .hbm, ⟨41, _⟩ => ⟨S2x4x2048x256, .f32⟩
  | .hbm, ⟨42, _⟩ => ⟨S2x4x2048x256, .f32⟩
  | .hbm, ⟨43, _⟩ => ⟨S2x4x2048x256, .f32⟩
  | .hbm, ⟨44, _⟩ => ⟨S_, .f32⟩
  | .hbm, ⟨45, _⟩ => ⟨S2x4x2048, .f32⟩
  | .hbm, ⟨46, _⟩ => ⟨S2x4x2048x1, .f32⟩
  | .hbm, ⟨47, _⟩ => ⟨S2x4x2048x256, .f32⟩
  | .hbm, ⟨48, _⟩ => ⟨S2x4x2048x256, .f32⟩
  | .hbm, ⟨49, _⟩ => ⟨S2x4x2048x1, .f32⟩
  | .hbm, ⟨50, _⟩ => ⟨S_, .f32⟩
  | .hbm, ⟨51, _⟩ => ⟨S2x4x2048x1, .f32⟩
  | .hbm, ⟨52, _⟩ => ⟨S2x4x2048x1, .f32⟩
  | .hbm, ⟨53, _⟩ => ⟨S2x4x64x2048, .f32⟩
  | .hbm, ⟨54, _⟩ => ⟨S2x2048x4x64, .f32⟩
  | .hbm, ⟨55, _⟩ => ⟨S2x2048x256, .f32⟩
  | .hbm, ⟨56, _⟩ => ⟨S4096x256, .f32⟩
  | .hbm, ⟨57, _⟩ => ⟨S4096x256, .bf16⟩
  | .hbm, ⟨58, _⟩ => ⟨S4096x256, .f32⟩
  | .hbm, ⟨59, _⟩ => ⟨S2x2048x256, .f32⟩
  | .hbm, ⟨60, _⟩ => ⟨S2x2048x4x64, .f32⟩
  | .hbm, ⟨61, _⟩ => ⟨S2x4x64x2048, .f32⟩
  | .hbm, ⟨62, _⟩ => ⟨S2x4x2048x256, .f32⟩
  | .hbm, ⟨63, _⟩ => ⟨S2x4x64x256, .f32⟩
  | .hbm, ⟨64, _⟩ => ⟨S2x256x4x64, .f32⟩
  | .hbm, ⟨65, _⟩ => ⟨S2x4x2048x256, .f32⟩
  | .hbm, ⟨66, _⟩ => ⟨S2x4x2048x256, .f32⟩
  | .hbm, ⟨67, _⟩ => ⟨S2x4x2048x256, .f32⟩
  | .hbm, ⟨68, _⟩ => ⟨S_, .f32⟩
  | .hbm, ⟨69, _⟩ => ⟨S2x4x2048, .f32⟩
  | .hbm, ⟨70, _⟩ => ⟨S2x4x2048x1, .f32⟩
  | .hbm, ⟨71, _⟩ => ⟨S2x4x2048x1, .f32⟩
  | .hbm, ⟨72, _⟩ => ⟨S2x4x2048x256, .f32⟩
  | .hbm, ⟨73, _⟩ => ⟨S2x4x2048x256, .f32⟩
  | .hbm, ⟨74, _⟩ => ⟨S_, .f32⟩
  | .hbm, ⟨75, _⟩ => ⟨S2x4x2048, .f32⟩
  | .hbm, ⟨76, _⟩ => ⟨S2x4x2048x256, .f32⟩
  | .hbm, ⟨77, _⟩ => ⟨S2x4x2048x256, .f32⟩
  | .hbm, ⟨78, _⟩ => ⟨S2x4x2048x256, .f32⟩
  | .hbm, ⟨79, _⟩ => ⟨S_, .f32⟩
  | .hbm, ⟨80, _⟩ => ⟨S2x4x2048x256, .f32⟩
  | .hbm, ⟨81, _⟩ => ⟨S2x4x2048x256, .f32⟩
  | .hbm, ⟨82, _⟩ => ⟨S2x4x256x64, .f32⟩
  | .hbm, ⟨83, _⟩ => ⟨S2x256x4x64, .f32⟩
  | .hbm, ⟨84, _⟩ => ⟨S2x4x2048x64, .f32⟩
  | .hbm, ⟨85, _⟩ => ⟨S2x2048x4x64, .f32⟩
  | .hbm, ⟨86, _⟩ => ⟨S2x256x1x4x64, .f32⟩
  | .hbm, ⟨87, _⟩ => ⟨S_, .f32⟩
  | .hbm, ⟨88, _⟩ => ⟨S2x256x2x4x64, .f32⟩
  | .hbm, ⟨89, _⟩ => ⟨S2x256x1x4x64, .f32⟩
  | .hbm, ⟨90, _⟩ => ⟨S_, .f32⟩
  | .hbm, ⟨91, _⟩ => ⟨S2x256x2x4x64, .f32⟩
  | .hbm, ⟨92, _⟩ => ⟨S2x256x2x4x64, .f32⟩
  | .hbm, ⟨93, _⟩ => ⟨S4096x256, .f32⟩
  | .hbm, ⟨94, _⟩ => ⟨S512x512, .f32⟩
  | .hbm, ⟨95, _⟩ => ⟨S4096x768, .bf16⟩
  | .hbm, ⟨96, _⟩ => ⟨S4096x256, .bf16⟩
  | .hbm, ⟨97, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_13 : Ref sig .tc := ⟨.hbm, 87, rfl⟩
abbrev main_v69 : Ref sig .tc := ⟨.hbm, 88, rfl⟩
abbrev main_v70 : Ref sig .tc := ⟨.hbm, 89, rfl⟩
abbrev main_cst_14 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Kernel26.lean ====
abbrev S4096x1792 : Shape := ⟨2, ![4096, 1792]⟩
abbrev S512x512 : Shape := ⟨2, ![512, 512]⟩
abbrev S4096x1024 : Shape := ⟨2, ![4096, 1024]⟩
abbrev S512x256 : Shape := ⟨2, ![512, 256]⟩
abbrev S256x512 : Shape := ⟨2, ![256, 512]⟩
abbrev S512x64 : Shape := ⟨2, ![512, 64]⟩
abbrev S256x64 : Shape := ⟨2, ![256, 64]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1792, .f32⟩
  | .hbm, ⟨1, _⟩ => ⟨S512x512, .f32⟩
  | .hbm, ⟨2, _⟩ => ⟨S4096x1024, .bf16⟩
  | .hbm, ⟨3, _⟩ => ⟨S4096x1792, .bf16⟩
  | .hbm, ⟨4, _⟩ => ⟨S4096x1792, .bf16⟩
  | .hbm, ⟨5, _⟩ => ⟨S512x512, .f32⟩
  | .local _ .vmem, ⟨0, _⟩ => ⟨S512x256, .f32⟩
  | .local _ .vmem, ⟨1, _⟩ => ⟨S512x256, .f32⟩
  | .local _ .vmem, ⟨2, _⟩ => ⟨S256x512, .f32⟩
  | .local _ .vmem, ⟨3, _⟩ => ⟨S256x512, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S256x512, .f32⟩
  | .local _ .vmem, ⟨9, _⟩ => ⟨S256x512, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference26Ideal.lean ====
abbrev S4096x1792 : Shape := ⟨2, ![4096, 1792]⟩
abbrev S512x512 : Shape := ⟨2, ![512, 512]⟩
abbrev S4096x1024 : Shape := ⟨2, ![4096, 1024]⟩
abbrev S4096x256 : Shape := ⟨2, ![4096, 256]⟩
abbrev S2x256x2x4x64 : Shape := ⟨5, ![2, 256, 2, 4, 64]⟩
abbrev S2x2048x4x64 : Shape := ⟨4, ![2, 2048, 4, 64]⟩
abbrev S2x256x1x4x64 : Shape := ⟨5, ![2, 256, 1, 4, 64]⟩
abbrev S2x256x4x64 : Shape := ⟨4, ![2, 256, 4, 64]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S2x2048x256 : Shape := ⟨3, ![2, 2048, 256]⟩
abbrev S2x4x64x256 : Shape := ⟨4, ![2, 4, 64, 256]⟩
abbrev S2x4x256x64 : Shape := ⟨4, ![2, 4, 256, 64]⟩
abbrev S2x4x2048x64 : Shape := ⟨4, ![2, 4, 2048, 64]⟩
abbrev S4096x1536 : Shape := ⟨2, ![4096, 1536]⟩

abbrev nBuf : Space → Nat
  | .hbm => 98
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S512x512, .f32⟩
  | .hbm, ⟨2, _⟩ => ⟨S4096x1024, .bf16⟩
  | .hbm, ⟨3, _⟩ => ⟨S4096x1792, .bf16⟩
  | .hbm, ⟨4, _⟩ => ⟨S4096x256, .f32⟩
  | .hbm, ⟨5, _⟩ => ⟨S2x256x2x4x64, .f32⟩
  | .hbm, ⟨6, _⟩ => ⟨S2x2048x4x64, .f32⟩
  | .hbm, ⟨7, _⟩ => ⟨S2x256x1x4x64, .f32⟩
  | .hbm, ⟨8, _⟩ => ⟨S2x256x4x64, .f32⟩
  | .hbm, ⟨9, _⟩ => ⟨S2x256x1x4x64, .f32⟩
  | .hbm, ⟨10, _⟩ => ⟨S2x256x4x64, .f32⟩
  | .hbm, ⟨11, _⟩ => ⟨S2x4x2048x256, .f32⟩
  | .hbm, ⟨12, _⟩ => ⟨S_, .f32⟩
  | .hbm, ⟨13, _⟩ => ⟨S2x4x2048x256, .f32⟩
  | .hbm, ⟨14, _⟩ => ⟨S2x4x2048x256, .f32⟩
  | .hbm, ⟨15, _⟩ => ⟨S_, .f32⟩
  | .hbm, ⟨16, _⟩ => ⟨S2x4x2048, .f32⟩
  | .hbm, ⟨17, _⟩ => ⟨S2x4x2048x1, .f32⟩
  | .hbm, ⟨18, _⟩ => ⟨S2x4x2048x256, .f32⟩
  | .hbm, ⟨19, _⟩ => ⟨S2x4x2048x256, .i1⟩
  | .hbm, ⟨20, _⟩ => ⟨S2x4x2048x256, .f32⟩
  | .hbm, ⟨21, _⟩ => ⟨S_, .f32⟩
  | .hbm, ⟨22, _⟩ => ⟨S2x4x2048, .f32⟩
  | .hbm, ⟨23, _⟩ => ⟨S_, .f32⟩
  | .hbm, ⟨24, _⟩ => ⟨S2x4x2048, .f32⟩
  | .hbm, ⟨25, _⟩ => ⟨S2x4x2048, .f32⟩
  | .hbm, ⟨26, _⟩ => ⟨S_, .f32⟩
  | .hbm, ⟨27, _⟩ => ⟨S2x4x2048, .f32⟩
  | .hbm, ⟨28, _⟩ => ⟨S2x4x2048, .i1⟩
  | .hbm, ⟨29, _⟩ => ⟨S_, .f32⟩
  | .hbm, ⟨30, _⟩ => ⟨S2x4x2048, .f32⟩
  | .hbm, ⟨31, _⟩ => ⟨S2x4x2048, .i1⟩
  | .hbm, ⟨32, _⟩ => ⟨S_, .f32⟩
  | .hbm, ⟨33, _⟩ => ⟨S2x4x2048, .f32⟩
  | .hbm, ⟨34, _⟩ => ⟨S_, .f32⟩
  | .hbm, ⟨35, _⟩ => ⟨S2x4x2048, .f32⟩
  | .hbm, ⟨36, _⟩ => ⟨S_, .f32⟩
  | .hbm, ⟨37, _⟩ => ⟨S2x4x2048, .f32⟩
  | .hbm, ⟨38, _⟩ => ⟨S2x4x2048, .f32⟩
  | .hbm, ⟨39, _⟩ => ⟨S2x4x2048, .f32⟩
  | .hbm, ⟨40, _⟩ => ⟨S2x4x2048x1, .f32⟩
  | .hbm, ⟨41, _⟩ => ⟨S2x4x2048x256, .f32⟩
  | .hbm, ⟨42, _⟩ => ⟨S2x4x2048x256, .f32⟩
  | .hbm, ⟨43, _⟩ => ⟨S2x4x2048x256, .f32⟩
  | .hbm, ⟨44, _⟩ => ⟨S_, .f32⟩
  | .hbm, ⟨45, _⟩ => ⟨S2x4x2048, .f32⟩
  | .hbm, ⟨46, _⟩ => ⟨S2x4x2048x1, .f32⟩
  | .hbm, ⟨47, _⟩ => ⟨S2x4x2048x256, .f32⟩
  | .hbm, ⟨48, _⟩ => ⟨S2x4x2048x256, .f32⟩
  | .hbm, ⟨49, _⟩ => ⟨S2x4x2048x1, .f32⟩
  | .hbm, ⟨50, _⟩ => ⟨S_, .f32⟩
  | .hbm, ⟨51, _⟩ => ⟨S2x4x2048x1, .f32⟩
  | .hbm, ⟨52, _⟩ => ⟨S2x4x2048x1, .f32⟩
  | .hbm, ⟨53, _⟩ => ⟨S2x4x64x2048, .f32⟩
  | .hbm, ⟨54, _⟩ => ⟨S2x2048x4x64, .f32⟩
  | .hbm, ⟨55, _⟩ => ⟨S2x2048x256, .f32⟩
  | .hbm, ⟨56, _⟩ => ⟨S4096x256, .f32⟩
  | .hbm, ⟨57, _⟩ => ⟨S4096x256, .bf16⟩
  | .hbm, ⟨58, _⟩ => ⟨S4096x256, .f32⟩
  | .hbm, ⟨59, _⟩ => ⟨S2x2048x256, .f32⟩
  | .hbm, ⟨60, _⟩ => ⟨S2x2048x4x64, .f32⟩
  | .hbm, ⟨61, _⟩ => ⟨S2x4x64x2048, .f32⟩
  | .hbm, ⟨62, _⟩ => ⟨S2x4x2048x256, .f32⟩
  | .hbm, ⟨63, _⟩ => ⟨S2x4x64x256, .f32⟩
  | .hbm, ⟨64, _⟩ => ⟨S2x256x4x64, .f32⟩
  | .hbm, ⟨65, _⟩ => ⟨S2x4x2048x256, .f32⟩
  | .hbm, ⟨66, _⟩ => ⟨S2x4x2048x256, .f32⟩
  | .hbm, ⟨67, _⟩ => ⟨S2x4x2048x256, .f32⟩
  | .hbm, ⟨68, _⟩ => ⟨S_, .f32⟩
  | .hbm, ⟨69, _⟩ => ⟨S2x4x2048, .f32⟩
  | .hbm, ⟨70, _⟩ => ⟨S2x4x2048x1, .f32⟩
  | .hbm, ⟨71, _⟩ => ⟨S2x4x2048x1, .f32⟩
  | .hbm, ⟨72, _⟩ => ⟨S2x4x2048x256, .f32⟩
  | .hbm, ⟨73, _⟩ => ⟨S2x4x2048x256, .f32⟩
  | .hbm, ⟨74, _⟩ => ⟨S_, .f32⟩
  | .hbm, ⟨75, _⟩ => ⟨S2x4x2048, .f32⟩
  | .hbm, ⟨76, _⟩ => ⟨S2x4x2048x256, .f32⟩
  | .hbm, ⟨77, _⟩ => ⟨S2x4x2048x256, .f32⟩
  | .hbm, ⟨78, _⟩ => ⟨S2x4x2048x256, .f32⟩
  | .hbm, ⟨79, _⟩ => ⟨S_, .f32⟩
  | .hbm, ⟨80, _⟩ => ⟨S2x4x2048x256, .f32⟩
  | .hbm, ⟨81, _⟩ => ⟨S2x4x2048x256, .f32⟩
  | .hbm, ⟨82, _⟩ => ⟨S2x4x256x64, .f32⟩
  | .hbm, ⟨83, _⟩ => ⟨S2x256x4x64, .f32⟩
  | .hbm, ⟨84, _⟩ => ⟨S2x4x2048x64, .f32⟩
  | .hbm, ⟨85, _⟩ => ⟨S2x2048x4x64, .f32⟩
  | .hbm, ⟨86, _⟩ => ⟨S2x256x1x4x64, .f32⟩
  | .hbm, ⟨87, _⟩ => ⟨S_, .f32⟩
  | .hbm, ⟨88, _⟩ => ⟨S2x256x2x4x64, .f32⟩
  | .hbm, ⟨89, _⟩ => ⟨S2x256x1x4x64, .f32⟩
  | .hbm, ⟨90, _⟩ => ⟨S_, .f32⟩
  | .hbm, ⟨91, _⟩ => ⟨S2x256x2x4x64, .f32⟩
  | .hbm, ⟨92, _⟩ => ⟨S2x256x2x4x64, .f32⟩
  | .hbm, ⟨93, _⟩ => ⟨S4096x256, .f32⟩
  | .hbm, ⟨94, _⟩ => ⟨S512x512, .f32⟩
  | .hbm, ⟨95, _⟩ => ⟨S4096x1536, .bf16⟩
  | .hbm, ⟨96, _⟩ => ⟨S4096x256, .bf16⟩
  | .hbm, ⟨97, _⟩ => ⟨S4096x1792, .bf16⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_13 : Ref sig .tc := ⟨.hbm, 87, rfl⟩
abbrev main_v69 : Ref sig .tc := ⟨.hbm, 88, rfl⟩
abbrev main_v70 : Ref sig .tc := ⟨.hbm, 89, rfl⟩
abbrev main_cst_14 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Proof.Decode.lean ====
module
public import proofs.«01_k».proof.Defs
public import Idealize.ShloMosaic.Lib.Pointwise
public import Idealize.ShloMosaic.Lib.ReduceAll

/-! # The precondition and the mask

The precondition says that every argument is a real number, the mask that a column of the queries' gradient
is one of the first 768. -/

@[expose] public section
set_option maxRecDepth 65536
noncomputable section
open Idealize.ShloMosaic

namespace Cert.Pre_finite

/-- The shape relations the precondition states. -/
instance facts : Facts where
  bcast_S_S4096x1024 := by decide
  reducesTo_S4096x1024_S_d0_1 := by decide
  h_S_ := by decide
  bcast_S_S4096x512 := by decide
  reducesTo_S4096x512_S_d0_1 := by decide
  bcast_S_S12 := by decide
  reducesTo_S12_S_d0 := by decide
  bitsLt_bf16_f32 := by decide

theorem and_eq_one : ∀ a b : BitVec 1, IntOp.andi a b = 1#1 → a = 1#1 ∧ b = 1#1 := by decide

/-- A number whose absolute value is below infinity is real. -/
theorem real_of_lt (x : EReal) (h : FloatOps.cmpf (F := Ideal) (φ := .f32) .olt (FloatOps.hostAbsf (F := Ideal) (φ := .f32) x) (Ideal.ofBits .f32 0x7F800000#32) = 1#1) :
    x = (x.toReal : EReal) := by
  have ht : (Ideal.ofBits .f32 0x7F800000#32 : EReal) = ⊤ := by simp [Ideal.ofBits, Ideal.ieee]
  rw [ht] at h
  have hl : max x (-x) < ⊤ := by
    by_contra hn
    have h' : BitVec.ofBool (decide (max x (-x) < (⊤ : EReal))) = 1#1 := h
    rw [decide_eq_false hn] at h'
    exact absurd h' (by decide)
  have h1 : x ≠ ⊤ := fun e => by rw [e] at hl; simp at hl
  have h2 : x ≠ ⊥ := fun e => by rw [e] at hl; simp at hl
  exact (EReal.coe_toReal h1 h2).symm

/-- Under the precondition every argument is real. -/
theorem real (x : FVec Ideal S4096x1024 .f32) (y : FVec Ideal S4096x512 .f32) (z : FVec Ideal S12 .f32) (w : FVec Ideal S4096x1024 .bf16)
    (h : fn x y z w = fun _ => 1#1) :
    (∀ i, (x i : EReal) = ((x i : EReal).toReal : EReal)) ∧ (∀ i, (y i : EReal) = ((y i : EReal).toReal : EReal))
      ∧ (∀ i, (z i : EReal) = ((z i : EReal).toReal : EReal)) ∧ (∀ i, (w i : EReal) = ((w i : EReal).toReal : EReal)) := by
  have e := congrFun h (fun a => a.elim0)
  haveI : Subsingleton S_.Idx := ⟨fun a b => funext fun k => k.elim0⟩
  obtain ⟨e, e3⟩ := and_eq_one _ _ e
  obtain ⟨e, e2⟩ := and_eq_one _ _ e
  obtain ⟨e0, e1⟩ := and_eq_one _ _ e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i)⟩

end Cert.Pre_finite

namespace Cert.On_written

/-- The shape relations the mask states. -/
instance facts : Facts where
  bcast_S_S4096x1024 := by decide
  bcast_S_S4096x512 := by decide
  bcast_S_S8x128 := by decide

/-- The mask of the queries' gradient. -/
theorem fst_iff (x : FVec Ideal S4096x1024 .f32) (y : FVec Ideal S4096x512 .f32) (z : FVec Ideal S12 .f32) (w : FVec Ideal S4096x1024 .bf16)
    (i : S4096x1024.Idx) : (fn x y z w).1 i = 1#1 ↔ (i 1).val < 768 := by
  have key : ∀ r : Fin 1024, IntOp.cmpi .slt (BitVec.ofNat 32 r.val) 768#32 = 1#1 ↔ r.val < 768 := by decide +kernel
  exact key (i 1)

end Cert.On_written
-- ==== Proof.Row.lean ====
module

public import Idealize.ShloMosaic.Lib.IdealHost
public import Idealize.ShloMosaic.Lib.Pointwise

/-! # One row of the attention with a sink: its weights and its gradients

A query has a score for each key, a mask that says which keys it sees, a sink, and the gradient `dp`
of each weight. Here are the real numbers that the backward pass computes for it, and that both ways to
compute them give these numbers: the program's, that multiplies by one over the denominator, and the
differentiated softmax, that divides and differentiates the shift by the maximum too. -/

@[expose] public section

noncomputable section

namespace Cert.Swa

open Idealize.ShloMosaic

variable {ι : Type} [Fintype ι]

/-- A finite sum of reals is the sum of the same reals as extended reals. -/
theorem coe_sum {κ : Type} (s : Finset κ) (f : κ → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A row: the mask, the scores, the gradients of the weights and the sink. -/
structure Row (ι : Type) where
  on : ι → BitVec 1
  sc : ι → ℝ
  dp : ι → ℝ
  sk : ℝ

namespace Row

variable (w : Row ι)

/-- The exponential of a score shifted by `μ`, zero where the mask is off. -/
def e (μ : ℝ) (j : ι) : ℝ := if w.on j = 1 then Real.exp (w.sc j - μ) else 0
/-- The denominator, shifted by `μ`. -/
def den (μ : ℝ) : ℝ := ∑ j : ι, w.e μ j + Real.exp (w.sk - μ)
/-- The weight of a key. -/
def P (j : ι) : ℝ := w.e 0 j / w.den 0
/-- The mean of the gradients of the weights. -/
def R : ℝ := ∑ j : ι, w.dp j * w.P j
/-- The gradient of a product of the query with a key. -/
def G (j : ι) : ℝ := w.P j * (w.dp j - w.R) * (1 / 8)
/-- The gradient of the sink. -/
def T : ℝ := -(Real.exp w.sk / w.den 0) * w.R
/-- The masked scores as the programs hold them. -/
def S (j : ι) : EReal := Scalar.select (w.on j) (w.sc j : EReal) ⊥

theorem e_nonneg (μ : ℝ) (j : ι) : 0 ≤ w.e μ j := by
  unfold e; split
  · exact (Real.exp_pos _).le
  · exact le_rfl

theorem den_pos (μ : ℝ) : 0 < w.den μ :=
  add_pos_of_nonneg_of_pos (Finset.sum_nonneg fun j _ => w.e_nonneg μ j) (Real.exp_pos _)

theorem e_shift (μ : ℝ) (j : ι) : w.e μ j = Real.exp (-μ) * w.e 0 j := by
  unfold e; split
  · rw [← Real.exp_add]; congr 1; ring
  · rw [mul_zero]

theorem den_shift (μ : ℝ) : w.den μ = Real.exp (-μ) * w.den 0 := by
  unfold den
  rw [mul_add, Finset.mul_sum, ← Real.exp_add]
  exact congrArg₂ (· + ·) (Finset.sum_congr rfl fun j _ => w.e_shift μ j) (congrArg _ (by ring))

theorem P_eq (μ : ℝ) (j : ι) : w.e μ j / w.den μ = w.P j := by
  rw [e_shift, den_shift, P, mul_div_mul_left _ _ (Real.exp_pos _).ne']

theorem sink_eq (μ : ℝ) : Real.exp (w.sk - μ) / w.den μ = Real.exp w.sk / w.den 0 := by
  rw [den_shift, show w.sk - μ = -μ + w.sk by ring, Real.exp_add, mul_div_mul_left _ _ (Real.exp_pos _).ne']

theorem P_off {j : ι} (h : w.on j ≠ 1) : w.P j = 0 := by unfold P e; rw [if_neg h, zero_div]
theorem G_off {j : ι} (h : w.on j ≠ 1) : w.G j = 0 := by simp [G, w.P_off h]

/-- Only the scores and gradients inside the mask matter. -/
theorem congr_on {w v : Row ι} (hm : w.on = v.on) (hs : ∀ j, w.on j = 1 → w.sc j = v.sc j)
    (hd : ∀ j, w.on j = 1 → w.dp j = v.dp j) (hk : w.sk = v.sk) : w.P = v.P ∧ w.G = v.G ∧ w.T = v.T := by
  have he : w.e 0 = v.e 0 := funext fun j => by
    unfold e; rw [← hm]; split
    · rw [hs j ‹_›]
    · rfl
  have hden : w.den 0 = v.den 0 := by unfold den; rw [he, hk]
  have hP : w.P = v.P := funext fun j => by unfold P; rw [he, hden]
  have hR : w.R = v.R := Finset.sum_congr rfl fun j _ => by
    by_cases h : w.on j = 1
    · rw [hd j h, hP]
    · rw [← hP, w.P_off h, mul_zero, mul_zero]
  refine ⟨hP, funext fun j => ?_, by unfold T; rw [hR, hden, hk]⟩
  by_cases h : w.on j = 1
  · unfold G; rw [hd j h, hP, hR]
  · rw [w.G_off h, v.G_off (hm ▸ h)]

/-- The row maximum, the sink included, is a real number. -/
theorem max_real : ∃ μ : ℝ, max (Finset.fold max (⊥ : EReal) w.S Finset.univ) (w.sk : EReal) = (μ : EReal) := by
  have hlt : Finset.fold max (⊥ : EReal) w.S Finset.univ < ⊤ := by
    rw [Finset.fold_max_lt]
    refine ⟨bot_lt_top, fun j _ => ?_⟩
    unfold S Scalar.select
    split
    · exact EReal.coe_lt_top _
    · exact bot_lt_top
  refine ⟨_, (EReal.coe_toReal (max_lt hlt (EReal.coe_lt_top _)).ne
    (lt_of_lt_of_le (EReal.bot_lt_coe w.sk) (le_max_right _ _)).ne').symm⟩

/-- The largest of the scores is one of them. -/
theorem max_attained [Nonempty ι] : ∃ j, w.S j = Finset.fold max (⊥ : EReal) w.S Finset.univ := by
  obtain ⟨j, -, hj⟩ := Finset.exists_max_image Finset.univ w.S Finset.univ_nonempty
  refine ⟨j, le_antisymm (Finset.le_fold_max _ |>.mpr (.inr ⟨j, Finset.mem_univ _, le_rfl⟩)) ?_⟩
  exact Finset.fold_max_le _ |>.mpr ⟨bot_le, fun k hk => hj k hk⟩

theorem exp_S (μ : ℝ) (j : ι) : Ideal.exp (w.S j - (μ : EReal)) = (w.e μ j : EReal) := by
  unfold S e Scalar.select
  split
  · rw [← EReal.coe_sub, Ideal.exp_coe]
  · rw [show (⊥ : EReal) - (μ : EReal) = ⊥ by rw [sub_eq_add_neg, EReal.bot_add]]; exact Ideal.exp_bot

theorem den_coe (μ : ℝ) : (∑ j : ι, Ideal.exp (w.S j - (μ : EReal))) + Ideal.exp ((w.sk : EReal) - (μ : EReal)) = (w.den μ : EReal) := by
  simp_rw [exp_S]
  rw [coe_sum, ← EReal.coe_sub, Ideal.exp_coe, ← EReal.coe_add]; rfl

theorem inv_coe (μ : ℝ) : Ideal.div 1 (w.den μ : EReal) = ((1 / w.den μ : ℝ) : EReal) := by
  rw [Ideal.div_coe (w.den_pos μ).ne', one_mul]

/-- The program's weights. -/
theorem weight (M : EReal) (hM : M = max (Finset.fold max (⊥ : EReal) w.S Finset.univ) (w.sk : EReal)) (j : ι) :
    Ideal.exp (w.S j - M) * Ideal.div 1 ((∑ x : ι, Ideal.exp (w.S x - M)) + Ideal.exp ((w.sk : EReal) - M))
      = (w.P j : EReal) := by
  obtain ⟨μ, h⟩ := w.max_real
  rw [hM, h, w.den_coe, w.exp_S, w.inv_coe, ← EReal.coe_mul, mul_one_div, w.P_eq]

/-- The program's weight of the sink. -/
theorem sinkWeight (M : EReal) (hM : M = max (Finset.fold max (⊥ : EReal) w.S Finset.univ) (w.sk : EReal)) :
    Ideal.exp ((w.sk : EReal) - M) * Ideal.div 1 ((∑ x : ι, Ideal.exp (w.S x - M)) + Ideal.exp ((w.sk : EReal) - M))
      = ((Real.exp w.sk / w.den 0 : ℝ) : EReal) := by
  obtain ⟨μ, h⟩ := w.max_real
  rw [hM, h, w.den_coe, w.inv_coe, ← EReal.coe_sub, Ideal.exp_coe, ← EReal.coe_mul, mul_one_div, w.sink_eq]

theorem mean_coe : (∑ j : ι, (w.dp j : EReal) * (w.P j : EReal)) = (w.R : EReal) := by
  simp_rw [← EReal.coe_mul]; rw [coe_sum]; rfl

/-! ## The differentiated softmax -/

/-- Division by the shifted denominator, in the reals. -/
theorem div_den (μ x : ℝ) : Ideal.div (x : EReal) (w.den μ : EReal) = ((x / w.den μ : ℝ) : EReal) := by
  rw [Ideal.div_coe (w.den_pos μ).ne', ← EReal.coe_mul, mul_one_div]

/-- The gradient of the denominator. -/
def c (μ : ℝ) : ℝ := -(w.R / w.den μ)

theorem c_coe (μ : ℝ) : -(∑ j : ι, ((w.dp j : EReal) * Ideal.div 1 ((w.den μ : EReal) * (w.den μ : EReal))) * (w.e μ j : EReal))
    = (w.c μ : EReal) := by
  have h0 : w.den μ ≠ 0 := (w.den_pos μ).ne'
  have h1 : w.den μ * w.den μ ≠ 0 := mul_ne_zero h0 h0
  rw [← EReal.coe_mul, Ideal.div_coe h1, one_mul]
  simp_rw [← EReal.coe_mul]
  rw [coe_sum, ← EReal.coe_neg]
  refine congrArg _ (congrArg _ ?_)
  rw [R, Finset.sum_div]
  refine Finset.sum_congr rfl fun j _ => ?_
  rw [← w.P_eq μ j]; field_simp

/-- The gradient of an exponential's argument, before the shift's. -/
theorem grad_arg (μ : ℝ) (j : ι) :
    (Ideal.div (w.dp j : EReal) (w.den μ : EReal) + (w.c μ : EReal)) * (w.e μ j : EReal)
      = ((w.P j * (w.dp j - w.R) : ℝ) : EReal) := by
  have h0 : w.den μ ≠ 0 := (w.den_pos μ).ne'
  rw [w.div_den, ← EReal.coe_add, ← EReal.coe_mul]
  refine congrArg _ ?_
  rw [← w.P_eq μ j, c]; field_simp; ring

/-- The gradient of the sink's exponential's argument. -/
theorem grad_sink (μ : ℝ) : (w.c μ : EReal) * Ideal.exp ((w.sk : EReal) - (μ : EReal)) = (w.T : EReal) := by
  rw [← EReal.coe_sub, Ideal.exp_coe, ← EReal.coe_mul]
  refine congrArg _ ?_
  rw [T, ← w.sink_eq μ, c]; ring

/-- The weights and the sink's weight add up to one. -/
theorem sum_P : (∑ j : ι, w.P j) + Real.exp w.sk / w.den 0 = 1 := by
  have h0 : w.den 0 ≠ 0 := (w.den_pos 0).ne'
  unfold P
  rw [← Finset.sum_div, ← add_div]
  have : ∑ j : ι, w.e 0 j + Real.exp w.sk = w.den 0 := by unfold den; rw [sub_zero]
  rw [this, div_self h0]

/-- The gradient of the maximum is zero: a shift of all the scores changes nothing. -/
theorem grad_max : -(w.T : EReal) + (∑ j : ι, -((w.P j * (w.dp j - w.R) : ℝ) : EReal)) = 0 := by
  simp_rw [← EReal.coe_neg]
  rw [coe_sum, ← EReal.coe_add, ← EReal.coe_zero]
  refine congrArg _ ?_
  have h1 : ∑ j : ι, -(w.P j * (w.dp j - w.R)) = -(w.R - (∑ j : ι, w.P j) * w.R) := by
    rw [Finset.sum_neg_distrib, Finset.sum_mul, R, ← Finset.sum_sub_distrib]
    exact congrArg _ (Finset.sum_congr rfl fun j _ => by ring)
  rw [h1, T, eq_sub_of_add_eq w.sum_P]; ring

/-- The number of keys that attain the maximum is not zero. -/
theorem count_ne [Nonempty ι] (f : ι → EReal)
    (hf : ∀ j, f j = if w.S j = Finset.fold max (⊥ : EReal) w.S Finset.univ then 1 else 0) : (∑ j : ι, f j) ≠ 0 := by
  classical
  obtain ⟨k, hk⟩ := w.max_attained
  have hle : f k ≤ ∑ j : ι, f j := Finset.single_le_sum (f := f) (fun j _ => by
    rw [hf j]; split
    · exact zero_le_one
    · exact le_rfl) (Finset.mem_univ k)
  rw [hf k, if_pos hk] at hle
  exact (lt_of_lt_of_le zero_lt_one hle).ne'

end Row

end Cert.Swa
-- ==== Proof.Spec.lean ====
module

public import proofs.«01_k».proof.Proof.Row

/-! # The gradients of the banded attention with sinks, in real numbers

The arguments as real numbers, what one block of 128 queries reads of them, and the gradients the block
makes. A block's keys are those of the block before it and its own. Whether the keys before the first
block are read as zeros or as anything else makes no difference, because the band leaves them out. -/

@[expose] public section

noncomputable section

namespace Cert.Swa

open Idealize.ShloMosaic

/-- A choice whose two sides both equal a value. -/
lemma dite_eq_of {α : Type} {p : Prop} [Decidable p] {t : p → α} {e : ¬p → α} {v : α} (ht : ∀ h, t h = v) (he : ∀ h, e h = v) :
    dite p t e = v := by
  split
  exacts [ht _, he _]

/-- The bits of the slope of each head. -/
def slopeBits : Fin 12 → BitVec 32 :=
  ![0x3F000000#32, 0x3E800000#32, 0x3E000000#32, 0x3D800000#32, 0x3D000000#32, 0x3C800000#32,
    0x3C000000#32, 0x3B800000#32, 0x3F3504F3#32, 0x3EB504F3#32, 0x3E3504F3#32, 0x3DB504F3#32]

/-- The slope of each head. -/
def slope (h : Fin 12) : ℝ := EReal.toReal (Ideal.ofBits .f32 (slopeBits h))

theorem slope_coe (h : Fin 12) : (Ideal.ofBits .f32 (slopeBits h) : EReal) = (slope h : EReal) := by
  refine (EReal.coe_toReal ?_ ?_).symm <;> fin_cases h <;>
    simp [slopeBits, Ideal.ofBits, Ideal.ieee, -EReal.coe_mul]

/-- The f32 pattern of one eighth. -/
theorem eighth_coe : (Ideal.ofBits .f32 0x3E000000#32 : EReal) = ((1 / 8 : ℝ) : EReal) := by
  simp [Ideal.ofBits, Ideal.ieee, -EReal.coe_mul]; norm_num

/-- The f32 pattern of minus infinity. -/
theorem bot_bits : (Ideal.ofBits .f32 0xFF800000#32 : EReal) = ⊥ := by
  simp [Ideal.ofBits, Ideal.ieee]

/-- How far a key lies before a query, as the programs count it. -/
def gap (i : Fin 128) (j : Fin 256) : BitVec 32 :=
  IntOp.subi (IntOp.addi (BitVec.ofNat 32 i.val) 128#32) (BitVec.ofNat 32 j.val)

/-- Whether a query sees a key: not after it, fewer than 128 before it, and not before the sequence. -/
def band (n : Nat) (i : Fin 128) (j : Fin 256) : BitVec 1 :=
  IntOp.andi (IntOp.andi (IntOp.cmpi CmpIPredicate.sge (gap i j) 0#32) (IntOp.cmpi CmpIPredicate.slt (gap i j) 128#32))
    (IntOp.ori (IntOp.cmpi CmpIPredicate.sgt (BitVec.ofNat 32 n) 0#32)
      (IntOp.cmpi CmpIPredicate.sge (BitVec.ofNat 32 j.val) 128#32))

/-- The first block sees no keys of a block before it. -/
theorem band_first (i : Fin 128) (j : Fin 256) (hj : j.val < 128) : band 0 i j ≠ 1 := by
  have h : ∀ j : Fin 256, j.val < 128 → (IntOp.ori (IntOp.cmpi CmpIPredicate.sgt (BitVec.ofNat 32 0) 0#32)
      (IntOp.cmpi CmpIPredicate.sge (BitVec.ofNat 32 j.val) 128#32)) = 0#1 := by decide +kernel
  unfold band
  rw [h j hj]
  intro h1
  have h2 : ∀ b : BitVec 1, IntOp.andi b 0#1 ≠ 1 := by decide
  exact h2 _ h1

def qcol (h : Fin 12) (d : Fin 64) : Fin 768 := ⟨64 * h.val + d.val, by omega⟩
def kcol (g : Fin 4) (d : Fin 64) : Fin 512 := ⟨64 * g.val + d.val, by omega⟩
def vcol (g : Fin 4) (d : Fin 64) : Fin 512 := ⟨256 + (64 * g.val + d.val), by omega⟩
/-- The key head a head reads. -/
def grp (h : Fin 12) : Fin 4 := ⟨h.val / 3, by omega⟩
/-- The heads of a key head. -/
def head (g : Fin 4) (r : Fin 3) : Fin 12 := ⟨3 * g.val + r.val, by omega⟩

theorem grp_head (g : Fin 4) (r : Fin 3) : grp (head g r) = g := Fin.ext (by simp only [grp, head]; omega)

/-- What a block reads: queries, keys and values, cotangents, sinks, and its number in the sequence. -/
structure Blk where
  q : Fin 128 → Fin 768 → ℝ
  kv : Fin 256 → Fin 512 → ℝ
  ct : Fin 128 → Fin 768 → ℝ
  sk : Fin 12 → ℝ
  n : Nat

namespace Blk

variable (B : Blk)

/-- One query of one head. -/
def row (h : Fin 12) (i : Fin 128) : Row (Fin 256) where
  on := band B.n i
  sc j := (∑ d : Fin 64, B.q i (qcol h d) * B.kv j (kcol (grp h) d)) * (1 / 8) - slope h * ((gap i j).toInt : ℝ)
  dp j := ∑ d : Fin 64, B.ct i (qcol h d) * B.kv j (vcol (grp h) d)
  sk := B.sk h

/-- The gradient of the queries. -/
def dq (h : Fin 12) (i : Fin 128) (d : Fin 64) : ℝ := ∑ j : Fin 256, (B.row h i).G j * B.kv j (kcol (grp h) d)
/-- A head's share of the gradient of its keys. -/
def dkh (h : Fin 12) (j : Fin 256) (d : Fin 64) : ℝ := ∑ i : Fin 128, (B.row h i).G j * B.q i (qcol h d)
/-- A head's share of the gradient of its values. -/
def dvh (h : Fin 12) (j : Fin 256) (d : Fin 64) : ℝ := ∑ i : Fin 128, (B.row h i).P j * B.ct i (qcol h d)
/-- The output. -/
def o (h : Fin 12) (i : Fin 128) (d : Fin 64) : ℝ := ∑ j : Fin 256, (B.row h i).P j * B.kv j (vcol (grp h) d)
/-- The gradient of the keys. -/
def dk (g : Fin 4) (j : Fin 256) (d : Fin 64) : ℝ := B.dkh (head g 0) j d + B.dkh (head g 1) j d + B.dkh (head g 2) j d
/-- The gradient of the values. -/
def dv (g : Fin 4) (j : Fin 256) (d : Fin 64) : ℝ := B.dvh (head g 0) j d + B.dvh (head g 1) j d + B.dvh (head g 2) j d
/-- The block's share of the gradient of a sink. -/
def ds (h : Fin 12) : ℝ := ∑ i : Fin 128, (B.row h i).T

end Blk

/-- The arguments: the projections (the queries are their first 768 columns), the keys and values, the
sinks and the cotangents. -/
structure Args where
  x : Fin 4096 → Fin 1024 → ℝ
  kv : Fin 4096 → Fin 512 → ℝ
  sk : Fin 12 → ℝ
  ct : Fin 4096 → Fin 1024 → ℝ

namespace Args

variable (A : Args)

/-- A row of a block of a sequence. -/
def at_ (b : Fin 2) (n : Fin 16) (i : Fin 128) : Fin 4096 := ⟨b.val * 2048 + n.val * 128 + i.val, by omega⟩
/-- A row of the block before it, of the block itself when it is the first. -/
def before (b : Fin 2) (n : Fin 16) (i : Fin 128) : Fin 4096 := ⟨b.val * 2048 + (n.val - 1) * 128 + i.val, by omega⟩

/-- The keys and values a block reads; `z` says whether zeros stand before the first block. -/
def keys (z : Bool) (b : Fin 2) (n : Fin 16) (j : Fin 256) (c : Fin 512) : ℝ :=
  if h : j.val < 128 then (if z = true ∧ n.val = 0 then 0 else A.kv (before b n ⟨j.val, h⟩) c)
  else A.kv (at_ b n ⟨j.val - 128, by omega⟩) c

/-- What a block reads. -/
def blk (z : Bool) (b : Fin 2) (n : Fin 16) : Blk where
  q i c := A.x (at_ b n i) ⟨c.val, by omega⟩
  kv := A.keys z b n
  ct i c := A.ct (at_ b n i) ⟨c.val, by omega⟩
  sk := A.sk
  n := n.val

theorem keys_eq {b : Fin 2} {n : Fin 16} {i : Fin 128} {j : Fin 256} (h : band n.val i j = 1) (z z' : Bool) (c : Fin 512) :
    A.keys z b n j c = A.keys z' b n j c := by
  unfold keys
  split
  · rename_i hj
    have hn : n.val ≠ 0 := fun hn => band_first i j hj (hn ▸ h)
    rw [if_neg (fun h => hn h.2), if_neg (fun h => hn h.2)]
  · rfl

theorem row_eq (b : Fin 2) (n : Fin 16) (h : Fin 12) (i : Fin 128) (z z' : Bool) :
    ((A.blk z b n).row h i).P = ((A.blk z' b n).row h i).P ∧ ((A.blk z b n).row h i).G = ((A.blk z' b n).row h i).G
      ∧ ((A.blk z b n).row h i).T = ((A.blk z' b n).row h i).T :=
  Row.congr_on rfl
    (fun j hj => by
      dsimp only [Blk.row, blk]
      exact congrArg (· * (1 / 8 : ℝ) - slope h * ((gap i j).toInt : ℝ)) (Finset.sum_congr rfl fun d _ => by
        rw [A.keys_eq (i := i) hj z z']))
    (fun j hj => by
      dsimp only [Blk.row, blk]
      exact Finset.sum_congr rfl fun d _ => by rw [A.keys_eq (i := i) hj z z']) rfl

theorem dq_eq (b : Fin 2) (n : Fin 16) (z z' : Bool) : (A.blk z b n).dq = (A.blk z' b n).dq := by
  funext h i d
  refine Finset.sum_congr rfl fun j _ => ?_
  rw [(A.row_eq b n h i z z').2.1]
  by_cases hj : band n.val i j = 1
  · exact congrArg _ (A.keys_eq hj z z' _)
  · rw [Row.G_off _ (show ((A.blk z' b n).row h i).on j ≠ 1 from hj), zero_mul, zero_mul]

theorem o_eq (b : Fin 2) (n : Fin 16) (z z' : Bool) : (A.blk z b n).o = (A.blk z' b n).o := by
  funext h i d
  refine Finset.sum_congr rfl fun j _ => ?_
  rw [(A.row_eq b n h i z z').1]
  by_cases hj : band n.val i j = 1
  · exact congrArg _ (A.keys_eq hj z z' _)
  · rw [Row.P_off _ (show ((A.blk z' b n).row h i).on j ≠ 1 from hj), zero_mul, zero_mul]

theorem dkh_eq (b : Fin 2) (n : Fin 16) (z z' : Bool) : (A.blk z b n).dkh = (A.blk z' b n).dkh := by
  funext h j d
  exact Finset.sum_congr rfl fun i _ => by rw [(A.row_eq b n h i z z').2.1]; rfl

theorem dvh_eq (b : Fin 2) (n : Fin 16) (z z' : Bool) : (A.blk z b n).dvh = (A.blk z' b n).dvh := by
  funext h j d
  exact Finset.sum_congr rfl fun i _ => by rw [(A.row_eq b n h i z z').1]; rfl

theorem dk_eq (b : Fin 2) (n : Fin 16) (z z' : Bool) : (A.blk z b n).dk = (A.blk z' b n).dk := by
  unfold Blk.dk; rw [A.dkh_eq b n z z']

theorem dv_eq (b : Fin 2) (n : Fin 16) (z z' : Bool) : (A.blk z b n).dv = (A.blk z' b n).dv := by
  unfold Blk.dv; rw [A.dvh_eq b n z z']

theorem ds_eq (b : Fin 2) (n : Fin 16) (z z' : Bool) : (A.blk z b n).ds = (A.blk z' b n).ds := by
  funext h
  exact Finset.sum_congr rfl fun i _ => (A.row_eq b n h i z z').2.2

/-- The sequence, the block and the place in the block of a row. -/
def rb (R : Fin 4096) : Fin 2 := ⟨R.val / 2048, by omega⟩
def rn (R : Fin 4096) : Fin 16 := ⟨R.val % 2048 / 128, by omega⟩
def ri (R : Fin 4096) : Fin 128 := ⟨R.val % 128, by omega⟩

/-- The gradient of the queries. -/
def gq (R : Fin 4096) (c : Fin 768) : ℝ :=
  (A.blk false (rb R) (rn R)).dq ⟨c.val / 64, by omega⟩ (ri R) ⟨c.val % 64, by omega⟩

/-- The output. -/
def go (R : Fin 4096) (c : Fin 768) : ℝ :=
  (A.blk false (rb R) (rn R)).o ⟨c.val / 64, by omega⟩ (ri R) ⟨c.val % 64, by omega⟩

/-- The gradient of the keys and the values, through a block's view of the block before it (`o = 0`) or of
itself (`o = 1`). -/
def gkv (o : Fin 2) (R : Fin 4096) (c : Fin 512) : ℝ :=
  if c.val / 256 = 0 then
    (A.blk false (rb R) (rn R)).dk ⟨c.val % 256 / 64, by omega⟩ ⟨128 * o.val + (ri R).val, by omega⟩ ⟨c.val % 64, by omega⟩
  else (A.blk false (rb R) (rn R)).dv ⟨c.val % 256 / 64, by omega⟩ ⟨128 * o.val + (ri R).val, by omega⟩ ⟨c.val % 64, by omega⟩

/-- The gradient of the sinks, a lane each. -/
def gs (j : Fin 128) : ℝ := if h : j.val < 12 then ∑ b : Fin 2, ∑ n : Fin 16, (A.blk false b n).ds ⟨j.val, h⟩ else 0

/-- The blocks in one row. -/
theorem sum_blocks {M : Type} [AddCommMonoid M] (f : Fin 2 → Fin 16 → M) :
    ∑ t : Fin 32, f ⟨t.val / 16, by omega⟩ ⟨t.val % 16, by omega⟩ = ∑ b : Fin 2, ∑ n : Fin 16, f b n := by
  rw [← Fintype.sum_prod_type']
  exact Fintype.sum_equiv (finProdFinEquiv (m := 2) (n := 16)).symm _ (fun p => f p.1 p.2) fun t => rfl

end Args

end Cert.Swa
-- ==== Proof.Heads.lean ====
module

public import proofs.«01_k».proof.Proof.Gen.KernelIdeal.Value
public import Idealize.ShloMosaic.Lib.Pipeline.ValueKit
public import Idealize.ShloMosaic.Lib.Pointwise
public import proofs.«01_k».proof.Proof.Spec

/-! # The backward pass of one head, over one block of 128 queries

The kernel's body writes the same few operations out twelve times, once for each head. Here they are
stated once, as functions of the head's slope, its slices and its sink. -/

@[expose] public section

set_option maxRecDepth 65536

noncomputable section

namespace Cert.KernelIdeal.Swa

open Idealize.ShloMosaic Idealize.ShloMosaic.TcCoe Idealize.SL.Sem
open Cert.KernelIdeal Cert.KernelIdeal.Gen Cert.Swa

variable {F : FTy → Type} [FloatOps F]

/-- The products of the queries with the keys (or of the cotangents with the values). -/
def hDot (q : FVec F S128x64 .bf16) (k : FVec F S256x64 .bf16) : FVec F S128x256 .f32 :=
  matmul dot_S128x64_S256x64_S128x256_1_1_0_0_n_n none q k (constant S128x256 .f32 0x00000000#32)

/-- The masked scores: scaled products less the slope times the distance, `-∞` off the band. -/
def hS (b : BitVec 32) (mk : IVec S128x256 1) (ds ss : FVec F S128x256 .f32) : FVec F S128x256 .f32 :=
  select mk
    (subf (mulf ss (broadcast S128x256 (Scalar.ofBits .f32 0x3E000000#32)))
      (mulf (broadcast S128x256 (Scalar.ofBits .f32 b)) ds))
    (broadcast S128x256 (Scalar.ofBits .f32 0xFF800000#32))

/-- The row maximum, the sink included. -/
def hM (s : FVec F S128x256 .f32) (sk : F .f32) : FVec F S128x1 .f32 :=
  maximumf
    (shapeCast S128x1 (multiReduction .maximumf [1] S128 s 0xFF800000#32 reduces_S128x256_S128 (.inl rfl) rfl)
      shapeCasts_S128_S128x1)
    (broadcast S128x1 sk)

/-- The exponentials of the scores. -/
def hE (s : FVec F S128x256 .f32) (sk : F .f32) : FVec F S128x256 .f32 :=
  exp (subf s (broadcastTo S128x256 (hM s sk) broadcasts_S128x1_S128x256))

/-- The exponential of the sink. -/
def hZ (s : FVec F S128x256 .f32) (sk : F .f32) : FVec F S128x1 .f32 :=
  exp (subf (broadcast S128x1 sk) (hM s sk))

/-- The sum along each row. -/
def hSum (x : FVec F S128x256 .f32) : FVec F S128x1 .f32 :=
  shapeCast S128x1 (multiReduction .add [1] S128 x 0x00000000#32 reduces_S128x256_S128 (.inl rfl) rfl)
    shapeCasts_S128_S128x1

/-- One over the softmax's denominator. -/
def hInv (s : FVec F S128x256 .f32) (sk : F .f32) : FVec F S128x1 .f32 :=
  divf (broadcast S128x1 (Scalar.ofBits .f32 0x3F800000#32)) (addf (hSum (hE s sk)) (hZ s sk))

/-- The attention weights. -/
def hP (s : FVec F S128x256 .f32) (sk : F .f32) : FVec F S128x256 .f32 :=
  mulf (hE s sk) (broadcastTo S128x256 (hInv s sk) broadcasts_S128x1_S128x256)

/-- The weight of the sink. -/
def hPs (s : FVec F S128x256 .f32) (sk : F .f32) : FVec F S128x1 .f32 := mulf (hZ s sk) (hInv s sk)

/-- The gradient of the scaled products, given the gradient `dp` of the weights `p`. -/
def hG (dp p : FVec F S128x256 .f32) : FVec F S128x256 .bf16 :=
  truncf .bf16
    (mulf (mulf p (subf dp (broadcastTo S128x256 (hSum (mulf dp p)) broadcasts_S128x1_S128x256)))
      (broadcast S128x256 (Scalar.ofBits .f32 0x3E000000#32))) bitsLt_bf16_f32

/-- The gradient of the keys (or of the values), from a weight per query and key. -/
def hBack (g : FVec F S128x256 .bf16) (q : FVec F S128x64 .bf16) : FVec F S256x64 .f32 :=
  matmul dot_S128x256_S128x64_S256x64_0_0_1_1_n_n none g q (constant S256x64 .f32 0x00000000#32)

/-- The weights of a head from its slices. -/
def hW (b : BitVec 32) (mk : IVec S128x256 1) (ds : FVec F S128x256 .f32) (sk : F .f32)
    (q : FVec F S128x64 .bf16) (k : FVec F S256x64 .bf16) : FVec F S128x256 .f32 :=
  hP (hS b mk ds (hDot q k)) sk

/-- The gradient of a head's scaled products, from its slices. -/
def hGr (b : BitVec 32) (mk : IVec S128x256 1) (ds : FVec F S128x256 .f32) (sk : F .f32)
    (q o : FVec F S128x64 .bf16) (k v : FVec F S256x64 .bf16) : FVec F S128x256 .bf16 :=
  hG (hDot o v) (hW b mk ds sk q k)

/-- The gradient of a head's queries. -/
def hDq (b : BitVec 32) (mk : IVec S128x256 1) (ds : FVec F S128x256 .f32) (sk : F .f32)
    (q o : FVec F S128x64 .bf16) (k v : FVec F S256x64 .bf16) : FVec F S128x64 .f32 :=
  matmul dot_S128x256_S256x64_S128x64_1_0_0_1_n_n none (hGr b mk ds sk q o k v) k
    (constant S128x64 .f32 0x00000000#32)

/-- A head's share of the gradient of its keys. -/
def hDk (b : BitVec 32) (mk : IVec S128x256 1) (ds : FVec F S128x256 .f32) (sk : F .f32)
    (q o : FVec F S128x64 .bf16) (k v : FVec F S256x64 .bf16) : FVec F S256x64 .f32 :=
  hBack (hGr b mk ds sk q o k v) q

/-- A head's share of the gradient of its values. -/
def hDv (b : BitVec 32) (mk : IVec S128x256 1) (ds : FVec F S128x256 .f32) (sk : F .f32)
    (q o : FVec F S128x64 .bf16) (k : FVec F S256x64 .bf16) : FVec F S256x64 .f32 :=
  hBack (truncf .bf16 (hW b mk ds sk q k) bitsLt_bf16_f32) o

/-- The block's share of the gradient of a head's sink. -/
def hSk (b : BitVec 32) (mk : IVec S128x256 1) (ds : FVec F S128x256 .f32) (sk : F .f32)
    (q o : FVec F S128x64 .bf16) (k v : FVec F S256x64 .bf16) : FVec F S1 .f32 :=
  multiReduction .add [0] S1
    (mulf (subf (broadcast S128x1 (Scalar.ofBits .f32 0x00000000#32)) (hPs (hS b mk ds (hDot q k)) sk))
      (hSum (mulf (hDot o v) (hW b mk ds sk q k))))
    0x00000000#32 reduces_S128x1_S1 (.inl rfl) rfl

/-- One head's number put into its lane and added. -/
def hAcc (n : BitVec 32) (acc : FVec F S8x128 .f32) (x : FVec F S1 .f32) : FVec F S8x128 .f32 :=
  addf acc (select (cmpi .eq (iota .tc S8x128 32 [1] iota_S8x128_d1_w32) (broadcast S8x128 n))
    (broadcastTo S8x128 (shapeCast S1x1 (shapeCast S1x1 x shapeCasts_S1_S1x1) shapeCasts_S1x1_S1x1)
      broadcasts_S1x1_S8x128)
    (broadcast S8x128 (Scalar.ofBits .f32 0x00000000#32)))

theorem inb_head : ∀ (h : Fin 12) (a : Fin 2), (![0, 64 * h.val] : Fin 2 → Nat) a + S128x64.size a ≤ S128x768.size a := by
  decide
theorem inb_sink : ∀ (h : Fin 12) (a : Fin 1), (![h.val] : Fin 1 → Nat) a + S1.size a ≤ S12.size a := by
  decide
theorem inb_half : ∀ (n : Fin 2) (a : Fin 2), (![0, 256 * n.val] : Fin 2 → Nat) a + S128x256.size a ≤ S128x512.size a := by
  decide
theorem slices_grp : ∀ g : Fin 4, S256x256.Slices ![0, 64 * g.val] S256x64 := by
  decide

/-- What one step of the grid reads: the sinks, the queries, the previous and the current block of keys
and values, the cotangents and the two coordinates. -/
structure Step (F : FTy → Type) where
  sinks : Vec F S12 .f32
  q : Vec F S128x768 .f32
  prev : Vec F S128x512 .f32
  cur : Vec F S128x512 .f32
  ct : Vec F S128x768 .bf16
  at_ : grid0.Coords

namespace Step

variable (s : Step F)

/-- Which pairs of a query and a key are in the band. -/
def mask : IVec S128x256 1 := k0_pay3 s.at_
def sink (h : Fin 12) : F .f32 :=
  View.ld (Val := Elt F) (e' := .f32) s.sinks (Rect.unit ![h.val] S1.size (inb_sink h)) (Shape.Idx.first (by decide : 0 < S1.numel))
def qh (h : Fin 12) : FVec F S128x64 .bf16 :=
  truncf .bf16 (View.ld (Val := Elt F) (e' := .f32) s.q (Rect.unit ![0, 64 * h.val] S128x64.size (inb_head h)) : FVec F S128x64 .f32)
    bitsLt_bf16_f32
def oh (h : Fin 12) : FVec F S128x64 .bf16 :=
  View.ld (Val := Elt F) (e' := .bf16) s.ct (Rect.unit ![0, 64 * h.val] S128x64.size (inb_head h))
/-- The keys (`n = 0`) or the values (`n = 1`) of the two blocks, one below the other. -/
def two (n : Fin 2) : FVec F S256x256 .bf16 :=
  k0_pay5 (View.ld (Val := Elt F) (e' := .f32) s.prev (Rect.unit ![0, 256 * n.val] S128x256.size (inb_half n)))
    (View.ld (Val := Elt F) (e' := .f32) s.cur (Rect.unit ![0, 256 * n.val] S128x256.size (inb_half n)))
def kh (h : Fin 12) : FVec F S256x64 .bf16 := extractStridedSlice S256x64 ![0, 64 * (grp h).val] (s.two 0) (slices_grp (grp h))
def vh (h : Fin 12) : FVec F S256x64 .bf16 := extractStridedSlice S256x64 ![0, 64 * (grp h).val] (s.two 1) (slices_grp (grp h))

/-- The gradient of the queries of a head. -/
def dq (h : Fin 12) : FVec F S128x64 .f32 :=
  hDq (slopeBits h) s.mask k0_pay4 (s.sink h) (s.qh h) (s.oh h) (s.kh h) (s.vh h)
/-- A head's share of the gradient of the keys. -/
def dk (h : Fin 12) : FVec F S256x64 .f32 :=
  hDk (slopeBits h) s.mask k0_pay4 (s.sink h) (s.qh h) (s.oh h) (s.kh h) (s.vh h)
/-- A head's share of the gradient of the values. -/
def dv (h : Fin 12) : FVec F S256x64 .f32 :=
  hDv (slopeBits h) s.mask k0_pay4 (s.sink h) (s.qh h) (s.oh h) (s.kh h)
/-- The step's share of the gradient of a head's sink. -/
def dsk (h : Fin 12) : FVec F S1 .f32 :=
  hSk (slopeBits h) s.mask k0_pay4 (s.sink h) (s.qh h) (s.oh h) (s.kh h) (s.vh h)

/-- The gradient of the queries of all heads. -/
def dqAll : FVec F S128x768 .bf16 :=
  k0_pay209 (s.dq 0) (s.dq 1) (s.dq 2) (s.dq 3) (s.dq 4) (s.dq 5) (s.dq 6) (s.dq 7) (s.dq 8) (s.dq 9) (s.dq 10) (s.dq 11)

/-- The gradient of the keys and values of all heads. -/
def dkvAll : FVec F S256x512 .f32 :=
  k0_pay210 (s.dv 0) (s.dv 1) (s.dv 2) (s.dv 3) (s.dv 4) (s.dv 5) (s.dv 6) (s.dv 7) (s.dv 8) (s.dv 9) (s.dv 10) (s.dv 11)
    (addf (addf (s.dk 0) (s.dk 1)) (s.dk 2)) (addf (addf (s.dk 3) (s.dk 4)) (s.dk 5))
    (addf (addf (s.dk 6) (s.dk 7)) (s.dk 8)) (addf (addf (s.dk 9) (s.dk 10)) (s.dk 11))

/-- The step's share of the gradient of the sinks, a lane each. -/
def dskAll : FVec F S8x128 .f32 :=
  hAcc 11#32 (hAcc 10#32 (hAcc 9#32 (hAcc 8#32 (hAcc 7#32 (hAcc 6#32 (hAcc 5#32 (hAcc 4#32 (hAcc 3#32
    (hAcc 2#32 (hAcc 1#32 (hAcc 0#32 (broadcast S8x128 (Scalar.ofBits .f32 0x00000000#32))
      (s.dsk 0)) (s.dsk 1)) (s.dsk 2)) (s.dsk 3)) (s.dsk 4)) (s.dsk 5)) (s.dsk 6)) (s.dsk 7)) (s.dsk 8))
    (s.dsk 9)) (s.dsk 10)) (s.dsk 11)

end Step

variable (m : (ℓ : Loc nD τ sig) → Buf (Elt F) ℓ)

/-- What a point of the grid reads. -/
def stepAt (c : Dev nD) (t : Fin cfg0.N) : Step F where
  sinks := iblk m c 0 t
  q := X0_1 m c t
  prev := iblk m c 2 t
  cur := iblk m c 3 t
  ct := X0_4 m c t
  at_ := grid0.coords t

end Cert.KernelIdeal.Swa
-- ==== Proof.StepRead.lean ====
module

public import proofs.«01_k».proof.Proof.Heads

/-! # What one step of the grid computes, in real numbers

Where a step reads real numbers, each head's gradients are those of `Cert.Swa.Blk`. -/

@[expose] public section

set_option maxRecDepth 65536

noncomputable section

namespace Cert.KernelIdeal.Swa

open Idealize.ShloMosaic Idealize.ShloMosaic.TcCoe Idealize.SL.Sem
open Cert.KernelIdeal Cert.KernelIdeal.Gen Cert.Swa

/-- A step that reads the real numbers of a block. -/
structure Reads (s : Step Ideal) (B : Blk) : Prop where
  q : ∀ i c, (s.q (ix2 i c) : EReal) = (B.q i c : EReal)
  prev : ∀ (j : Fin 128) c, (s.prev (ix2 j c) : EReal) = (B.kv ⟨j.val, by omega⟩ c : EReal)
  cur : ∀ (j : Fin 128) c, (s.cur (ix2 j c) : EReal) = (B.kv ⟨128 + j.val, by omega⟩ c : EReal)
  ct : ∀ i c, (s.ct (ix2 i c) : EReal) = (B.ct i c : EReal)
  sinks : ∀ h, (s.sinks (ix1 h) : EReal) = (B.sk h : EReal)
  at_ : (s.at_ 1).val = B.n

namespace Reads

variable {s : Step Ideal} {B : Blk} (R : Reads s B)
include R

theorem mask_eq (i : Fin 128) (j : Fin 256) : s.mask (ix2 i j) = band B.n i j := by
  rw [← R.at_]
  pointwise [Step.mask, k0_pay3, k0_pay2]
  rfl

theorem sink_eq (h : Fin 12) : (s.sink h : EReal) = (B.sk h : EReal) := by
  rw [← R.sinks]
  pointwise [Step.sink]

theorem qh_eq (h : Fin 12) (i : Fin 128) (d : Fin 64) : (s.qh h (ix2 i d) : EReal) = (B.q i (qcol h d) : EReal) := by
  rw [← R.q]
  pointwise [Step.qh]
  rfl

theorem oh_eq (h : Fin 12) (i : Fin 128) (d : Fin 64) : (s.oh h (ix2 i d) : EReal) = (B.ct i (qcol h d) : EReal) := by
  rw [← R.ct]
  pointwise [Step.oh]
  rfl

theorem two_eq (n : Fin 2) (j : Fin 256) (c : Fin 256) :
    (s.two n (ix2 j c) : EReal) = (B.kv j ⟨256 * n.val + c.val, by omega⟩ : EReal) := by
  have h : s.two n (ix2 j c) = if h : j.val < 128 then s.prev (ix2 ⟨j.val, h⟩ ⟨256 * n.val + c.val, by omega⟩)
      else s.cur (ix2 ⟨j.val - 128, by omega⟩ ⟨256 * n.val + c.val, by omega⟩) := by
    pointwise [Step.two, k0_pay5]
  rw [h]
  split
  · rw [R.prev]
  · rw [R.cur]
    exact congrArg (fun k => ((B.kv k _ : ℝ) : EReal)) (Fin.ext (by dsimp only; omega))

theorem kh_eq (h : Fin 12) (j : Fin 256) (d : Fin 64) : (s.kh h (ix2 j d) : EReal) = (B.kv j (kcol (grp h) d) : EReal) := by
  have e : s.kh h (ix2 j d) = s.two 0 (ix2 j ⟨64 * (grp h).val + d.val, by omega⟩) := by pointwise [Step.kh]
  rw [e, R.two_eq]
  exact congrArg (fun k => ((B.kv j k : ℝ) : EReal)) (Fin.ext (by simp [kcol]))

theorem vh_eq (h : Fin 12) (j : Fin 256) (d : Fin 64) : (s.vh h (ix2 j d) : EReal) = (B.kv j (vcol (grp h) d) : EReal) := by
  have e : s.vh h (ix2 j d) = s.two 1 (ix2 j ⟨64 * (grp h).val + d.val, by omega⟩) := by pointwise [Step.vh]
  rw [e, R.two_eq]
  exact congrArg (fun k => ((B.kv j k : ℝ) : EReal)) (Fin.ext (by simp [vcol]))

theorem dot_eq {q : FVec Ideal S128x64 .bf16} {k : FVec Ideal S256x64 .bf16} {x y : Fin 64 → ℝ} (i : Fin 128) (j : Fin 256)
    (hq : ∀ d, (q (ix2 i d) : EReal) = (x d : EReal)) (hk : ∀ d, (k (ix2 j d) : EReal) = (y d : EReal)) :
    (hDot q k (ix2 i j) : EReal) = ((∑ d, x d * y d : ℝ) : EReal) := by
  have e : (hDot q k (ix2 i j) : EReal) = ∑ d : Fin 64, (q (ix2 i d) : EReal) * (k (ix2 j d) : EReal) := by pointwise [hDot]
  rw [e, ← coe_sum]
  exact Finset.sum_congr rfl fun d _ => by rw [hq, hk, EReal.coe_mul]

/-- The scores. -/
theorem score (h : Fin 12) (i : Fin 128) (j : Fin 256) :
    (hS (slopeBits h) s.mask k0_pay4 (hDot (s.qh h) (s.kh h)) (ix2 i j) : EReal) = (B.row h i).S j := by
  have e : (hS (slopeBits h) s.mask k0_pay4 (hDot (s.qh h) (s.kh h)) (ix2 i j) : EReal)
      = Scalar.select (s.mask (ix2 i j)) ((hDot (s.qh h) (s.kh h) (ix2 i j) : EReal) * Ideal.ofBits .f32 0x3E000000#32
          - Ideal.ofBits .f32 (slopeBits h) * (((gap i j).toInt : ℝ) : EReal)) (Ideal.ofBits .f32 0xFF800000#32) := by
    pointwise [hS, k0_pay4, k0_pay2]
    rfl
  rw [e, dot_eq R i j (R.qh_eq h i) (R.kh_eq h j), R.mask_eq, bot_bits, slope_coe, eighth_coe, ← EReal.coe_mul, ← EReal.coe_mul,
    ← EReal.coe_sub]
  rfl

theorem dpv (h : Fin 12) (i : Fin 128) (j : Fin 256) :
    (hDot (s.oh h) (s.vh h) (ix2 i j) : EReal) = ((B.row h i).dp j : EReal) :=
  dot_eq R i j (R.oh_eq h i) (R.vh_eq h j)

/-- The weights. -/
theorem weight (h : Fin 12) (i : Fin 128) (j : Fin 256) :
    (hW (slopeBits h) s.mask k0_pay4 (s.sink h) (s.qh h) (s.kh h) (ix2 i j) : EReal) = ((B.row h i).P j : EReal) := by
  rw [← (B.row h i).weight _ rfl j]
  simp_rw [← R.score h i]
  rw [show ((B.row h i).sk : EReal) = s.sink h from (R.sink_eq h).symm, ← bot_bits]
  unfold hW
  pointwise [hP, hE, hInv, hM, hZ, hSum]

/-- The gradients of the scaled products. -/
theorem grad (h : Fin 12) (i : Fin 128) (j : Fin 256) :
    (hGr (slopeBits h) s.mask k0_pay4 (s.sink h) (s.qh h) (s.oh h) (s.kh h) (s.vh h) (ix2 i j) : EReal) = ((B.row h i).G j : EReal) := by
  have e : (hGr (slopeBits h) s.mask k0_pay4 (s.sink h) (s.qh h) (s.oh h) (s.kh h) (s.vh h) (ix2 i j) : EReal)
      = (hW (slopeBits h) s.mask k0_pay4 (s.sink h) (s.qh h) (s.kh h) (ix2 i j) : EReal)
        * ((hDot (s.oh h) (s.vh h) (ix2 i j) : EReal) - ∑ x, (hDot (s.oh h) (s.vh h) (ix2 i x) : EReal)
            * (hW (slopeBits h) s.mask k0_pay4 (s.sink h) (s.qh h) (s.kh h) (ix2 i x) : EReal)) * Ideal.ofBits .f32 0x3E000000#32 := by
    pointwise [hGr, hG, hSum]
  rw [e]
  simp_rw [R.weight h i, R.dpv h i]
  rw [(B.row h i).mean_coe, eighth_coe, ← EReal.coe_sub, ← EReal.coe_mul, ← EReal.coe_mul]
  rfl

theorem dq_eq (h : Fin 12) (i : Fin 128) (d : Fin 64) : (s.dq h (ix2 i d) : EReal) = (B.dq h i d : EReal) := by
  have e : (s.dq h (ix2 i d) : EReal) = ∑ x, (hGr (slopeBits h) s.mask k0_pay4 (s.sink h) (s.qh h) (s.oh h) (s.kh h) (s.vh h) (ix2 i x) : EReal)
      * (s.kh h (ix2 x d) : EReal) := by pointwise [Step.dq, hDq]
  rw [e, Blk.dq, ← coe_sum]
  exact Finset.sum_congr rfl fun j _ => by rw [R.grad, R.kh_eq, EReal.coe_mul]

omit R in
theorem back_eq (g : FVec Ideal S128x256 .bf16) (q : FVec Ideal S128x64 .bf16) (j : Fin 256) (d : Fin 64) :
    (hBack g q (ix2 j d) : EReal) = ∑ i : Fin 128, (g (ix2 i j) : EReal) * (q (ix2 i d) : EReal) := by pointwise [hBack]

theorem dk_eq (h : Fin 12) (j : Fin 256) (d : Fin 64) : (s.dk h (ix2 j d) : EReal) = (B.dkh h j d : EReal) := by
  rw [Step.dk, hDk, back_eq, Blk.dkh, ← coe_sum]
  exact Finset.sum_congr rfl fun i _ => by rw [R.grad, R.qh_eq, EReal.coe_mul]

theorem dv_eq (h : Fin 12) (j : Fin 256) (d : Fin 64) : (s.dv h (ix2 j d) : EReal) = (B.dvh h j d : EReal) := by
  rw [Step.dv, hDv, back_eq, Blk.dvh, ← coe_sum]
  exact Finset.sum_congr rfl fun i _ => by
    rw [R.oh_eq, EReal.coe_mul]
    exact congrArg (· * _) (R.weight h i j)

theorem dsk_eq (h : Fin 12) : (s.dsk h (ix1 0) : EReal) = (B.ds h : EReal) := by
  have e : (s.dsk h (ix1 0) : EReal) = ∑ i : Fin 128, (0 - (hPs (hS (slopeBits h) s.mask k0_pay4 (hDot (s.qh h) (s.kh h))) (s.sink h) (ix2 i 0) : EReal))
      * ∑ x, (hDot (s.oh h) (s.vh h) (ix2 i x) : EReal) * (hW (slopeBits h) s.mask k0_pay4 (s.sink h) (s.qh h) (s.kh h) (ix2 i x) : EReal) := by
    pointwise [Step.dsk, hSk, hSum]
  rw [e, Blk.ds, ← coe_sum]
  refine Finset.sum_congr rfl fun i _ => ?_
  have e2 : (hPs (hS (slopeBits h) s.mask k0_pay4 (hDot (s.qh h) (s.kh h))) (s.sink h) (ix2 i 0) : EReal)
      = ((Real.exp (B.row h i).sk / (B.row h i).den 0 : ℝ) : EReal) := by
    rw [← (B.row h i).sinkWeight _ rfl]
    simp_rw [← R.score h i]
    rw [show ((B.row h i).sk : EReal) = s.sink h from (R.sink_eq h).symm, ← bot_bits]
    pointwise [hPs, hE, hInv, hM, hZ, hSum]
  rw [e2]
  simp_rw [R.weight h i, R.dpv h i]
  rw [(B.row h i).mean_coe, ← EReal.coe_zero, ← EReal.coe_sub, ← EReal.coe_mul, zero_sub]
  rfl

end Reads

end Cert.KernelIdeal.Swa
-- ==== Proof.StepAll.lean ====
module
public import proofs.«01_k».proof.Proof.StepRead

/-! # The blocks a step writes, from its heads

Each column of a written block belongs to one head; each lane of the sinks' gradient to one sink. -/

@[expose] public section
set_option maxRecDepth 65536
noncomputable section
namespace Cert.KernelIdeal.Swa
open Idealize.ShloMosaic Idealize.ShloMosaic.TcCoe Idealize.SL.Sem
open Cert.KernelIdeal Cert.KernelIdeal.Gen Cert.Swa
variable {s : Step Ideal} {B : Blk} (R : Reads s B)

/-- A column of the twelve heads side by side. -/
theorem cols_eq (f : Fin 12 → FVec Ideal S128x64 .f32) (i : Fin 128) (c : Fin 768) (h : Fin 12) (d : Fin 64) (e : c.val = 64 * h.val + d.val) :
    (k0_pay209 (f 0) (f 1) (f 2) (f 3) (f 4) (f 5) (f 6) (f 7) (f 8) (f 9) (f 10) (f 11) (ix2 i c) : EReal) = (f h (ix2 i d) : EReal) := by
  have key : ∀ (k : Nat) (hk : k < 12) (x : Nat) (hx : x < 64), c.val = 64 * k + x →
      (f ⟨k, hk⟩ (ix2 i ⟨x, hx⟩) : EReal) = (f h (ix2 i d) : EReal) := by
    intro k hk x hx ec
    obtain rfl : (⟨k, hk⟩ : Fin 12) = h := Fin.ext (by dsimp only; omega)
    obtain rfl : (⟨x, hx⟩ : Fin 64) = d := Fin.ext (by dsimp only at e ⊢; omega)
    rfl
  pointwise [k0_pay209]
  refine dite_eq_of (fun _ => key 0 (by decide) _ _ (by omega)) fun _ => ?_
  refine dite_eq_of (fun _ => key 1 (by decide) _ _ (by omega)) fun _ => ?_
  refine dite_eq_of (fun _ => key 2 (by decide) _ _ (by omega)) fun _ => ?_
  refine dite_eq_of (fun _ => key 3 (by decide) _ _ (by omega)) fun _ => ?_
  refine dite_eq_of (fun _ => key 4 (by decide) _ _ (by omega)) fun _ => ?_
  refine dite_eq_of (fun _ => key 5 (by decide) _ _ (by omega)) fun _ => ?_
  refine dite_eq_of (fun _ => key 6 (by decide) _ _ (by omega)) fun _ => ?_
  refine dite_eq_of (fun _ => key 7 (by decide) _ _ (by omega)) fun _ => ?_
  refine dite_eq_of (fun _ => key 8 (by decide) _ _ (by omega)) fun _ => ?_
  refine dite_eq_of (fun _ => key 9 (by decide) _ _ (by omega)) fun _ => ?_
  refine dite_eq_of (fun _ => key 10 (by decide) _ _ (by omega)) fun _ => ?_
  exact key 11 (by decide) _ _ (by omega)

theorem dqAll_eq (i : Fin 128) (c : Fin 768) (h : Fin 12) (d : Fin 64) (e : c.val = 64 * h.val + d.val) :
    (s.dqAll (ix2 i c) : EReal) = (s.dq h (ix2 i d) : EReal) := cols_eq s.dq i c h d e

theorem dkvAll_eq (R : Reads s B) (j : Fin 256) (c : Fin 512) (p : Fin 2) (g : Fin 4) (d : Fin 64) (e : c.val = 256 * p.val + (64 * g.val + d.val)) :
    (s.dkvAll (ix2 j c) : EReal) = ((if p = 0 then B.dk g j d else B.dv g j d : ℝ) : EReal) := by
  have keyK : ∀ (k : Nat) (hk : k < 4) (x : Nat) (hx : x < 64), c.val = 64 * k + x →
      (s.dk (head ⟨k, hk⟩ 0) (ix2 j ⟨x, hx⟩) : EReal) + (s.dk (head ⟨k, hk⟩ 1) (ix2 j ⟨x, hx⟩) : EReal)
        + (s.dk (head ⟨k, hk⟩ 2) (ix2 j ⟨x, hx⟩) : EReal) = ((if p = 0 then B.dk g j d else B.dv g j d : ℝ) : EReal) := by
    intro k hk x hx ec
    have hp : p = 0 := Fin.ext (by show p.val = 0; omega)
    subst hp
    obtain rfl : (⟨k, hk⟩ : Fin 4) = g := Fin.ext (by simp at e ⊢; omega)
    obtain rfl : (⟨x, hx⟩ : Fin 64) = d := Fin.ext (by simp at e ⊢; omega)
    rw [R.dk_eq, R.dk_eq, R.dk_eq, ← EReal.coe_add, ← EReal.coe_add, if_pos rfl]; rfl
  have keyV : ∀ (k : Nat) (hk : k < 4) (x : Nat) (hx : x < 64), c.val = 256 + (64 * k + x) →
      (s.dv (head ⟨k, hk⟩ 0) (ix2 j ⟨x, hx⟩) : EReal) + (s.dv (head ⟨k, hk⟩ 1) (ix2 j ⟨x, hx⟩) : EReal)
        + (s.dv (head ⟨k, hk⟩ 2) (ix2 j ⟨x, hx⟩) : EReal) = ((if p = 0 then B.dk g j d else B.dv g j d : ℝ) : EReal) := by
    intro k hk x hx ec
    have hp : p = 1 := Fin.ext (by show p.val = 1; omega)
    subst hp
    obtain rfl : (⟨k, hk⟩ : Fin 4) = g := Fin.ext (by simp at e ⊢; omega)
    obtain rfl : (⟨x, hx⟩ : Fin 64) = d := Fin.ext (by simp at e ⊢; omega)
    rw [R.dv_eq, R.dv_eq, R.dv_eq, ← EReal.coe_add, ← EReal.coe_add, if_neg (by decide)]; rfl
  pointwise [Step.dkvAll, k0_pay210]
  refine dite_eq_of (fun _ => keyK 0 (by decide) _ _ (by omega)) fun _ => ?_
  refine dite_eq_of (fun _ => keyK 1 (by decide) _ _ (by omega)) fun _ => ?_
  refine dite_eq_of (fun _ => keyK 2 (by decide) _ _ (by omega)) fun _ => ?_
  refine dite_eq_of (fun _ => keyK 3 (by decide) _ _ (by omega)) fun _ => ?_
  refine dite_eq_of (fun _ => keyV 0 (by decide) _ _ (by omega)) fun _ => ?_
  refine dite_eq_of (fun _ => keyV 1 (by decide) _ _ (by omega)) fun _ => ?_
  refine dite_eq_of (fun _ => keyV 2 (by decide) _ _ (by omega)) fun _ => ?_
  exact keyV 3 (by decide) _ _ (by omega)
theorem hAcc_eq (k : Nat) (hk : k < 12) (acc : FVec Ideal S8x128 .f32) (x : FVec Ideal S1 .f32) (i : Fin 8) (j : Fin 128) :
    (hAcc (BitVec.ofNat 32 k) acc x (ix2 i j) : EReal) = (acc (ix2 i j) : EReal) + (if j.val = k then (x (ix1 0) : EReal) else 0) := by
  have e : (hAcc (BitVec.ofNat 32 k) acc x (ix2 i j) : EReal) = (acc (ix2 i j) : EReal)
      + Scalar.select (IntOp.cmpi CmpIPredicate.eq (BitVec.ofNat 32 j.val) (BitVec.ofNat 32 k)) (x (ix1 0) : EReal) 0 := by
    pointwise [hAcc]
  rw [e]
  refine congrArg _ ?_
  have hw : ∀ (j : Fin 128) (k : Fin 12), (IntOp.cmpi CmpIPredicate.eq (BitVec.ofNat 32 j.val) (BitVec.ofNat 32 k.val) = 1) ↔ j.val = k.val := by
    decide +kernel
  unfold Scalar.select
  exact if_congr (hw j ⟨k, hk⟩) rfl rfl
theorem out6_at (x : FVec Ideal S256x512 .f32) (i : Fin 128) (c : Fin 512) : (k0_pay212 x (ix2 i c) : EReal) = x (ix2 ⟨128 + i.val, by omega⟩ c) := by
  pointwise [k0_pay212]
theorem out7_at (x : FVec Ideal S256x512 .f32) (i : Fin 128) (c : Fin 512) : (k0_pay211 x (ix2 i c) : EReal) = x (ix2 ⟨i.val, by omega⟩ c) := by
  pointwise [k0_pay211]

theorem dskAll_eq (R : Reads s B) (i : Fin 8) (j : Fin 128) :
    (s.dskAll (ix2 i j) : EReal) = ((if h : j.val < 12 then B.ds ⟨j.val, h⟩ else 0 : ℝ) : EReal) := by
  have e0 : ((broadcast S8x128 (Scalar.ofBits (F := Ideal) .f32 0x00000000#32) : FVec Ideal S8x128 .f32) (ix2 i j) : EReal) = 0 := by
    pointwise
  rw [Step.dskAll, hAcc_eq 11 (by decide), hAcc_eq 10 (by decide), hAcc_eq 9 (by decide), hAcc_eq 8 (by decide), hAcc_eq 7 (by decide),
    hAcc_eq 6 (by decide), hAcc_eq 5 (by decide), hAcc_eq 4 (by decide), hAcc_eq 3 (by decide), hAcc_eq 2 (by decide),
    hAcc_eq 1 (by decide), hAcc_eq 0 (by decide), e0]
  simp only [R.dsk_eq]
  obtain ⟨j, hj⟩ := j
  dsimp only
  by_cases h : j < 12
  · rw [dif_pos h]
    interval_cases j <;> simp
  · rw [dif_neg h]
    have hk : ∀ k, k < 12 → ¬ j = k := fun k hk e => h (e ▸ hk)
    simp only [hk _ (by decide : 0 < 12), hk _ (by decide : 1 < 12), hk _ (by decide : 2 < 12), hk _ (by decide : 3 < 12),
      hk _ (by decide : 4 < 12), hk _ (by decide : 5 < 12), hk _ (by decide : 6 < 12), hk _ (by decide : 7 < 12),
      hk _ (by decide : 8 < 12), hk _ (by decide : 9 < 12), hk _ (by decide : 10 < 12), hk _ (by decide : 11 < 12),
      if_false, add_zero, EReal.coe_zero]

end Cert.KernelIdeal.Swa
-- ==== Proof.Outs.lean ====
module

public import proofs.«01_k».proof.Proof.Heads

/-! # What a point of the grid leaves in its four blocks -/

@[expose] public section

set_option maxRecDepth 65536

noncomputable section

namespace Cert.KernelIdeal.Swa

open Idealize.ShloMosaic Idealize.ShloMosaic.TcCoe Idealize.SL.Sem
open Cert.KernelIdeal Cert.KernelIdeal.Gen Cert.Swa

variable {F : FTy → Type} [FloatOps F]
variable (m : (ℓ : Loc nD τ sig) → Buf (Elt F) ℓ)

theorem out5_B (c : Dev nD) (t : Fin cfg0.N) (h : ¬ t.val % 32 = 0) :
    (outsAt0 m c t.val t.isLt).1 = (stepAt m c t).dqAll := by
  rw [outsAt0_B m c t h]
  frame_out
  rfl

theorem out6_B (c : Dev nD) (t : Fin cfg0.N) (h : ¬ t.val % 32 = 0) :
    (outsAt0 m c t.val t.isLt).2.1 = k0_pay212 (stepAt m c t).dkvAll := by
  rw [outsAt0_B m c t h]
  frame_out
  rfl

theorem out7_B (c : Dev nD) (t : Fin cfg0.N) (h : ¬ t.val % 32 = 0) :
    (outsAt0 m c t.val t.isLt).2.2.1 = k0_pay211 (stepAt m c t).dkvAll := by
  rw [outsAt0_B m c t h]
  frame_out
  rfl

theorem out5_A (c : Dev nD) (t : Fin cfg0.N) (h :  t.val % 32 = 0) :
    (outsAt0 m c t.val t.isLt).1 = (stepAt m c t).dqAll := by
  rw [outsAt0_A m c t h]
  frame_out
  rfl

theorem out6_A (c : Dev nD) (t : Fin cfg0.N) (h :  t.val % 32 = 0) :
    (outsAt0 m c t.val t.isLt).2.1 = k0_pay212 (stepAt m c t).dkvAll := by
  rw [outsAt0_A m c t h]
  frame_out
  rfl

theorem out7_A (c : Dev nD) (t : Fin cfg0.N) (h :  t.val % 32 = 0) :
    (outsAt0 m c t.val t.isLt).2.2.1 = k0_pay211 (stepAt m c t).dkvAll := by
  rw [outsAt0_A m c t h]
  frame_out
  rfl

theorem out8_A (c : Dev nD) (t : Fin cfg0.N) (h :  t.val % 32 = 0) :
    (outsAt0 m c t.val t.isLt).2.2.2 = addf k0_pay1 (stepAt m c t).dskAll := by
  rw [outsAt0_A m c t h]
  frame_out
  rfl

theorem out8_B (c : Dev nD) (t : Fin cfg0.N) (h : ¬ t.val % 32 = 0) :
    (outsAt0 m c t.val t.isLt).2.2.2 = addf (outsAt0 m c (t.val - 1) (Nat.lt_of_le_of_lt (Nat.sub_le _ _) t.isLt)).2.2.2 (stepAt m c t).dskAll := by
  rw [outsAt0_B m c t h]
  frame_out
  refine Eq.trans (b := addf (shapeCast S8x128 (outsAt0 m c (t.val - 1) (Nat.lt_of_le_of_lt (Nat.sub_le _ _) t.isLt)).2.2.2 shapeCasts_S8x128_S8x128) (stepAt m c t).dskAll) ?_ ?_
  · rfl
  · rw [shapeCast_self]

theorem out5_eq (c : Dev nD) (t : Fin cfg0.N) : (outsAt0 m c t.val t.isLt).1 = (stepAt m c t).dqAll := by
  by_cases h : t.val % 32 = 0
  exacts [out5_A m c t h, out5_B m c t h]

theorem out6_eq (c : Dev nD) (t : Fin cfg0.N) : (outsAt0 m c t.val t.isLt).2.1 = k0_pay212 (stepAt m c t).dkvAll := by
  by_cases h : t.val % 32 = 0
  exacts [out6_A m c t h, out6_B m c t h]

theorem out7_eq (c : Dev nD) (t : Fin cfg0.N) : (outsAt0 m c t.val t.isLt).2.2.1 = k0_pay211 (stepAt m c t).dkvAll := by
  by_cases h : t.val % 32 = 0
  exacts [out7_A m c t h, out7_B m c t h]

end Cert.KernelIdeal.Swa
-- ==== Proof.Windows.lean ====
module
public import proofs.«01_k».proof.Proof.StepAll
public import proofs.«01_k».proof.Proof.Outs

/-! # What each grid point reads

Point `t` is block `t % 16` of sequence `t / 16`; it reads that block's queries, cotangents, keys and
values, the keys and values of the block before, and the sinks. -/

@[expose] public section
set_option maxRecDepth 65536
noncomputable section
namespace Cert.KernelIdeal.Swa
open Idealize.ShloMosaic Idealize.ShloMosaic.TcCoe Idealize.SL.Sem
open Cert.KernelIdeal Cert.KernelIdeal.Gen Cert.Swa
variable (m : (ℓ : Loc nD τ sig) → Buf (Elt Ideal) ℓ)

/-- Where each window's block lies. -/
theorem idx : ∀ t : Fin cfg0.N, win0_0.index t = ![0] ∧ win0_1.index t = ![t.val, 0]
    ∧ win0_2.index t = ![t.val / 16 * 16 + (t.val % 16 - 1), 0] ∧ win0_3.index t = ![t.val, 0] ∧ win0_4.index t = ![t.val, 0]
    ∧ win0_5.index t = ![t.val, 0] ∧ win0_6.index t = ![t.val, 0] ∧ win0_7.index t = ![t.val, 0] ∧ win0_8.index t = ![0, 0]
    ∧ (grid0.coords t 1).val = t.val % 16 ∧ t.val < 32 :=
  (by decide +kernel : ∀ t : Fin grid0.N, _)

theorem sinks_at (c : Dev nD) (t : Fin cfg0.N) (h : Fin 12) :
    ((stepAt m c t).sinks (ix1 h) : EReal) = (m ((c.tc : Thread nD τ).loc main_arg2) (ix1 h) : EReal) := by
  show (iblk m c 0 t (ix1 h) : EReal) = _
  blk_ext [iblk, V, idx t]

theorem cur_at (c : Dev nD) (t : Fin cfg0.N) (j : Fin 128) (k : Fin 512) (ht : t.val * 128 + j.val < 4096) :
    ((stepAt m c t).cur (ix2 j k) : EReal) = (m ((c.tc : Thread nD τ).loc main_arg1) (ix2 ⟨t.val * 128 + j.val, ht⟩ k) : EReal) := by
  show (iblk m c 3 t (ix2 j k) : EReal) = _
  blk_ext [iblk, V, idx t]

theorem prev_at (c : Dev nD) (t : Fin cfg0.N) (j : Fin 128) (k : Fin 512) (ht : (t.val / 16 * 16 + (t.val % 16 - 1)) * 128 + j.val < 4096) :
    ((stepAt m c t).prev (ix2 j k) : EReal) = (m ((c.tc : Thread nD τ).loc main_arg1) (ix2 ⟨(t.val / 16 * 16 + (t.val % 16 - 1)) * 128 + j.val, ht⟩ k) : EReal) := by
  show (iblk m c 2 t (ix2 j k) : EReal) = _
  blk_ext [iblk, V, idx t]

theorem q_at (c : Dev nD) (t : Fin cfg0.N) (j : Fin 128) (k : Fin 768) (ht : t.val * 128 + j.val < 4096) :
    ((stepAt m c t).q (ix2 j k) : EReal) = (m ((c.tc : Thread nD τ).loc main_arg0) (ix2 ⟨t.val * 128 + j.val, ht⟩ ⟨k.val, by omega⟩) : EReal) := by
  show (X0_1 m c t (ix2 j k) : EReal) = _
  unfold X0_1 Pipeline.Window.fill
  rw [dif_pos (moved0_1 t (ix2 j k))]
  blk_ext [iblk, V, idx t]

theorem ct_at (c : Dev nD) (t : Fin cfg0.N) (j : Fin 128) (k : Fin 768) (ht : t.val * 128 + j.val < 4096) :
    ((stepAt m c t).ct (ix2 j k) : EReal) = (m ((c.tc : Thread nD τ).loc main_arg3) (ix2 ⟨t.val * 128 + j.val, ht⟩ ⟨k.val, by omega⟩) : EReal) := by
  show (X0_4 m c t (ix2 j k) : EReal) = _
  unfold X0_4 Pipeline.Window.fill
  rw [dif_pos (moved0_4 t (ix2 j k))]
  blk_ext [iblk, V, idx t]

/-- The arguments in memory are these real numbers. -/
structure Holds (c : Dev nD) (A : Args) : Prop where
  x : ∀ i k, (m ((c.tc : Thread nD τ).loc main_arg0) (ix2 i k) : EReal) = (A.x i k : EReal)
  kv : ∀ i k, (m ((c.tc : Thread nD τ).loc main_arg1) (ix2 i k) : EReal) = (A.kv i k : EReal)
  sk : ∀ h, (m ((c.tc : Thread nD τ).loc main_arg2) (ix1 h) : EReal) = (A.sk h : EReal)
  ct : ∀ i k, (m ((c.tc : Thread nD τ).loc main_arg3) (ix2 i k) : EReal) = (A.ct i k : EReal)

/-- The sequence and the block of a point. -/
def tb (t : Fin cfg0.N) : Fin 2 := ⟨t.val / 16, by have := (idx t).2.2.2.2.2.2.2.2.2.2; omega⟩
def tn (t : Fin cfg0.N) : Fin 16 := ⟨t.val % 16, by omega⟩

variable {m}

theorem Holds.reads {c : Dev nD} {A : Args} (H : Holds m c A) (t : Fin cfg0.N) : Reads (stepAt m c t) (A.blk false (tb t) (tn t)) where
  q i k := by
    have ht := (idx t).2.2.2.2.2.2.2.2.2.2
    rw [q_at m c t i k (by omega), H.x]
    exact congrArg (fun r => ((A.x r _ : ℝ) : EReal)) (Fin.ext (by simp only [Args.at_, tb, tn]; omega))
  ct i k := by
    have ht := (idx t).2.2.2.2.2.2.2.2.2.2
    rw [ct_at m c t i k (by omega), H.ct]
    exact congrArg (fun r => ((A.ct r _ : ℝ) : EReal)) (Fin.ext (by simp only [Args.at_, tb, tn]; omega))
  prev j k := by
    have ht := (idx t).2.2.2.2.2.2.2.2.2.2
    rw [prev_at m c t j k (by omega), H.kv]
    show _ = ((A.keys false _ _ _ k : ℝ) : EReal)
    unfold Args.keys
    rw [dif_pos (show j.val < 128 from j.isLt), if_neg (fun h => Bool.false_ne_true h.1)]
    exact congrArg (fun r => ((A.kv r _ : ℝ) : EReal)) (Fin.ext (by simp only [Args.before, tb, tn]; omega))
  cur j k := by
    have ht := (idx t).2.2.2.2.2.2.2.2.2.2
    rw [cur_at m c t j k (by omega), H.kv]
    show _ = ((A.keys false _ _ _ k : ℝ) : EReal)
    unfold Args.keys
    rw [dif_neg (show ¬ (128 + j.val < 128) by omega)]
    exact congrArg (fun r => ((A.kv r _ : ℝ) : EReal)) (Fin.ext (by simp only [Args.at_, tb, tn]; omega))
  sinks h := by rw [sinks_at, H.sk]; rfl
  at_ := (idx t).2.2.2.2.2.2.2.2.2.1

end Cert.KernelIdeal.Swa
-- ==== Proof.KernelValue.lean ====
module
public import proofs.«01_k».proof.Proof.Windows

/-! # What the kernel leaves in its four results, in real numbers -/

@[expose] public section
set_option maxRecDepth 65536
noncomputable section
namespace Cert.KernelIdeal.Swa
open Idealize.ShloMosaic Idealize.ShloMosaic.TcCoe Idealize.SL.Sem
open Cert.KernelIdeal Cert.KernelIdeal.Gen Cert.Swa
variable {m : (ℓ : Loc nD τ sig) → Buf (Elt Ideal) ℓ} {c : Dev nD} {A : Args} (H : Holds m c A)
include H

/-- The queries' gradient, one step. -/
theorem dqAll_at (t : Fin cfg0.N) (i : Fin 128) (k : Fin 768) (ht : t.val * 128 + i.val < 4096) : ((stepAt m c t).dqAll (ix2 i k) : EReal) = ((A.gq ⟨t.val * 128 + i.val, ht⟩ k : ℝ) : EReal) := by
  rw [dqAll_eq i k ⟨k.val / 64, by omega⟩ ⟨k.val % 64, by omega⟩ (by dsimp only; omega), (H.reads t).dq_eq]
  unfold Args.gq
  have e1 : tb t = Args.rb ⟨t.val * 128 + i.val, ht⟩ := Fin.ext (by simp only [tb, Args.rb]; omega)
  have e2 : tn t = Args.rn ⟨t.val * 128 + i.val, ht⟩ := Fin.ext (by simp only [tn, Args.rn]; omega)
  have e3 : i = Args.ri ⟨t.val * 128 + i.val, ht⟩ := Fin.ext (by simp only [Args.ri]; omega)
  rw [← e1, ← e2, ← e3]

/-- The keys' and values' gradient, one step. -/
theorem dkvAll_at (o : Fin 2) (t : Fin cfg0.N) (i : Fin 128) (k : Fin 512) (ht : t.val * 128 + i.val < 4096) : ((stepAt m c t).dkvAll (ix2 ⟨128 * o.val + i.val, by omega⟩ k) : EReal) = ((A.gkv o ⟨t.val * 128 + i.val, ht⟩ k : ℝ) : EReal) := by
  rw [dkvAll_eq (H.reads t) _ k ⟨k.val / 256, by omega⟩ ⟨k.val % 256 / 64, by omega⟩ ⟨k.val % 64, by omega⟩ (by dsimp only; omega)]
  unfold Args.gkv
  have e1 : tb t = Args.rb ⟨t.val * 128 + i.val, ht⟩ := Fin.ext (by simp only [tb, Args.rb]; omega)
  have e2 : tn t = Args.rn ⟨t.val * 128 + i.val, ht⟩ := Fin.ext (by simp only [tn, Args.rn]; omega)
  have e3 : (⟨128 * o.val + i.val, by omega⟩ : Fin 256) = ⟨128 * o.val + (Args.ri ⟨t.val * 128 + i.val, ht⟩).val, by omega⟩ :=
    Fin.ext (by simp only [Args.ri]; omega)
  rw [← e1, ← e2, ← e3]
  exact congrArg _ (if_congr (by rw [Fin.ext_iff]; rfl) rfl rfl)

/-- The sinks' gradient, all the steps. -/
theorem dskAll_sum (i : Fin 8) (k : Fin 128) (f : Fin 32 → Fin cfg0.N) (hf : ∀ s, (f s).val = s.val) : (∑ s : Fin 32, ((stepAt m c (f s)).dskAll (ix2 i k) : EReal)) = ((A.gs k : ℝ) : EReal) := by
  have e : ∀ s : Fin 32, ((stepAt m c (f s)).dskAll (ix2 i k) : EReal)
      = (((fun b n => if h : k.val < 12 then (A.blk false b n).ds ⟨k.val, h⟩ else 0) ⟨s.val / 16, by omega⟩ ⟨s.val % 16, by omega⟩ : ℝ) : EReal) := by
    intro s
    rw [dskAll_eq (H.reads (f s))]
    have e1 : tb (f s) = ⟨s.val / 16, by omega⟩ := Fin.ext (by simp only [tb, hf])
    have e2 : tn (f s) = ⟨s.val % 16, by omega⟩ := Fin.ext (by simp only [tn, hf])
    rw [e1, e2]
  rw [Finset.sum_congr rfl fun s _ => e s, coe_sum, Args.sum_blocks (fun b n => if h : k.val < 12 then (A.blk false b n).ds ⟨k.val, h⟩ else 0)]
  unfold Args.gs
  refine congrArg _ ?_
  split
  · rfl
  · simp

omit H in
theorem size5 : ∀ t : Fin cfg0.N, ∀ a, (cfg0.win 5).xsize (cfg0.grid.coords t) a = (cfg0.win 5).size a := by decide +kernel

/-- The queries' gradient after the run: the first 768 columns. -/
theorem arr5 : (dats m 0 c).arrAt 5 cfg0.N = fun y : S4096x1024.Idx => if (y 1).val < 768 then
    ((if h : (y 1).val < 768 then A.gq ⟨(y 0).val, (y 0).isLt⟩ ⟨(y 1).val, h⟩ else 0 : ℝ) : EReal) else V m c main_v0_0 y := by
  refine (dats m 0 c).arrAt_eq_of_coversWhere 5 (fun y : S4096x1024.Idx =>
      ((if h : (y 1).val < 768 then A.gq ⟨(y 0).val, (y 0).isLt⟩ ⟨(y 1).val, h⟩ else 0 : ℝ) : EReal))
    (fun i => i 1 < 1) (by decide +kernel) (fun t hf y => ?_) (fun j => by blk_simp [Pipeline.Window.cell_apply]; omega)
  blk_simp [idx t]
  rw [after0_5, out5_eq]
  have ht := (idx t).2.2.2.2.2.2.2.2.2.2
  have h0 : (y 0).val < 128 := lt_of_lt_of_eq (y 0).isLt (size5 t 0)
  have h1 : (y 1).val < 768 := lt_of_lt_of_eq (y 1).isLt (size5 t 1)
  have hx : ((cfg0.win 5).xinj (cfg0.grid.coords t) y : S128x768.Idx) = ix2 ⟨(y 0).val, h0⟩ ⟨(y 1).val, h1⟩ :=
    funext fun a => Fin.ext (by match a with | ⟨0, _⟩ => rfl | ⟨1, _⟩ => rfl)
  rw [dif_pos h1]
  exact (congrArg (stepAt m c t).dqAll hx).trans (dqAll_at H t ⟨(y 0).val, h0⟩ ⟨(y 1).val, h1⟩ (by dsimp only; omega))

/-- The gradient of a block's own keys and values after the run. -/
theorem arr6 : (dats m 0 c).arrAt 6 cfg0.N = fun y : S4096x512.Idx =>
    ((A.gkv 1 ⟨(y 0).val, (y 0).isLt⟩ ⟨(y 1).val, (y 1).isLt⟩ : ℝ) : EReal) := by
  refine (dats m 0 c).arrAt_eq_of_covers 6 _ (by decide +kernel) fun t hf y => ?_
  blk_simp [idx t]
  rw [after0_6, out6_eq]
  idx_vars y
  exact (out6_at _ y0 y1).trans (dkvAll_at H 1 t y0 y1 _)

/-- The gradient of the keys and values of the block before after the run. -/
theorem arr7 : (dats m 0 c).arrAt 7 cfg0.N = fun y : S4096x512.Idx =>
    ((A.gkv 0 ⟨(y 0).val, (y 0).isLt⟩ ⟨(y 1).val, (y 1).isLt⟩ : ℝ) : EReal) := by
  refine (dats m 0 c).arrAt_eq_of_covers 7 _ (by decide +kernel) fun t hf y => ?_
  blk_simp [idx t]
  rw [after0_7, out7_eq]
  idx_vars y
  refine (out7_at _ y0 y1).trans (Eq.trans (congrArg (fun r => (stepAt m c t).dkvAll (ix2 r y1)) (Fin.ext ?_)) (dkvAll_at H 0 t y0 y1 _))
  simp

/-- The gradient of the sinks after the run. -/
theorem arr8 : (dats m 0 c).arrAt 8 cfg0.N = fun y : S8x128.Idx => ((A.gs ⟨(y 1).val, (y 1).isLt⟩ : ℝ) : EReal) := by
  have hz : ∀ j, (k0_pay1 (F := Ideal) j : EReal) = 0 := fun j => by
    idx_vars j
    pointwise [k0_pay1]
  refine (dats m 0 c).arrAt_eq_of_covers 8 _ (by decide +kernel) fun t hf y => ?_
  blk_simp [idx t]
  rw [after0_8, Pipeline.eq_sum_fin_of_reset_step_apply_of_flush (fun n h => (outsAt0 m c n h).2.2.2) 32 (fun _ => (0 : EReal)) (fun p j => (stepAt m c p).dskAll j)
    (fun t h j => by rw [out8_A m c t h]; exact congrArg (· + ((stepAt m c t).dskAll j : EReal)) (hz j))
    (fun t h j => by rw [out8_B m c t h]; rfl)
    t ((flush0_8 t).mp hf) _, zero_add]
  idx_vars y
  have ht := (idx t).2.2.2.2.2.2.2.2.2.2
  exact dskAll_sum H y0 y1 (fun s => ⟨32 * (t.val / 32) + s.val, _⟩) fun s => by show 32 * (t.val / 32) + s.val = _; omega

end Cert.KernelIdeal.Swa
-- ==== Proof.RefTerms.lean ====
module
public import proofs.«01_k».proof.Proof.Gen.ReferenceIdeal.Run
public import Idealize.ShloMosaic.Lib.Pointwise
public import proofs.«01_k».proof.Proof.Spec

/-! # The reference's tensors, entry by entry

Each named tensor of the reference at an index, as an extended real, and what it is of the ones before. -/

@[expose] public section
set_option maxRecDepth 65536
noncomputable section
namespace Cert.ReferenceIdeal.Swa
open Cert.ReferenceIdeal Cert.ReferenceIdeal.Gen Idealize.ShloMosaic Idealize.ShloMosaic.TcCoe Idealize.SL.Sem Idealize.ShloMosaic.StableHlo
open Cert.ReferenceIdeal.Value Cert.Swa
variable (V : Valuation τ sig (Elt Ideal))
/-! ## The arguments and the tensors at an index -/

def a0 (R : Fin 4096) (k : Fin 1024) : EReal := V (Proc.devRef .tc main_arg0) (ix2 R k)
def a1 (R : Fin 4096) (k : Fin 512) : EReal := V (Proc.devRef .tc main_arg1) (ix2 R k)
def a2 (k : Fin 12) : EReal := V (Proc.devRef .tc main_arg2) (ix1 k)
def a3 (R : Fin 4096) (k : Fin 1024) : EReal := V (Proc.devRef .tc main_arg3) (ix2 R k)
def t9 (b : Fin 2) (n : Fin 16) (j : Fin 256) (g : Fin 4) (d : Fin 64) : EReal := res_main_v9 V (ix5 b n j g d)
def t16 (b : Fin 2) (n : Fin 16) (j : Fin 256) (g : Fin 4) (d : Fin 64) : EReal := res_main_v16 V (ix5 b n j g d)
def t33 (b : Fin 2) (n : Fin 16) (i : Fin 128) (g : Fin 4) (r : Fin 3) (d : Fin 64) : EReal := res_main_v33 V (ix6 b n i g r d)
def t78 (g : Fin 4) (r : Fin 3) : EReal := res_main_v78 V (ix6 0 0 g r 0 0)
def t77_0 (b : Fin 2) (n : Fin 16) (g : Fin 4) (r : Fin 3) (i : Fin 128) (j : Fin 256) : EReal := res_main_v77_0 V (ix6 b n g r i j)
def t79 (b : Fin 2) (n : Fin 16) (g : Fin 4) (r : Fin 3) (i : Fin 128) : EReal := res_main_v79 V (ix5 b n g r i)
def t83 (b : Fin 2) (n : Fin 16) (g : Fin 4) (r : Fin 3) (i : Fin 128) (j : Fin 256) : EReal := res_main_v83 V (ix6 b n g r i j)
def t85 (b : Fin 2) (n : Fin 16) (g : Fin 4) (r : Fin 3) (i : Fin 128) : EReal := res_main_v85 V (ix6 b n g r i 0)
def t87 (b : Fin 2) (n : Fin 16) (g : Fin 4) (r : Fin 3) (i : Fin 128) : EReal := res_main_v87 V (ix6 b n g r i 0)
def t108 (b : Fin 2) (n : Fin 16) (g : Fin 4) (r : Fin 3) (i : Fin 128) (j : Fin 256) : EReal := res_main_v108 V (ix6 b n g r i j)
def t113 (b : Fin 2) (n : Fin 16) (g : Fin 4) (r : Fin 3) (i : Fin 128) : EReal := res_main_v113 V (ix6 b n g r i 0)
def t114 (b : Fin 2) (n : Fin 16) (g : Fin 4) (r : Fin 3) (i : Fin 128) : EReal := res_main_v114 V (ix6 b n g r i 0)
def t116 (b : Fin 2) (n : Fin 16) (g : Fin 4) (r : Fin 3) (i : Fin 128) (j : Fin 256) : EReal := res_main_v116 V (ix6 b n g r i j)
def t124 (b : Fin 2) (n : Fin 16) (g : Fin 4) (d : Fin 64) (r : Fin 3) (i : Fin 128) : EReal := res_main_v124 V (ix6 b n g d r i)
def t125 (b : Fin 2) (n : Fin 16) (g : Fin 4) (r : Fin 3) (i : Fin 128) (j : Fin 256) : EReal := res_main_v125 V (ix6 b n g r i j)
def t127 (b : Fin 2) (n : Fin 16) (j : Fin 256) (g : Fin 4) (d : Fin 64) : EReal := res_main_v127 V (ix5 b n j g d)
def t133 (b : Fin 2) (n : Fin 16) (g : Fin 4) (r : Fin 3) (i : Fin 128) : EReal := res_main_v133 V (ix6 b n g r i 0)
def t136 (b : Fin 2) (n : Fin 16) (g : Fin 4) (r : Fin 3) (i : Fin 128) : EReal := res_main_v136 V (ix6 b n g r i 0)
def t143 (b : Fin 2) (n : Fin 16) (g : Fin 4) (r : Fin 3) (i : Fin 128) (j : Fin 256) : EReal := res_main_v143 V (ix6 b n g r i j)
def t147 (b : Fin 2) (n : Fin 16) (g : Fin 4) (r : Fin 3) (i : Fin 128) : EReal := res_main_v147 V (ix6 b n g r i 0)
def t162 (b : Fin 2) (n : Fin 16) (g : Fin 4) (j : Fin 256) (i : Fin 128) (r : Fin 3) : EReal := res_main_v162 V (ix6 b n g j i r)
def t166 (b : Fin 2) (n : Fin 16) (j : Fin 256) (g : Fin 4) (d : Fin 64) : EReal := res_main_v166 V (ix5 b n j g d)
def t77_1 (b : Fin 2) (n : Fin 16) (g : Fin 4) (r : Fin 3) (i : Fin 128) (j : Fin 256) : BitVec 1 := res_main_v77_1 V (ix6 b n g r i j)
variable (b : Fin 2) (n : Fin 16) (g : Fin 4) (r : Fin 3) (i : Fin 128) (j : Fin 256) (d : Fin 64)

/-! ## What each is of the ones before -/

/-- The keys a block reads: zeros before the first block. -/
theorem t9_eq : t9 V b n j g d = if h : j.val < 128 then
      if h1 : (1 ≤ n.val ∧ n.val - 1 < 16) ∧ j.val < 128 then
        a1 V ⟨b.val * 2048 + ((n.val - 1) * 128 + j.val), by omega⟩ ⟨g.val * 64 + d.val, by omega⟩
      else 0
    else a1 V ⟨b.val * 2048 + (n.val * 128 + (j.val - 128)), by omega⟩ ⟨g.val * 64 + d.val, by omega⟩ := by
  have hz : (0 : EReal) = (FloatOps.sitofp (F := Ideal) FTy.f32 0#32 : EReal) := by
    show (0 : EReal) = (((0#32 : BitVec 32).toInt : ℝ) : EReal)
    simp
  rw [hz]
  unfold t9 a1
  pointwise [res_main_v9, res_main_v6, res_main_v2]
  refine dite_congr rfl (fun h => rfl) fun h => dite_eq_of (fun _ => rfl) fun h' => absurd (by omega) h'

/-- The values a block reads. -/
theorem t16_eq : t16 V b n j g d = if h : j.val < 128 then
      if h1 : (1 ≤ n.val ∧ n.val - 1 < 16) ∧ j.val < 128 then
        a1 V ⟨b.val * 2048 + ((n.val - 1) * 128 + j.val), by omega⟩ ⟨256 + g.val * 64 + d.val, by omega⟩
      else 0
    else a1 V ⟨b.val * 2048 + (n.val * 128 + (j.val - 128)), by omega⟩ ⟨256 + g.val * 64 + d.val, by omega⟩ := by
  have hz : (0 : EReal) = (FloatOps.sitofp (F := Ideal) FTy.f32 0#32 : EReal) := by
    show (0 : EReal) = (((0#32 : BitVec 32).toInt : ℝ) : EReal)
    simp
  rw [hz]
  unfold t16 a1
  pointwise [res_main_v16, res_main_v13, res_main_v2]
  refine dite_congr rfl (fun h => rfl) fun h => dite_eq_of (fun _ => rfl) fun h' => absurd (by omega) h'

/-- The queries. -/
theorem t33_eq : t33 V b n i g r d = a0 V ⟨b.val * 2048 + n.val * 128 + i.val, by omega⟩ ⟨g.val * 192 + r.val * 64 + d.val, by omega⟩ := by
  unfold t33 a0
  pointwise [res_main_v33]

/-- The table of the slopes. -/
theorem slope_chain (k : Nat) (hk : k < 12) :
    ((if h : k < 1 then Ideal.ofBits FTy.f32 1056964608#32 else
      if h : k - 1 < 1 then Ideal.ofBits FTy.f32 1048576000#32 else
      if h : k - 1 - 1 < 1 then Ideal.ofBits FTy.f32 1040187392#32 else
      if h : k - 1 - 1 - 1 < 1 then Ideal.ofBits FTy.f32 1031798784#32 else
      if h : k - 1 - 1 - 1 - 1 < 1 then Ideal.ofBits FTy.f32 1023410176#32 else
      if h : k - 1 - 1 - 1 - 1 - 1 < 1 then Ideal.ofBits FTy.f32 1015021568#32 else
      if h : k - 1 - 1 - 1 - 1 - 1 - 1 < 1 then Ideal.ofBits FTy.f32 1006632960#32 else
      if h : k - 1 - 1 - 1 - 1 - 1 - 1 - 1 < 1 then Ideal.ofBits FTy.f32 998244352#32 else
      if h : k - 1 - 1 - 1 - 1 - 1 - 1 - 1 - 1 < 1 then Ideal.ofBits FTy.f32 1060439283#32 else
      if h : k - 1 - 1 - 1 - 1 - 1 - 1 - 1 - 1 - 1 < 1 then Ideal.ofBits FTy.f32 1052050675#32 else
      if h : k - 1 - 1 - 1 - 1 - 1 - 1 - 1 - 1 - 1 - 1 < 1 then Ideal.ofBits FTy.f32 1043662067#32 else
        Ideal.ofBits FTy.f32 1035273459#32 : Ideal .f32) : EReal) = Ideal.ofBits .f32 (slopeBits ⟨k, hk⟩) := by
  interval_cases k <;> simp [slopeBits]

/-- The mask. -/
theorem t77_1_eq : t77_1 V b n g r i j = band n.val i j := by
  unfold t77_1
  pointwise [res_main_v77_1, res_main_v46, res_main_v43]
  rfl

/-- The masked scores. -/
theorem t77_0_eq : t77_0 V b n g r i j = Scalar.select (t77_1 V b n g r i j)
      ((∑ x : Fin 64, t9 V b n j g x * t33 V b n i g r x) * Ideal.ofBits FTy.f32 1040187392#32 +
        (-Ideal.ofBits .f32 (slopeBits (head g r))) * (((gap i j).toInt : ℝ) : EReal)) (Ideal.ofBits .f32 0xFF800000#32) := by
  have hk : g.val * 3 + r.val < 12 := by omega
  have eh : head g r = (⟨g.val * 3 + r.val, hk⟩ : Fin 12) := Fin.ext (by simp only [head]; omega)
  rw [eh, ← slope_chain (g.val * 3 + r.val) hk]
  unfold t77_0 t9 t33 t77_1
  pointwise [res_main_v77_0]
  have hg : res_main_v46 V (ix2 i j) = gap i j := by pointwise [res_main_v46, res_main_v43]; rfl
  rw [hg]
  rfl

/-- The sinks. -/
theorem t78_eq : t78 V g r = a2 V (head g r) := by
  unfold t78 a2
  refine congrArg (V (Proc.devRef .tc main_arg2)) (?_ : Shape.reshapeEquiv shapeCasts_S12_S1x1x4x3x1x1 (ix6 0 0 g r 0 0) = ix1 (head g r))
  revert g r
  decide +kernel

/-- The largest score. -/
theorem t79_eq : t79 V b n g r i = Finset.univ.fold max (Ideal.ofBits .f32 0xFF800000#32 : EReal) (fun j : Fin 256 => t77_0 V b n g r i j) := by
  unfold t79 res_main_v79
  refine (Host.reduce_eq_fold_single (FloatOps.maximumf (F := Ideal)) _ _ reducesTo_S2x16x4x3x128x256_S2x16x4x3x128_d5 (by decide) h_S_ _).trans ?_
  exact congrArg (fun f => Finset.univ.fold max (Ideal.ofBits .f32 0xFF800000#32 : EReal) f) (funext fun j => congrArg (res_main_v77_0 V) (funext fun a => by fin_cases a <;> rfl))

/-- Which keys attain it. -/
theorem t83_eq : t83 V b n g r i j = FloatOps.uitofp (F := Ideal) .f32 (BitVec.ofBool (decide (t77_0 V b n g r i j = t79 V b n g r i))) := by
  unfold t83 t77_0 t79
  pointwise [res_main_v83]

theorem t85_eq : t85 V b n g r i = t79 V b n g r i := by
  unfold t85 t79
  pointwise [res_main_v85]

theorem max_at (X : FVec Ideal S2x16x4x3x128x1 .f32) (Y : FVec Ideal S1x1x4x3x1x1 .f32) :
    (maximumf X (broadcastInDim S2x16x4x3x128x1 ![0, 1, 2, 3, 4, 5] bcast_S1x1x4x3x1x1_S2x16x4x3x128x1_0_1_2_3_4_5 Y) (ix6 b n g r i 0) : EReal)
      = max (X (ix6 b n g r i 0) : EReal) (Y (ix6 0 0 g r 0 0) : EReal) := by
  pointwise []

/-- The largest score, the sink included. -/
theorem t87_eq : t87 V b n g r i = max (t85 V b n g r i) (t78 V g r) := max_at b n g r i (res_main_v85 V) (res_main_v78 V)

/-- The exponentials. -/
theorem t108_eq : t108 V b n g r i j = Ideal.exp (t77_0 V b n g r i j - t87 V b n g r i) := by
  unfold t108 t77_0 t87
  pointwise [res_main_v108]

theorem sink_at (X : FVec Ideal S2x16x4x3x128x1 .f32) (Y : FVec Ideal S1x1x4x3x1x1 .f32) :
    (Host.exp (subf (broadcastInDim S2x16x4x3x128x1 ![0, 1, 2, 3, 4, 5] bcast_S1x1x4x3x1x1_S2x16x4x3x128x1_0_1_2_3_4_5 Y) X) (ix6 b n g r i 0) : EReal)
      = Ideal.exp ((Y (ix6 0 0 g r 0 0) : EReal) - (X (ix6 b n g r i 0) : EReal)) := by
  pointwise []

/-- The sink's exponential. -/
theorem t113_eq : t113 V b n g r i = Ideal.exp (t78 V g r - t87 V b n g r i) := sink_at b n g r i (res_main_v87 V) (res_main_v78 V)

/-- A sum over the keys. -/
theorem sum_row (X : FVec Ideal S2x16x4x3x128x256 .f32) :
    (Ideal.hostReduceAdd reducesTo_S2x16x4x3x128x256_S2x16x4x3x128_d5 X 0 (ix5 b n g r i) : EReal) = ∑ j : Fin 256, (X (ix6 b n g r i j) : EReal) := by
  refine (Ideal.hostReduceAdd_single _ (by decide) X 0 _).trans ((zero_add _).trans ?_)
  exact Finset.sum_congr rfl fun j _ => congrArg X (funext fun a => by fin_cases a <;> rfl)

/-- A sum over one entry. -/
theorem sum_one (X : FVec Ideal S2x16x4x3x128x1 .f32) :
    (Ideal.hostReduceAdd reducesTo_S2x16x4x3x128x1_S2x16x4x3x128_d5 X 0 (ix5 b n g r i) : EReal) = (X (ix6 b n g r i 0) : EReal) := by
  refine (Ideal.hostReduceAdd_single _ (by decide) X 0 _).trans ((zero_add _).trans ((Fin.sum_univ_one _).trans ?_))
  exact congrArg X (funext fun a => by fin_cases a <;> rfl)

/-- The denominator. -/
theorem t114_eq : t114 V b n g r i = (∑ j : Fin 256, t108 V b n g r i j) + t113 V b n g r i := by
  unfold t114 t108 t113
  pointwise [res_main_v114]
  rw [sum_row]

/-- The weights. -/
theorem t116_eq : t116 V b n g r i j = Ideal.div (t108 V b n g r i j) (t114 V b n g r i) := by
  unfold t116 t108 t114
  pointwise [res_main_v116]

/-- The cotangents. -/
theorem t124_eq : t124 V b n g d r i = a3 V ⟨b.val * 2048 + n.val * 128 + i.val, by omega⟩ ⟨g.val * 192 + r.val * 64 + d.val, by omega⟩ := by
  unfold t124 a3
  pointwise [res_main_v124]

/-- The gradients of the weights. -/
theorem t125_eq : t125 V b n g r i j = ∑ x : Fin 64, t124 V b n g x r i * t16 V b n j g x := by
  unfold t125 t124 t16
  pointwise [res_main_v125]

/-- The gradient of the values. -/
theorem t127_eq : t127 V b n j g d = ∑ x : Fin 3, ∑ y : Fin 128, t124 V b n g d x y * t116 V b n g x y j := by
  unfold t127 t124 t116
  pointwise [res_main_v127]

/-- The gradient of the denominator. -/
theorem t133_eq : t133 V b n g r i = -(∑ j : Fin 256, t125 V b n g r i j * Ideal.div 1 (t114 V b n g r i * t114 V b n g r i) * t108 V b n g r i j) := by
  unfold t133 t125 t114 t108
  pointwise [res_main_v133]
  rw [sum_row]
  refine congrArg Neg.neg (Finset.sum_congr rfl fun j _ => ?_)
  pointwise []

/-- The gradient of the sink's score, row by row. -/
theorem t136_eq : t136 V b n g r i = t133 V b n g r i * t113 V b n g r i := by
  unfold t136 t133 t113
  pointwise [res_main_v136]

/-- The gradient of the shifted scores. -/
theorem t143_eq : t143 V b n g r i j = (Ideal.div (t125 V b n g r i j) (t114 V b n g r i) + t133 V b n g r i) * t108 V b n g r i j := by
  unfold t143 t133 t125 t114 t108
  pointwise [res_main_v143]
  rw [sum_one]

/-- The gradient of the shift. -/
theorem t147_eq : t147 V b n g r i = -(t136 V b n g r i) + ∑ j : Fin 256, -(t143 V b n g r i j) := by
  unfold t147 t136 t143
  pointwise [res_main_v147]
  rw [sum_row]
  rfl

/-- The gradient of the products of queries with keys; `k` is the share of the shift that the scores' maximum takes. -/
theorem t162_eq : ∃ k : EReal, t162 V b n g j i r = Scalar.select (t77_1 V b n g r i j)
    ((t143 V b n g r i j + Ideal.div (t147 V b n g r i * k) (∑ y : Fin 256, t83 V b n g r i y) * t83 V b n g r i j) * Ideal.ofBits FTy.f32 1040187392#32) 0 := by
  unfold t162 t77_1 t143 t147 t83
  apply Exists.intro
  pointwise [res_main_v162]
  rw [sum_row, sum_one]
  rfl

/-- The gradient of the keys. -/
theorem t166_eq : t166 V b n j g d = ∑ x : Fin 128, ∑ y : Fin 3, t162 V b n g j x y * t33 V b n x g y d := by
  unfold t166 t162 t33
  pointwise [res_main_v166]

/-! ## The results -/

/-- The queries' gradient as it is returned. -/
theorem dq_at (X : FVec Ideal S2x16x4x256x128x3 .f32) (Y : FVec Ideal S2x16x256x4x64 .f32) (R : Fin 4096) (c : Fin 1024) :
    (truncf .bf16 (pad S4096x1024 ![0, 0] ![0, 256] ![0, 0] (shapeCast _ (shapeCast _ (transpose S2x16x128x4x3x64 [0, 1, 3, 2, 4, 5] (Host.dotGeneral dot_S2x16x4x256x128x3_S2x16x256x4x64_S2x16x4x128x3x64_3_2_45_4_012_013 none X Y) transposes_S2x16x4x128x3x64_S2x16x128x4x3x64_0_1_3_2_4_5) shapeCasts_S2x16x128x4x3x64_S2x2048x12x64) shapeCasts_S2x2048x12x64_S4096x768) (sitofp .f32 (constantI S_ 32 0#32)) pads_S4096x768_S4096x1024_000_02560 h_S_) bitsLt_bf16_f32 (ix2 R c) : EReal) = if h : c.val < 768 then
      ∑ x : Fin 256, (X (ix6 ⟨R.val / 2048, by omega⟩ ⟨R.val / 128 % 16, by omega⟩ ⟨c.val / 192, by omega⟩ x ⟨R.val % 128, by omega⟩ ⟨c.val / 64 % 3, by omega⟩)
          * Y (ix5 ⟨R.val / 2048, by omega⟩ ⟨R.val / 128 % 16, by omega⟩ x ⟨c.val / 192, by omega⟩ ⟨c.val % 64, by omega⟩) : EReal)
    else 0 := by
  have hz : (0 : EReal) = (FloatOps.sitofp (F := Ideal) FTy.f32 0#32 : EReal) := by
    show (0 : EReal) = (((0#32 : BitVec 32).toInt : ℝ) : EReal)
    simp
  rw [hz]
  pointwise []

/-- The keys' and values' gradient as it is returned, for the block before. -/
theorem kv_at0 (X Y : FVec Ideal S2x16x256x4x64 .f32) (R : Fin 4096) (c : Fin 512) :
    (concatenate S4096x512 1 [⟨S4096x256, (shapeCast _ (extractStridedSlice S2x16x128x4x64 ![0, 0, 0, 0, 0] X slices_S2x16x256x4x64_S2x16x128x4x64_0_0_0_0_0) shapeCasts_S2x16x128x4x64_S4096x256)⟩, ⟨S4096x256, (shapeCast _ (extractStridedSlice S2x16x128x4x64 ![0, 0, 0, 0, 0] Y slices_S2x16x256x4x64_S2x16x128x4x64_0_0_0_0_0) shapeCasts_S2x16x128x4x64_S4096x256)⟩] concatenates_S4096x256_S4096x256_S4096x512_d1 (ix2 R c) : EReal) = if h : c.val < 256 then
      (X (ix5 ⟨R.val / 2048, by omega⟩ ⟨R.val / 128 % 16, by omega⟩ ⟨R.val % 128, by omega⟩ ⟨c.val / 64, by omega⟩ ⟨c.val % 64, by omega⟩) : EReal)
    else (Y (ix5 ⟨R.val / 2048, by omega⟩ ⟨R.val / 128 % 16, by omega⟩ ⟨R.val % 128, by omega⟩ ⟨(c.val - 256) / 64, by omega⟩ ⟨(c.val - 256) % 64, by omega⟩) : EReal) := by
  pointwise []

/-- The keys' and values' gradient as it is returned, for the block itself. -/
theorem kv_at1 (X Y : FVec Ideal S2x16x256x4x64 .f32) (R : Fin 4096) (c : Fin 512) :
    (concatenate S4096x512 1 [⟨S4096x256, (shapeCast _ (extractStridedSlice S2x16x128x4x64 ![0, 0, 128, 0, 0] X slices_S2x16x256x4x64_S2x16x128x4x64_0_0_128_0_0) shapeCasts_S2x16x128x4x64_S4096x256)⟩, ⟨S4096x256, (shapeCast _ (extractStridedSlice S2x16x128x4x64 ![0, 0, 128, 0, 0] Y slices_S2x16x256x4x64_S2x16x128x4x64_0_0_128_0_0) shapeCasts_S2x16x128x4x64_S4096x256)⟩] concatenates_S4096x256_S4096x256_S4096x512_d1 (ix2 R c) : EReal) = if h : c.val < 256 then
      (X (ix5 ⟨R.val / 2048, by omega⟩ ⟨R.val / 128 % 16, by omega⟩ ⟨128 + R.val % 128, by omega⟩ ⟨c.val / 64, by omega⟩ ⟨c.val % 64, by omega⟩) : EReal)
    else (Y (ix5 ⟨R.val / 2048, by omega⟩ ⟨R.val / 128 % 16, by omega⟩ ⟨128 + R.val % 128, by omega⟩ ⟨(c.val - 256) / 64, by omega⟩ ⟨(c.val - 256) % 64, by omega⟩) : EReal) := by
  pointwise []

/-- The sinks' gradient as it is returned. -/
theorem sk_at (X Y : FVec Ideal S4x3x1 .f32) (i : Fin 8) (k : Fin 128) :
    (broadcastInDim S8x128 ![0, 1] bcast_S1x128_S8x128_0_1 (broadcastInDim S1x128 ![1] bcast_S128_S1x128_1 (pad S128 ![0] ![116] ![0] (shapeCast _ (addf (shapeCast _ X shapeCasts_S4x3x1_S1x1x4x3x1x1) (shapeCast _ Y shapeCasts_S4x3x1_S1x1x4x3x1x1)) shapeCasts_S1x1x4x3x1x1_S12) (sitofp .f32 (constantI S_ 32 0#32)) pads_S12_S128_01160 h_S_) : FVec Ideal S1x128 .f32) (ix2 i k) : Ideal .f32) = if h : k.val < 12 then (X (ix3 ⟨k.val / 3, by omega⟩ ⟨k.val % 3, by omega⟩ 0) + Y (ix3 ⟨k.val / 3, by omega⟩ ⟨k.val % 3, by omega⟩ 0) : EReal) else 0 := by
  have hz : (0 : EReal) = (FloatOps.sitofp (F := Ideal) FTy.f32 0#32 : EReal) := by
    show (0 : EReal) = (((0#32 : BitVec 32).toInt : ℝ) : EReal)
    simp
  rw [hz]
  pointwise []

/-- A sum over the rows of a head. -/
theorem sum_all (X : FVec Ideal S2x16x4x3x128x1 .f32) : (Host.reduceAdd X (constant S_ .f32 0x00000000#32) reducesTo_S2x16x4x3x128x1_S4x3x1_d0_1_4 h_S_ (ix3 g r 0) : EReal)
   = ∑ b : Fin 2, ∑ n : Fin 16, ∑ i : Fin 128, (X (ix6 b n g r i 0) : EReal) := by
  have hd : ∀ (b : Fin 2) (n : Fin 16) (g' : Fin 4) (r' : Fin 3) (i : Fin 128) (z : Fin 1),
      reducesTo_S2x16x4x3x128x1_S4x3x1_d0_1_4.drop (ix6 b n g' r' i z) = ix3 g r 0 ↔ g' = g ∧ r' = r := fun b n g' r' i z =>
    ⟨fun h => ⟨congrFun h 0, congrFun h 1⟩, fun h => funext fun a => by
      obtain ⟨h1, h2⟩ := h
      fin_cases a
      · exact h1
      · exact h2
      · exact Subsingleton.elim (α := Fin 1) _ _⟩
  rw [Host.reduceAdd_apply]
  show ((constant (F := Ideal) S_ FTy.f32 (0#32) (Shape.Idx.first h_S_) : EReal) + ∑ i ∈ Finset.univ.filter (fun i => reducesTo_S2x16x4x3x128x1_S4x3x1_d0_1_4.drop i = ix3 g r 0), (X i : EReal)) = _
  rw [show (constant (F := Ideal) S_ FTy.f32 (0#32) (Shape.Idx.first h_S_) : EReal) = 0 from Ideal.ofBits_zero_f32, zero_add, Finset.sum_filter, sum_idx6]
  simp only [hd]
  refine Finset.sum_congr rfl fun b _ => Finset.sum_congr rfl fun n _ => ?_
  rw [Finset.sum_eq_single g (fun g' _ h => Finset.sum_eq_zero fun r' _ => Finset.sum_eq_zero fun i _ => Finset.sum_eq_zero fun z _ => if_neg fun h' => h h'.1)
    (fun h => absurd (Finset.mem_univ _) h),
    Finset.sum_eq_single r (fun r' _ h => Finset.sum_eq_zero fun i _ => Finset.sum_eq_zero fun z _ => if_neg fun h' => h h'.2)
    (fun h => absurd (Finset.mem_univ _) h)]
  refine Finset.sum_congr rfl fun i _ => ?_
  rw [Fin.sum_univ_one, if_pos ⟨rfl, rfl⟩]

end Cert.ReferenceIdeal.Swa
-- ==== Proof.RefRead.lean ====
module
public import proofs.«01_k».proof.Proof.RefTerms

/-! # What the reference computes, in real numbers

The reference differentiates the softmax through its shift by the largest score: it divides the gradient
that reaches the shift among the scores that attain it. That gradient is zero, and so the shares are. -/

@[expose] public section
set_option maxRecDepth 65536
noncomputable section
namespace Cert.ReferenceIdeal.Swa
open Cert.ReferenceIdeal Cert.ReferenceIdeal.Gen Idealize.ShloMosaic Idealize.ShloMosaic.TcCoe Idealize.SL.Sem Idealize.ShloMosaic.StableHlo
open Cert.ReferenceIdeal.Value Cert.Swa

/-- A valuation that holds real arguments. -/
structure Holds (V : Valuation τ sig (Elt Ideal)) (A : Args) : Prop where
  x : ∀ R k, a0 V R k = (A.x R k : EReal)
  kv : ∀ R k, a1 V R k = (A.kv R k : EReal)
  sk : ∀ k, a2 V k = (A.sk k : EReal)
  ct : ∀ R k, a3 V R k = (A.ct R k : EReal)

variable {V : Valuation τ sig (Elt Ideal)} {A : Args} (H : Holds V A)
variable (b : Fin 2) (n : Fin 16) (g : Fin 4) (r : Fin 3) (i : Fin 128) (j : Fin 256) (d : Fin 64)
include H

theorem keys_at (c : Fin 512) :
    (if h : j.val < 128 then
      if h1 : (1 ≤ n.val ∧ n.val - 1 < 16) ∧ j.val < 128 then a1 V ⟨b.val * 2048 + ((n.val - 1) * 128 + j.val), by omega⟩ c else 0
    else a1 V ⟨b.val * 2048 + (n.val * 128 + (j.val - 128)), by omega⟩ c) = ((A.keys true b n j c : ℝ) : EReal) := by
  unfold Args.keys
  by_cases hj : j.val < 128
  · rw [dif_pos hj, dif_pos hj]
    by_cases hn : n.val = 0
    · rw [dif_neg (by omega), if_pos ⟨rfl, hn⟩, EReal.coe_zero]
    · rw [dif_pos (by omega), if_neg (fun h => hn h.2), H.kv]
      exact congrArg (fun R => ((A.kv R c : ℝ) : EReal)) (Fin.ext (by simp only [Args.before]; omega))
  · rw [dif_neg hj, dif_neg hj, H.kv]
    exact congrArg (fun R => ((A.kv R c : ℝ) : EReal)) (Fin.ext (by simp only [Args.at_]; omega))

theorem key_eq : t9 V b n j g d = (((A.blk true b n).kv j (kcol g d) : ℝ) : EReal) := by
  have e : kcol g d = ⟨g.val * 64 + d.val, by omega⟩ := Fin.ext (by simp only [kcol]; omega)
  rw [t9_eq, e]
  exact keys_at H b n j _

theorem value_eq : t16 V b n j g d = (((A.blk true b n).kv j (vcol g d) : ℝ) : EReal) := by
  have e : vcol g d = ⟨256 + g.val * 64 + d.val, by omega⟩ := Fin.ext (by simp only [vcol]; omega)
  rw [t16_eq, e]
  exact keys_at H b n j _

theorem query_eq : t33 V b n i g r d = (((A.blk true b n).q i (qcol (head g r) d) : ℝ) : EReal) := by
  rw [t33_eq, H.x]
  refine congrArg _ (congrArg₂ A.x (Fin.ext ?_) (Fin.ext ?_))
  · simp only [Args.at_]
  · simp only [qcol, head]; omega

theorem cotangent_eq : t124 V b n g d r i = (((A.blk true b n).ct i (qcol (head g r) d) : ℝ) : EReal) := by
  rw [t124_eq, H.ct]
  refine congrArg _ (congrArg₂ A.ct (Fin.ext ?_) (Fin.ext ?_))
  · simp only [Args.at_]
  · simp only [qcol, head]; omega

theorem score_eq : t77_0 V b n g r i j = ((A.blk true b n).row (head g r) i).S j := by
  rw [t77_0_eq, bot_bits, t77_1_eq]
  refine congrArg (fun x => Scalar.select (band n.val i j) x ⊥) ?_
  rw [Finset.sum_congr rfl fun d _ => by rw [key_eq H, query_eq H, ← EReal.coe_mul], coe_sum,
    show (Ideal.ofBits FTy.f32 1040187392#32 : EReal) = ((1 / 8 : ℝ) : EReal) from eighth_coe, slope_coe, ← EReal.coe_mul, ← EReal.coe_neg, ← EReal.coe_mul, ← EReal.coe_add]
  refine congrArg _ ?_
  dsimp only [Blk.row]
  rw [grp_head, neg_mul, ← sub_eq_add_neg]
  exact congrArg (fun x => x * (1 / 8 : ℝ) - slope (head g r) * ((gap i j).toInt : ℝ)) (Finset.sum_congr rfl fun d _ => mul_comm _ _)

theorem dp_eq : t125 V b n g r i j = ((((A.blk true b n).row (head g r) i).dp j : ℝ) : EReal) := by
  rw [t125_eq, Finset.sum_congr rfl fun d _ => by rw [value_eq H, cotangent_eq H, ← EReal.coe_mul], coe_sum]
  refine congrArg _ ?_
  dsimp only [Blk.row]
  rw [grp_head]

/-- The largest score. -/
theorem top_eq : t79 V b n g r i = Finset.univ.fold max (⊥ : EReal) ((A.blk true b n).row (head g r) i).S := by
  rw [t79_eq, bot_bits]
  exact congrArg (fun f => Finset.univ.fold max (⊥ : EReal) f) (funext fun j => score_eq H b n g r i j)

/-- The shift, the exponentials and the denominator of a row. -/
theorem row_eq : ∃ μ : ℝ, (∀ j, t108 V b n g r i j = (((A.blk true b n).row (head g r) i).e μ j : EReal))
    ∧ t113 V b n g r i = Ideal.exp ((((A.blk true b n).row (head g r) i).sk : EReal) - (μ : EReal))
    ∧ t114 V b n g r i = (((A.blk true b n).row (head g r) i).den μ : EReal)
    ∧ t133 V b n g r i = (((A.blk true b n).row (head g r) i).c μ : EReal) := by
  obtain ⟨μ, h⟩ := ((A.blk true b n).row (head g r) i).max_real
  have h87 : t87 V b n g r i = (μ : EReal) := by
    rw [t87_eq, t85_eq, t78_eq, top_eq H, H.sk]; exact h
  have h108 : ∀ j, t108 V b n g r i j = (((A.blk true b n).row (head g r) i).e μ j : EReal) := fun j => by
    rw [t108_eq, score_eq H, h87, Row.exp_S]
  have h113 : t113 V b n g r i = Ideal.exp ((((A.blk true b n).row (head g r) i).sk : EReal) - (μ : EReal)) := by
    rw [t113_eq, t78_eq, H.sk, h87]; rfl
  have h114 : t114 V b n g r i = (((A.blk true b n).row (head g r) i).den μ : EReal) := by
    rw [t114_eq, h113, ← Row.den_coe]
    exact congrArg (· + _) (Finset.sum_congr rfl fun j _ => by rw [h108, Row.exp_S])
  refine ⟨μ, h108, h113, h114, ?_⟩
  rw [t133_eq, ← Row.c_coe, h114]
  exact congrArg Neg.neg (Finset.sum_congr rfl fun j _ => by rw [h108, dp_eq H])

theorem weight_eq : t116 V b n g r i j = (((A.blk true b n).row (head g r) i).P j : EReal) := by
  obtain ⟨μ, h108, -, h114, -⟩ := row_eq H b n g r i
  rw [t116_eq, h108, h114, Row.div_den, Row.P_eq]

/-- The gradient of the sink, one row's share. -/
theorem sink_eq : t136 V b n g r i = (((A.blk true b n).row (head g r) i).T : EReal) := by
  obtain ⟨μ, -, h113, -, h133⟩ := row_eq H b n g r i
  rw [t136_eq, h133, h113, Row.grad_sink]

/-- The gradient of the shifted score. -/
theorem shifted_eq : t143 V b n g r i j = ((((A.blk true b n).row (head g r) i).P j
    * (((A.blk true b n).row (head g r) i).dp j - ((A.blk true b n).row (head g r) i).R) : ℝ) : EReal) := by
  obtain ⟨μ, h108, -, h114, h133⟩ := row_eq H b n g r i
  rw [t143_eq, h133, h114, h108, dp_eq H, Row.grad_arg]

/-- No gradient reaches the shift. -/
theorem shift_eq : t147 V b n g r i = 0 := by
  rw [t147_eq, sink_eq H, ← Row.grad_max ((A.blk true b n).row (head g r) i)]
  exact congrArg (_ + ·) (Finset.sum_congr rfl fun j _ => by rw [shifted_eq H])

/-- Some key attains the largest score. -/
theorem count_eq : (∑ y : Fin 256, t83 V b n g r i y) ≠ 0 := by
  refine Row.count_ne ((A.blk true b n).row (head g r) i) _ fun j => ?_
  rw [t83_eq, score_eq H, top_eq H]
  split
  · rename_i h
    rw [decide_eq_true h]
    show (((1#1 : BitVec 1).toNat : ℝ) : EReal) = 1
    simp
  · rename_i h
    rw [decide_eq_false h]
    show (((0#1 : BitVec 1).toNat : ℝ) : EReal) = 0
    simp

/-- The gradient of a product of a query with a key. -/
theorem grad_eq : t162 V b n g j i r = (((A.blk true b n).row (head g r) i).G j : EReal) := by
  obtain ⟨k, h⟩ := t162_eq (V := V) b n g r i j
  rw [h, shift_eq H, zero_mul, Ideal.zero_div (count_eq H b n g r i), zero_mul, add_zero, shifted_eq H, t77_1_eq,
    show (Ideal.ofBits FTy.f32 1040187392#32 : EReal) = ((1 / 8 : ℝ) : EReal) from eighth_coe, ← EReal.coe_mul]
  unfold Scalar.select
  split
  · rfl
  · rename_i h1
    rw [Row.G_off _ (show ((A.blk true b n).row (head g r) i).on j ≠ 1 from h1), EReal.coe_zero]

/-- The gradient of the queries. -/
theorem dq_eq : (∑ y : Fin 256, t162 V b n g y i r * t9 V b n y g d) = ((A.blk true b n).dq (head g r) i d : EReal) := by
  rw [Finset.sum_congr rfl fun y _ => by rw [grad_eq H, key_eq H, ← EReal.coe_mul], coe_sum]
  unfold Blk.dq
  rw [grp_head]

/-- The gradient of the keys. -/
theorem dk_eq : t166 V b n j g d = ((A.blk true b n).dk g j d : EReal) := by
  rw [t166_eq, Finset.sum_congr rfl fun x _ => by
    rw [Finset.sum_congr rfl fun y _ => by rw [grad_eq H, query_eq H, ← EReal.coe_mul], coe_sum], coe_sum, Finset.sum_comm]
  exact congrArg _ (Fin.sum_univ_three _)

/-- The gradient of the values. -/
theorem dv_eq : t127 V b n j g d = ((A.blk true b n).dv g j d : EReal) := by
  rw [t127_eq, Finset.sum_congr rfl fun x _ => by
    rw [Finset.sum_congr rfl fun y _ => by rw [weight_eq H, cotangent_eq H, mul_comm, ← EReal.coe_mul], coe_sum], coe_sum]
  exact congrArg _ (Fin.sum_univ_three _)

/-! ## The results -/

/-- The queries' gradient as it is returned. -/
theorem gq_eq (R : Fin 4096) (c : Fin 1024) (hc : c.val < 768) :
    (∑ y : Fin 256, t162 V ⟨R.val / 2048, by omega⟩ ⟨R.val / 128 % 16, by omega⟩ ⟨c.val / 192, by omega⟩ y ⟨R.val % 128, by omega⟩ ⟨c.val / 64 % 3, by omega⟩
      * t9 V ⟨R.val / 2048, by omega⟩ ⟨R.val / 128 % 16, by omega⟩ y ⟨c.val / 192, by omega⟩ ⟨c.val % 64, by omega⟩) = ((A.gq R ⟨c.val, hc⟩ : ℝ) : EReal) := by
  rw [dq_eq H, A.dq_eq _ _ true false]
  unfold Args.gq
  have e1 : (⟨R.val / 128 % 16, by omega⟩ : Fin 16) = Args.rn R := Fin.ext (by simp only [Args.rn]; omega)
  have e2 : head ⟨c.val / 192, by omega⟩ ⟨c.val / 64 % 3, by omega⟩ = ⟨c.val / 64, by omega⟩ := Fin.ext (by simp only [head]; omega)
  rw [e1, e2]
  rfl

/-- The keys' and values' gradient as it is returned. -/
theorem gkv_eq (o : Fin 2) (p : Fin 256) (R : Fin 4096) (hp : p.val = 128 * o.val + R.val % 128) (c : Fin 512) :
    (if h : c.val < 256 then t166 V ⟨R.val / 2048, by omega⟩ ⟨R.val / 128 % 16, by omega⟩ p ⟨c.val / 64, by omega⟩ ⟨c.val % 64, by omega⟩
     else t127 V ⟨R.val / 2048, by omega⟩ ⟨R.val / 128 % 16, by omega⟩ p ⟨(c.val - 256) / 64, by omega⟩ ⟨(c.val - 256) % 64, by omega⟩)
      = ((A.gkv o R c : ℝ) : EReal) := by
  have e1 : (⟨R.val / 128 % 16, by omega⟩ : Fin 16) = Args.rn R := Fin.ext (by simp only [Args.rn]; omega)
  have e2 : p = ⟨128 * o.val + (Args.ri R).val, by omega⟩ := Fin.ext (by rw [hp]; rfl)
  unfold Args.gkv
  refine dite_eq_of (fun h => ?_) fun h => ?_
  · have e3 : (⟨c.val / 64, by omega⟩ : Fin 4) = ⟨c.val % 256 / 64, by omega⟩ := Fin.ext (by dsimp only; omega)
    rw [if_pos (by omega), dk_eq H, A.dk_eq _ _ true false, e1, e3, ← e2]
    rfl
  · have e3 : (⟨(c.val - 256) / 64, by omega⟩ : Fin 4) = ⟨c.val % 256 / 64, by omega⟩ := Fin.ext (by dsimp only; omega)
    have e4 : (⟨(c.val - 256) % 64, by omega⟩ : Fin 64) = ⟨c.val % 64, by omega⟩ := Fin.ext (by dsimp only; omega)
    rw [if_neg (by omega), dv_eq H, A.dv_eq _ _ true false, e1, e3, e4, ← e2]
    rfl

/-- The sinks' gradient, with the shares `K` of the shift, that are zero. -/
theorem gs_eq (K : FVec Ideal S2x16x4x3x128x1 .f32) (k : Fin 128) :
    (if h : k.val < 12 then
      ((Host.reduceAdd (res_main_v136 V) (constant S_ .f32 0x00000000#32) reducesTo_S2x16x4x3x128x1_S4x3x1_d0_1_4 h_S_ (ix3 ⟨k.val / 3, by omega⟩ ⟨k.val % 3, by omega⟩ 0) : EReal)
        + (Host.reduceAdd (mulf (res_main_v147 V) K) (constant S_ .f32 0x00000000#32) reducesTo_S2x16x4x3x128x1_S4x3x1_d0_1_4 h_S_ (ix3 ⟨k.val / 3, by omega⟩ ⟨k.val % 3, by omega⟩ 0) : EReal))
     else 0) = ((A.gs k : ℝ) : EReal) := by
  unfold Args.gs
  by_cases h : k.val < 12
  · rw [dif_pos h, dif_pos h, sum_all, sum_all]
    have e1 : ∀ b n i, (res_main_v136 V (ix6 b n ⟨k.val / 3, by omega⟩ ⟨k.val % 3, by omega⟩ i 0) : EReal)
        = (((A.blk true b n).row ⟨k.val, h⟩ i).T : EReal) := fun b n i => by
      have e : head ⟨k.val / 3, by omega⟩ ⟨k.val % 3, by omega⟩ = ⟨k.val, h⟩ := Fin.ext (by simp only [head]; omega)
      rw [← e]
      exact sink_eq H b n _ _ i
    have e2 : ∀ b n i, (mulf (res_main_v147 V) K (ix6 b n ⟨k.val / 3, by omega⟩ ⟨k.val % 3, by omega⟩ i 0) : EReal) = 0 := fun b n i =>
      (congrArg (fun x : EReal => x * (K (ix6 b n ⟨k.val / 3, by omega⟩ ⟨k.val % 3, by omega⟩ i 0) : EReal)) (shift_eq H b n _ _ i)).trans (zero_mul _)
    rw [Finset.sum_eq_zero (s := Finset.univ) (f := fun b => ∑ n : Fin 16, ∑ i : Fin 128, (mulf (res_main_v147 V) K (ix6 b n ⟨k.val / 3, by omega⟩ ⟨k.val % 3, by omega⟩ i 0) : EReal))
      fun b _ => Finset.sum_eq_zero fun n _ => Finset.sum_eq_zero fun i _ => e2 b n i, add_zero]
    rw [← coe_sum]
    refine Finset.sum_congr rfl fun b _ => ?_
    rw [← coe_sum]
    refine Finset.sum_congr rfl fun n _ => ?_
    rw [A.ds_eq _ _ false true, Blk.ds, ← coe_sum]
    exact Finset.sum_congr rfl fun i _ => e1 b n i
  · rw [dif_neg h, dif_neg h, EReal.coe_zero]

end Cert.ReferenceIdeal.Swa
-- ==== Proof.Algebraic.lean ====
module
public import proofs.«01_k».proof.Proof.Decode
public import proofs.«01_k».proof.Proof.KernelValue
public import proofs.«01_k».proof.Proof.RefRead
public import proofs.«01_k».proof.Proof.Gen.KernelIdeal.Value
public import proofs.«01_k».proof.Proof.Gen.ReferenceIdeal.Run
public import Idealize.ShloMosaic.Lib.Quiescent

/-! # The kernel's results are the reference's

Both programs, started on the same real arguments, leave the gradient `Args` defines. -/

@[expose] public section
set_option maxRecDepth 65536
noncomputable section
namespace Cert.Swa
open Idealize.ShloMosaic Idealize.ShloMosaic.TcCoe Idealize.SL.Sem

/-- The real arguments a memory holds. -/
def argsOf (m : (ℓ : Loc KernelIdeal.nD KernelIdeal.τ KernelIdeal.sig) → Buf (Elt Ideal) ℓ) (c : Dev KernelIdeal.nD) : Args where
  x R k := EReal.toReal (m ((c.tc : Thread KernelIdeal.nD KernelIdeal.τ).loc KernelIdeal.main_arg0) (ix2 R k))
  kv R k := EReal.toReal (m ((c.tc : Thread KernelIdeal.nD KernelIdeal.τ).loc KernelIdeal.main_arg1) (ix2 R k))
  sk k := EReal.toReal (m ((c.tc : Thread KernelIdeal.nD KernelIdeal.τ).loc KernelIdeal.main_arg2) (ix1 k))
  ct R k := EReal.toReal (m ((c.tc : Thread KernelIdeal.nD KernelIdeal.τ).loc KernelIdeal.main_arg3) (ix2 R k))

variable (m : (ℓ : Loc KernelIdeal.nD KernelIdeal.τ KernelIdeal.sig) → Buf (Elt Ideal) ℓ) (hp : Pre_KernelIdeal_finite m) (c : Dev KernelIdeal.nD)
include hp

/-- The kernel's memory holds them. -/
theorem kernel_holds : KernelIdeal.Swa.Holds m c (argsOf m c) := by
  obtain ⟨e0, e1, e2, e3⟩ := Pre_finite.real _ _ _ _ (hp c)
  exact ⟨fun R k => e0 (ix2 R k), fun R k => e1 (ix2 R k), fun k => e2 (ix1 k), fun R k => e3 (ix2 R k)⟩

variable (m' : (ℓ : Loc ReferenceIdeal.nD ReferenceIdeal.τ ReferenceIdeal.sig) → Buf (Elt Ideal) ℓ)
  (h0 : m' ((c.tc : Thread ReferenceIdeal.nD ReferenceIdeal.τ).loc ReferenceIdeal.main_arg0) = m ((c.tc : Thread KernelIdeal.nD KernelIdeal.τ).loc KernelIdeal.main_arg0))
  (h1 : m' ((c.tc : Thread ReferenceIdeal.nD ReferenceIdeal.τ).loc ReferenceIdeal.main_arg1) = m ((c.tc : Thread KernelIdeal.nD KernelIdeal.τ).loc KernelIdeal.main_arg1))
  (h2 : m' ((c.tc : Thread ReferenceIdeal.nD ReferenceIdeal.τ).loc ReferenceIdeal.main_arg2) = m ((c.tc : Thread KernelIdeal.nD KernelIdeal.τ).loc KernelIdeal.main_arg2))
  (h3 : m' ((c.tc : Thread ReferenceIdeal.nD ReferenceIdeal.τ).loc ReferenceIdeal.main_arg3) = m ((c.tc : Thread KernelIdeal.nD KernelIdeal.τ).loc KernelIdeal.main_arg3))
include h0 h1 h2 h3

/-- So does the reference's. -/
theorem reference_holds : ReferenceIdeal.Swa.Holds (StableHlo.launchContents m' c) (argsOf m c) := by
  have H := kernel_holds m hp c
  exact ⟨fun R k => (congrFun h0 (ix2 R k)).trans (H.x R k), fun R k => (congrFun h1 (ix2 R k)).trans (H.kv R k),
    fun k => (congrFun h2 (ix1 k)).trans (H.sk k), fun R k => (congrFun h3 (ix2 R k)).trans (H.ct R k)⟩

end Cert.Swa

namespace Cert.Proof
open Idealize.ShloMosaic Idealize.ShloMosaic.TcCoe Idealize.SL.Sem Cert.Swa Cert.KernelIdeal.Gen

/-- Every run of the reference ends, and leaves its arguments as they were. -/
theorem reference_quiescent : quiescent_ReferenceIdeal (hReferenceIdeal := Cert.ReferenceIdeal.Gen.facts) := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

set_option maxHeartbeats 1000000 in
/-- The kernel's results are the reference's. -/
theorem algebraic : algebraic_KernelIdeal_ReferenceIdeal_on_written_pre_finite
    (hKernelIdeal := Cert.KernelIdeal.Gen.facts) (hReferenceIdeal := Cert.ReferenceIdeal.Gen.facts) := by
  intro m g m' g' hp ha
  refine ⟨fun c => (dats m 0 c).arrAt 5 Cert.KernelIdeal.cfg0.N, fun c => (dats m 0 c).arrAt 6 Cert.KernelIdeal.cfg0.N, fun c => (dats m 0 c).arrAt 7 Cert.KernelIdeal.cfg0.N,
    fun c => (dats m 0 c).arrAt 8 Cert.KernelIdeal.cfg0.N, ?_, ?_⟩
  · exact (θ_run Cert.KernelIdeal.defs _ _).mono (fun r h c =>
      ⟨fun i _ => congrFun (h c).1 i, fun i _ => congrFun (h c).2.1 i, fun i _ => congrFun (h c).2.2.1 i,
        fun i _ => congrFun (h c).2.2.2.1 i, (h c).2.2.2.2⟩) (Cert.KernelIdeal.Value.run_blocks m g)
  · refine (θ_run Cert.ReferenceIdeal.defs _ _).mono (fun r h c => ?_) (Cert.ReferenceIdeal.Value.run (F := Ideal) m' g')
    have K := kernel_holds m hp c
    have H := reference_holds m hp c m' (ha c).1 (ha c).2.1 (ha c).2.2.1 (ha c).2.2.2
    refine ⟨fun i hi => ?_, fun i _ => ?_, fun i _ => ?_, fun i _ => ?_, (h c).2.2.2.2⟩
    · have hc := (Cert.On_written.fst_iff _ _ _ _ i).1 hi
      refine (congrFun (h c).1 i).trans (Eq.trans ?_ (congrFun (Cert.KernelIdeal.Swa.arr5 K) i).symm)
      idx_vars i
      refine (Cert.ReferenceIdeal.Swa.dq_at _ _ i0 i1).trans ?_
      have hc' : i1.val < 768 := hc
      rw [dif_pos hc']
      refine (Cert.ReferenceIdeal.Swa.gq_eq H i0 i1 hc').trans ?_
      refine Eq.trans ?_ (if_pos hc').symm
      show _ = ((if h : i1.val < 768 then (argsOf m c).gq i0 ⟨i1.val, h⟩ else 0 : ℝ) : EReal)
      rw [dif_pos hc']
    · refine (congrFun (h c).2.1 i).trans (Eq.trans ?_ (congrFun (Cert.KernelIdeal.Swa.arr6 K) i).symm)
      idx_vars i
      exact (Cert.ReferenceIdeal.Swa.kv_at1 _ _ i0 i1).trans (Cert.ReferenceIdeal.Swa.gkv_eq H 1 ⟨128 + i0.val % 128, by omega⟩ i0 rfl i1)
    · refine (congrFun (h c).2.2.1 i).trans (Eq.trans ?_ (congrFun (Cert.KernelIdeal.Swa.arr7 K) i).symm)
      idx_vars i
      exact (Cert.ReferenceIdeal.Swa.kv_at0 _ _ i0 i1).trans (Cert.ReferenceIdeal.Swa.gkv_eq H 0 ⟨i0.val % 128, by omega⟩ i0 (by simp) i1)
    · refine (congrFun (h c).2.2.2.1 i).trans (Eq.trans ?_ (congrFun (Cert.KernelIdeal.Swa.arr8 K) i).symm)
      idx_vars i
      exact (Cert.ReferenceIdeal.Swa.sk_at _ _ i0 i1).trans (Cert.ReferenceIdeal.Swa.gs_eq H _ i1)

end Cert.Proof
-- ==== Proof.FfnDh.lean ====
module
public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Quiescent

/-! # The derivative of the gated MLP's input

Point `t` of the grid takes 512 rows of the two halves' derivatives and adds up four products, one per slot of the matrix. -/

@[expose] public section
set_option maxRecDepth 65536
noncomputable section
namespace Cert.Kernel2Ideal.Prod
open Idealize.ShloMosaic Idealize.ShloMosaic.TcCoe Idealize.SL.Sem
open Cert.Kernel2Ideal Cert.Kernel2Ideal.Gen
variable (m : (ℓ : Loc nD τ sig) → Buf (Elt Ideal) ℓ) (c : Dev nD)

/-- Where each window's block lies. -/
theorem idx : ∀ t : Fin cfg0.N, win0_0.index t = ![t.val, 0] ∧ win0_1.index t = ![t.val, 0]
    ∧ win0_2.index t = ![0, 0, 0, 0] ∧ win0_3.index t = ![1, 0, 0, 0] ∧ win0_4.index t = ![2, 0, 0, 0] ∧ win0_5.index t = ![3, 0, 0, 0]
    ∧ win0_6.index t = ![t.val, 0] ∧ t.val < 8 :=
  (by decide +kernel : ∀ t : Fin grid0.N, _)

/-- The product at an index, slot by slot. -/
def at_ (x y : FVec Ideal S4096x2816 .bf16) (w : FVec Ideal S4x1x1024x1408 .bf16) (R : Fin 4096) (k : Fin 1024) : EReal :=
  (∑ j : Fin 1408, (x (ix2 R ⟨j.val, by omega⟩) : EReal) * (w (ix4 0 0 k j) : EReal))
  + (∑ j : Fin 1408, (x (ix2 R ⟨1408 + j.val, by omega⟩) : EReal) * (w (ix4 1 0 k j) : EReal))
  + (∑ j : Fin 1408, (y (ix2 R ⟨j.val, by omega⟩) : EReal) * (w (ix4 2 0 k j) : EReal))
  + (∑ j : Fin 1408, (y (ix2 R ⟨1408 + j.val, by omega⟩) : EReal) * (w (ix4 3 0 k j) : EReal))

/-- One block of the product. -/
theorem block_at (x y : FVec Ideal S512x2816 .bf16) (w0 w1 w2 w3 : FVec Ideal S1x1x1024x1408 .bf16) (i : Fin 512) (k : Fin 1024) :
    (out0_6 (F := Ideal) x y w0 w1 w2 w3 (ix2 i k) : EReal)
      = (∑ j : Fin 1408, (x (ix2 i ⟨j.val, by omega⟩) : EReal) * (w0 (ix4 0 0 k j) : EReal))
        + (∑ j : Fin 1408, (x (ix2 i ⟨1408 + j.val, by omega⟩) : EReal) * (w1 (ix4 0 0 k j) : EReal))
        + (∑ j : Fin 1408, (y (ix2 i ⟨j.val, by omega⟩) : EReal) * (w2 (ix4 0 0 k j) : EReal))
        + (∑ j : Fin 1408, (y (ix2 i ⟨1408 + j.val, by omega⟩) : EReal) * (w3 (ix4 0 0 k j) : EReal)) := by
  unfold out0_6
  frame_out
  pointwise [k0_pay1]

theorem rows0_at (t : Fin cfg0.N) (i : Fin 512) (j : Fin 2816) (ht : t.val * 512 + i.val < 4096) :
    (iblk m c 0 t (ix2 i j) : EReal) = (m ((c.tc : Thread nD τ).loc main_arg0) (ix2 ⟨t.val * 512 + i.val, ht⟩ j) : EReal) := by
  blk_ext [iblk, V, idx t]

theorem rows1_at (t : Fin cfg0.N) (i : Fin 512) (j : Fin 2816) (ht : t.val * 512 + i.val < 4096) :
    (iblk m c 1 t (ix2 i j) : EReal) = (m ((c.tc : Thread nD τ).loc main_arg1) (ix2 ⟨t.val * 512 + i.val, ht⟩ j) : EReal) := by
  blk_ext [iblk, V, idx t]

theorem slots_at (t : Fin cfg0.N) (k : Fin 1024) (j : Fin 1408) :
    (iblk m c 2 t (ix4 0 0 k j) : EReal) = (m ((c.tc : Thread nD τ).loc main_arg2) (ix4 0 0 k j) : EReal)
    ∧ (iblk m c 3 t (ix4 0 0 k j) : EReal) = (m ((c.tc : Thread nD τ).loc main_arg2) (ix4 1 0 k j) : EReal)
    ∧ (iblk m c 4 t (ix4 0 0 k j) : EReal) = (m ((c.tc : Thread nD τ).loc main_arg2) (ix4 2 0 k j) : EReal)
    ∧ (iblk m c 5 t (ix4 0 0 k j) : EReal) = (m ((c.tc : Thread nD τ).loc main_arg2) (ix4 3 0 k j) : EReal) := by
  refine ⟨?_, ?_, ?_, ?_⟩ <;> blk_ext [iblk, V, idx t]

/-- The result after the run. -/
theorem arr : (dats m 0 c).arrAt 6 cfg0.N = fun y : S4096x1024.Idx =>
    at_ (m ((c.tc : Thread nD τ).loc main_arg0)) (m ((c.tc : Thread nD τ).loc main_arg1)) (m ((c.tc : Thread nD τ).loc main_arg2))
      ⟨(y 0).val, (y 0).isLt⟩ ⟨(y 1).val, (y 1).isLt⟩ := by
  refine (dats m 0 c).arrAt_eq_of_covers 6 _ (by decide +kernel) fun t hf y => ?_
  have ht := (idx t).2.2.2.2.2.2.2
  blk_simp [idx t]
  rw [after0_6]
  idx_vars y
  refine (block_at _ _ _ _ _ _ y0 y1).trans ?_
  simp only [rows0_at m c t y0 _ (by omega), rows1_at m c t y0 _ (by omega), (slots_at m c t y1 _).1, (slots_at m c t y1 _).2.1,
    (slots_at m c t y1 _).2.2.1, (slots_at m c t y1 _).2.2.2]
  rfl

end Cert.Kernel2Ideal.Prod

namespace Cert.Reference2Ideal.Prod
open Idealize.ShloMosaic Idealize.ShloMosaic.TcCoe Idealize.SL.Sem
open Cert.Reference2Ideal Cert.Reference2Ideal.Gen

/-- What the reference leaves. -/
def out (x0 : FVec Ideal S4096x2816 .bf16) (x1 : FVec Ideal S4096x2816 .bf16) (x2 : FVec Ideal S4x1x1024x1408 .bf16) : FVec Ideal S4096x1024 .bf16 :=
  truncf .bf16 (Host.dotGeneral (φ₁ := .f32) (φ₂ := .f32) dot_S4096x5632_S1024x5632_S4096x1024_1_1_0_0_n_n none (extf .f32 (concatenate S4096x5632 1 [⟨S4096x2816, x0⟩, ⟨S4096x2816, x1⟩] concatenates_S4096x2816_S4096x2816_S4096x5632_d1) bitsLt_bf16_f32) ((concatenate S1024x5632 1 [⟨S1024x1408, ((shapeCast _ (extractStridedSlice S1x1x1024x1408 ![0, 0, 0, 0] (extf .f32 x2 bitsLt_bf16_f32) slices_S4x1x1024x1408_S1x1x1024x1408_0_0_0_0) shapeCasts_S1x1x1024x1408_S1024x1408) : FVec Ideal S1024x1408 .f32)⟩, ⟨S1024x1408, ((shapeCast _ (extractStridedSlice S1x1x1024x1408 ![1, 0, 0, 0] (extf .f32 x2 bitsLt_bf16_f32) slices_S4x1x1024x1408_S1x1x1024x1408_1_0_0_0) shapeCasts_S1x1x1024x1408_S1024x1408) : FVec Ideal S1024x1408 .f32)⟩, ⟨S1024x1408, ((shapeCast _ (extractStridedSlice S1x1x1024x1408 ![2, 0, 0, 0] (extf .f32 x2 bitsLt_bf16_f32) slices_S4x1x1024x1408_S1x1x1024x1408_2_0_0_0) shapeCasts_S1x1x1024x1408_S1024x1408) : FVec Ideal S1024x1408 .f32)⟩, ⟨S1024x1408, ((shapeCast _ (extractStridedSlice S1x1x1024x1408 ![3, 0, 0, 0] (extf .f32 x2 bitsLt_bf16_f32) slices_S4x1x1024x1408_S1x1x1024x1408_3_0_0_0) shapeCasts_S1x1x1024x1408_S1024x1408) : FVec Ideal S1024x1408 .f32)⟩] concatenates_S1024x1408_S1024x1408_S1024x1408_S1024x1408_S1024x5632_d1 : FVec Ideal S1024x5632 .f32))) bitsLt_bf16_f32

/-- A sum over all columns, slot by slot. -/
theorem sum_slots (f : Fin 5632 → EReal) : (∑ x, f x)
    = (∑ j : Fin 1408, f ⟨j.val, by omega⟩) + (∑ j : Fin 1408, f ⟨1408 + j.val, by omega⟩)
      + (∑ j : Fin 1408, f ⟨1408 + 1408 + j.val, by omega⟩) + (∑ j : Fin 1408, f ⟨1408 + 1408 + 1408 + j.val, by omega⟩) := by
  show (∑ x : Fin (1408 + 1408 + 1408 + 1408), f x) = _
  rw [Fin.sum_univ_add, Fin.sum_univ_add, Fin.sum_univ_add]
  rfl

theorem out_at (x0 : FVec Ideal S4096x2816 .bf16) (x1 : FVec Ideal S4096x2816 .bf16) (x2 : FVec Ideal S4x1x1024x1408 .bf16) (R : Fin 4096) (k : Fin 1024) :
    (out x0 x1 x2 (ix2 R k) : EReal) = Cert.Kernel2Ideal.Prod.at_ x0 x1 x2 R k := by
  unfold out Cert.Kernel2Ideal.Prod.at_
  pointwise []
  rw [sum_slots]
  refine congrArg₂ (· + ·) (congrArg₂ (· + ·) (congrArg₂ (· + ·) ?_ ?_) ?_) ?_ <;> refine Finset.sum_congr rfl fun j _ => ?_
  · rw [dif_pos (show j.val < 2816 by omega), dif_pos (show j.val < 1408 by omega)]
  · rw [dif_pos (show 1408 + j.val < 2816 by omega), dif_neg (show ¬1408 + j.val < 1408 by omega), dif_pos (show 1408 + j.val - 1408 < 1408 by omega)]
    exact congrArg (fun q => (x0 (ix2 R ⟨1408 + j.val, by omega⟩) : EReal) * (x2 (ix4 1 0 k q) : EReal)) (Fin.ext (Nat.add_sub_cancel_left ..))
  · rw [dif_neg (show ¬1408 + 1408 + j.val < 2816 by omega), dif_neg (show ¬1408 + 1408 + j.val < 1408 by omega), dif_neg (show ¬1408 + 1408 + j.val - 1408 < 1408 by omega),
      dif_pos (show 1408 + 1408 + j.val - 1408 - 1408 < 1408 by omega)]
    exact congrArg₂ (fun p q => (x1 (ix2 R p) : EReal) * (x2 (ix4 2 0 k q) : EReal)) (Fin.ext (by show 1408 + 1408 + j.val - 2816 = j.val; omega))
      (Fin.ext (by show 1408 + 1408 + j.val - 1408 - 1408 = j.val; omega))
  · rw [dif_neg (show ¬1408 + 1408 + 1408 + j.val < 2816 by omega), dif_neg (show ¬1408 + 1408 + 1408 + j.val < 1408 by omega), dif_neg (show ¬1408 + 1408 + 1408 + j.val - 1408 < 1408 by omega),
      dif_neg (show ¬1408 + 1408 + 1408 + j.val - 1408 - 1408 < 1408 by omega)]
    exact congrArg₂ (fun p q => (x1 (ix2 R p) : EReal) * (x2 (ix4 3 0 k q) : EReal)) (Fin.ext (by show 1408 + 1408 + 1408 + j.val - 2816 = 1408 + j.val; omega))
      (Fin.ext (by show 1408 + 1408 + 1408 + j.val - 1408 - 1408 - 1408 = j.val; omega))

end Cert.Reference2Ideal.Prod

namespace Cert.Proof
open Idealize.ShloMosaic Idealize.ShloMosaic.TcCoe Idealize.SL.Sem

/-- Every run of the reference ends, and leaves its arguments as they were. -/
theorem reference2_quiescent : quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The kernel's result is the reference's. -/
theorem algebraic2 : algebraic_Kernel2Ideal_Reference2Ideal
    (hKernel2Ideal := Cert.Kernel2Ideal.Gen.facts) (hReference2Ideal := Cert.Reference2Ideal.Gen.facts) := by
  intro m g m' g' _ ha
  refine ⟨fun c => (Cert.Kernel2Ideal.Gen.dats m 0 c).arrAt 6 Cert.Kernel2Ideal.cfg0.N,
    Cert.Kernel2Ideal.Value.run_blocks m g, ?_⟩
  refine (θ_run Cert.Reference2Ideal.defs _ _).mono (fun r h c => ⟨?_, (h c).2⟩) (Cert.Reference2Ideal.Value.run (F := Ideal) m' g')
  refine (h c).1.trans ?_
  rw [(ha c).1, (ha c).2.1, (ha c).2.2]
  refine Eq.trans ?_ (Cert.Kernel2Ideal.Prod.arr m c).symm
  funext y
  idx_vars y
  exact Cert.Reference2Ideal.Prod.out_at _ _ _ y0 y1

end Cert.Proof
-- ==== Proof.Sums.lean ====
module
public import Idealize.ShloMosaic.Lib.Pipeline.ValueKit

/-! # Sums in blocks -/

@[expose] public section
noncomputable section
namespace Cert.Sums

/-- A sum over `n` indices, taken in blocks of `b`. -/
theorem sum_blocks (a b n : ℕ) (hn : a * b = n) (f : Fin n → EReal) (hb : ∀ (s : Fin a) (r : Fin b), s.val * b + r.val < n) :
    (∑ x, f x) = ∑ s : Fin a, ∑ r : Fin b, f ⟨s.val * b + r.val, hb s r⟩ := by
  subst hn
  rw [← Fintype.sum_prod_type' (f := fun (s : Fin a) (r : Fin b) => f ⟨s.val * b + r.val, hb s r⟩)]
  refine (Fintype.sum_equiv finProdFinEquiv _ _ fun p => congrArg f (Fin.ext ?_)).symm
  show p.1.val * b + p.2.val = p.2.val + b * p.1.val
  rw [Nat.mul_comm, Nat.add_comm]

end Cert.Sums
-- ==== Proof.FfnDwUpG.lean ====
module
public import proofs.«01_k».proof.Defs
public import proofs.«01_k».proof.Proof.Gen.Kernel3Ideal.Value
public import proofs.«01_k».proof.Proof.Gen.Reference3Ideal.Run
public import proofs.«01_k».proof.Proof.Sums
public import Idealize.ShloMosaic.Lib.Pipeline.ValueKit
public import Idealize.ShloMosaic.Lib.Pointwise
public import Idealize.ShloMosaic.Lib.Quiescent

/-! # The gradient of the gate's half of the gated MLP's first matrix

Two points of the grid add up one slot, 2048 rows each. -/

@[expose] public section
set_option maxRecDepth 65536
noncomputable section
namespace Cert.Kernel3Ideal.Prod
open Idealize.ShloMosaic Idealize.ShloMosaic.TcCoe Idealize.SL.Sem
open Cert.Kernel3Ideal Cert.Kernel3Ideal.Gen
variable (m : (ℓ : Loc nD τ sig) → Buf (Elt Ideal) ℓ) (c : Dev nD)

/-- Where each window's block lies. -/
theorem idx : ∀ t : Fin cfg0.N, win0_0.index t = ![t.val % 2, 0] ∧ win0_1.index t = ![t.val % 2, t.val / 2] ∧ win0_2.index t = ![t.val / 2, 0, 0, 0] ∧ t.val < 4 :=
  (by decide +kernel : ∀ t : Fin grid0.N, _)

/-- The product at a column of the derivative. -/
def prod (x : FVec Ideal S4096x1024 .bf16) (y : FVec Ideal S4096x2816 .bf16) (k : Fin 1024) (K : Fin 2816) : EReal :=
  ∑ r : Fin 4096, (x (ix2 r k) : EReal) * (y (ix2 r K) : EReal)

/-- What one point adds. -/
def part (t : Fin cfg0.N) (i : S1x1x1024x1408.Idx) : EReal := k0_pay2 (F := Ideal) (iblk m c 0 t) (iblk m c 1 t) i

theorem pay2_at (x : FVec Ideal S2048x1024 .bf16) (y : FVec Ideal S2048x1408 .bf16) (o o' : Fin 1) (k : Fin 1024) (q : Fin 1408) :
    (k0_pay2 (F := Ideal) x y (ix4 o o' k q) : EReal) = ∑ r : Fin 2048, (x (ix2 r k) : EReal) * (y (ix2 r q) : EReal) := by
  obtain rfl : o = 0 := Subsingleton.elim _ _
  obtain rfl : o' = 0 := Subsingleton.elim _ _
  pointwise [k0_pay2, k0_pay1]

theorem pay3_at (x : FVec Ideal S2048x1024 .bf16) (y : FVec Ideal S2048x1408 .bf16) (v : FVec Ideal S1x1x1024x1408 .f32) (o o' : Fin 1) (k : Fin 1024) (q : Fin 1408) :
    (k0_pay3 (F := Ideal) x y v (ix4 o o' k q) : EReal) = (v (ix4 o o' k q) : EReal) + ∑ r : Fin 2048, (x (ix2 r k) : EReal) * (y (ix2 r q) : EReal) := by
  obtain rfl : o = 0 := Subsingleton.elim _ _
  obtain rfl : o' = 0 := Subsingleton.elim _ _
  pointwise [k0_pay3, k0_pay1]

theorem out_A (t : Fin cfg0.N) (h : t.val % 2 = 0) :
    outsAt0 m c t.val t.isLt = k0_pay2 (F := Ideal) (iblk m c 0 t) (iblk m c 1 t) := by
  rw [outsAt0_A m c t h (by omega)]
  frame_out

theorem out_B (t : Fin cfg0.N) (h : ¬t.val % 2 = 0) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h (by omega)]
  frame_out

theorem rows_at (t : Fin cfg0.N) (r : Fin 2048) (k : Fin 1024) (ht : t.val % 2 * 2048 + r.val < 4096) :
    (iblk m c 0 t (ix2 r k) : EReal) = (m ((c.tc : Thread nD τ).loc main_arg0) (ix2 ⟨t.val % 2 * 2048 + r.val, ht⟩ k) : EReal) := by
  blk_ext [iblk, V, idx t]

theorem rows'_at (t : Fin cfg0.N) (r : Fin 2048) (q : Fin 1408) (ht : t.val % 2 * 2048 + r.val < 4096) (hq : t.val / 2 * 1408 + q.val < 2816) :
    (iblk m c 1 t (ix2 r q) : EReal) = (m ((c.tc : Thread nD τ).loc main_arg1) (ix2 ⟨t.val % 2 * 2048 + r.val, ht⟩ ⟨t.val / 2 * 1408 + q.val, hq⟩) : EReal) := by
  blk_ext [iblk, V, idx t]

/-- What a slot's two points add up to. -/
theorem parts_at (t : Fin cfg0.N) (hp : ∀ s : Fin 2, 2 * (t.val / 2) + s.val < cfg0.N) (o o' : Fin 1) (k : Fin 1024) (q : Fin 1408) (K : Fin 2816)
    (hK : K.val = t.val / 2 * 1408 + q.val) :
    (∑ s : Fin 2, part m c ⟨2 * (t.val / 2) + s.val, hp s⟩ (ix4 o o' k q))
      = prod (m ((c.tc : Thread nD τ).loc main_arg0)) (m ((c.tc : Thread nD τ).loc main_arg1)) k K := by
  have ht := (idx t).2.2.2
  rw [prod, Sums.sum_blocks 2 2048 4096 rfl _ (fun s r => by omega)]
  refine Finset.sum_congr rfl fun s _ => (pay2_at _ _ o o' k q).trans (Finset.sum_congr rfl fun r _ => ?_)
  have hs : (2 * (t.val / 2) + s.val) % 2 = s.val := by omega
  have hd : (2 * (t.val / 2) + s.val) / 2 = t.val / 2 := by omega
  rw [rows_at m c _ r _ (by dsimp only; omega), rows'_at m c _ r _ (by dsimp only; omega) (by dsimp only; omega)]
  have eK : (⟨t.val / 2 * 1408 + q.val, by omega⟩ : Fin 2816) = K := Fin.ext hK.symm
  simp only [hs, hd, eK]

/-- The first two slots after the run. -/
theorem arr : (dats m 0 c).arrAt 2 cfg0.N = fun y : S4x1x1024x1408.Idx => if (y 0).val < 2 then
    prod (m ((c.tc : Thread nD τ).loc main_arg0)) (m ((c.tc : Thread nD τ).loc main_arg1)) ⟨(y 2).val, (y 2).isLt⟩
      ⟨(y 0).val % 2 * 1408 + (y 3).val, by have h3 : (y 3).val < 1408 := (y 3).isLt; omega⟩ else V m c main_v0 y := by
  refine (dats m 0 c).arrAt_eq_of_coversWhere 2 (fun y : S4x1x1024x1408.Idx =>
      prod (m ((c.tc : Thread nD τ).loc main_arg0)) (m ((c.tc : Thread nD τ).loc main_arg1)) ⟨(y 2).val, (y 2).isLt⟩
        ⟨(y 0).val % 2 * 1408 + (y 3).val, by have h3 : (y 3).val < 1408 := (y 3).isLt; omega⟩)
    (fun i => i 0 < 2) (by decide +kernel) (fun t hf y => ?_) (fun j => by blk_simp [Pipeline.Window.cell_apply]; omega)
  have ht := (idx t).2.2.2
  have hf' := (flush0_2 t).mp hf
  blk_simp [idx t]
  rw [after0_2, Pipeline.eq_sum_fin_of_reset_step_apply_of_flush (fun n h => outsAt0 m c n h) 2 (fun _ => (0 : EReal)) (part m c)
    (fun t h j => by rw [out_A m c t h]; exact (zero_add _).symm)
    (fun t h j => by
      rw [out_B m c t h]
      idx_vars j
      rw [part, pay2_at]
      exact pay3_at _ _ _ j0 j1 j2 j3)
    t hf' _, zero_add]
  idx_vars y
  exact parts_at m c t _ y0 y1 y2 y3 _ (by dsimp only; omega)

end Cert.Kernel3Ideal.Prod

namespace Cert.Reference3Ideal.Prod
open Idealize.ShloMosaic Idealize.ShloMosaic.TcCoe Idealize.SL.Sem
open Cert.Reference3Ideal Cert.Reference3Ideal.Gen

/-- What the reference leaves. -/
def out (x0 : FVec Ideal S4096x1024 .bf16) (x1 : FVec Ideal S4096x2816 .bf16) : FVec Ideal S4x1x1024x1408 .f32 :=
  concatenate S4x1x1024x1408 0 [⟨S2x1x1024x1408, (concatenate S2x1x1024x1408 0 [⟨S1x1x1024x1408, (broadcastInDim S1x1x1024x1408 ![2, 3] bcast_S1024x1408_S1x1x1024x1408_2_3 (extractStridedSlice S1024x1408 ![0, 0] (transpose S1024x2816 [1, 0] (Host.dotGeneral (φ₁ := .f32) (φ₂ := .f32) dot_S4096x2816_S4096x1024_S2816x1024_0_0_1_1_n_n none (extf .f32 x1 bitsLt_bf16_f32) (extf .f32 x0 bitsLt_bf16_f32)) transposes_S2816x1024_S1024x2816_1_0) slices_S1024x2816_S1024x1408_0_0))⟩, ⟨S1x1x1024x1408, (broadcastInDim S1x1x1024x1408 ![2, 3] bcast_S1024x1408_S1x1x1024x1408_2_3 (extractStridedSlice S1024x1408 ![0, 1408] (transpose S1024x2816 [1, 0] (Host.dotGeneral (φ₁ := .f32) (φ₂ := .f32) dot_S4096x2816_S4096x1024_S2816x1024_0_0_1_1_n_n none (extf .f32 x1 bitsLt_bf16_f32) (extf .f32 x0 bitsLt_bf16_f32)) transposes_S2816x1024_S1024x2816_1_0) slices_S1024x2816_S1024x1408_0_1408))⟩] concatenates_S1x1x1024x1408_S1x1x1024x1408_S2x1x1024x1408_d0)⟩, ⟨S2x1x1024x1408, (broadcastInDim S2x1x1024x1408 ![] bcast_S_S2x1x1024x1408 (constant S_ .f32 0x00000000#32))⟩] concatenates_S2x1x1024x1408_S2x1x1024x1408_S4x1x1024x1408_d0

theorem out_at0 (x0 : FVec Ideal S4096x1024 .bf16) (x1 : FVec Ideal S4096x2816 .bf16) (k : Fin 1024) (q : Fin 1408) :
    (out x0 x1 (ix4 0 0 k q) : EReal) = Cert.Kernel3Ideal.Prod.prod x0 x1 k ⟨q.val, by omega⟩ := by
  unfold out Cert.Kernel3Ideal.Prod.prod
  pointwise []
  exact Finset.sum_congr rfl fun r _ => mul_comm _ _

theorem out_at1 (x0 : FVec Ideal S4096x1024 .bf16) (x1 : FVec Ideal S4096x2816 .bf16) (k : Fin 1024) (q : Fin 1408) :
    (out x0 x1 (ix4 1 0 k q) : EReal) = Cert.Kernel3Ideal.Prod.prod x0 x1 k ⟨1408 + q.val, by omega⟩ := by
  unfold out Cert.Kernel3Ideal.Prod.prod
  pointwise []
  exact Finset.sum_congr rfl fun r _ => mul_comm _ _

end Cert.Reference3Ideal.Prod

/-- The shape relation the mask states. -/
instance Cert.On_written3.facts : Cert.On_written3.Facts where
  bcast_S_S4x1x1024x1408 := by decide

namespace Cert.Proof
open Idealize.ShloMosaic Idealize.ShloMosaic.TcCoe Idealize.SL.Sem

/-- Every run of the reference ends, and leaves its arguments as they were. -/
theorem reference3_quiescent : quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The mask: one of the first two slots. -/
theorem written3_iff (x : FVec Ideal Cert.On_written3.S4096x1024 .bf16) (y : FVec Ideal Cert.On_written3.S4096x2816 .bf16) (i : Cert.On_written3.S4x1x1024x1408.Idx) :
    Cert.On_written3.fn x y i = 1#1 ↔ (i 0).val < 2 := by
  have key : ∀ r : Fin 4, IntOp.cmpi .slt (BitVec.ofNat 32 r.val) 2#32 = 1#1 ↔ r.val < 2 := by decide
  exact key (i 0)

/-- The kernel's result is the reference's where the call writes. -/
theorem algebraic3 : algebraic_Kernel3Ideal_Reference3Ideal_on_written3
    (hKernel3Ideal := Cert.Kernel3Ideal.Gen.facts) (hReference3Ideal := Cert.Reference3Ideal.Gen.facts) := by
  intro m g m' g' _ ha
  refine ⟨fun c => (Cert.Kernel3Ideal.Gen.dats m 0 c).arrAt 2 Cert.Kernel3Ideal.cfg0.N,
    (θ_run Cert.Kernel3Ideal.defs _ _).mono (fun r h c => ⟨fun i _ => congrFun (h c).1 i, (h c).2⟩) (Cert.Kernel3Ideal.Value.run_blocks m g), ?_⟩
  refine (θ_run Cert.Reference3Ideal.defs _ _).mono (fun r h c => ⟨fun y hy => ?_, (h c).2⟩) (Cert.Reference3Ideal.Value.run (F := Ideal) m' g')
  have hy' := (written3_iff _ _ y).1 hy
  refine (congrFun (h c).1 y).trans ?_
  rw [(ha c).1, (ha c).2]
  refine Eq.trans ?_ (congrFun (Cert.Kernel3Ideal.Prod.arr m c) y).symm
  idx_vars y
  have h0 : y0.val < 2 := hy'
  obtain rfl : y1 = 0 := Subsingleton.elim _ _
  obtain rfl | rfl : y0 = 0 ∨ y0 = 1 := by omega
  · exact (Cert.Reference3Ideal.Prod.out_at0 _ _ y2 y3).trans (Eq.trans (congrArg (Cert.Kernel3Ideal.Prod.prod _ _ y2)
      (Fin.ext (by show y3.val = 0 % 2 * 1408 + y3.val; omega))) (if_pos h0).symm)
  · exact (Cert.Reference3Ideal.Prod.out_at1 _ _ y2 y3).trans (Eq.trans (congrArg (Cert.Kernel3Ideal.Prod.prod _ _ y2)
      (Fin.ext (by show 1408 + y3.val = 1 % 2 * 1408 + y3.val; omega))) (if_pos h0).symm)

end Cert.Proof
-- ==== Proof.FfnDwUpV.lean ====
module
public import proofs.«01_k».proof.Defs
public import proofs.«01_k».proof.Proof.Gen.Kernel4Ideal.Value
public import proofs.«01_k».proof.Proof.Gen.Reference4Ideal.Run
public import proofs.«01_k».proof.Proof.Sums
public import Idealize.ShloMosaic.Lib.Pipeline.ValueKit
public import Idealize.ShloMosaic.Lib.Pointwise
public import Idealize.ShloMosaic.Lib.Quiescent

/-! # The gradient of the value's half of the gated MLP's first matrix

Two points of the grid add up one slot, 2048 rows each; the slots before are those of the third argument. -/

@[expose] public section
set_option maxRecDepth 65536
noncomputable section
namespace Cert.Kernel4Ideal.Prod
open Idealize.ShloMosaic Idealize.ShloMosaic.TcCoe Idealize.SL.Sem
open Cert.Kernel4Ideal Cert.Kernel4Ideal.Gen
variable (m : (ℓ : Loc nD τ sig) → Buf (Elt Ideal) ℓ) (c : Dev nD)

/-- Where each window's block lies. -/
theorem idx : ∀ t : Fin cfg0.N, win0_0.index t = ![t.val % 2, 0] ∧ win0_1.index t = ![t.val % 2, t.val / 2] ∧ win0_2.index t = ![2 + t.val / 2, 0, 0, 0] ∧ t.val < 4 :=
  (by decide +kernel : ∀ t : Fin grid0.N, _)

/-- The product at a column of the derivative. -/
def prod (x : FVec Ideal S4096x1024 .bf16) (y : FVec Ideal S4096x2816 .bf16) (k : Fin 1024) (K : Fin 2816) : EReal :=
  ∑ r : Fin 4096, (x (ix2 r k) : EReal) * (y (ix2 r K) : EReal)

/-- What one point adds. -/
def part (t : Fin cfg0.N) (i : S1x1x1024x1408.Idx) : EReal := k0_pay2 (F := Ideal) (iblk m c 0 t) (iblk m c 1 t) i

theorem pay2_at (x : FVec Ideal S2048x1024 .bf16) (y : FVec Ideal S2048x1408 .bf16) (o o' : Fin 1) (k : Fin 1024) (q : Fin 1408) :
    (k0_pay2 (F := Ideal) x y (ix4 o o' k q) : EReal) = ∑ r : Fin 2048, (x (ix2 r k) : EReal) * (y (ix2 r q) : EReal) := by
  obtain rfl : o = 0 := Subsingleton.elim _ _
  obtain rfl : o' = 0 := Subsingleton.elim _ _
  pointwise [k0_pay2, k0_pay1]

theorem pay3_at (x : FVec Ideal S2048x1024 .bf16) (y : FVec Ideal S2048x1408 .bf16) (v : FVec Ideal S1x1x1024x1408 .f32) (o o' : Fin 1) (k : Fin 1024) (q : Fin 1408) :
    (k0_pay3 (F := Ideal) x y v (ix4 o o' k q) : EReal) = (v (ix4 o o' k q) : EReal) + ∑ r : Fin 2048, (x (ix2 r k) : EReal) * (y (ix2 r q) : EReal) := by
  obtain rfl : o = 0 := Subsingleton.elim _ _
  obtain rfl : o' = 0 := Subsingleton.elim _ _
  pointwise [k0_pay3, k0_pay1]

theorem out_A (t : Fin cfg0.N) (h : t.val % 2 = 0) :
    outsAt0 m c t.val t.isLt = k0_pay2 (F := Ideal) (iblk m c 0 t) (iblk m c 1 t) := by
  rw [outsAt0_A m c t h (by omega)]
  frame_out

theorem out_B (t : Fin cfg0.N) (h : ¬t.val % 2 = 0) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h (by omega)]
  frame_out

theorem rows_at (t : Fin cfg0.N) (r : Fin 2048) (k : Fin 1024) (ht : t.val % 2 * 2048 + r.val < 4096) :
    (iblk m c 0 t (ix2 r k) : EReal) = (m ((c.tc : Thread nD τ).loc main_arg0) (ix2 ⟨t.val % 2 * 2048 + r.val, ht⟩ k) : EReal) := by
  blk_ext [iblk, V, idx t]

theorem rows'_at (t : Fin cfg0.N) (r : Fin 2048) (q : Fin 1408) (ht : t.val % 2 * 2048 + r.val < 4096) (hq : t.val / 2 * 1408 + q.val < 2816) :
    (iblk m c 1 t (ix2 r q) : EReal) = (m ((c.tc : Thread nD τ).loc main_arg1) (ix2 ⟨t.val % 2 * 2048 + r.val, ht⟩ ⟨t.val / 2 * 1408 + q.val, hq⟩) : EReal) := by
  blk_ext [iblk, V, idx t]

/-- What a slot's two points add up to. -/
theorem parts_at (t : Fin cfg0.N) (hp : ∀ s : Fin 2, 2 * (t.val / 2) + s.val < cfg0.N) (o o' : Fin 1) (k : Fin 1024) (q : Fin 1408) (K : Fin 2816)
    (hK : K.val = t.val / 2 * 1408 + q.val) :
    (∑ s : Fin 2, part m c ⟨2 * (t.val / 2) + s.val, hp s⟩ (ix4 o o' k q))
      = prod (m ((c.tc : Thread nD τ).loc main_arg0)) (m ((c.tc : Thread nD τ).loc main_arg1)) k K := by
  have ht := (idx t).2.2.2
  rw [prod, Sums.sum_blocks 2 2048 4096 rfl _ (fun s r => by omega)]
  refine Finset.sum_congr rfl fun s _ => (pay2_at _ _ o o' k q).trans (Finset.sum_congr rfl fun r _ => ?_)
  have hs : (2 * (t.val / 2) + s.val) % 2 = s.val := by omega
  have hd : (2 * (t.val / 2) + s.val) / 2 = t.val / 2 := by omega
  rw [rows_at m c _ r _ (by dsimp only; omega), rows'_at m c _ r _ (by dsimp only; omega) (by dsimp only; omega)]
  have eK : (⟨t.val / 2 * 1408 + q.val, by omega⟩ : Fin 2816) = K := Fin.ext hK.symm
  simp only [hs, hd, eK]

/-- Where the call writes nothing, the result holds the third argument. -/
theorem entry : V m c main_v0 = m ((c.tc : Thread nD τ).loc main_arg2) := by
  rfl

/-- The last two slots after the run. -/
theorem arr : (dats m 0 c).arrAt 2 cfg0.N = fun y : S4x1x1024x1408.Idx => if 2 ≤ (y 0).val then
    prod (m ((c.tc : Thread nD τ).loc main_arg0)) (m ((c.tc : Thread nD τ).loc main_arg1)) ⟨(y 2).val, (y 2).isLt⟩
      ⟨(y 0).val % 2 * 1408 + (y 3).val, by have h3 : (y 3).val < 1408 := (y 3).isLt; omega⟩ else V m c main_v0 y := by
  refine (dats m 0 c).arrAt_eq_of_coversWhere 2 (fun y : S4x1x1024x1408.Idx =>
      prod (m ((c.tc : Thread nD τ).loc main_arg0)) (m ((c.tc : Thread nD τ).loc main_arg1)) ⟨(y 2).val, (y 2).isLt⟩
        ⟨(y 0).val % 2 * 1408 + (y 3).val, by have h3 : (y 3).val < 1408 := (y 3).isLt; omega⟩)
    (fun i => 2 ≤ i 0) (by decide +kernel) (fun t hf y => ?_) (fun j => by blk_simp [Pipeline.Window.cell_apply]; omega)
  have ht := (idx t).2.2.2
  have hf' := (flush0_2 t).mp hf
  blk_simp [idx t]
  rw [after0_2, Pipeline.eq_sum_fin_of_reset_step_apply_of_flush (fun n h => outsAt0 m c n h) 2 (fun _ => (0 : EReal)) (part m c)
    (fun t h j => by rw [out_A m c t h]; exact (zero_add _).symm)
    (fun t h j => by
      rw [out_B m c t h]
      idx_vars j
      rw [part, pay2_at]
      exact pay3_at _ _ _ j0 j1 j2 j3)
    t hf' _, zero_add]
  idx_vars y
  exact parts_at m c t _ y0 y1 y2 y3 _ (by dsimp only; omega)

end Cert.Kernel4Ideal.Prod

namespace Cert.Reference4Ideal.Prod
open Idealize.ShloMosaic Idealize.ShloMosaic.TcCoe Idealize.SL.Sem
open Cert.Reference4Ideal Cert.Reference4Ideal.Gen

/-- What the reference leaves. -/
def out (x0 : FVec Ideal S4096x1024 .bf16) (x1 : FVec Ideal S4096x2816 .bf16) (x2 : FVec Ideal S4x1x1024x1408 .f32) : FVec Ideal S4x1x1024x1408 .f32 :=
  concatenate S4x1x1024x1408 0 [⟨S2x1x1024x1408, (extractStridedSlice S2x1x1024x1408 ![0, 0, 0, 0] x2 slices_S4x1x1024x1408_S2x1x1024x1408_0_0_0_0)⟩, ⟨S2x1x1024x1408, (concatenate S2x1x1024x1408 0 [⟨S1x1x1024x1408, (broadcastInDim S1x1x1024x1408 ![2, 3] bcast_S1024x1408_S1x1x1024x1408_2_3 (extractStridedSlice S1024x1408 ![0, 0] (transpose S1024x2816 [1, 0] (Host.dotGeneral (φ₁ := .f32) (φ₂ := .f32) dot_S4096x2816_S4096x1024_S2816x1024_0_0_1_1_n_n none (extf .f32 x1 bitsLt_bf16_f32) (extf .f32 x0 bitsLt_bf16_f32)) transposes_S2816x1024_S1024x2816_1_0) slices_S1024x2816_S1024x1408_0_0))⟩, ⟨S1x1x1024x1408, (broadcastInDim S1x1x1024x1408 ![2, 3] bcast_S1024x1408_S1x1x1024x1408_2_3 (extractStridedSlice S1024x1408 ![0, 1408] (transpose S1024x2816 [1, 0] (Host.dotGeneral (φ₁ := .f32) (φ₂ := .f32) dot_S4096x2816_S4096x1024_S2816x1024_0_0_1_1_n_n none (extf .f32 x1 bitsLt_bf16_f32) (extf .f32 x0 bitsLt_bf16_f32)) transposes_S2816x1024_S1024x2816_1_0) slices_S1024x2816_S1024x1408_0_1408))⟩] concatenates_S1x1x1024x1408_S1x1x1024x1408_S2x1x1024x1408_d0)⟩] concatenates_S2x1x1024x1408_S2x1x1024x1408_S4x1x1024x1408_d0

theorem out_at0 (x0 : FVec Ideal S4096x1024 .bf16) (x1 : FVec Ideal S4096x2816 .bf16) (x2 : FVec Ideal S4x1x1024x1408 .f32) (k : Fin 1024) (q : Fin 1408) :
    (out x0 x1 x2 (ix4 0 0 k q) : EReal) = (x2 (ix4 0 0 k q) : EReal) := by
  unfold out
  pointwise []

theorem out_at1 (x0 : FVec Ideal S4096x1024 .bf16) (x1 : FVec Ideal S4096x2816 .bf16) (x2 : FVec Ideal S4x1x1024x1408 .f32) (k : Fin 1024) (q : Fin 1408) :
    (out x0 x1 x2 (ix4 1 0 k q) : EReal) = (x2 (ix4 1 0 k q) : EReal) := by
  unfold out
  pointwise []

theorem out_at2 (x0 : FVec Ideal S4096x1024 .bf16) (x1 : FVec Ideal S4096x2816 .bf16) (x2 : FVec Ideal S4x1x1024x1408 .f32) (k : Fin 1024) (q : Fin 1408) :
    (out x0 x1 x2 (ix4 2 0 k q) : EReal) = Cert.Kernel4Ideal.Prod.prod x0 x1 k ⟨q.val, by omega⟩ := by
  unfold out Cert.Kernel4Ideal.Prod.prod
  pointwise []
  exact Finset.sum_congr rfl fun r _ => mul_comm _ _

theorem out_at3 (x0 : FVec Ideal S4096x1024 .bf16) (x1 : FVec Ideal S4096x2816 .bf16) (x2 : FVec Ideal S4x1x1024x1408 .f32) (k : Fin 1024) (q : Fin 1408) :
    (out x0 x1 x2 (ix4 3 0 k q) : EReal) = Cert.Kernel4Ideal.Prod.prod x0 x1 k ⟨1408 + q.val, by omega⟩ := by
  unfold out Cert.Kernel4Ideal.Prod.prod
  pointwise []
  exact Finset.sum_congr rfl fun r _ => mul_comm _ _

end Cert.Reference4Ideal.Prod

namespace Cert.Proof
open Idealize.ShloMosaic Idealize.ShloMosaic.TcCoe Idealize.SL.Sem

/-- Every run of the reference ends, and leaves its arguments as they were. -/
theorem reference4_quiescent : quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The kernel's result is the reference's. -/
theorem algebraic4 : algebraic_Kernel4Ideal_Reference4Ideal
    (hKernel4Ideal := Cert.Kernel4Ideal.Gen.facts) (hReference4Ideal := Cert.Reference4Ideal.Gen.facts) := by
  intro m g m' g' _ ha
  refine ⟨fun c => (Cert.Kernel4Ideal.Gen.dats m 0 c).arrAt 2 Cert.Kernel4Ideal.cfg0.N,
    Cert.Kernel4Ideal.Value.run_blocks m g, ?_⟩
  refine (θ_run Cert.Reference4Ideal.defs _ _).mono (fun r h c => ⟨?_, (h c).2⟩) (Cert.Reference4Ideal.Value.run (F := Ideal) m' g')
  refine (h c).1.trans ?_
  rw [(ha c).1, (ha c).2.1, (ha c).2.2]
  refine Eq.trans ?_ (Cert.Kernel4Ideal.Prod.arr m c).symm
  funext y
  idx_vars y
  obtain rfl : y1 = 0 := Subsingleton.elim _ _
  obtain rfl | rfl | rfl | rfl : y0 = 0 ∨ y0 = 1 ∨ y0 = 2 ∨ y0 = 3 := by omega
  · exact (Cert.Reference4Ideal.Prod.out_at0 _ _ _ y2 y3).trans (Eq.trans (congrFun (Cert.Kernel4Ideal.Prod.entry m c) _).symm (if_neg (show ¬2 ≤ (0 : Fin 4).val by decide)).symm)
  · exact (Cert.Reference4Ideal.Prod.out_at1 _ _ _ y2 y3).trans (Eq.trans (congrFun (Cert.Kernel4Ideal.Prod.entry m c) _).symm (if_neg (show ¬2 ≤ (1 : Fin 4).val by decide)).symm)
  · exact (Cert.Reference4Ideal.Prod.out_at2 _ _ _ y2 y3).trans (Eq.trans (congrArg (Cert.Kernel4Ideal.Prod.prod _ _ y2)
      (Fin.ext (by show y3.val = 2 % 2 * 1408 + y3.val; omega))) (if_pos (show 2 ≤ (2 : Fin 4).val by decide)).symm)
  · exact (Cert.Reference4Ideal.Prod.out_at3 _ _ _ y2 y3).trans (Eq.trans (congrArg (Cert.Kernel4Ideal.Prod.prod _ _ y2)
      (Fin.ext (by show 1408 + y3.val = 3 % 2 * 1408 + y3.val; omega))) (if_pos (show 2 ≤ (3 : Fin 4).val by decide)).symm)

end Cert.Proof
-- ==== Proof.FfnDact.lean ====
module
public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Quiescent

/-! # The derivative of the gated MLP's activations

Point `t` of the grid multiplies 1024 rows of the incoming derivative with the transposed matrix. -/

@[expose] public section
set_option maxRecDepth 65536
noncomputable section
namespace Cert.Kernel5Ideal.Prod
open Idealize.ShloMosaic Idealize.ShloMosaic.TcCoe Idealize.SL.Sem
open Cert.Kernel5Ideal Cert.Kernel5Ideal.Gen
variable (m : (ℓ : Loc nD τ sig) → Buf (Elt Ideal) ℓ) (c : Dev nD)

/-- Where each window's block lies. -/
theorem idx : ∀ t : Fin cfg0.N, win0_0.index t = ![t.val, 0] ∧ win0_1.index t = ![0, 0, 0] ∧ win0_2.index t = ![t.val, 0] ∧ t.val < 4 :=
  (by decide +kernel : ∀ t : Fin grid0.N, _)

/-- The product at an index. -/
def at_ (x : FVec Ideal S4096x1024 .bf16) (w : FVec Ideal S1x2816x1024 .bf16) (R : Fin 4096) (k : Fin 2816) : EReal :=
  ∑ j : Fin 1024, (x (ix2 R j) : EReal) * (w (ix3 0 k j) : EReal)

/-- One block of the product. -/
theorem block_at (x : FVec Ideal S1024x1024 .bf16) (w : FVec Ideal S1x2816x1024 .bf16) (i : Fin 1024) (k : Fin 2816) :
    (out0_2 (F := Ideal) x w (ix2 i k) : EReal) = ∑ j : Fin 1024, (x (ix2 i j) : EReal) * (w (ix3 0 k j) : EReal) := by
  unfold out0_2
  frame_out
  pointwise [k0_pay1]

theorem rows_at (t : Fin cfg0.N) (i : Fin 1024) (j : Fin 1024) (ht : t.val * 1024 + i.val < 4096) :
    (iblk m c 0 t (ix2 i j) : EReal) = (m ((c.tc : Thread nD τ).loc main_arg0) (ix2 ⟨t.val * 1024 + i.val, ht⟩ j) : EReal) := by
  blk_ext [iblk, V, idx t]

theorem mat_at (t : Fin cfg0.N) (k : Fin 2816) (j : Fin 1024) :
    (iblk m c 1 t (ix3 0 k j) : EReal) = (m ((c.tc : Thread nD τ).loc main_arg1) (ix3 0 k j) : EReal) := by
  blk_ext [iblk, V, idx t]

/-- The result after the run. -/
theorem arr : (dats m 0 c).arrAt 2 cfg0.N = fun y : S4096x2816.Idx =>
    at_ (m ((c.tc : Thread nD τ).loc main_arg0)) (m ((c.tc : Thread nD τ).loc main_arg1)) ⟨(y 0).val, (y 0).isLt⟩ ⟨(y 1).val, (y 1).isLt⟩ := by
  refine (dats m 0 c).arrAt_eq_of_covers 2 _ (by decide +kernel) fun t hf y => ?_
  have ht := (idx t).2.2.2
  blk_simp [idx t]
  rw [after0_2]
  idx_vars y
  refine (block_at _ _ y0 y1).trans (Finset.sum_congr rfl fun j _ => ?_)
  rw [rows_at m c t y0 j (by omega), mat_at]

end Cert.Kernel5Ideal.Prod

namespace Cert.Reference5Ideal.Prod
open Idealize.ShloMosaic Idealize.ShloMosaic.TcCoe Idealize.SL.Sem
open Cert.Reference5Ideal Cert.Reference5Ideal.Gen

/-- What the reference leaves. -/
def out (x0 : FVec Ideal S4096x1024 .bf16) (x1 : FVec Ideal S1x2816x1024 .bf16) : FVec Ideal S4096x2816 .bf16 :=
  truncf .bf16 (Host.dotGeneral (φ₁ := .f32) (φ₂ := .f32) dot_S4096x1024_S2816x1024_S4096x2816_1_1_0_0_n_n none (extf .f32 x0 bitsLt_bf16_f32) (extf .f32 (shapeCast _ x1 shapeCasts_S1x2816x1024_S2816x1024) bitsLt_bf16_f32)) bitsLt_bf16_f32

theorem out_at (x0 : FVec Ideal S4096x1024 .bf16) (x1 : FVec Ideal S1x2816x1024 .bf16) (R : Fin 4096) (k : Fin 2816) :
    (out x0 x1 (ix2 R k) : EReal) = Cert.Kernel5Ideal.Prod.at_ x0 x1 R k := by
  unfold out Cert.Kernel5Ideal.Prod.at_
  pointwise []

end Cert.Reference5Ideal.Prod

namespace Cert.Proof
open Idealize.ShloMosaic Idealize.ShloMosaic.TcCoe Idealize.SL.Sem

/-- Every run of the reference ends, and leaves its arguments as they were. -/
theorem reference5_quiescent : quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The kernel's result is the reference's. -/
theorem algebraic5 : algebraic_Kernel5Ideal_Reference5Ideal
    (hKernel5Ideal := Cert.Kernel5Ideal.Gen.facts) (hReference5Ideal := Cert.Reference5Ideal.Gen.facts) := by
  intro m g m' g' _ ha
  refine ⟨fun c => (Cert.Kernel5Ideal.Gen.dats m 0 c).arrAt 2 Cert.Kernel5Ideal.cfg0.N,
    Cert.Kernel5Ideal.Value.run_blocks m g, ?_⟩
  refine (θ_run Cert.Reference5Ideal.defs _ _).mono (fun r h c => ⟨?_, (h c).2⟩) (Cert.Reference5Ideal.Value.run (F := Ideal) m' g')
  refine (h c).1.trans ?_
  rw [(ha c).1, (ha c).2]
  refine Eq.trans ?_ (Cert.Kernel5Ideal.Prod.arr m c).symm
  funext y
  idx_vars y
  exact Cert.Reference5Ideal.Prod.out_at _ _ y0 y1

end Cert.Proof
-- ==== Proof.FfnDwDown.lean ====
module
public import proofs.«01_k».proof.Defs
public import proofs.«01_k».proof.Proof.Gen.Kernel6Ideal.Value
public import proofs.«01_k».proof.Proof.Gen.Reference6Ideal.Run
public import proofs.«01_k».proof.Proof.Sums
public import Idealize.ShloMosaic.Lib.Pipeline.ValueKit
public import Idealize.ShloMosaic.Lib.Pointwise
public import Idealize.ShloMosaic.Lib.Quiescent

/-! # The gradient of the gated MLP's second matrix

Point `t` of the grid adds the product of 1024 rows of the activations and of the incoming derivative. -/

@[expose] public section
set_option maxRecDepth 65536
noncomputable section
namespace Cert.Kernel6Ideal.Prod
open Idealize.ShloMosaic Idealize.ShloMosaic.TcCoe Idealize.SL.Sem
open Cert.Kernel6Ideal Cert.Kernel6Ideal.Gen
variable (m : (ℓ : Loc nD τ sig) → Buf (Elt Ideal) ℓ) (c : Dev nD)

/-- Where each window's block lies. -/
theorem idx : ∀ t : Fin cfg0.N, win0_0.index t = ![t.val, 0] ∧ win0_1.index t = ![t.val, 0] ∧ win0_2.index t = ![0, 0, 0] ∧ t.val < 4 :=
  (by decide +kernel : ∀ t : Fin grid0.N, _)

/-- The product at an index. -/
def at_ (x : FVec Ideal S4096x2816 .bf16) (y : FVec Ideal S4096x1024 .bf16) (k : Fin 2816) (q : Fin 1024) : EReal :=
  ∑ r : Fin 4096, (x (ix2 r k) : EReal) * (y (ix2 r q) : EReal)

/-- What one point adds. -/
def part (t : Fin cfg0.N) (i : S1x2816x1024.Idx) : EReal := k0_pay2 (F := Ideal) (iblk m c 0 t) (iblk m c 1 t) i

theorem pay2_at (x : FVec Ideal S1024x2816 .bf16) (y : FVec Ideal S1024x1024 .bf16) (o : Fin 1) (k : Fin 2816) (q : Fin 1024) :
    (k0_pay2 (F := Ideal) x y (ix3 o k q) : EReal) = ∑ r : Fin 1024, (x (ix2 r k) : EReal) * (y (ix2 r q) : EReal) := by
  obtain rfl : o = 0 := Subsingleton.elim _ _
  pointwise [k0_pay2, k0_pay1]

theorem pay3_at (x : FVec Ideal S1024x2816 .bf16) (y : FVec Ideal S1024x1024 .bf16) (v : FVec Ideal S1x2816x1024 .f32) (o : Fin 1) (k : Fin 2816) (q : Fin 1024) :
    (k0_pay3 (F := Ideal) x y v (ix3 o k q) : EReal) = (v (ix3 o k q) : EReal) + ∑ r : Fin 1024, (x (ix2 r k) : EReal) * (y (ix2 r q) : EReal) := by
  obtain rfl : o = 0 := Subsingleton.elim _ _
  pointwise [k0_pay3, k0_pay1]

theorem out_A (t : Fin cfg0.N) (h : t.val % 4 = 0) :
    outsAt0 m c t.val t.isLt = k0_pay2 (F := Ideal) (iblk m c 0 t) (iblk m c 1 t) := by
  have ht := (idx t).2.2.2
  rw [outsAt0_A m c t h (by omega)]
  frame_out

theorem out_B (t : Fin cfg0.N) (h : ¬t.val % 4 = 0) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h (by omega)]
  frame_out

theorem rows_at (t : Fin cfg0.N) (r : Fin 1024) (k : Fin 2816) (ht : t.val * 1024 + r.val < 4096) :
    (iblk m c 0 t (ix2 r k) : EReal) = (m ((c.tc : Thread nD τ).loc main_arg0) (ix2 ⟨t.val * 1024 + r.val, ht⟩ k) : EReal) := by
  blk_ext [iblk, V, idx t]

theorem rows'_at (t : Fin cfg0.N) (r : Fin 1024) (k : Fin 1024) (ht : t.val * 1024 + r.val < 4096) :
    (iblk m c 1 t (ix2 r k) : EReal) = (m ((c.tc : Thread nD τ).loc main_arg1) (ix2 ⟨t.val * 1024 + r.val, ht⟩ k) : EReal) := by
  blk_ext [iblk, V, idx t]

/-- What the four points add up to. -/
theorem parts_at (t : Fin cfg0.N) (hp : ∀ s : Fin 4, 4 * (t.val / 4) + s.val < cfg0.N) (o : Fin 1) (k : Fin 2816) (q : Fin 1024) :
    (∑ s : Fin 4, part m c ⟨4 * (t.val / 4) + s.val, hp s⟩ (ix3 o k q))
      = at_ (m ((c.tc : Thread nD τ).loc main_arg0)) (m ((c.tc : Thread nD τ).loc main_arg1)) k q := by
  have ht := (idx t).2.2.2
  rw [at_, Sums.sum_blocks 4 1024 4096 rfl _ (fun s r => by omega)]
  refine Finset.sum_congr rfl fun s _ => (pay2_at _ _ o k q).trans (Finset.sum_congr rfl fun r _ => ?_)
  have hs : 4 * (t.val / 4) + s.val = s.val := by omega
  rw [rows_at m c _ r _ (by dsimp only; omega), rows'_at m c _ r _ (by dsimp only; omega)]
  simp only [hs]

/-- The result after the run. -/
theorem arr : (dats m 0 c).arrAt 2 cfg0.N = fun y : S1x2816x1024.Idx =>
    at_ (m ((c.tc : Thread nD τ).loc main_arg0)) (m ((c.tc : Thread nD τ).loc main_arg1)) ⟨(y 1).val, (y 1).isLt⟩ ⟨(y 2).val, (y 2).isLt⟩ := by
  refine (dats m 0 c).arrAt_eq_of_covers 2 _ (by decide +kernel) fun t hf y => ?_
  have ht := (idx t).2.2.2
  have hf' := (flush0_2 t).mp hf
  blk_simp [idx t]
  rw [after0_2, Pipeline.eq_sum_fin_of_reset_step_apply_of_flush (fun n h => outsAt0 m c n h) 4 (fun _ => (0 : EReal)) (part m c)
    (fun t h j => by rw [out_A m c t h]; exact (zero_add _).symm)
    (fun t h j => by
      rw [out_B m c t h]
      idx_vars j
      rw [part, pay2_at]
      exact pay3_at _ _ _ j0 j1 j2)
    t hf' _, zero_add]
  idx_vars y
  exact parts_at m c t _ y0 y1 y2

end Cert.Kernel6Ideal.Prod

namespace Cert.Reference6Ideal.Prod
open Idealize.ShloMosaic Idealize.ShloMosaic.TcCoe Idealize.SL.Sem
open Cert.Reference6Ideal Cert.Reference6Ideal.Gen

/-- What the reference leaves. -/
def out (x0 : FVec Ideal S4096x2816 .bf16) (x1 : FVec Ideal S4096x1024 .bf16) : FVec Ideal S1x2816x1024 .f32 :=
  broadcastInDim S1x2816x1024 ![1, 2] bcast_S2816x1024_S1x2816x1024_1_2 (transpose S2816x1024 [1, 0] (Host.dotGeneral (φ₁ := .f32) (φ₂ := .f32) dot_S4096x1024_S4096x2816_S1024x2816_0_0_1_1_n_n none (extf .f32 x1 bitsLt_bf16_f32) (extf .f32 x0 bitsLt_bf16_f32)) transposes_S1024x2816_S2816x1024_1_0)

theorem out_at (x0 : FVec Ideal S4096x2816 .bf16) (x1 : FVec Ideal S4096x1024 .bf16) (o : Fin 1) (k : Fin 2816) (q : Fin 1024) :
    (out x0 x1 (ix3 o k q) : EReal) = Cert.Kernel6Ideal.Prod.at_ x0 x1 k q := by
  unfold out Cert.Kernel6Ideal.Prod.at_
  obtain rfl : o = 0 := Subsingleton.elim _ _
  pointwise []
  exact Finset.sum_congr rfl fun r _ => mul_comm _ _

end Cert.Reference6Ideal.Prod

namespace Cert.Proof
open Idealize.ShloMosaic Idealize.ShloMosaic.TcCoe Idealize.SL.Sem

/-- Every run of the reference ends, and leaves its arguments as they were. -/
theorem reference6_quiescent : quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The kernel's result is the reference's. -/
theorem algebraic6 : algebraic_Kernel6Ideal_Reference6Ideal
    (hKernel6Ideal := Cert.Kernel6Ideal.Gen.facts) (hReference6Ideal := Cert.Reference6Ideal.Gen.facts) := by
  intro m g m' g' _ ha
  refine ⟨fun c => (Cert.Kernel6Ideal.Gen.dats m 0 c).arrAt 2 Cert.Kernel6Ideal.cfg0.N,
    Cert.Kernel6Ideal.Value.run_blocks m g, ?_⟩
  refine (θ_run Cert.Reference6Ideal.defs _ _).mono (fun r h c => ⟨?_, (h c).2⟩) (Cert.Reference6Ideal.Value.run (F := Ideal) m' g')
  refine (h c).1.trans ?_
  rw [(ha c).1, (ha c).2]
  refine Eq.trans ?_ (Cert.Kernel6Ideal.Prod.arr m c).symm
  funext y
  idx_vars y
  exact Cert.Reference6Ideal.Prod.out_at _ _ y0 y1 y2

end Cert.Proof
-- ==== Proof.FfnUp.lean ====
module
public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Quiescent

/-! # The gated MLP's first product

A point of the grid multiplies 2048 rows of the input with one of the four slots of the matrix. -/

@[expose] public section
set_option maxRecDepth 65536
noncomputable section
namespace Cert.Kernel7Ideal.Prod
open Idealize.ShloMosaic Idealize.ShloMosaic.TcCoe Idealize.SL.Sem
open Cert.Kernel7Ideal Cert.Kernel7Ideal.Gen
variable (m : (ℓ : Loc nD τ sig) → Buf (Elt Ideal) ℓ) (c : Dev nD)

/-- Where each window's block lies. -/
theorem idx : ∀ t : Fin cfg0.N, win0_0.index t = ![t.val / 4, 0] ∧ win0_1.index t = ![t.val % 4, 0, 0, 0] ∧ win0_2.index t = ![t.val / 4, t.val % 4] ∧ t.val < 8 :=
  (by decide +kernel : ∀ t : Fin grid0.N, _)

/-- The product at an index: column `K` is column `K % 1408` of slot `K / 1408`. -/
def at_ (x : FVec Ideal S4096x1024 .bf16) (w : FVec Ideal S4x1x1024x1408 .bf16) (R : Fin 4096) (K : Fin 5632) : EReal :=
  ∑ j : Fin 1024, (x (ix2 R j) : EReal) * (w (ix4 ⟨K.val / 1408, by omega⟩ 0 j ⟨K.val % 1408, by omega⟩) : EReal)

/-- Where column `K` of the product lies among the slots. -/
theorem slot_ix (K : Fin 5632) (a : Fin 4) (j : Fin 1024) (k : Fin 1408) (h : K.val = a.val * 1408 + k.val) :
    (ix4 ⟨K.val / 1408, by omega⟩ 0 j ⟨K.val % 1408, by omega⟩ : S4x1x1024x1408.Idx) = ix4 a 0 j k := by
  have ha : (⟨K.val / 1408, by omega⟩ : Fin 4) = a := Fin.ext (by show K.val / 1408 = a.val; omega)
  have hk : (⟨K.val % 1408, by omega⟩ : Fin 1408) = k := Fin.ext (by show K.val % 1408 = k.val; omega)
  rw [ha, hk]

/-- One block of the product. -/
theorem block_at (x : FVec Ideal S2048x1024 .bf16) (w : FVec Ideal S1x1x1024x1408 .bf16) (i : Fin 2048) (k : Fin 1408) :
    (out0_2 (F := Ideal) x w (ix2 i k) : EReal) = ∑ j : Fin 1024, (x (ix2 i j) : EReal) * (w (ix4 0 0 j k) : EReal) := by
  unfold out0_2
  frame_out
  pointwise [k0_pay1]

theorem rows_at (t : Fin cfg0.N) (i : Fin 2048) (j : Fin 1024) (ht : t.val / 4 * 2048 + i.val < 4096) :
    (iblk m c 0 t (ix2 i j) : EReal) = (m ((c.tc : Thread nD τ).loc main_arg0) (ix2 ⟨t.val / 4 * 2048 + i.val, ht⟩ j) : EReal) := by
  blk_ext [iblk, V, idx t]

theorem mat_at (t : Fin cfg0.N) (j : Fin 1024) (k : Fin 1408) :
    (iblk m c 1 t (ix4 0 0 j k) : EReal) = (m ((c.tc : Thread nD τ).loc main_arg1) (ix4 ⟨t.val % 4, by omega⟩ 0 j k) : EReal) := by
  blk_ext [iblk, V, idx t]

/-- The result after the run. -/
theorem arr : (dats m 0 c).arrAt 2 cfg0.N = fun y : S4096x5632.Idx =>
    at_ (m ((c.tc : Thread nD τ).loc main_arg0)) (m ((c.tc : Thread nD τ).loc main_arg1)) ⟨(y 0).val, (y 0).isLt⟩ ⟨(y 1).val, (y 1).isLt⟩ := by
  refine (dats m 0 c).arrAt_eq_of_covers 2 _ (by decide +kernel) fun t hf y => ?_
  have ht := (idx t).2.2.2
  blk_simp [idx t]
  rw [after0_2]
  idx_vars y
  refine (block_at _ _ y0 y1).trans (Finset.sum_congr rfl fun j _ => ?_)
  rw [rows_at m c t y0 j (by omega), mat_at]
  have h1 : (t.val % 4 * 1408 + y1.val) / 1408 = t.val % 4 := by omega
  have h2 : (t.val % 4 * 1408 + y1.val) % 1408 = y1.val := by omega
  simp only [h1, h2]

end Cert.Kernel7Ideal.Prod

namespace Cert.Reference7Ideal.Prod
open Idealize.ShloMosaic Idealize.ShloMosaic.TcCoe Idealize.SL.Sem
open Cert.Reference7Ideal Cert.Reference7Ideal.Gen

/-- What the reference leaves. -/
def out (x0 : FVec Ideal S4096x1024 .bf16) (x1 : FVec Ideal S4x1x1024x1408 .bf16) : FVec Ideal S4096x5632 .bf16 :=
  truncf .bf16 (Host.dotGeneral (φ₁ := .f32) (φ₂ := .f32) dot_S4096x1024_S1024x5632_S4096x5632_1_0_0_1_n_n none (extf .f32 x0 bitsLt_bf16_f32) ((concatenate S1024x5632 1 [⟨S1024x1408, ((shapeCast _ (extractStridedSlice S1x1x1024x1408 ![0, 0, 0, 0] (extf .f32 x1 bitsLt_bf16_f32) slices_S4x1x1024x1408_S1x1x1024x1408_0_0_0_0) shapeCasts_S1x1x1024x1408_S1024x1408) : FVec Ideal S1024x1408 .f32)⟩, ⟨S1024x1408, ((shapeCast _ (extractStridedSlice S1x1x1024x1408 ![1, 0, 0, 0] (extf .f32 x1 bitsLt_bf16_f32) slices_S4x1x1024x1408_S1x1x1024x1408_1_0_0_0) shapeCasts_S1x1x1024x1408_S1024x1408) : FVec Ideal S1024x1408 .f32)⟩, ⟨S1024x1408, ((shapeCast _ (extractStridedSlice S1x1x1024x1408 ![2, 0, 0, 0] (extf .f32 x1 bitsLt_bf16_f32) slices_S4x1x1024x1408_S1x1x1024x1408_2_0_0_0) shapeCasts_S1x1x1024x1408_S1024x1408) : FVec Ideal S1024x1408 .f32)⟩, ⟨S1024x1408, ((shapeCast _ (extractStridedSlice S1x1x1024x1408 ![3, 0, 0, 0] (extf .f32 x1 bitsLt_bf16_f32) slices_S4x1x1024x1408_S1x1x1024x1408_3_0_0_0) shapeCasts_S1x1x1024x1408_S1024x1408) : FVec Ideal S1024x1408 .f32)⟩] concatenates_S1024x1408_S1024x1408_S1024x1408_S1024x1408_S1024x5632_d1 : FVec Ideal S1024x5632 .f32))) bitsLt_bf16_f32

theorem out_at (x0 : FVec Ideal S4096x1024 .bf16) (x1 : FVec Ideal S4x1x1024x1408 .bf16) (R : Fin 4096) (K : Fin 5632) :
    (out x0 x1 (ix2 R K) : EReal) = Cert.Kernel7Ideal.Prod.at_ x0 x1 R K := by
  unfold out Cert.Kernel7Ideal.Prod.at_
  pointwise []
  refine Finset.sum_congr rfl fun j _ => congrArg ((x0 (ix2 R j) : EReal) * ·) ?_
  have hK := K.isLt
  by_cases h0 : K.val < 1408
  · rw [dif_pos h0]
    exact congrArg x1 (Cert.Kernel7Ideal.Prod.slot_ix K 0 j ⟨K.val, h0⟩ (Nat.zero_add _).symm).symm
  rw [dif_neg h0]
  by_cases h1 : K.val - 1408 < 1408
  · rw [dif_pos h1]
    exact congrArg x1 (Cert.Kernel7Ideal.Prod.slot_ix K 1 j ⟨K.val - 1408, h1⟩ (by show K.val = 1 * 1408 + (K.val - 1408); omega)).symm
  rw [dif_neg h1]
  by_cases h2 : K.val - 1408 - 1408 < 1408
  · rw [dif_pos h2]
    exact congrArg x1 (Cert.Kernel7Ideal.Prod.slot_ix K 2 j ⟨K.val - 1408 - 1408, h2⟩ (by show K.val = 2 * 1408 + (K.val - 1408 - 1408); omega)).symm
  rw [dif_neg h2]
  exact congrArg x1 (Cert.Kernel7Ideal.Prod.slot_ix K 3 j ⟨K.val - 1408 - 1408 - 1408, by omega⟩ (by show K.val = 3 * 1408 + (K.val - 1408 - 1408 - 1408); omega)).symm

end Cert.Reference7Ideal.Prod

namespace Cert.Proof
open Idealize.ShloMosaic Idealize.ShloMosaic.TcCoe Idealize.SL.Sem

/-- Every run of the reference ends, and leaves its arguments as they were. -/
theorem reference7_quiescent : quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The kernel's result is the reference's. -/
theorem algebraic7 : algebraic_Kernel7Ideal_Reference7Ideal
    (hKernel7Ideal := Cert.Kernel7Ideal.Gen.facts) (hReference7Ideal := Cert.Reference7Ideal.Gen.facts) := by
  intro m g m' g' _ ha
  refine ⟨fun c => (Cert.Kernel7Ideal.Gen.dats m 0 c).arrAt 2 Cert.Kernel7Ideal.cfg0.N,
    Cert.Kernel7Ideal.Value.run_blocks m g, ?_⟩
  refine (θ_run Cert.Reference7Ideal.defs _ _).mono (fun r h c => ⟨?_, (h c).2⟩) (Cert.Reference7Ideal.Value.run (F := Ideal) m' g')
  refine (h c).1.trans ?_
  rw [(ha c).1, (ha c).2]
  refine Eq.trans ?_ (Cert.Kernel7Ideal.Prod.arr m c).symm
  funext y
  idx_vars y
  exact Cert.Reference7Ideal.Prod.out_at _ _ y0 y1

end Cert.Proof
-- ==== Proof.FfnDown.lean ====
module
public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Quiescent

/-! # The gated MLP's second product

Point `t` of the grid multiplies 1024 rows of the activations with the whole matrix. -/

@[expose] public section
set_option maxRecDepth 65536
noncomputable section
namespace Cert.Kernel8Ideal.Prod
open Idealize.ShloMosaic Idealize.ShloMosaic.TcCoe Idealize.SL.Sem
open Cert.Kernel8Ideal Cert.Kernel8Ideal.Gen
variable (m : (ℓ : Loc nD τ sig) → Buf (Elt Ideal) ℓ) (c : Dev nD)

/-- Where each window's block lies. -/
theorem idx : ∀ t : Fin cfg0.N, win0_0.index t = ![t.val, 0] ∧ win0_1.index t = ![0, 0, 0] ∧ win0_2.index t = ![t.val, 0] ∧ t.val < 4 :=
  (by decide +kernel : ∀ t : Fin grid0.N, _)

/-- The product at an index. -/
def at_ (x : FVec Ideal S4096x2816 .bf16) (w : FVec Ideal S1x2816x1024 .bf16) (R : Fin 4096) (k : Fin 1024) : EReal :=
  ∑ j : Fin 2816, (x (ix2 R j) : EReal) * (w (ix3 0 j k) : EReal)

/-- One block of the product. -/
theorem block_at (x : FVec Ideal S1024x2816 .bf16) (w : FVec Ideal S1x2816x1024 .bf16) (i : Fin 1024) (k : Fin 1024) :
    (out0_2 (F := Ideal) x w (ix2 i k) : EReal) = ∑ j : Fin 2816, (x (ix2 i j) : EReal) * (w (ix3 0 j k) : EReal) := by
  unfold out0_2
  frame_out
  pointwise [k0_pay1]

theorem rows_at (t : Fin cfg0.N) (i : Fin 1024) (j : Fin 2816) (ht : t.val * 1024 + i.val < 4096) :
    (iblk m c 0 t (ix2 i j) : EReal) = (m ((c.tc : Thread nD τ).loc main_arg0) (ix2 ⟨t.val * 1024 + i.val, ht⟩ j) : EReal) := by
  blk_ext [iblk, V, idx t]

theorem mat_at (t : Fin cfg0.N) (j : Fin 2816) (k : Fin 1024) :
    (iblk m c 1 t (ix3 0 j k) : EReal) = (m ((c.tc : Thread nD τ).loc main_arg1) (ix3 0 j k) : EReal) := by
  blk_ext [iblk, V, idx t]

/-- The result after the run. -/
theorem arr : (dats m 0 c).arrAt 2 cfg0.N = fun y : S4096x1024.Idx =>
    at_ (m ((c.tc : Thread nD τ).loc main_arg0)) (m ((c.tc : Thread nD τ).loc main_arg1)) ⟨(y 0).val, (y 0).isLt⟩ ⟨(y 1).val, (y 1).isLt⟩ := by
  refine (dats m 0 c).arrAt_eq_of_covers 2 _ (by decide +kernel) fun t hf y => ?_
  have ht := (idx t).2.2.2
  blk_simp [idx t]
  rw [after0_2]
  idx_vars y
  refine (block_at _ _ y0 y1).trans (Finset.sum_congr rfl fun j _ => ?_)
  rw [rows_at m c t y0 j (by omega), mat_at]

end Cert.Kernel8Ideal.Prod

namespace Cert.Reference8Ideal.Prod
open Idealize.ShloMosaic Idealize.ShloMosaic.TcCoe Idealize.SL.Sem
open Cert.Reference8Ideal Cert.Reference8Ideal.Gen

/-- What the reference computes. -/
theorem ref_at (x : FVec Ideal S4096x2816 .bf16) (w : FVec Ideal S1x2816x1024 .bf16) (R : Fin 4096) (k : Fin 1024) :
    (truncf .bf16 (Host.dotGeneral dot_S4096x2816_S2816x1024_S4096x1024_1_0_0_1_n_n none (extf .f32 x bitsLt_bf16_f32) (extf .f32 (shapeCast _ w shapeCasts_S1x2816x1024_S2816x1024) bitsLt_bf16_f32)) bitsLt_bf16_f32 (ix2 R k) : EReal)
      = Cert.Kernel8Ideal.Prod.at_ x w R k := by
  unfold Cert.Kernel8Ideal.Prod.at_
  pointwise []

end Cert.Reference8Ideal.Prod

namespace Cert.Proof
open Idealize.ShloMosaic Idealize.ShloMosaic.TcCoe Idealize.SL.Sem

/-- Every run of the reference ends, and leaves its arguments as they were. -/
theorem reference8_quiescent : quiescent_Reference8Ideal (hReference8Ideal := Cert.Reference8Ideal.Gen.facts) := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The kernel's result is the reference's. -/
theorem algebraic8 : algebraic_Kernel8Ideal_Reference8Ideal
    (hKernel8Ideal := Cert.Kernel8Ideal.Gen.facts) (hReference8Ideal := Cert.Reference8Ideal.Gen.facts) := by
  intro m g m' g' _ ha
  refine ⟨fun c => (Cert.Kernel8Ideal.Gen.dats m 0 c).arrAt 2 Cert.Kernel8Ideal.cfg0.N,
    Cert.Kernel8Ideal.Value.run_blocks m g, ?_⟩
  refine (θ_run Cert.Reference8Ideal.defs _ _).mono (fun r h c => ⟨?_, (h c).2⟩) (Cert.Reference8Ideal.Value.run (F := Ideal) m' g')
  refine (h c).1.trans ?_
  rw [(ha c).1, (ha c).2]
  refine Eq.trans ?_ (Cert.Kernel8Ideal.Prod.arr m c).symm
  funext y
  idx_vars y
  exact Cert.Reference8Ideal.Prod.ref_at _ _ y0 y1

end Cert.Proof
-- ==== Proof.Proj.lean ====
module
public import proofs.«01_k».proof.Defs
public import proofs.«01_k».proof.Proof.Gen.Kernel9Ideal.Value
public import proofs.«01_k».proof.Proof.Gen.Reference9Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel16Ideal.Value
public import proofs.«01_k».proof.Proof.Gen.Reference16Ideal.Run
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise
public import Idealize.ShloMosaic.Lib.Quiescent

/-! # The mixers' projections

Each call multiplies blocks of rows with the whole matrix. -/

@[expose] public section
set_option maxRecDepth 65536
noncomputable section

/-! ## The mixers' last projection -/

namespace Cert.Kernel9Ideal.Prod
open Idealize.ShloMosaic Idealize.ShloMosaic.TcCoe Idealize.SL.Sem
open Cert.Kernel9Ideal Cert.Kernel9Ideal.Gen
variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0] ∧ t.val < 2 :=
  (by decide +kernel : ∀ t : Fin grid0.N, _)

/-- The product at an index. -/
def at_ (x : FVec Ideal S4096x1024 .bf16) (w : FVec Ideal S1x1024x1024 .bf16) (R : Fin 4096) (k : Fin 1024) : EReal :=
  ∑ j : Fin 1024, (x (ix2 R j) : EReal) * (w (ix3 0 j k) : EReal)

theorem block_at (x : FVec Ideal S2048x1024 .bf16) (w : FVec Ideal S1x1024x1024 .bf16) (i : Fin 2048) (k : Fin 1024) :
    (out0_2 (F := Ideal) x w (ix2 i k) : EReal) = ∑ j : Fin 1024, (x (ix2 i j) : EReal) * (w (ix3 0 j k) : EReal) := by
  unfold out0_2
  frame_out
  pointwise [k0_pay1]

theorem rows_at (t : Fin cfg0.N) (i : Fin 2048) (j : Fin 1024) (ht : t.val * 2048 + i.val < 4096) :
    (iblk m c 0 t (ix2 i j) : EReal) = (m ((c.tc : Thread nD τ).loc main_arg0) (ix2 ⟨t.val * 2048 + i.val, ht⟩ j) : EReal) := by
  blk_ext [iblk, V, idx t]

theorem mat_at (t : Fin cfg0.N) (j : Fin 1024) (k : Fin 1024) :
    (iblk m c 1 t (ix3 0 j k) : EReal) = (m ((c.tc : Thread nD τ).loc main_arg1) (ix3 0 j k) : EReal) := by
  blk_ext [iblk, V, idx t]

/-- The result after the run. -/
theorem arr : (dats m 0 c).arrAt 2 cfg0.N = fun y : S4096x1024.Idx =>
    at_ (m ((c.tc : Thread nD τ).loc main_arg0)) (m ((c.tc : Thread nD τ).loc main_arg1)) ⟨(y 0).val, (y 0).isLt⟩ ⟨(y 1).val, (y 1).isLt⟩ := by
  refine (dats m 0 c).arrAt_eq_of_covers 2 _ (by decide +kernel) fun t hf y => ?_
  have ht := (idx t).2.2.2
  blk_simp [idx t]
  rw [after0_2]
  idx_vars y
  refine (block_at _ _ y0 y1).trans (Finset.sum_congr rfl fun j _ => ?_)
  rw [rows_at m c t y0 j (by omega), mat_at]

end Cert.Kernel9Ideal.Prod

namespace Cert.Reference9Ideal.Prod
open Idealize.ShloMosaic Idealize.ShloMosaic.TcCoe Idealize.SL.Sem
open Cert.Reference9Ideal Cert.Reference9Ideal.Gen

/-- What the reference leaves. -/
def out (x0 : FVec Ideal S4096x1024 .bf16) (x1 : FVec Ideal S1x1024x1024 .bf16) : FVec Ideal S4096x1024 .bf16 :=
  truncf .bf16 (Host.dotGeneral (φ₁ := .f32) (φ₂ := .f32) dot_S4096x1024_S1024x1024_S4096x1024_1_0_0_1_n_n none (extf .f32 x0 bitsLt_bf16_f32) (extf .f32 (shapeCast _ x1 shapeCasts_S1x1024x1024_S1024x1024) bitsLt_bf16_f32)) bitsLt_bf16_f32

theorem out_at (x0 : FVec Ideal S4096x1024 .bf16) (x1 : FVec Ideal S1x1024x1024 .bf16) (R : Fin 4096) (k : Fin 1024) :
    (out x0 x1 (ix2 R k) : EReal) = Cert.Kernel9Ideal.Prod.at_ x0 x1 R k := by
  unfold out Cert.Kernel9Ideal.Prod.at_
  pointwise []

end Cert.Reference9Ideal.Prod

namespace Cert.Proof
open Idealize.ShloMosaic Idealize.ShloMosaic.TcCoe Idealize.SL.Sem

/-- Every run of the reference ends, and leaves its arguments as they were. -/
theorem reference9_quiescent : quiescent_Reference9Ideal (hReference9Ideal := Cert.Reference9Ideal.Gen.facts) := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The kernel's result is the reference's. -/
theorem algebraic9 : algebraic_Kernel9Ideal_Reference9Ideal
    (hKernel9Ideal := Cert.Kernel9Ideal.Gen.facts) (hReference9Ideal := Cert.Reference9Ideal.Gen.facts) := by
  intro m g m' g' _ ha
  refine ⟨fun c => (Cert.Kernel9Ideal.Gen.dats m 0 c).arrAt 2 Cert.Kernel9Ideal.cfg0.N,
    Cert.Kernel9Ideal.Value.run_blocks m g, ?_⟩
  refine (θ_run Cert.Reference9Ideal.defs _ _).mono (fun r h c => ⟨?_, (h c).2⟩) (Cert.Reference9Ideal.Value.run (F := Ideal) m' g')
  refine (h c).1.trans ?_
  rw [(ha c).1, (ha c).2]
  refine Eq.trans ?_ (Cert.Kernel9Ideal.Prod.arr m c).symm
  funext y
  idx_vars y
  exact Cert.Reference9Ideal.Prod.out_at _ _ y0 y1

end Cert.Proof

/-! ## The attention mixer's first projection -/

namespace Cert.Kernel12Ideal.Prod
open Idealize.ShloMosaic Idealize.ShloMosaic.TcCoe Idealize.SL.Sem
open Cert.Kernel12Ideal Cert.Kernel12Ideal.Gen
variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0] ∧ t.val < 2 :=
  (by decide +kernel : ∀ t : Fin grid0.N, _)

/-- The product at an index. -/
def at_ (x : FVec Ideal S4096x1024 .bf16) (w : FVec Ideal S1x1024x1024 .bf16) (R : Fin 4096) (k : Fin 1024) : EReal :=
  ∑ j : Fin 1024, (x (ix2 R j) : EReal) * (w (ix3 0 j k) : EReal)

theorem block_at (x : FVec Ideal S2048x1024 .bf16) (w : FVec Ideal S1x1024x1024 .bf16) (i : Fin 2048) (k : Fin 1024) :
    (out0_2 (F := Ideal) x w (ix2 i k) : EReal) = ∑ j : Fin 1024, (x (ix2 i j) : EReal) * (w (ix3 0 j k) : EReal) := by
  unfold out0_2
  frame_out
  pointwise [k0_pay1]

theorem rows_at (t : Fin cfg0.N) (i : Fin 2048) (j : Fin 1024) (ht : t.val * 2048 + i.val < 4096) :
    (iblk m c 0 t (ix2 i j) : EReal) = (m ((c.tc : Thread nD τ).loc main_arg0) (ix2 ⟨t.val * 2048 + i.val, ht⟩ j) : EReal) := by
  blk_ext [iblk, V, idx t]

theorem mat_at (t : Fin cfg0.N) (j : Fin 1024) (k : Fin 1024) :
    (iblk m c 1 t (ix3 0 j k) : EReal) = (m ((c.tc : Thread nD τ).loc main_arg1) (ix3 0 j k) : EReal) := by
  blk_ext [iblk, V, idx t]

/-- The result after the run. -/
theorem arr : (dats m 0 c).arrAt 2 cfg0.N = fun y : S4096x1024.Idx =>
    at_ (m ((c.tc : Thread nD τ).loc main_arg0)) (m ((c.tc : Thread nD τ).loc main_arg1)) ⟨(y 0).val, (y 0).isLt⟩ ⟨(y 1).val, (y 1).isLt⟩ := by
  refine (dats m 0 c).arrAt_eq_of_covers 2 _ (by decide +kernel) fun t hf y => ?_
  have ht := (idx t).2.2.2
  blk_simp [idx t]
  rw [after0_2]
  idx_vars y
  refine (block_at _ _ y0 y1).trans (Finset.sum_congr rfl fun j _ => ?_)
  rw [rows_at m c t y0 j (by omega), mat_at]

end Cert.Kernel12Ideal.Prod

namespace Cert.Reference12Ideal.Prod
open Idealize.ShloMosaic Idealize.ShloMosaic.TcCoe Idealize.SL.Sem
open Cert.Reference12Ideal Cert.Reference12Ideal.Gen

/-- What the reference leaves. -/
def out (x0 : FVec Ideal S4096x1024 .bf16) (x1 : FVec Ideal S1x1024x1024 .bf16) : FVec Ideal S4096x1024 .f32 :=
  Host.dotGeneral (φ₁ := .f32) (φ₂ := .f32) dot_S4096x1024_S1024x1024_S4096x1024_1_0_0_1_n_n none (extf .f32 x0 bitsLt_bf16_f32) (extf .f32 (shapeCast _ x1 shapeCasts_S1x1024x1024_S1024x1024) bitsLt_bf16_f32)

theorem out_at (x0 : FVec Ideal S4096x1024 .bf16) (x1 : FVec Ideal S1x1024x1024 .bf16) (R : Fin 4096) (k : Fin 1024) :
    (out x0 x1 (ix2 R k) : EReal) = Cert.Kernel12Ideal.Prod.at_ x0 x1 R k := by
  unfold out Cert.Kernel12Ideal.Prod.at_
  pointwise []

end Cert.Reference12Ideal.Prod

namespace Cert.Proof
open Idealize.ShloMosaic Idealize.ShloMosaic.TcCoe Idealize.SL.Sem

/-- Every run of the reference ends, and leaves its arguments as they were. -/
theorem reference12_quiescent : quiescent_Reference12Ideal (hReference12Ideal := Cert.Reference12Ideal.Gen.facts) := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- The kernel's result is the reference's. -/
theorem algebraic12 : algebraic_Kernel12Ideal_Reference12Ideal
    (hKernel12Ideal := Cert.Kernel12Ideal.Gen.facts) (hReference12Ideal := Cert.Reference12Ideal.Gen.facts) := by
  intro m g m' g' _ ha
  refine ⟨fun c => (Cert.Kernel12Ideal.Gen.dats m 0 c).arrAt 2 Cert.Kernel12Ideal.cfg0.N,
    Cert.Kernel12Ideal.Value.run_blocks m g, ?_⟩
  refine (θ_run Cert.Reference12Ideal.defs _ _).mono (fun r h c => ⟨?_, (h c).2⟩) (Cert.Reference12Ideal.Value.run (F := Ideal) m' g')
  refine (h c).1.trans ?_
  rw [(ha c).1, (ha c).2]
  refine Eq.trans ?_ (Cert.Kernel12Ideal.Prod.arr m c).symm
  funext y
  idx_vars y
  exact Cert.Reference12Ideal.Prod.out_at _ _ y0 y1

end Cert.Proof

/-! ## The recurrent mixer's first projection -/

namespace Cert.Kernel13Ideal.Prod
open Idealize.ShloMosaic Idealize.ShloMosaic.TcCoe Idealize.SL.Sem
open Cert.Kernel13Ideal Cert.Kernel13Ideal.Gen
variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0] ∧ t.val < 4 :=
  (by decide +kernel : ∀ t : Fin grid0.N, _)

/-- The product at an index. -/
def at_ (x : FVec Ideal S4096x1024 .bf16) (w : FVec Ideal S1x1024x1792 .bf16) (R : Fin 4096) (k : Fin 1792) : EReal :=
  ∑ j : Fin 1024, (x (ix2 R j) : EReal) * (w (ix3 0 j k) : EReal)

theorem block_at (x : FVec Ideal S1024x1024 .bf16) (w : FVec Ideal S1x1024x1792 .bf16) (i : Fin 1024) (k : Fin 1792) :
    (out0_2 (F := Ideal) x w (ix2 i k) : EReal) = ∑ j : Fin 1024, (x (ix2 i j) : EReal) * (w (ix3 0 j k) : EReal) := by
  unfold out0_2
  frame_out
  pointwise [k0_pay1]

theorem rows_at (t : Fin cfg0.N) (i : Fin 1024) (j : Fin 1024) (ht : t.val * 1024 + i.val < 4096) :
    (iblk m c 0 t (ix2 i j) : EReal) = (m ((c.tc : Thread nD τ).loc main_arg0) (ix2 ⟨t.val * 1024 + i.val, ht⟩ j) : EReal) := by
  blk_ext [iblk, V, idx t]

theorem mat_at (t : Fin cfg0.N) (j : Fin 1024) (k : Fin 1792) :
    (iblk m c 1 t (ix3 0 j k) : EReal) = (m ((c.tc : Thread nD τ).loc main_arg1) (ix3 0 j k) : EReal) := by
  blk_ext [iblk, V, idx t]

/-- The result after the run. -/
theorem arr : (dats m 0 c).arrAt 2 cfg0.N = fun y : S4096x1792.Idx =>
    at_ (m ((c.tc : Thread nD τ).loc main_arg0)) (m ((c.tc : Thread nD τ).loc main_arg1)) ⟨(y 0).val, (y 0).isLt⟩ ⟨(y 1).val, (y 1).isLt⟩ := by
  refine (dats m 0 c).arrAt_eq_of_covers 2 _ (by decide +kernel) fun t hf y => ?_
  have ht := (idx t).2.2.2
  blk_simp [idx t]
  rw [after0_2]
  idx_vars y
  refine (block_at _ _ y0 y1).trans (Finset.sum_congr rfl fun j _ => ?_)
  rw [rows_at m c t y0 j (by omega), mat_at]

end Cert.Kernel13Ideal.Prod

namespace Cert.Reference13Ideal.Prod
open Idealize.ShloMosaic Idealize.ShloMosaic.TcCoe Idealize.SL.Sem
open Cert.Reference13Ideal Cert.Reference13Ideal.Gen

/-- What the reference leaves. -/
def out (x0 : FVec Ideal S4096x1024 .bf16) (x1 : FVec Ideal S1x1024x1792 .bf16) : FVec Ideal S4096x1792 .f32 :=
  Host.dotGeneral (φ₁ := .f32) (φ₂ := .f32) dot_S4096x1024_S1024x1792_S4096x1792_1_0_0_1_n_n none (extf .f32 x0 bitsLt_bf16_f32) (extf .f32 (shapeCast _ x1 shapeCasts_S1x1024x1792_S1024x1792) bitsLt_bf16_f32)

theorem out_at (x0 : FVec Ideal S4096x1024 .bf16) (x1 : FVec Ideal S1x1024x1792 .bf16) (R : Fin 4096) (k : Fin 1792) :
    (out x0 x1 (ix2 R k) : EReal) = Cert.Kernel13Ideal.Prod.at_ x0 x1 R k := by
  unfold out Cert.Kernel13Ideal.Prod.at_
  pointwise []

end Cert.Reference13Ideal.Prod

namespace Cert.Proof
open Idealize.ShloMosaic Idealize.ShloMosaic.TcCoe Idealize.SL.Sem

/-- Every run of the reference ends, and leaves its arguments as they were. -/
theorem reference13_quiescent : quiescent_Reference13Ideal (hReference13Ideal := Cert.Reference13Ideal.Gen.facts) := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

/-- The kernel's result is the reference's. -/
theorem algebraic13 : algebraic_Kernel13Ideal_Reference13Ideal
    (hKernel13Ideal := Cert.Kernel13Ideal.Gen.facts) (hReference13Ideal := Cert.Reference13Ideal.Gen.facts) := by
  intro m g m' g' _ ha
  refine ⟨fun c => (Cert.Kernel13Ideal.Gen.dats m 0 c).arrAt 2 Cert.Kernel13Ideal.cfg0.N,
    Cert.Kernel13Ideal.Value.run_blocks m g, ?_⟩
  refine (θ_run Cert.Reference13Ideal.defs _ _).mono (fun r h c => ⟨?_, (h c).2⟩) (Cert.Reference13Ideal.Value.run (F := Ideal) m' g')
  refine (h c).1.trans ?_
  rw [(ha c).1, (ha c).2]
  refine Eq.trans ?_ (Cert.Kernel13Ideal.Prod.arr m c).symm
  funext y
  idx_vars y
  exact Cert.Reference13Ideal.Prod.out_at _ _ y0 y1

end Cert.Proof

/-! ## The keys' and values' projection -/

namespace Cert.Kernel16Ideal.Prod
open Idealize.ShloMosaic Idealize.ShloMosaic.TcCoe Idealize.SL.Sem
open Cert.Kernel16Ideal Cert.Kernel16Ideal.Gen
variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0] ∧ t.val < 2 :=
  (by decide +kernel : ∀ t : Fin grid0.N, _)

/-- The product at an index. -/
def at_ (x : FVec Ideal S4096x1024 .bf16) (w : FVec Ideal S1x1024x512 .bf16) (R : Fin 4096) (k : Fin 512) : EReal :=
  ∑ j : Fin 1024, (x (ix2 R j) : EReal) * (w (ix3 0 j k) : EReal)

theorem block_at (x : FVec Ideal S2048x1024 .bf16) (w : FVec Ideal S1x1024x512 .bf16) (i : Fin 2048) (k : Fin 512) :
    (out0_2 (F := Ideal) x w (ix2 i k) : EReal) = ∑ j : Fin 1024, (x (ix2 i j) : EReal) * (w (ix3 0 j k) : EReal) := by
  unfold out0_2
  frame_out
  pointwise [k0_pay1]

theorem rows_at (t : Fin cfg0.N) (i : Fin 2048) (j : Fin 1024) (ht : t.val * 2048 + i.val < 4096) :
    (iblk m c 0 t (ix2 i j) : EReal) = (m ((c.tc : Thread nD τ).loc main_arg0) (ix2 ⟨t.val * 2048 + i.val, ht⟩ j) : EReal) := by
  blk_ext [iblk, V, idx t]

theorem mat_at (t : Fin cfg0.N) (j : Fin 1024) (k : Fin 512) :
    (iblk m c 1 t (ix3 0 j k) : EReal) = (m ((c.tc : Thread nD τ).loc main_arg1) (ix3 0 j k) : EReal) := by
  blk_ext [iblk, V, idx t]

/-- The result after the run. -/
theorem arr : (dats m 0 c).arrAt 2 cfg0.N = fun y : S4096x512.Idx =>
    at_ (m ((c.tc : Thread nD τ).loc main_arg0)) (m ((c.tc : Thread nD τ).loc main_arg1)) ⟨(y 0).val, (y 0).isLt⟩ ⟨(y 1).val, (y 1).isLt⟩ := by
  refine (dats m 0 c).arrAt_eq_of_covers 2 _ (by decide +kernel) fun t hf y => ?_
  have ht := (idx t).2.2.2
  blk_simp [idx t]
  rw [after0_2]
  idx_vars y
  refine (block_at _ _ y0 y1).trans (Finset.sum_congr rfl fun j _ => ?_)
  rw [rows_at m c t y0 j (by omega), mat_at]

end Cert.Kernel16Ideal.Prod

namespace Cert.Reference16Ideal.Prod
open Idealize.ShloMosaic Idealize.ShloMosaic.TcCoe Idealize.SL.Sem
open Cert.Reference16Ideal Cert.Reference16Ideal.Gen

/-- What the reference leaves. -/
def out (x0 : FVec Ideal S4096x1024 .bf16) (x1 : FVec Ideal S1x1024x512 .bf16) : FVec Ideal S4096x512 .f32 :=
  Host.dotGeneral (φ₁ := .f32) (φ₂ := .f32) dot_S4096x1024_S1024x512_S4096x512_1_0_0_1_n_n none (extf .f32 x0 bitsLt_bf16_f32) (extf .f32 (shapeCast _ x1 shapeCasts_S1x1024x512_S1024x512) bitsLt_bf16_f32)

theorem out_at (x0 : FVec Ideal S4096x1024 .bf16) (x1 : FVec Ideal S1x1024x512 .bf16) (R : Fin 4096) (k : Fin 512) :
    (out x0 x1 (ix2 R k) : EReal) = Cert.Kernel16Ideal.Prod.at_ x0 x1 R k := by
  unfold out Cert.Kernel16Ideal.Prod.at_
  pointwise []

end Cert.Reference16Ideal.Prod

namespace Cert.Proof
open Idealize.ShloMosaic Idealize.ShloMosaic.TcCoe Idealize.SL.Sem

/-- Every run of the reference ends, and leaves its arguments as they were. -/
theorem reference16_quiescent : quiescent_Reference16Ideal (hReference16Ideal := Cert.Reference16Ideal.Gen.facts) := fun m ρ _ =>
  (θ_run Cert.Reference16Ideal.defs _ _).mono
    (fun r h => ⟨fun c => (h c).2, Idealize.ShloMosaic.sem_eq_zero_of_no_sems (by decide) r.2⟩)
    (Cert.Reference16Ideal.Value.run (F := Ideal) m ρ)

/-- The kernel's result is the reference's. -/
theorem algebraic16 : algebraic_Kernel16Ideal_Reference16Ideal
    (hKernel16Ideal := Cert.Kernel16Ideal.Gen.facts) (hReference16Ideal := Cert.Reference16Ideal.Gen.facts) := by
  intro m g m' g' _ ha
  refine ⟨fun c => (Cert.Kernel16Ideal.Gen.dats m 0 c).arrAt 2 Cert.Kernel16Ideal.cfg0.N,
    Cert.Kernel16Ideal.Value.run_blocks m g, ?_⟩
  refine (θ_run Cert.Reference16Ideal.defs _ _).mono (fun r h c => ⟨?_, (h c).2⟩) (Cert.Reference16Ideal.Value.run (F := Ideal) m' g')
  refine (h c).1.trans ?_
  rw [(ha c).1, (ha c).2]
  refine Eq.trans ?_ (Cert.Kernel16Ideal.Prod.arr m c).symm
  funext y
  idx_vars y
  exact Cert.Reference16Ideal.Prod.out_at _ _ y0 y1

end Cert.Proof

/-! ## The memory's projection -/

namespace Cert.Kernel19Ideal.Prod
open Idealize.ShloMosaic Idealize.ShloMosaic.TcCoe Idealize.SL.Sem
open Cert.Kernel19Ideal Cert.Kernel19Ideal.Gen
variable (m : (ℓ : Loc nD τ sig) → Buf (Elt Ideal) ℓ) (c : Dev nD)

theorem idx : ∀ t : Fin cfg0.N, win0_0.index t = ![0, 0] ∧ win0_1.index t = ![0, 0, 0] ∧ win0_2.index t = ![0, 0] :=
  (by decide +kernel : ∀ t : Fin grid0.N, _)

/-- The product at an index. -/
def at_ (x : FVec Ideal S512x1024 .bf16) (w : FVec Ideal S1x1024x512 .bf16) (R : Fin 512) (k : Fin 512) : EReal :=
  ∑ j : Fin 1024, (x (ix2 R j) : EReal) * (w (ix3 0 j k) : EReal)

theorem block_at (x : FVec Ideal S512x1024 .bf16) (w : FVec Ideal S1x1024x512 .bf16) (i : Fin 512) (k : Fin 512) :
    (out0_2 (F := Ideal) x w (ix2 i k) : EReal) = ∑ j : Fin 1024, (x (ix2 i j) : EReal) * (w (ix3 0 j k) : EReal) := by
  unfold out0_2
  frame_out
  pointwise [k0_pay1]

theorem rows_at (t : Fin cfg0.N) (i : Fin 512) (j : Fin 1024) :
    (iblk m c 0 t (ix2 i j) : EReal) = (m ((c.tc : Thread nD τ).loc main_arg0) (ix2 i j) : EReal) := by
  blk_ext [iblk, V, idx t]

theorem mat_at (t : Fin cfg0.N) (j : Fin 1024) (k : Fin 512) :
    (iblk m c 1 t (ix3 0 j k) : EReal) = (m ((c.tc : Thread nD τ).loc main_arg1) (ix3 0 j k) : EReal) := by
  blk_ext [iblk, V, idx t]

/-- The result after the run. -/
theorem arr : (dats m 0 c).arrAt 2 cfg0.N = fun y : S512x512.Idx =>
    at_ (m ((c.tc : Thread nD τ).loc main_arg0)) (m ((c.tc : Thread nD τ).loc main_arg1)) ⟨(y 0).val, (y 0).isLt⟩ ⟨(y 1).val, (y 1).isLt⟩ := by
  refine (dats m 0 c).arrAt_eq_of_covers 2 _ (by decide +kernel) fun t hf y => ?_
  blk_simp [idx t]
  rw [after0_2]
  idx_vars y
  refine (block_at _ _ y0 y1).trans (Finset.sum_congr rfl fun j _ => ?_)
  rw [rows_at, mat_at]

end Cert.Kernel19Ideal.Prod

namespace Cert.Reference19Ideal.Prod
open Idealize.ShloMosaic Idealize.ShloMosaic.TcCoe Idealize.SL.Sem
open Cert.Reference19Ideal Cert.Reference19Ideal.Gen

/-- What the reference leaves. -/
def out (x0 : FVec Ideal S512x1024 .bf16) (x1 : FVec Ideal S1x1024x512 .bf16) : FVec Ideal S512x512 .f32 :=
  Host.dotGeneral (φ₁ := .f32) (φ₂ := .f32) dot_S512x1024_S1024x512_S512x512_1_0_0_1_n_n none (extf .f32 x0 bitsLt_bf16_f32) (extf .f32 (shapeCast _ x1 shapeCasts_S1x1024x512_S1024x512) bitsLt_bf16_f32)

theorem out_at (x0 : FVec Ideal S512x1024 .bf16) (x1 : FVec Ideal S1x1024x512 .bf16) (R : Fin 512) (k : Fin 512) :
    (out x0 x1 (ix2 R k) : EReal) = Cert.Kernel19Ideal.Prod.at_ x0 x1 R k := by
  unfold out Cert.Kernel19Ideal.Prod.at_
  pointwise []

end Cert.Reference19Ideal.Prod

namespace Cert.Proof
open Idealize.ShloMosaic Idealize.ShloMosaic.TcCoe Idealize.SL.Sem

/-- Every run of the reference ends, and leaves its arguments as they were. -/
theorem reference19_quiescent : quiescent_Reference19Ideal (hReference19Ideal := Cert.Reference19Ideal.Gen.facts) := fun m ρ _ =>
  (θ_run Cert.Reference19Ideal.defs _ _).mono
    (fun r h => ⟨fun c => (h c).2, Idealize.ShloMosaic.sem_eq_zero_of_no_sems (by decide) r.2⟩)
    (Cert.Reference19Ideal.Value.run (F := Ideal) m ρ)

/-- The kernel's result is the reference's. -/
theorem algebraic19 : algebraic_Kernel19Ideal_Reference19Ideal
    (hKernel19Ideal := Cert.Kernel19Ideal.Gen.facts) (hReference19Ideal := Cert.Reference19Ideal.Gen.facts) := by
  intro m g m' g' _ ha
  refine ⟨fun c => (Cert.Kernel19Ideal.Gen.dats m 0 c).arrAt 2 Cert.Kernel19Ideal.cfg0.N,
    Cert.Kernel19Ideal.Value.run_blocks m g, ?_⟩
  refine (θ_run Cert.Reference19Ideal.defs _ _).mono (fun r h c => ⟨?_, (h c).2⟩) (Cert.Reference19Ideal.Value.run (F := Ideal) m' g')
  refine (h c).1.trans ?_
  rw [(ha c).1, (ha c).2]
  refine Eq.trans ?_ (Cert.Kernel19Ideal.Prod.arr m c).symm
  funext y
  idx_vars y
  exact Cert.Reference19Ideal.Prod.out_at _ _ y0 y1

end Cert.Proof
-- ==== Proof.ProjDx.lean ====
module
public import proofs.«01_k».proof.Defs
public import proofs.«01_k».proof.Proof.Gen.Kernel10Ideal.Value
public import proofs.«01_k».proof.Proof.Gen.Reference10Ideal.Run
public import proofs.«01_k».proof.Proof.Gen.Kernel14Ideal.Value
public import proofs.«01_k».proof.Proof.Gen.Reference14Ideal.Run
public import proofs.«01_k».proof.Proof.Gen.Kernel17Ideal.Value
public import proofs.«01_k».proof.Proof.Gen.Reference17Ideal.Run
public import proofs.«01_k».proof.Proof.Gen.Kernel20Ideal.Value
public import proofs.«01_k».proof.Proof.Gen.Reference20Ideal.Run
public import Idealize.ShloMosaic.Lib.Pipeline.ValueKit
public import Idealize.ShloMosaic.Lib.Pointwise
public import Idealize.ShloMosaic.Lib.Quiescent

/-! # The gradients of the projections' inputs

Each call multiplies blocks of rows of the incoming derivative with the whole transposed matrix. -/

@[expose] public section
set_option maxRecDepth 65536
noncomputable section

/-! ## The mixers' last projection -/

namespace Cert.Kernel10Ideal.Prod
open Idealize.ShloMosaic Idealize.ShloMosaic.TcCoe Idealize.SL.Sem
open Cert.Kernel10Ideal Cert.Kernel10Ideal.Gen
variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0] ∧ t.val < 2 :=
  (by decide +kernel : ∀ t : Fin grid0.N, _)

/-- The product at an index. -/
def at_ (x : FVec Ideal S4096x1024 .bf16) (w : FVec Ideal S1x1024x1024 .bf16) (R : Fin 4096) (k : Fin 1024) : EReal :=
  ∑ j : Fin 1024, (x (ix2 R j) : EReal) * (w (ix3 0 k j) : EReal)

theorem block_at (x : FVec Ideal S2048x1024 .bf16) (w : FVec Ideal S1x1024x1024 .bf16) (i : Fin 2048) (k : Fin 1024) :
    (out0_2 (F := Ideal) x w (ix2 i k) : EReal) = ∑ j : Fin 1024, (x (ix2 i j) : EReal) * (w (ix3 0 k j) : EReal) := by
  unfold out0_2
  frame_out
  pointwise [k0_pay1]

theorem rows_at (t : Fin cfg0.N) (i : Fin 2048) (j : Fin 1024) (ht : t.val * 2048 + i.val < 4096) :
    (iblk m c 0 t (ix2 i j) : EReal) = (m ((c.tc : Thread nD τ).loc main_arg0) (ix2 ⟨t.val * 2048 + i.val, ht⟩ j) : EReal) := by
  blk_ext [iblk, V, idx t]

theorem mat_at (t : Fin cfg0.N) (k : Fin 1024) (j : Fin 1024) :
    (iblk m c 1 t (ix3 0 k j) : EReal) = (m ((c.tc : Thread nD τ).loc main_arg1) (ix3 0 k j) : EReal) := by
  blk_ext [iblk, V, idx t]

/-- The result after the run. -/
theorem arr : (dats m 0 c).arrAt 2 cfg0.N = fun y : S4096x1024.Idx =>
    at_ (m ((c.tc : Thread nD τ).loc main_arg0)) (m ((c.tc : Thread nD τ).loc main_arg1)) ⟨(y 0).val, (y 0).isLt⟩ ⟨(y 1).val, (y 1).isLt⟩ := by
  refine (dats m 0 c).arrAt_eq_of_covers 2 _ (by decide +kernel) fun t hf y => ?_
  have ht := (idx t).2.2.2
  blk_simp [idx t]
  rw [after0_2]
  idx_vars y
  refine (block_at _ _ y0 y1).trans (Finset.sum_congr rfl fun j _ => ?_)
  rw [rows_at m c t y0 j (by omega), mat_at]

end Cert.Kernel10Ideal.Prod

namespace Cert.Reference10Ideal.Prod
open Idealize.ShloMosaic Idealize.ShloMosaic.TcCoe Idealize.SL.Sem
open Cert.Reference10Ideal Cert.Reference10Ideal.Gen

/-- What the reference leaves. -/
def out (x0 : FVec Ideal S4096x1024 .bf16) (x1 : FVec Ideal S1x1024x1024 .bf16) : FVec Ideal S4096x1024 .bf16 :=
  truncf .bf16 (Host.dotGeneral (φ₁ := .f32) (φ₂ := .f32) dot_S4096x1024_S1024x1024_S4096x1024_1_1_0_0_n_n none (extf .f32 x0 bitsLt_bf16_f32) (extf .f32 (shapeCast _ x1 shapeCasts_S1x1024x1024_S1024x1024) bitsLt_bf16_f32)) bitsLt_bf16_f32

theorem out_at (x0 : FVec Ideal S4096x1024 .bf16) (x1 : FVec Ideal S1x1024x1024 .bf16) (R : Fin 4096) (k : Fin 1024) :
    (out x0 x1 (ix2 R k) : EReal) = Cert.Kernel10Ideal.Prod.at_ x0 x1 R k := by
  unfold out Cert.Kernel10Ideal.Prod.at_
  pointwise []

end Cert.Reference10Ideal.Prod

namespace Cert.Proof
open Idealize.ShloMosaic Idealize.ShloMosaic.TcCoe Idealize.SL.Sem

/-- Every run of the reference ends, and leaves its arguments as they were. -/
theorem reference10_quiescent : quiescent_Reference10Ideal (hReference10Ideal := Cert.Reference10Ideal.Gen.facts) := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The kernel's result is the reference's. -/
theorem algebraic10 : algebraic_Kernel10Ideal_Reference10Ideal
    (hKernel10Ideal := Cert.Kernel10Ideal.Gen.facts) (hReference10Ideal := Cert.Reference10Ideal.Gen.facts) := by
  intro m g m' g' _ ha
  refine ⟨fun c => (Cert.Kernel10Ideal.Gen.dats m 0 c).arrAt 2 Cert.Kernel10Ideal.cfg0.N,
    Cert.Kernel10Ideal.Value.run_blocks m g, ?_⟩
  refine (θ_run Cert.Reference10Ideal.defs _ _).mono (fun r h c => ⟨?_, (h c).2⟩) (Cert.Reference10Ideal.Value.run (F := Ideal) m' g')
  refine (h c).1.trans ?_
  rw [(ha c).1, (ha c).2]
  refine Eq.trans ?_ (Cert.Kernel10Ideal.Prod.arr m c).symm
  funext y
  idx_vars y
  exact Cert.Reference10Ideal.Prod.out_at _ _ y0 y1

end Cert.Proof

/-! ## The recurrent mixer's first projection -/

namespace Cert.Kernel14Ideal.Prod
open Idealize.ShloMosaic Idealize.ShloMosaic.TcCoe Idealize.SL.Sem
open Cert.Kernel14Ideal Cert.Kernel14Ideal.Gen
variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0] ∧ t.val < 4 :=
  (by decide +kernel : ∀ t : Fin grid0.N, _)

/-- The product at an index. -/
def at_ (x : FVec Ideal S4096x1792 .bf16) (w : FVec Ideal S1x1024x1792 .bf16) (R : Fin 4096) (k : Fin 1024) : EReal :=
  ∑ j : Fin 1792, (x (ix2 R j) : EReal) * (w (ix3 0 k j) : EReal)

theorem block_at (x : FVec Ideal S1024x1792 .bf16) (w : FVec Ideal S1x1024x1792 .bf16) (i : Fin 1024) (k : Fin 1024) :
    (out0_2 (F := Ideal) x w (ix2 i k) : EReal) = ∑ j : Fin 1792, (x (ix2 i j) : EReal) * (w (ix3 0 k j) : EReal) := by
  unfold out0_2
  frame_out
  pointwise [k0_pay1]

theorem rows_at (t : Fin cfg0.N) (i : Fin 1024) (j : Fin 1792) (ht : t.val * 1024 + i.val < 4096) :
    (iblk m c 0 t (ix2 i j) : EReal) = (m ((c.tc : Thread nD τ).loc main_arg0) (ix2 ⟨t.val * 1024 + i.val, ht⟩ j) : EReal) := by
  blk_ext [iblk, V, idx t]

theorem mat_at (t : Fin cfg0.N) (k : Fin 1024) (j : Fin 1792) :
    (iblk m c 1 t (ix3 0 k j) : EReal) = (m ((c.tc : Thread nD τ).loc main_arg1) (ix3 0 k j) : EReal) := by
  blk_ext [iblk, V, idx t]

/-- The result after the run. -/
theorem arr : (dats m 0 c).arrAt 2 cfg0.N = fun y : S4096x1024.Idx =>
    at_ (m ((c.tc : Thread nD τ).loc main_arg0)) (m ((c.tc : Thread nD τ).loc main_arg1)) ⟨(y 0).val, (y 0).isLt⟩ ⟨(y 1).val, (y 1).isLt⟩ := by
  refine (dats m 0 c).arrAt_eq_of_covers 2 _ (by decide +kernel) fun t hf y => ?_
  have ht := (idx t).2.2.2
  blk_simp [idx t]
  rw [after0_2]
  idx_vars y
  refine (block_at _ _ y0 y1).trans (Finset.sum_congr rfl fun j _ => ?_)
  rw [rows_at m c t y0 j (by omega), mat_at]

end Cert.Kernel14Ideal.Prod

namespace Cert.Reference14Ideal.Prod
open Idealize.ShloMosaic Idealize.ShloMosaic.TcCoe Idealize.SL.Sem
open Cert.Reference14Ideal Cert.Reference14Ideal.Gen

/-- What the reference leaves. -/
def out (x0 : FVec Ideal S4096x1792 .bf16) (x1 : FVec Ideal S1x1024x1792 .bf16) : FVec Ideal S4096x1024 .bf16 :=
  truncf .bf16 (Host.dotGeneral (φ₁ := .f32) (φ₂ := .f32) dot_S4096x1792_S1024x1792_S4096x1024_1_1_0_0_n_n none (extf .f32 x0 bitsLt_bf16_f32) (extf .f32 (shapeCast _ x1 shapeCasts_S1x1024x1792_S1024x1792) bitsLt_bf16_f32)) bitsLt_bf16_f32

theorem out_at (x0 : FVec Ideal S4096x1792 .bf16) (x1 : FVec Ideal S1x1024x1792 .bf16) (R : Fin 4096) (k : Fin 1024) :
    (out x0 x1 (ix2 R k) : EReal) = Cert.Kernel14Ideal.Prod.at_ x0 x1 R k := by
  unfold out Cert.Kernel14Ideal.Prod.at_
  pointwise []

end Cert.Reference14Ideal.Prod

namespace Cert.Proof
open Idealize.ShloMosaic Idealize.ShloMosaic.TcCoe Idealize.SL.Sem

/-- Every run of the reference ends, and leaves its arguments as they were. -/
theorem reference14_quiescent : quiescent_Reference14Ideal (hReference14Ideal := Cert.Reference14Ideal.Gen.facts) := fun m ρ _ =>
  (θ_run Cert.Reference14Ideal.defs _ _).mono
    (fun r h => ⟨fun c => (h c).2, Idealize.ShloMosaic.sem_eq_zero_of_no_sems (by decide) r.2⟩)
    (Cert.Reference14Ideal.Value.run (F := Ideal) m ρ)

/-- The kernel's result is the reference's. -/
theorem algebraic14 : algebraic_Kernel14Ideal_Reference14Ideal
    (hKernel14Ideal := Cert.Kernel14Ideal.Gen.facts) (hReference14Ideal := Cert.Reference14Ideal.Gen.facts) := by
  intro m g m' g' _ ha
  refine ⟨fun c => (Cert.Kernel14Ideal.Gen.dats m 0 c).arrAt 2 Cert.Kernel14Ideal.cfg0.N,
    Cert.Kernel14Ideal.Value.run_blocks m g, ?_⟩
  refine (θ_run Cert.Reference14Ideal.defs _ _).mono (fun r h c => ⟨?_, (h c).2⟩) (Cert.Reference14Ideal.Value.run (F := Ideal) m' g')
  refine (h c).1.trans ?_
  rw [(ha c).1, (ha c).2]
  refine Eq.trans ?_ (Cert.Kernel14Ideal.Prod.arr m c).symm
  funext y
  idx_vars y
  exact Cert.Reference14Ideal.Prod.out_at _ _ y0 y1

end Cert.Proof

/-! ## The keys' and values' projection -/

namespace Cert.Kernel17Ideal.Prod
open Idealize.ShloMosaic Idealize.ShloMosaic.TcCoe Idealize.SL.Sem
open Cert.Kernel17Ideal Cert.Kernel17Ideal.Gen
variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0] ∧ t.val < 2 :=
  (by decide +kernel : ∀ t : Fin grid0.N, _)

/-- The product at an index. -/
def at_ (x : FVec Ideal S4096x512 .bf16) (w : FVec Ideal S1x1024x512 .bf16) (R : Fin 4096) (k : Fin 1024) : EReal :=
  ∑ j : Fin 512, (x (ix2 R j) : EReal) * (w (ix3 0 k j) : EReal)

theorem block_at (x : FVec Ideal S2048x512 .bf16) (w : FVec Ideal S1x1024x512 .bf16) (i : Fin 2048) (k : Fin 1024) :
    (out0_2 (F := Ideal) x w (ix2 i k) : EReal) = ∑ j : Fin 512, (x (ix2 i j) : EReal) * (w (ix3 0 k j) : EReal) := by
  unfold out0_2
  frame_out
  pointwise [k0_pay1]

theorem rows_at (t : Fin cfg0.N) (i : Fin 2048) (j : Fin 512) (ht : t.val * 2048 + i.val < 4096) :
    (iblk m c 0 t (ix2 i j) : EReal) = (m ((c.tc : Thread nD τ).loc main_arg0) (ix2 ⟨t.val * 2048 + i.val, ht⟩ j) : EReal) := by
  blk_ext [iblk, V, idx t]

theorem mat_at (t : Fin cfg0.N) (k : Fin 1024) (j : Fin 512) :
    (iblk m c 1 t (ix3 0 k j) : EReal) = (m ((c.tc : Thread nD τ).loc main_arg1) (ix3 0 k j) : EReal) := by
  blk_ext [iblk, V, idx t]

/-- The result after the run. -/
theorem arr : (dats m 0 c).arrAt 2 cfg0.N = fun y : S4096x1024.Idx =>
    at_ (m ((c.tc : Thread nD τ).loc main_arg0)) (m ((c.tc : Thread nD τ).loc main_arg1)) ⟨(y 0).val, (y 0).isLt⟩ ⟨(y 1).val, (y 1).isLt⟩ := by
  refine (dats m 0 c).arrAt_eq_of_covers 2 _ (by decide +kernel) fun t hf y => ?_
  have ht := (idx t).2.2.2
  blk_simp [idx t]
  rw [after0_2]
  idx_vars y
  refine (block_at _ _ y0 y1).trans (Finset.sum_congr rfl fun j _ => ?_)
  rw [rows_at m c t y0 j (by omega), mat_at]

end Cert.Kernel17Ideal.Prod

namespace Cert.Reference17Ideal.Prod
open Idealize.ShloMosaic Idealize.ShloMosaic.TcCoe Idealize.SL.Sem
open Cert.Reference17Ideal Cert.Reference17Ideal.Gen

/-- What the reference leaves. -/
def out (x0 : FVec Ideal S4096x512 .bf16) (x1 : FVec Ideal S1x1024x512 .bf16) : FVec Ideal S4096x1024 .bf16 :=
  truncf .bf16 (Host.dotGeneral (φ₁ := .f32) (φ₂ := .f32) dot_S4096x512_S1024x512_S4096x1024_1_1_0_0_n_n none (extf .f32 x0 bitsLt_bf16_f32) (extf .f32 (shapeCast _ x1 shapeCasts_S1x1024x512_S1024x512) bitsLt_bf16_f32)) bitsLt_bf16_f32

theorem out_at (x0 : FVec Ideal S4096x512 .bf16) (x1 : FVec Ideal S1x1024x512 .bf16) (R : Fin 4096) (k : Fin 1024) :
    (out x0 x1 (ix2 R k) : EReal) = Cert.Kernel17Ideal.Prod.at_ x0 x1 R k := by
  unfold out Cert.Kernel17Ideal.Prod.at_
  pointwise []

end Cert.Reference17Ideal.Prod

namespace Cert.Proof
open Idealize.ShloMosaic Idealize.ShloMosaic.TcCoe Idealize.SL.Sem

/-- Every run of the reference ends, and leaves its arguments as they were. -/
theorem reference17_quiescent : quiescent_Reference17Ideal (hReference17Ideal := Cert.Reference17Ideal.Gen.facts) := fun m ρ _ =>
  (θ_run Cert.Reference17Ideal.defs _ _).mono
    (fun r h => ⟨fun c => (h c).2, Idealize.ShloMosaic.sem_eq_zero_of_no_sems (by decide) r.2⟩)
    (Cert.Reference17Ideal.Value.run (F := Ideal) m ρ)

/-- The kernel's result is the reference's. -/
theorem algebraic17 : algebraic_Kernel17Ideal_Reference17Ideal
    (hKernel17Ideal := Cert.Kernel17Ideal.Gen.facts) (hReference17Ideal := Cert.Reference17Ideal.Gen.facts) := by
  intro m g m' g' _ ha
  refine ⟨fun c => (Cert.Kernel17Ideal.Gen.dats m 0 c).arrAt 2 Cert.Kernel17Ideal.cfg0.N,
    Cert.Kernel17Ideal.Value.run_blocks m g, ?_⟩
  refine (θ_run Cert.Reference17Ideal.defs _ _).mono (fun r h c => ⟨?_, (h c).2⟩) (Cert.Reference17Ideal.Value.run (F := Ideal) m' g')
  refine (h c).1.trans ?_
  rw [(ha c).1, (ha c).2]
  refine Eq.trans ?_ (Cert.Kernel17Ideal.Prod.arr m c).symm
  funext y
  idx_vars y
  exact Cert.Reference17Ideal.Prod.out_at _ _ y0 y1

end Cert.Proof

/-! ## The memory's projection -/

namespace Cert.Kernel20Ideal.Prod
open Idealize.ShloMosaic Idealize.ShloMosaic.TcCoe Idealize.SL.Sem
open Cert.Kernel20Ideal Cert.Kernel20Ideal.Gen
variable (m : (ℓ : Loc nD τ sig) → Buf (Elt Ideal) ℓ) (c : Dev nD)

theorem idx : ∀ t : Fin cfg0.N, win0_0.index t = ![0, 0] ∧ win0_1.index t = ![0, 0, 0] ∧ win0_2.index t = ![0, 0] :=
  (by decide +kernel : ∀ t : Fin grid0.N, _)

/-- The product at an index. -/
def at_ (x : FVec Ideal S512x512 .bf16) (w : FVec Ideal S1x1024x512 .bf16) (R : Fin 512) (k : Fin 1024) : EReal :=
  ∑ j : Fin 512, (x (ix2 R j) : EReal) * (w (ix3 0 k j) : EReal)

theorem block_at (x : FVec Ideal S512x512 .bf16) (w : FVec Ideal S1x1024x512 .bf16) (i : Fin 512) (k : Fin 1024) :
    (out0_2 (F := Ideal) x w (ix2 i k) : EReal) = ∑ j : Fin 512, (x (ix2 i j) : EReal) * (w (ix3 0 k j) : EReal) := by
  unfold out0_2
  frame_out
  pointwise [k0_pay1]

theorem rows_at (t : Fin cfg0.N) (i : Fin 512) (j : Fin 512) :
    (iblk m c 0 t (ix2 i j) : EReal) = (m ((c.tc : Thread nD τ).loc main_arg0) (ix2 i j) : EReal) := by
  blk_ext [iblk, V, idx t]

theorem mat_at (t : Fin cfg0.N) (k : Fin 1024) (j : Fin 512) :
    (iblk m c 1 t (ix3 0 k j) : EReal) = (m ((c.tc : Thread nD τ).loc main_arg1) (ix3 0 k j) : EReal) := by
  blk_ext [iblk, V, idx t]

/-- The result after the run. -/
theorem arr : (dats m 0 c).arrAt 2 cfg0.N = fun y : S512x1024.Idx =>
    at_ (m ((c.tc : Thread nD τ).loc main_arg0)) (m ((c.tc : Thread nD τ).loc main_arg1)) ⟨(y 0).val, (y 0).isLt⟩ ⟨(y 1).val, (y 1).isLt⟩ := by
  refine (dats m 0 c).arrAt_eq_of_covers 2 _ (by decide +kernel) fun t hf y => ?_
  blk_simp [idx t]
  rw [after0_2]
  idx_vars y
  refine (block_at _ _ y0 y1).trans (Finset.sum_congr rfl fun j _ => ?_)
  rw [rows_at, mat_at]

end Cert.Kernel20Ideal.Prod

namespace Cert.Reference20Ideal.Prod
open Idealize.ShloMosaic Idealize.ShloMosaic.TcCoe Idealize.SL.Sem
open Cert.Reference20Ideal Cert.Reference20Ideal.Gen

/-- What the reference leaves. -/
def out (x0 : FVec Ideal S512x512 .bf16) (x1 : FVec Ideal S1x1024x512 .bf16) : FVec Ideal S512x1024 .f32 :=
  Host.dotGeneral (φ₁ := .f32) (φ₂ := .f32) dot_S512x512_S1024x512_S512x1024_1_1_0_0_n_n none (extf .f32 x0 bitsLt_bf16_f32) (extf .f32 (shapeCast _ x1 shapeCasts_S1x1024x512_S1024x512) bitsLt_bf16_f32)

theorem out_at (x0 : FVec Ideal S512x512 .bf16) (x1 : FVec Ideal S1x1024x512 .bf16) (R : Fin 512) (k : Fin 1024) :
    (out x0 x1 (ix2 R k) : EReal) = Cert.Kernel20Ideal.Prod.at_ x0 x1 R k := by
  unfold out Cert.Kernel20Ideal.Prod.at_
  pointwise []

end Cert.Reference20Ideal.Prod

namespace Cert.Proof
open Idealize.ShloMosaic Idealize.ShloMosaic.TcCoe Idealize.SL.Sem

/-- Every run of the reference ends, and leaves its arguments as they were. -/
theorem reference20_quiescent : quiescent_Reference20Ideal (hReference20Ideal := Cert.Reference20Ideal.Gen.facts) := fun m ρ _ =>
  (θ_run Cert.Reference20Ideal.defs _ _).mono
    (fun r h => ⟨fun c => (h c).2, Idealize.ShloMosaic.sem_eq_zero_of_no_sems (by decide) r.2⟩)
    (Cert.Reference20Ideal.Value.run (F := Ideal) m ρ)

/-- The kernel's result is the reference's. -/
theorem algebraic20 : algebraic_Kernel20Ideal_Reference20Ideal
    (hKernel20Ideal := Cert.Kernel20Ideal.Gen.facts) (hReference20Ideal := Cert.Reference20Ideal.Gen.facts) := by
  intro m g m' g' _ ha
  refine ⟨fun c => (Cert.Kernel20Ideal.Gen.dats m 0 c).arrAt 2 Cert.Kernel20Ideal.cfg0.N,
    Cert.Kernel20Ideal.Value.run_blocks m g, ?_⟩
  refine (θ_run Cert.Reference20Ideal.defs _ _).mono (fun r h c => ⟨?_, (h c).2⟩) (Cert.Reference20Ideal.Value.run (F := Ideal) m' g')
  refine (h c).1.trans ?_
  rw [(ha c).1, (ha c).2]
  refine Eq.trans ?_ (Cert.Kernel20Ideal.Prod.arr m c).symm
  funext y
  idx_vars y
  exact Cert.Reference20Ideal.Prod.out_at _ _ y0 y1

end Cert.Proof
-- ==== Proof.ProjDw.lean ====
module
public import proofs.«01_k».proof.Defs
public import proofs.«01_k».proof.Proof.Gen.Kernel11Ideal.Value
public import proofs.«01_k».proof.Proof.Gen.Reference11Ideal.Run
public import proofs.«01_k».proof.Proof.Gen.Kernel15Ideal.Value
public import proofs.«01_k».proof.Proof.Gen.Reference15Ideal.Run
public import proofs.«01_k».proof.Proof.Gen.Kernel18Ideal.Value
public import proofs.«01_k».proof.Proof.Gen.Reference18Ideal.Run
public import proofs.«01_k».proof.Proof.Gen.Kernel21Ideal.Value
public import proofs.«01_k».proof.Proof.Gen.Reference21Ideal.Run
public import proofs.«01_k».proof.Proof.Sums
public import Idealize.ShloMosaic.Lib.Pipeline.ValueKit
public import Idealize.ShloMosaic.Lib.Pointwise
public import Idealize.ShloMosaic.Lib.Quiescent

/-! # The gradients of the projections' matrices

Three calls have one grid point; the other adds the products of two halves of the rows. -/

@[expose] public section
set_option maxRecDepth 65536
noncomputable section

/-! ## The mixers' last projection -/

namespace Cert.Kernel11Ideal.Prod
open Idealize.ShloMosaic Idealize.ShloMosaic.TcCoe Idealize.SL.Sem
open Cert.Kernel11Ideal Cert.Kernel11Ideal.Gen
variable (m : (ℓ : Loc nD τ sig) → Buf (Elt Ideal) ℓ) (c : Dev nD)

theorem idx : ∀ t : Fin cfg0.N, win0_0.index t = ![0, 0] ∧ win0_1.index t = ![0, 0] ∧ win0_2.index t = ![0, 0, 0] :=
  (by decide +kernel : ∀ t : Fin grid0.N, _)

/-- The product at an index. -/
def at_ (x : FVec Ideal S4096x1024 .bf16) (y : FVec Ideal S4096x1024 .bf16) (k : Fin 1024) (q : Fin 1024) : EReal :=
  ∑ r : Fin 4096, (x (ix2 r k) : EReal) * (y (ix2 r q) : EReal)

theorem pay2_at (x : FVec Ideal S4096x1024 .bf16) (y : FVec Ideal S4096x1024 .bf16) (o : Fin 1) (k : Fin 1024) (q : Fin 1024) :
    (k0_pay2 (F := Ideal) x y (ix3 o k q) : EReal) = at_ x y k q := by
  unfold at_
  obtain rfl : o = 0 := Subsingleton.elim _ _
  pointwise [k0_pay2, k0_pay1]

theorem out_A (t : Fin cfg0.N) : outsAt0 m c t = k0_pay2 (F := Ideal) (iblk m c 0 t) (iblk m c 1 t) := by
  unfold outsAt0
  frame_out

theorem rows_at (t : Fin cfg0.N) (r : Fin 4096) (k : Fin 1024) :
    (iblk m c 0 t (ix2 r k) : EReal) = (m ((c.tc : Thread nD τ).loc main_arg0) (ix2 r k) : EReal) := by
  blk_ext [iblk, V, idx t]

theorem rows'_at (t : Fin cfg0.N) (r : Fin 4096) (k : Fin 1024) :
    (iblk m c 1 t (ix2 r k) : EReal) = (m ((c.tc : Thread nD τ).loc main_arg1) (ix2 r k) : EReal) := by
  blk_ext [iblk, V, idx t]

/-- The result after the run. -/
theorem arr : (dats m 0 c).arrAt 2 cfg0.N = fun y : S1x1024x1024.Idx =>
    at_ (m ((c.tc : Thread nD τ).loc main_arg0)) (m ((c.tc : Thread nD τ).loc main_arg1)) ⟨(y 1).val, (y 1).isLt⟩ ⟨(y 2).val, (y 2).isLt⟩ := by
  refine (dats m 0 c).arrAt_eq_of_covers 2 _ (by decide +kernel) fun t hf y => ?_
  blk_simp [idx t]
  rw [after0_2, out_A]
  idx_vars y
  refine (pay2_at _ _ y0 y1 y2).trans (Finset.sum_congr rfl fun r _ => ?_)
  rw [rows_at, rows'_at]

end Cert.Kernel11Ideal.Prod

namespace Cert.Reference11Ideal.Prod
open Idealize.ShloMosaic Idealize.ShloMosaic.TcCoe Idealize.SL.Sem
open Cert.Reference11Ideal Cert.Reference11Ideal.Gen

/-- What the reference leaves. -/
def out (x0 : FVec Ideal S4096x1024 .bf16) (x1 : FVec Ideal S4096x1024 .bf16) : FVec Ideal S1x1024x1024 .f32 :=
  broadcastInDim S1x1024x1024 ![1, 2] bcast_S1024x1024_S1x1024x1024_1_2 (transpose S1024x1024 [1, 0] (Host.dotGeneral (φ₁ := .f32) (φ₂ := .f32) dot_S4096x1024_S4096x1024_S1024x1024_0_0_1_1_n_n none (extf .f32 x1 bitsLt_bf16_f32) (extf .f32 x0 bitsLt_bf16_f32)) transposes_S1024x1024_S1024x1024_1_0)

theorem out_at (x0 : FVec Ideal S4096x1024 .bf16) (x1 : FVec Ideal S4096x1024 .bf16) (o : Fin 1) (k : Fin 1024) (q : Fin 1024) :
    (out x0 x1 (ix3 o k q) : EReal) = Cert.Kernel11Ideal.Prod.at_ x0 x1 k q := by
  unfold out Cert.Kernel11Ideal.Prod.at_
  obtain rfl : o = 0 := Subsingleton.elim _ _
  pointwise []
  exact Finset.sum_congr rfl fun r _ => mul_comm _ _

end Cert.Reference11Ideal.Prod

namespace Cert.Proof
open Idealize.ShloMosaic Idealize.ShloMosaic.TcCoe Idealize.SL.Sem

/-- Every run of the reference ends, and leaves its arguments as they were. -/
theorem reference11_quiescent : quiescent_Reference11Ideal (hReference11Ideal := Cert.Reference11Ideal.Gen.facts) := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

/-- The kernel's result is the reference's. -/
theorem algebraic11 : algebraic_Kernel11Ideal_Reference11Ideal
    (hKernel11Ideal := Cert.Kernel11Ideal.Gen.facts) (hReference11Ideal := Cert.Reference11Ideal.Gen.facts) := by
  intro m g m' g' _ ha
  refine ⟨fun c => (Cert.Kernel11Ideal.Gen.dats m 0 c).arrAt 2 Cert.Kernel11Ideal.cfg0.N,
    Cert.Kernel11Ideal.Value.run_blocks m g, ?_⟩
  refine (θ_run Cert.Reference11Ideal.defs _ _).mono (fun r h c => ⟨?_, (h c).2⟩) (Cert.Reference11Ideal.Value.run (F := Ideal) m' g')
  refine (h c).1.trans ?_
  rw [(ha c).1, (ha c).2]
  refine Eq.trans ?_ (Cert.Kernel11Ideal.Prod.arr m c).symm
  funext y
  idx_vars y
  exact Cert.Reference11Ideal.Prod.out_at _ _ y0 y1 y2

end Cert.Proof

/-! ## The recurrent mixer's first projection -/

namespace Cert.Kernel15Ideal.Prod
open Idealize.ShloMosaic Idealize.ShloMosaic.TcCoe Idealize.SL.Sem
open Cert.Kernel15Ideal Cert.Kernel15Ideal.Gen
variable (m : (ℓ : Loc nD τ sig) → Buf (Elt Ideal) ℓ) (c : Dev nD)

/-- Where each window's block lies. -/
theorem idx : ∀ t : Fin cfg0.N, win0_0.index t = ![t.val, 0] ∧ win0_1.index t = ![t.val, 0] ∧ win0_2.index t = ![0, 0, 0] ∧ t.val < 2 :=
  (by decide +kernel : ∀ t : Fin grid0.N, _)

/-- The product at an index. -/
def at_ (x : FVec Ideal S4096x1024 .bf16) (y : FVec Ideal S4096x1792 .bf16) (k : Fin 1024) (q : Fin 1792) : EReal :=
  ∑ r : Fin 4096, (x (ix2 r k) : EReal) * (y (ix2 r q) : EReal)

/-- What one point adds. -/
def part (t : Fin cfg0.N) (i : S1x1024x1792.Idx) : EReal := k0_pay2 (F := Ideal) (iblk m c 0 t) (iblk m c 1 t) i

theorem pay2_at (x : FVec Ideal S2048x1024 .bf16) (y : FVec Ideal S2048x1792 .bf16) (o : Fin 1) (k : Fin 1024) (q : Fin 1792) :
    (k0_pay2 (F := Ideal) x y (ix3 o k q) : EReal) = ∑ r : Fin 2048, (x (ix2 r k) : EReal) * (y (ix2 r q) : EReal) := by
  obtain rfl : o = 0 := Subsingleton.elim _ _
  pointwise [k0_pay2, k0_pay1]

theorem pay3_at (x : FVec Ideal S2048x1024 .bf16) (y : FVec Ideal S2048x1792 .bf16) (v : FVec Ideal S1x1024x1792 .f32) (o : Fin 1) (k : Fin 1024) (q : Fin 1792) :
    (k0_pay3 (F := Ideal) x y v (ix3 o k q) : EReal) = (v (ix3 o k q) : EReal) + ∑ r : Fin 2048, (x (ix2 r k) : EReal) * (y (ix2 r q) : EReal) := by
  obtain rfl : o = 0 := Subsingleton.elim _ _
  pointwise [k0_pay3, k0_pay1]

theorem out_A (t : Fin cfg0.N) (h : t.val % 2 = 0) :
    outsAt0 m c t.val t.isLt = k0_pay2 (F := Ideal) (iblk m c 0 t) (iblk m c 1 t) := by
  have ht := (idx t).2.2.2
  rw [outsAt0_A m c t h (by omega)]
  frame_out

theorem out_B (t : Fin cfg0.N) (h : ¬t.val % 2 = 0) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h (by omega)]
  frame_out

theorem rows_at (t : Fin cfg0.N) (r : Fin 2048) (k : Fin 1024) (ht : t.val * 2048 + r.val < 4096) :
    (iblk m c 0 t (ix2 r k) : EReal) = (m ((c.tc : Thread nD τ).loc main_arg0) (ix2 ⟨t.val * 2048 + r.val, ht⟩ k) : EReal) := by
  blk_ext [iblk, V, idx t]

theorem rows'_at (t : Fin cfg0.N) (r : Fin 2048) (k : Fin 1792) (ht : t.val * 2048 + r.val < 4096) :
    (iblk m c 1 t (ix2 r k) : EReal) = (m ((c.tc : Thread nD τ).loc main_arg1) (ix2 ⟨t.val * 2048 + r.val, ht⟩ k) : EReal) := by
  blk_ext [iblk, V, idx t]

/-- What the two points add up to. -/
theorem parts_at (t : Fin cfg0.N) (hp : ∀ s : Fin 2, 2 * (t.val / 2) + s.val < cfg0.N) (o : Fin 1) (k : Fin 1024) (q : Fin 1792) :
    (∑ s : Fin 2, part m c ⟨2 * (t.val / 2) + s.val, hp s⟩ (ix3 o k q))
      = at_ (m ((c.tc : Thread nD τ).loc main_arg0)) (m ((c.tc : Thread nD τ).loc main_arg1)) k q := by
  have ht := (idx t).2.2.2
  rw [at_, Sums.sum_blocks 2 2048 4096 rfl _ (fun s r => by omega)]
  refine Finset.sum_congr rfl fun s _ => (pay2_at _ _ o k q).trans (Finset.sum_congr rfl fun r _ => ?_)
  have hs : 2 * (t.val / 2) + s.val = s.val := by omega
  rw [rows_at m c _ r _ (by dsimp only; omega), rows'_at m c _ r _ (by dsimp only; omega)]
  simp only [hs]

/-- The result after the run. -/
theorem arr : (dats m 0 c).arrAt 2 cfg0.N = fun y : S1x1024x1792.Idx =>
    at_ (m ((c.tc : Thread nD τ).loc main_arg0)) (m ((c.tc : Thread nD τ).loc main_arg1)) ⟨(y 1).val, (y 1).isLt⟩ ⟨(y 2).val, (y 2).isLt⟩ := by
  refine (dats m 0 c).arrAt_eq_of_covers 2 _ (by decide +kernel) fun t hf y => ?_
  have ht := (idx t).2.2.2
  have hf' := (flush0_2 t).mp hf
  blk_simp [idx t]
  rw [after0_2, Pipeline.eq_sum_fin_of_reset_step_apply_of_flush (fun n h => outsAt0 m c n h) 2 (fun _ => (0 : EReal)) (part m c)
    (fun t h j => by rw [out_A m c t h]; exact (zero_add _).symm)
    (fun t h j => by
      rw [out_B m c t h]
      idx_vars j
      rw [part, pay2_at]
      exact pay3_at _ _ _ j0 j1 j2)
    t hf' _, zero_add]
  idx_vars y
  exact parts_at m c t _ y0 y1 y2

end Cert.Kernel15Ideal.Prod

namespace Cert.Reference15Ideal.Prod
open Idealize.ShloMosaic Idealize.ShloMosaic.TcCoe Idealize.SL.Sem
open Cert.Reference15Ideal Cert.Reference15Ideal.Gen

/-- What the reference leaves. -/
def out (x0 : FVec Ideal S4096x1024 .bf16) (x1 : FVec Ideal S4096x1792 .bf16) : FVec Ideal S1x1024x1792 .f32 :=
  broadcastInDim S1x1024x1792 ![1, 2] bcast_S1024x1792_S1x1024x1792_1_2 (transpose S1024x1792 [1, 0] (Host.dotGeneral (φ₁ := .f32) (φ₂ := .f32) dot_S4096x1792_S4096x1024_S1792x1024_0_0_1_1_n_n none (extf .f32 x1 bitsLt_bf16_f32) (extf .f32 x0 bitsLt_bf16_f32)) transposes_S1792x1024_S1024x1792_1_0)

theorem out_at (x0 : FVec Ideal S4096x1024 .bf16) (x1 : FVec Ideal S4096x1792 .bf16) (o : Fin 1) (k : Fin 1024) (q : Fin 1792) :
    (out x0 x1 (ix3 o k q) : EReal) = Cert.Kernel15Ideal.Prod.at_ x0 x1 k q := by
  unfold out Cert.Kernel15Ideal.Prod.at_
  obtain rfl : o = 0 := Subsingleton.elim _ _
  pointwise []
  exact Finset.sum_congr rfl fun r _ => mul_comm _ _

end Cert.Reference15Ideal.Prod

namespace Cert.Proof
open Idealize.ShloMosaic Idealize.ShloMosaic.TcCoe Idealize.SL.Sem

/-- Every run of the reference ends, and leaves its arguments as they were. -/
theorem reference15_quiescent : quiescent_Reference15Ideal (hReference15Ideal := Cert.Reference15Ideal.Gen.facts) := fun m ρ _ =>
  (θ_run Cert.Reference15Ideal.defs _ _).mono
    (fun r h => ⟨fun c => (h c).2, Idealize.ShloMosaic.sem_eq_zero_of_no_sems (by decide) r.2⟩)
    (Cert.Reference15Ideal.Value.run (F := Ideal) m ρ)

/-- The kernel's result is the reference's. -/
theorem algebraic15 : algebraic_Kernel15Ideal_Reference15Ideal
    (hKernel15Ideal := Cert.Kernel15Ideal.Gen.facts) (hReference15Ideal := Cert.Reference15Ideal.Gen.facts) := by
  intro m g m' g' _ ha
  refine ⟨fun c => (Cert.Kernel15Ideal.Gen.dats m 0 c).arrAt 2 Cert.Kernel15Ideal.cfg0.N,
    Cert.Kernel15Ideal.Value.run_blocks m g, ?_⟩
  refine (θ_run Cert.Reference15Ideal.defs _ _).mono (fun r h c => ⟨?_, (h c).2⟩) (Cert.Reference15Ideal.Value.run (F := Ideal) m' g')
  refine (h c).1.trans ?_
  rw [(ha c).1, (ha c).2]
  refine Eq.trans ?_ (Cert.Kernel15Ideal.Prod.arr m c).symm
  funext y
  idx_vars y
  exact Cert.Reference15Ideal.Prod.out_at _ _ y0 y1 y2

end Cert.Proof

/-! ## The keys' and values' projection -/

namespace Cert.Kernel18Ideal.Prod
open Idealize.ShloMosaic Idealize.ShloMosaic.TcCoe Idealize.SL.Sem
open Cert.Kernel18Ideal Cert.Kernel18Ideal.Gen
variable (m : (ℓ : Loc nD τ sig) → Buf (Elt Ideal) ℓ) (c : Dev nD)

theorem idx : ∀ t : Fin cfg0.N, win0_0.index t = ![0, 0] ∧ win0_1.index t = ![0, 0] ∧ win0_2.index t = ![0, 0, 0] :=
  (by decide +kernel : ∀ t : Fin grid0.N, _)

/-- The product at an index. -/
def at_ (x : FVec Ideal S4096x1024 .bf16) (y : FVec Ideal S4096x512 .bf16) (k : Fin 1024) (q : Fin 512) : EReal :=
  ∑ r : Fin 4096, (x (ix2 r k) : EReal) * (y (ix2 r q) : EReal)

theorem pay2_at (x : FVec Ideal S4096x1024 .bf16) (y : FVec Ideal S4096x512 .bf16) (o : Fin 1) (k : Fin 1024) (q : Fin 512) :
    (k0_pay2 (F := Ideal) x y (ix3 o k q) : EReal) = at_ x y k q := by
  unfold at_
  obtain rfl : o = 0 := Subsingleton.elim _ _
  pointwise [k0_pay2, k0_pay1]

theorem out_A (t : Fin cfg0.N) : outsAt0 m c t = k0_pay2 (F := Ideal) (iblk m c 0 t) (iblk m c 1 t) := by
  unfold outsAt0
  frame_out

theorem rows_at (t : Fin cfg0.N) (r : Fin 4096) (k : Fin 1024) :
    (iblk m c 0 t (ix2 r k) : EReal) = (m ((c.tc : Thread nD τ).loc main_arg0) (ix2 r k) : EReal) := by
  blk_ext [iblk, V, idx t]

theorem rows'_at (t : Fin cfg0.N) (r : Fin 4096) (k : Fin 512) :
    (iblk m c 1 t (ix2 r k) : EReal) = (m ((c.tc : Thread nD τ).loc main_arg1) (ix2 r k) : EReal) := by
  blk_ext [iblk, V, idx t]

/-- The result after the run. -/
theorem arr : (dats m 0 c).arrAt 2 cfg0.N = fun y : S1x1024x512.Idx =>
    at_ (m ((c.tc : Thread nD τ).loc main_arg0)) (m ((c.tc : Thread nD τ).loc main_arg1)) ⟨(y 1).val, (y 1).isLt⟩ ⟨(y 2).val, (y 2).isLt⟩ := by
  refine (dats m 0 c).arrAt_eq_of_covers 2 _ (by decide +kernel) fun t hf y => ?_
  blk_simp [idx t]
  rw [after0_2, out_A]
  idx_vars y
  refine (pay2_at _ _ y0 y1 y2).trans (Finset.sum_congr rfl fun r _ => ?_)
  rw [rows_at, rows'_at]

end Cert.Kernel18Ideal.Prod

namespace Cert.Reference18Ideal.Prod
open Idealize.ShloMosaic Idealize.ShloMosaic.TcCoe Idealize.SL.Sem
open Cert.Reference18Ideal Cert.Reference18Ideal.Gen

/-- What the reference leaves. -/
def out (x0 : FVec Ideal S4096x1024 .bf16) (x1 : FVec Ideal S4096x512 .bf16) : FVec Ideal S1x1024x512 .f32 :=
  broadcastInDim S1x1024x512 ![1, 2] bcast_S1024x512_S1x1024x512_1_2 (transpose S1024x512 [1, 0] (Host.dotGeneral (φ₁ := .f32) (φ₂ := .f32) dot_S4096x512_S4096x1024_S512x1024_0_0_1_1_n_n none (extf .f32 x1 bitsLt_bf16_f32) (extf .f32 x0 bitsLt_bf16_f32)) transposes_S512x1024_S1024x512_1_0)

theorem out_at (x0 : FVec Ideal S4096x1024 .bf16) (x1 : FVec Ideal S4096x512 .bf16) (o : Fin 1) (k : Fin 1024) (q : Fin 512) :
    (out x0 x1 (ix3 o k q) : EReal) = Cert.Kernel18Ideal.Prod.at_ x0 x1 k q := by
  unfold out Cert.Kernel18Ideal.Prod.at_
  obtain rfl : o = 0 := Subsingleton.elim _ _
  pointwise []
  exact Finset.sum_congr rfl fun r _ => mul_comm _ _

end Cert.Reference18Ideal.Prod

namespace Cert.Proof
open Idealize.ShloMosaic Idealize.ShloMosaic.TcCoe Idealize.SL.Sem

/-- Every run of the reference ends, and leaves its arguments as they were. -/
theorem reference18_quiescent : quiescent_Reference18Ideal (hReference18Ideal := Cert.Reference18Ideal.Gen.facts) := fun m ρ _ =>
  (θ_run Cert.Reference18Ideal.defs _ _).mono
    (fun r h => ⟨fun c => (h c).2, Idealize.ShloMosaic.sem_eq_zero_of_no_sems (by decide) r.2⟩)
    (Cert.Reference18Ideal.Value.run (F := Ideal) m ρ)

/-- The kernel's result is the reference's. -/
theorem algebraic18 : algebraic_Kernel18Ideal_Reference18Ideal
    (hKernel18Ideal := Cert.Kernel18Ideal.Gen.facts) (hReference18Ideal := Cert.Reference18Ideal.Gen.facts) := by
  intro m g m' g' _ ha
  refine ⟨fun c => (Cert.Kernel18Ideal.Gen.dats m 0 c).arrAt 2 Cert.Kernel18Ideal.cfg0.N,
    Cert.Kernel18Ideal.Value.run_blocks m g, ?_⟩
  refine (θ_run Cert.Reference18Ideal.defs _ _).mono (fun r h c => ⟨?_, (h c).2⟩) (Cert.Reference18Ideal.Value.run (F := Ideal) m' g')
  refine (h c).1.trans ?_
  rw [(ha c).1, (ha c).2]
  refine Eq.trans ?_ (Cert.Kernel18Ideal.Prod.arr m c).symm
  funext y
  idx_vars y
  exact Cert.Reference18Ideal.Prod.out_at _ _ y0 y1 y2

end Cert.Proof

/-! ## The memory's projection -/

namespace Cert.Kernel21Ideal.Prod
open Idealize.ShloMosaic Idealize.ShloMosaic.TcCoe Idealize.SL.Sem
open Cert.Kernel21Ideal Cert.Kernel21Ideal.Gen
variable (m : (ℓ : Loc nD τ sig) → Buf (Elt Ideal) ℓ) (c : Dev nD)

theorem idx : ∀ t : Fin cfg0.N, win0_0.index t = ![0, 0] ∧ win0_1.index t = ![0, 0] ∧ win0_2.index t = ![0, 0, 0] :=
  (by decide +kernel : ∀ t : Fin grid0.N, _)

/-- The product at an index. -/
def at_ (x : FVec Ideal S512x1024 .bf16) (y : FVec Ideal S512x512 .bf16) (k : Fin 1024) (q : Fin 512) : EReal :=
  ∑ r : Fin 512, (x (ix2 r k) : EReal) * (y (ix2 r q) : EReal)

theorem pay2_at (x : FVec Ideal S512x1024 .bf16) (y : FVec Ideal S512x512 .bf16) (o : Fin 1) (k : Fin 1024) (q : Fin 512) :
    (k0_pay2 (F := Ideal) x y (ix3 o k q) : EReal) = at_ x y k q := by
  unfold at_
  obtain rfl : o = 0 := Subsingleton.elim _ _
  pointwise [k0_pay2, k0_pay1]

theorem out_A (t : Fin cfg0.N) : outsAt0 m c t = k0_pay2 (F := Ideal) (iblk m c 0 t) (iblk m c 1 t) := by
  unfold outsAt0
  frame_out

theorem rows_at (t : Fin cfg0.N) (r : Fin 512) (k : Fin 1024) :
    (iblk m c 0 t (ix2 r k) : EReal) = (m ((c.tc : Thread nD τ).loc main_arg0) (ix2 r k) : EReal) := by
  blk_ext [iblk, V, idx t]

theorem rows'_at (t : Fin cfg0.N) (r : Fin 512) (k : Fin 512) :
    (iblk m c 1 t (ix2 r k) : EReal) = (m ((c.tc : Thread nD τ).loc main_arg1) (ix2 r k) : EReal) := by
  blk_ext [iblk, V, idx t]

/-- The result after the run. -/
theorem arr : (dats m 0 c).arrAt 2 cfg0.N = fun y : S1x1024x512.Idx =>
    at_ (m ((c.tc : Thread nD τ).loc main_arg0)) (m ((c.tc : Thread nD τ).loc main_arg1)) ⟨(y 1).val, (y 1).isLt⟩ ⟨(y 2).val, (y 2).isLt⟩ := by
  refine (dats m 0 c).arrAt_eq_of_covers 2 _ (by decide +kernel) fun t hf y => ?_
  blk_simp [idx t]
  rw [after0_2, out_A]
  idx_vars y
  refine (pay2_at _ _ y0 y1 y2).trans (Finset.sum_congr rfl fun r _ => ?_)
  rw [rows_at, rows'_at]

end Cert.Kernel21Ideal.Prod

namespace Cert.Reference21Ideal.Prod
open Idealize.ShloMosaic Idealize.ShloMosaic.TcCoe Idealize.SL.Sem
open Cert.Reference21Ideal Cert.Reference21Ideal.Gen

/-- What the reference leaves. -/
def out (x0 : FVec Ideal S512x1024 .bf16) (x1 : FVec Ideal S512x512 .bf16) : FVec Ideal S1x1024x512 .f32 :=
  broadcastInDim S1x1024x512 ![1, 2] bcast_S1024x512_S1x1024x512_1_2 (transpose S1024x512 [1, 0] (Host.dotGeneral (φ₁ := .f32) (φ₂ := .f32) dot_S512x512_S512x1024_S512x1024_0_0_1_1_n_n none (extf .f32 x1 bitsLt_bf16_f32) (extf .f32 x0 bitsLt_bf16_f32)) transposes_S512x1024_S1024x512_1_0)

theorem out_at (x0 : FVec Ideal S512x1024 .bf16) (x1 : FVec Ideal S512x512 .bf16) (o : Fin 1) (k : Fin 1024) (q : Fin 512) :
    (out x0 x1 (ix3 o k q) : EReal) = Cert.Kernel21Ideal.Prod.at_ x0 x1 k q := by
  unfold out Cert.Kernel21Ideal.Prod.at_
  obtain rfl : o = 0 := Subsingleton.elim _ _
  pointwise []
  exact Finset.sum_congr rfl fun r _ => mul_comm _ _

end Cert.Reference21Ideal.Prod

namespace Cert.Proof
open Idealize.ShloMosaic Idealize.ShloMosaic.TcCoe Idealize.SL.Sem

/-- Every run of the reference ends, and leaves its arguments as they were. -/
theorem reference21_quiescent : quiescent_Reference21Ideal (hReference21Ideal := Cert.Reference21Ideal.Gen.facts) := fun m ρ _ =>
  (θ_run Cert.Reference21Ideal.defs _ _).mono
    (fun r h => ⟨fun c => (h c).2, Idealize.ShloMosaic.sem_eq_zero_of_no_sems (by decide) r.2⟩)
    (Cert.Reference21Ideal.Value.run (F := Ideal) m ρ)

/-- The kernel's result is the reference's. -/
theorem algebraic21 : algebraic_Kernel21Ideal_Reference21Ideal
    (hKernel21Ideal := Cert.Kernel21Ideal.Gen.facts) (hReference21Ideal := Cert.Reference21Ideal.Gen.facts) := by
  intro m g m' g' _ ha
  refine ⟨fun c => (Cert.Kernel21Ideal.Gen.dats m 0 c).arrAt 2 Cert.Kernel21Ideal.cfg0.N,
    Cert.Kernel21Ideal.Value.run_blocks m g, ?_⟩
  refine (θ_run Cert.Reference21Ideal.defs _ _).mono (fun r h c => ⟨?_, (h c).2⟩) (Cert.Reference21Ideal.Value.run (F := Ideal) m' g')
  refine (h c).1.trans ?_
  rw [(ha c).1, (ha c).2]
  refine Eq.trans ?_ (Cert.Kernel21Ideal.Prod.arr m c).symm
  funext y
  idx_vars y
  exact Cert.Reference21Ideal.Prod.out_at _ _ y0 y1 y2

end Cert.Proof
-- ==== Proof.MemSpec.lean ====
module
public import proofs.«01_k».proof.Proof.Spec
public import proofs.«01_k».proof.Proof.Sums
public import Idealize.ShloMosaic.Lib.Pointwise

/-! # The attention to the memory: one row

A query's scores against the 256 keys of its sequence's memory, its weights, and its output, over the extended reals. -/

@[expose] public section
noncomputable section
namespace Cert.Mem
open Idealize.ShloMosaic

/-- The scaled scores. -/
def sc (q : Fin 64 → EReal) (K : Fin 256 → Fin 64 → EReal) (j : Fin 256) : EReal :=
  (∑ d, q d * K j d) * Ideal.ofBits .f32 0x3E000000#32
/-- The largest score. -/
def mx (s : Fin 256 → EReal) : EReal := Finset.fold max (Ideal.ofBits .f32 0xFF800000#32) s Finset.univ
/-- The exponentials of the shifted scores. -/
def ex (s : Fin 256 → EReal) (j : Fin 256) : EReal := Ideal.exp (s j - mx s)
/-- The weights. -/
def wt (s : Fin 256 → EReal) (j : Fin 256) : EReal := Ideal.div (ex s j) (∑ x, ex s x)

/-- One head's output for a query: the columns of head `h`, in the query, the keys and the values. -/
def head (x : Fin 256 → EReal) (kv : Fin 256 → Fin 512 → EReal) (h : Fin 4) (d : Fin 64) : EReal :=
  ∑ j, wt (sc (fun d => x ⟨h.val * 64 + d.val, by omega⟩) (fun j d => kv j ⟨h.val * 64 + d.val, by omega⟩)) j
    * kv j ⟨256 + h.val * 64 + d.val, by omega⟩

/-- The output at a row: its sequence's memory is 256 rows of the memory's keys and values. -/
def full (x : Fin 4096 → Fin 256 → EReal) (kv : Fin 512 → Fin 512 → EReal) (R : Fin 4096) (k : Fin 256) : EReal :=
  head (x R) (fun j => kv ⟨R.val / 2048 * 256 + j.val, by omega⟩) ⟨k.val / 64, by omega⟩ ⟨k.val % 64, by omega⟩

theorem max_bits (a : EReal) : max (Ideal.ofBits .f32 0xFF800000#32) a = a := by
  rw [show Ideal.ofBits .f32 0xFF800000#32 = (⊥ : EReal) from Cert.Swa.bot_bits]
  exact max_eq_right bot_le

/-- A head's weights for a query. -/
def P (x : Fin 256 → EReal) (kv : Fin 256 → Fin 512 → EReal) (h : Fin 4) (j : Fin 256) : EReal :=
  wt (sc (fun d => x ⟨h.val * 64 + d.val, by omega⟩) (fun j d => kv j ⟨h.val * 64 + d.val, by omega⟩)) j
/-- The derivatives of a head's weights, of the derivative `y` of the output. -/
def DP (y : Fin 256 → EReal) (kv : Fin 256 → Fin 512 → EReal) (h : Fin 4) (j : Fin 256) : EReal :=
  ∑ d : Fin 64, y ⟨h.val * 64 + d.val, by omega⟩ * kv j ⟨256 + h.val * 64 + d.val, by omega⟩
/-- The derivatives of the unscaled scores, of the weights and their derivatives. -/
def grad (p dp : Fin 256 → EReal) (j : Fin 256) : EReal := p j * (dp j - ∑ x, dp x * p x) * Ideal.ofBits .f32 0x3E000000#32
/-- The same as a quotient's derivative, of the exponentials `e` and the derivatives of the weights. -/
def refGrad (dp e : Fin 256 → EReal) (j : Fin 256) : EReal :=
  (Ideal.div (dp j) (∑ x, e x) + -(∑ x, dp x * Ideal.div 1 ((∑ x, e x) * (∑ x, e x)) * e x)) * e j * Ideal.ofBits .f32 0x3E000000#32
def G (x y : Fin 256 → EReal) (kv : Fin 256 → Fin 512 → EReal) (h : Fin 4) (j : Fin 256) : EReal := grad (P x kv h) (DP y kv h) j

/-- The largest of real scores is real. -/
theorem mx_real (σ : Fin 256 → ℝ) : ∃ μ : ℝ, mx (fun j => (σ j : EReal)) = (μ : EReal) := by
  unfold mx
  rw [show Ideal.ofBits .f32 0xFF800000#32 = (⊥ : EReal) from Cert.Swa.bot_bits]
  have hlt : Finset.fold max (⊥ : EReal) (fun j => (σ j : EReal)) Finset.univ < ⊤ := by
    rw [Finset.fold_max_lt]
    exact ⟨bot_lt_top, fun j _ => EReal.coe_lt_top _⟩
  have hge : (σ 0 : EReal) ≤ Finset.fold max (⊥ : EReal) (fun j => (σ j : EReal)) Finset.univ :=
    Finset.le_fold_max _ |>.mpr (.inr ⟨0, Finset.mem_univ _, le_rfl⟩)
  exact ⟨_, (EReal.coe_toReal hlt.ne (lt_of_lt_of_le (EReal.bot_lt_coe _) hge).ne').symm⟩

/-- Both ways to differentiate the weights agree on real numbers. -/
theorem grad_eq (s dp : Fin 256 → EReal) (hs : ∀ j, ∃ r : ℝ, s j = (r : EReal)) (hd : ∀ j, ∃ r : ℝ, dp j = (r : EReal)) (j : Fin 256) :
    refGrad dp (ex s) j = grad (wt s) dp j := by
  choose σ hσ using hs
  choose δ hδ using hd
  obtain rfl : s = fun j => (σ j : EReal) := funext hσ
  obtain rfl : dp = fun j => (δ j : EReal) := funext hδ
  obtain ⟨μ, hμ⟩ := mx_real σ
  have he : ex (fun j => (σ j : EReal)) = fun x => ((Real.exp (σ x - μ) : ℝ) : EReal) := funext fun x => by
    unfold ex
    rw [hμ, ← EReal.coe_sub, Ideal.exp_coe]
  have hD : 0 < ∑ x, Real.exp (σ x - μ) := Finset.sum_pos (fun x _ => Real.exp_pos _) Finset.univ_nonempty
  unfold refGrad grad wt
  rw [he]
  generalize hE : (fun x => Real.exp (σ x - μ)) = E
  replace hE : ∀ x, Real.exp (σ x - μ) = E x := fun x => congrFun hE x
  simp only [hE] at hD ⊢
  rw [Cert.Swa.coe_sum]
  generalize ∑ x, E x = D at hD ⊢
  rw [← EReal.coe_mul]
  simp only [Ideal.div_coe hD.ne', Ideal.div_coe (mul_pos hD hD).ne', Cert.Swa.eighth_coe, one_mul, ← EReal.coe_mul, Cert.Swa.coe_sum, ← EReal.coe_neg, ← EReal.coe_add, ← EReal.coe_sub]
  refine congrArg _ ?_
  have h1 : ∑ x, δ x * (1 / (D * D)) * E x = (∑ x, δ x * (E x * (1 / D))) * (1 / D) := by
    rw [Finset.sum_mul]
    refine Finset.sum_congr rfl fun x _ => ?_
    field_simp
  rw [h1]
  field_simp
  ring

theorem real_dot {n : ℕ} (a b : Fin n → EReal) (ha : ∀ i, ∃ r : ℝ, a i = (r : EReal)) (hb : ∀ i, ∃ r : ℝ, b i = (r : EReal)) :
    ∃ r : ℝ, ∑ i, a i * b i = (r : EReal) := by
  choose α hα using ha
  choose β hβ using hb
  refine ⟨∑ i, α i * β i, ?_⟩
  rw [← Cert.Swa.coe_sum]
  exact Finset.sum_congr rfl fun i _ => by rw [hα, hβ, EReal.coe_mul]

/-- On real arguments the derivatives of the scores are a quotient's. -/
theorem G_eq (x y : Fin 256 → EReal) (kv : Fin 256 → Fin 512 → EReal) (hx : ∀ k, ∃ r : ℝ, x k = (r : EReal)) (hy : ∀ k, ∃ r : ℝ, y k = (r : EReal))
    (hkv : ∀ j k, ∃ r : ℝ, kv j k = (r : EReal)) (h : Fin 4) (j : Fin 256) :
    refGrad (DP y kv h) (ex (sc (fun d => x ⟨h.val * 64 + d.val, by omega⟩) (fun j d => kv j ⟨h.val * 64 + d.val, by omega⟩))) j = G x y kv h j := by
  refine grad_eq _ _ (fun j => ?_) (fun j => real_dot _ _ (fun d => hy _) (fun d => hkv _ _)) j
  obtain ⟨r, hr⟩ := real_dot (fun d : Fin 64 => x ⟨h.val * 64 + d.val, by omega⟩) (fun d => kv j ⟨h.val * 64 + d.val, by omega⟩) (fun d => hx _) (fun d => hkv _ _)
  refine ⟨r * (1 / 8), ?_⟩
  unfold sc
  rw [hr, Cert.Swa.eighth_coe, EReal.coe_mul]

/-- A row of the queries' gradient. -/
def fullQ (x y : Fin 4096 → Fin 256 → EReal) (kv : Fin 512 → Fin 512 → EReal) (R : Fin 4096) (k : Fin 256) : EReal :=
  ∑ j : Fin 256, G (x R) (y R) (fun j => kv ⟨R.val / 2048 * 256 + j.val, by omega⟩) ⟨k.val / 64, by omega⟩ j * kv ⟨R.val / 2048 * 256 + j.val, by omega⟩ ⟨k.val, by omega⟩
/-- What some rows add to the gradient of the keys and the values of one sequence. -/
def addKV {n : ℕ} (x y : Fin n → Fin 256 → EReal) (kv : Fin 256 → Fin 512 → EReal) (j : Fin 256) (k : Fin 512) : EReal :=
  if h : k.val < 256 then ∑ i, G (x i) (y i) kv ⟨k.val / 64, by omega⟩ j * x i ⟨k.val, h⟩
  else ∑ i, P (x i) kv ⟨(k.val - 256) / 64, by omega⟩ j * y i ⟨k.val - 256, by omega⟩
/-- The gradient of the keys and the values: a sequence's 2048 rows add to it. -/
def fullKV (x y : Fin 4096 → Fin 256 → EReal) (kv : Fin 512 → Fin 512 → EReal) (J : Fin 512) (k : Fin 512) : EReal :=
  addKV (fun t : Fin 2048 => x ⟨J.val / 256 * 2048 + t.val, by omega⟩) (fun t => y ⟨J.val / 256 * 2048 + t.val, by omega⟩)
    (fun j => kv ⟨J.val / 256 * 256 + j.val, by omega⟩) ⟨J.val % 256, by omega⟩ k

/-- Four blocks of 512 rows are a sequence. -/
theorem addKV_sum (x y : Fin 2048 → Fin 256 → EReal) (kv : Fin 256 → Fin 512 → EReal) (j : Fin 256) (k : Fin 512) :
    ∑ s : Fin 4, addKV (fun i : Fin 512 => x ⟨s.val * 512 + i.val, by omega⟩) (fun i => y ⟨s.val * 512 + i.val, by omega⟩) kv j k = addKV x y kv j k := by
  unfold addKV
  split
  · exact (Cert.Sums.sum_blocks 4 512 2048 rfl (fun i => G (x i) (y i) kv ⟨k.val / 64, by omega⟩ j * x i ⟨k.val, by omega⟩) (fun s r => by omega)).symm
  · exact (Cert.Sums.sum_blocks 4 512 2048 rfl (fun i => P (x i) kv ⟨(k.val - 256) / 64, by omega⟩ j * y i ⟨k.val - 256, by omega⟩) (fun s r => by omega)).symm

/-- What the rows of block `p` of 512 add, in their sequence. -/
def blockKV (x y : Fin 4096 → Fin 256 → EReal) (kv : Fin 512 → Fin 512 → EReal) (p : ℕ) (hp : p < 8) (j : Fin 256) (k : Fin 512) : EReal :=
  addKV (fun i : Fin 512 => x ⟨p * 512 + i.val, by omega⟩) (fun i => y ⟨p * 512 + i.val, by omega⟩) (fun j => kv ⟨p / 4 * 256 + j.val, by omega⟩) j k

theorem blockKV_sum (x y : Fin 4096 → Fin 256 → EReal) (kv : Fin 512 → Fin 512 → EReal) (b : Fin 2) (p : Fin 4 → ℕ) (hp : ∀ s, p s < 8)
    (e : ∀ s, p s = 4 * b.val + s.val) (j : Fin 256) (k : Fin 512) (J : Fin 512) (hJ : J.val = b.val * 256 + j.val) :
    ∑ s, blockKV x y kv (p s) (hp s) j k = fullKV x y kv J k := by
  have h0 : J.val / 256 = b.val := by omega
  have h1 : (⟨J.val % 256, by omega⟩ : Fin 256) = j := Fin.ext (by dsimp only; omega)
  unfold fullKV
  rw [h1, ← addKV_sum]
  refine Finset.sum_congr rfl fun s _ => ?_
  unfold blockKV
  have h2 : p s / 4 = J.val / 256 := by have := e s; omega
  have hi : ∀ i : Fin 512, (⟨p s * 512 + i.val, by have := hp s; omega⟩ : Fin 4096) = ⟨J.val / 256 * 2048 + (s.val * 512 + i.val), by omega⟩ := fun i =>
    Fin.ext (by have := e s; dsimp only; omega)
  simp only [hi, h2]

end Cert.Mem
-- ==== Proof.MemRef.lean ====
module
public import proofs.«01_k».proof.Defs
public import proofs.«01_k».proof.Proof.Gen.Reference22Ideal.Run
public import proofs.«01_k».proof.Proof.MemSpec
public import Idealize.ShloMosaic.Lib.Pipeline.ValueKit
public import Idealize.ShloMosaic.Lib.Pointwise
public import Idealize.ShloMosaic.Lib.Quiescent

/-! # What the reference's attention to the memory computes -/

@[expose] public section
set_option maxRecDepth 65536
noncomputable section
namespace Cert.Reference22Ideal.Att
open Idealize.ShloMosaic Idealize.ShloMosaic.TcCoe Idealize.SL.Sem
open Cert.Reference22Ideal Cert.Reference22Ideal.Gen

def rq (x : FVec Ideal S4096x256 .f32) : FVec Ideal S2x2048x4x64 .f32 := shapeCast _ x shapeCasts_S4096x256_S2x2048x4x64
def rk (kv : FVec Ideal S512x512 .f32) : FVec Ideal S2x256x4x64 .f32 :=
  shapeCast _ (extractStridedSlice S2x256x1x4x64 ![0, 0, 0, 0, 0] (shapeCast S2x256x2x4x64 kv shapeCasts_S512x512_S2x256x2x4x64) slices_S2x256x2x4x64_S2x256x1x4x64_0_0_0_0_0) shapeCasts_S2x256x1x4x64_S2x256x4x64
def rv (kv : FVec Ideal S512x512 .f32) : FVec Ideal S2x256x4x64 .f32 :=
  shapeCast _ (extractStridedSlice S2x256x1x4x64 ![0, 0, 1, 0, 0] (shapeCast S2x256x2x4x64 kv shapeCasts_S512x512_S2x256x2x4x64) slices_S2x256x2x4x64_S2x256x1x4x64_0_0_1_0_0) shapeCasts_S2x256x1x4x64_S2x256x4x64
def rS (q : FVec Ideal S2x2048x4x64 .f32) (k : FVec Ideal S2x256x4x64 .f32) : FVec Ideal S2x4x2048x256 .f32 :=
  mulf (Host.dotGeneral (φ₁ := .f32) (φ₂ := .f32) dot_S2x2048x4x64_S2x256x4x64_S2x4x2048x256_3_3_1_1_02_02 none q k) (broadcastInDim S2x4x2048x256 ![] bcast_S_S2x4x2048x256 (constant S_ .f32 0x3E000000#32))
def rM0 (s : FVec Ideal S2x4x2048x256 .f32) : FVec Ideal S2x4x2048 .f32 :=
  Host.reduce FloatOps.maximumf s (constant S_ .f32 0xFF800000#32) reducesTo_S2x4x2048x256_S2x4x2048_d3 h_S_
def rM (x : FVec Ideal S2x4x2048 .f32) : FVec Ideal S2x4x2048 .f32 :=
  maximumf (broadcastInDim S2x4x2048 ![] bcast_S_S2x4x2048 (constant S_ .f32 0xFF800000#32)) x
def rX (s : FVec Ideal S2x4x2048x256 .f32) (x : FVec Ideal S2x4x2048 .f32) : FVec Ideal S2x4x2048x256 .f32 :=
  Host.exp (subf s (broadcastInDim S2x4x2048x256 ![0, 1, 2, 3] bcast_S2x4x2048x1_S2x4x2048x256_0_1_2_3 (broadcastInDim S2x4x2048x1 ![0, 1, 2] bcast_S2x4x2048_S2x4x2048x1_0_1_2 x)))
def rE (s : FVec Ideal S2x4x2048x256 .f32) : FVec Ideal S2x4x2048x256 .f32 := rX s (rM (rM0 s))
def rD (e : FVec Ideal S2x4x2048x256 .f32) : FVec Ideal S2x4x2048x256 .f32 :=
  Host.divf e (broadcastInDim S2x4x2048x256 ![0, 1, 2, 3] bcast_S2x4x2048x1_S2x4x2048x256_0_1_2_3 (broadcastInDim S2x4x2048x1 ![0, 1, 2] bcast_S2x4x2048_S2x4x2048x1_0_1_2 (Host.reduceAdd e (constant S_ .f32 0x00000000#32) reducesTo_S2x4x2048x256_S2x4x2048_d3 h_S_)))
def rP (s : FVec Ideal S2x4x2048x256 .f32) : FVec Ideal S2x4x2048x256 .f32 := rD (rE s)
def rO (v : FVec Ideal S2x256x4x64 .f32) (p : FVec Ideal S2x4x2048x256 .f32) : FVec Ideal S4096x256 .f32 :=
  shapeCast _ (shapeCast S2x2048x256 (transpose S2x2048x4x64 [0, 3, 1, 2] (Host.dotGeneral (φ₁ := .f32) (φ₂ := .f32) dot_S2x256x4x64_S2x4x2048x256_S2x4x64x2048_1_3_3_2_02_01 none v p) transposes_S2x4x64x2048_S2x2048x4x64_0_3_1_2) shapeCasts_S2x2048x4x64_S2x2048x256) shapeCasts_S2x2048x256_S4096x256
/-- The attention's output. -/
def att (x : FVec Ideal S4096x256 .f32) (kv : FVec Ideal S512x512 .f32) : FVec Ideal S4096x256 .f32 := rO (rv kv) (rP (rS (rq x) (rk kv)))

theorem rq_at (x : FVec Ideal S4096x256 .f32) (b : Fin 2) (t : Fin 2048) (h : Fin 4) (d : Fin 64) :
    (rq x (ix4 b t h d) : EReal) = (x (ix2 ⟨b.val * 2048 + t.val, by omega⟩ ⟨h.val * 64 + d.val, by omega⟩) : EReal) := by
  unfold rq
  pointwise []

theorem rk_at (kv : FVec Ideal S512x512 .f32) (b : Fin 2) (j : Fin 256) (h : Fin 4) (d : Fin 64) :
    (rk kv (ix4 b j h d) : EReal) = (kv (ix2 ⟨b.val * 256 + j.val, by omega⟩ ⟨h.val * 64 + d.val, by omega⟩) : EReal) := by
  unfold rk
  pointwise []

theorem rv_at (kv : FVec Ideal S512x512 .f32) (b : Fin 2) (j : Fin 256) (h : Fin 4) (d : Fin 64) :
    (rv kv (ix4 b j h d) : EReal) = (kv (ix2 ⟨b.val * 256 + j.val, by omega⟩ ⟨256 + h.val * 64 + d.val, by omega⟩) : EReal) := by
  unfold rv
  pointwise []

theorem rS_at (q : FVec Ideal S2x2048x4x64 .f32) (k : FVec Ideal S2x256x4x64 .f32) (b : Fin 2) (h : Fin 4) (t : Fin 2048) (j : Fin 256) :
    (rS q k (ix4 b h t j) : EReal) = Cert.Mem.sc (fun d => (q (ix4 b t h d) : EReal)) (fun j d => (k (ix4 b j h d) : EReal)) j := by
  unfold rS Cert.Mem.sc
  pointwise []

theorem rM0_at (s : FVec Ideal S2x4x2048x256 .f32) (b : Fin 2) (h : Fin 4) (t : Fin 2048) :
    (rM0 s (ix3 b h t) : EReal) = Cert.Mem.mx (fun j => (s (ix4 b h t j) : EReal)) := by
  unfold rM0 Cert.Mem.mx
  refine (Host.reduce_eq_fold_single (FloatOps.maximumf (F := Ideal)) _ _ reducesTo_S2x4x2048x256_S2x4x2048_d3 (by decide) h_S_ _).trans ?_
  exact congrArg (fun f => Finset.univ.fold max (Ideal.ofBits .f32 0xFF800000#32 : EReal) f) (funext fun j => congrArg s (funext fun a => by fin_cases a <;> rfl))

theorem rM_at (x : FVec Ideal S2x4x2048 .f32) (b : Fin 2) (h : Fin 4) (t : Fin 2048) :
    (rM x (ix3 b h t) : EReal) = (x (ix3 b h t) : EReal) := by
  refine Eq.trans ?_ (Cert.Mem.max_bits _)
  unfold rM
  pointwise []

theorem rX_at (s : FVec Ideal S2x4x2048x256 .f32) (x : FVec Ideal S2x4x2048 .f32) (b : Fin 2) (h : Fin 4) (t : Fin 2048) (j : Fin 256) :
    (rX s x (ix4 b h t j) : EReal) = Ideal.exp ((s (ix4 b h t j) : EReal) - (x (ix3 b h t) : EReal)) := by
  unfold rX
  pointwise []

theorem rE_at (s : FVec Ideal S2x4x2048x256 .f32) (b : Fin 2) (h : Fin 4) (t : Fin 2048) (j : Fin 256) :
    (rE s (ix4 b h t j) : EReal) = Cert.Mem.ex (fun j => (s (ix4 b h t j) : EReal)) j := by
  unfold rE Cert.Mem.ex
  rw [rX_at, rM_at, rM0_at]

theorem rD_at (e : FVec Ideal S2x4x2048x256 .f32) (b : Fin 2) (h : Fin 4) (t : Fin 2048) (j : Fin 256) :
    (rD e (ix4 b h t j) : EReal) = Ideal.div (e (ix4 b h t j)) (∑ x : Fin 256, (e (ix4 b h t x) : EReal)) := by
  unfold rD
  pointwise []

theorem rP_at (s : FVec Ideal S2x4x2048x256 .f32) (b : Fin 2) (h : Fin 4) (t : Fin 2048) (j : Fin 256) :
    (rP s (ix4 b h t j) : EReal) = Cert.Mem.wt (fun j => (s (ix4 b h t j) : EReal)) j := by
  unfold rP Cert.Mem.wt
  rw [rD_at]
  simp_rw [rE_at]

theorem rO_at (v : FVec Ideal S2x256x4x64 .f32) (p : FVec Ideal S2x4x2048x256 .f32) (R : Fin 4096) (k : Fin 256) :
    (rO v p (ix2 R k) : EReal) = ∑ j : Fin 256, (v (ix4 ⟨R.val / 2048, by omega⟩ j ⟨k.val / 64, by omega⟩ ⟨k.val % 64, by omega⟩) : EReal)
      * (p (ix4 ⟨R.val / 2048, by omega⟩ ⟨k.val / 64, by omega⟩ ⟨R.val % 2048, by omega⟩ j) : EReal) := by
  unfold rO
  pointwise []

theorem att_at (x : FVec Ideal S4096x256 .f32) (kv : FVec Ideal S512x512 .f32) (R : Fin 4096) (k : Fin 256) :
    (att x kv (ix2 R k) : EReal) = Cert.Mem.full (fun R k => (x (ix2 R k) : EReal)) (fun j k => (kv (ix2 j k) : EReal)) R k := by
  unfold att Cert.Mem.full Cert.Mem.head
  rw [rO_at]
  refine Finset.sum_congr rfl fun j _ => (mul_comm _ _).trans ?_
  rw [rP_at, rv_at]
  simp_rw [rS_at, rq_at, rk_at]
  have hR : (⟨R.val / 2048 * 2048 + R.val % 2048, by omega⟩ : Fin 4096) = R := Fin.ext (by dsimp only; omega)
  simp only [hR]

end Cert.Reference22Ideal.Att
-- ==== Proof.MemFwd.lean ====
module
public import proofs.«01_k».proof.Defs
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.MemRef
public import Idealize.ShloMosaic.Lib.Pipeline.ValueKit
public import Idealize.ShloMosaic.Lib.Pointwise
public import Idealize.ShloMosaic.Lib.Quiescent

/-! # The attention to the memory -/

@[expose] public section
set_option maxRecDepth 65536
noncomputable section
namespace Cert.Kernel22Ideal.Att
open Idealize.ShloMosaic Idealize.ShloMosaic.TcCoe Idealize.SL.Sem
open Cert.Kernel22Ideal Cert.Kernel22Ideal.Gen
variable (m : (ℓ : Loc nD τ sig) → Buf (Elt Ideal) ℓ) (c : Dev nD)

theorem pay2_at (q : FVec Ideal S512x64 .f32) (k : FVec Ideal S256x64 .f32) (i : Fin 512) (j : Fin 256) :
    (k0_pay2 (F := Ideal) q k (ix2 i j) : EReal) = Cert.Mem.sc (fun d => q (ix2 i d)) (fun j d => k (ix2 j d)) j := by
  unfold Cert.Mem.sc
  pointwise [k0_pay2]

theorem pay6_at (s : FVec Ideal S512x256 .f32) (i : Fin 512) (j : Fin 256) :
    (k0_pay6 (F := Ideal) s (ix2 i j) : EReal) = Cert.Mem.wt (fun j => s (ix2 i j)) j := by
  unfold Cert.Mem.wt Cert.Mem.ex Cert.Mem.mx
  pointwise [k0_pay6]

theorem pay5_at (q : FVec Ideal S512x64 .f32) (k : FVec Ideal S256x64 .f32) (i : Fin 512) (j : Fin 256) :
    (k0_pay5 (F := Ideal) q k (ix2 i j) : EReal) = Cert.Mem.ex (Cert.Mem.sc (fun d => q (ix2 i d)) (fun j d => k (ix2 j d))) j := by
  unfold Cert.Mem.ex Cert.Mem.mx Cert.Mem.sc
  pointwise [k0_pay5]

theorem pay7_at (e : FVec Ideal S512x256 .f32) (v : FVec Ideal S256x64 .f32) (i : Fin 512) (d : Fin 64) :
    (k0_pay7 (F := Ideal) e v (ix2 i d) : EReal)
      = ∑ j : Fin 256, Ideal.div (e (ix2 i j)) (∑ x : Fin 256, (e (ix2 i x) : EReal)) * (v (ix2 j d) : EReal) := by
  pointwise [k0_pay7]

theorem pay8_at (s : FVec Ideal S512x256 .f32) (v : FVec Ideal S256x64 .f32) (i : Fin 512) (d : Fin 64) :
    (k0_pay8 (F := Ideal) s v (ix2 i d) : EReal) = ∑ j : Fin 256, Cert.Mem.wt (fun j => s (ix2 i j)) j * (v (ix2 j d) : EReal) := by
  unfold Cert.Mem.wt Cert.Mem.ex Cert.Mem.mx
  pointwise [k0_pay8]

theorem pay1_at (p : FVec Ideal S512x256 .bf16) (a b c' : FVec Ideal S512x64 .f32) (v : FVec Ideal S256x64 .f32) (i : Fin 512) (h : Fin 4) (d : Fin 64) :
    (k0_pay1 (F := Ideal) p a b c' v (ix2 i ⟨h.val * 64 + d.val, by omega⟩) : EReal)
      = match h with
        | 0 => (a (ix2 i d) : EReal)
        | 1 => (b (ix2 i d) : EReal)
        | 2 => (c' (ix2 i d) : EReal)
        | 3 => ∑ j : Fin 256, (p (ix2 i j) : EReal) * (v (ix2 j d) : EReal) := by
  match h with
  | 0 => pointwise [k0_pay1]
  | 1 => pointwise [k0_pay1]
  | 2 =>
    pointwise [k0_pay1]
    rw [dif_neg (by omega), dif_neg (by omega), dif_pos (by omega)]
    exact congrArg (fun d => (c' (ix2 i d) : EReal)) (Fin.ext (by dsimp only; omega))
  | 3 =>
    pointwise [k0_pay1]
    rw [dif_neg (by omega), dif_neg (by omega), dif_neg (by omega)]
    exact Finset.sum_congr rfl fun j _ => congrArg (fun d => (p (ix2 i j) : EReal) * (v (ix2 j d) : EReal)) (Fin.ext (by dsimp only; omega))

/-- What one point stores. -/
def step (x : Vec Ideal S512x256 .f32) (kv : Vec Ideal S256x512 .f32) : Vec Ideal S512x256 .bf16 :=
  k0_pay1 (F := Ideal)
      (k0_pay6
        (k0_pay4 (View.ld x (Rect.unit ![0, 192] ![512, 64] inb_S512x256_S512x64_0_192))
          (View.ld kv (Rect.unit ![0, 192] ![256, 64] inb_S256x512_S256x64_0_192))))
      (k0_pay7
        (k0_pay5 (View.ld x (Rect.unit ![0, 0] ![512, 64] inb_S512x256_S512x64_0_0))
          (View.ld kv (Rect.unit ![0, 0] ![256, 64] inb_S256x512_S256x64_0_0)))
        (View.ld kv (Rect.unit ![0, 256] ![256, 64] inb_S256x512_S256x64_0_256)))
      (k0_pay8
        (k0_pay2 (View.ld x (Rect.unit ![0, 64] ![512, 64] inb_S512x256_S512x64_0_64))
          (View.ld kv (Rect.unit ![0, 64] ![256, 64] inb_S256x512_S256x64_0_64)))
        (View.ld kv (Rect.unit ![0, 320] ![256, 64] inb_S256x512_S256x64_0_320)))
      (k0_pay9
        (k0_pay3 (View.ld x (Rect.unit ![0, 128] ![512, 64] inb_S512x256_S512x64_0_128))
          (View.ld kv (Rect.unit ![0, 128] ![256, 64] inb_S256x512_S256x64_0_128)))
        (View.ld kv (Rect.unit ![0, 384] ![256, 64] inb_S256x512_S256x64_0_384)))
      (View.ld kv (Rect.unit ![0, 448] ![256, 64] inb_S256x512_S256x64_0_448))

theorem step_at (x : Vec Ideal S512x256 .f32) (kv : Vec Ideal S256x512 .f32) (i : Fin 512) (h : Fin 4) (d : Fin 64) :
    (step x kv (ix2 i ⟨h.val * 64 + d.val, by omega⟩) : EReal) = Cert.Mem.head (fun k => (x (ix2 i k) : EReal)) (fun j k => (kv (ix2 j k) : EReal)) h d := by
  unfold step
  rw [pay1_at _ _ _ _ _ i h d]
  match h with
  | 0 =>
    refine (pay7_at _ _ i d).trans ?_
    simp_rw [pay5_at]
    unfold Cert.Mem.head Cert.Mem.wt
    pointwise []
  | 1 =>
    refine (pay8_at _ _ i d).trans ?_
    simp_rw [pay2_at]
    unfold Cert.Mem.head
    pointwise []
  | 2 =>
    refine (pay8_at _ _ i d).trans ?_
    simp_rw [show @k0_pay3 Ideal _ = k0_pay2 from rfl, pay2_at]
    unfold Cert.Mem.head
    pointwise []
  | 3 =>
    simp_rw [pay6_at, show @k0_pay4 Ideal _ = k0_pay2 from rfl, pay2_at]
    unfold Cert.Mem.head
    pointwise []

theorem out_A (t : Fin cfg0.N) : outsAt0 m c t = step (iblk m c 0 t) (iblk m c 1 t) := by
  unfold outsAt0 step
  frame_out

/-- Where each window's block lies. -/
theorem idx : ∀ t : Fin cfg0.N, win0_0.index t = ![t.val, 3] ∧ win0_1.index t = ![t.val / 4, 0] ∧ win0_2.index t = ![t.val, 3] ∧ t.val < 8 :=
  (by decide +kernel : ∀ t : Fin grid0.N, _)

theorem rows_at (t : Fin cfg0.N) (i : Fin 512) (k : Fin 256) (ht : t.val * 512 + i.val < 4096) :
    (iblk m c 0 t (ix2 i k) : EReal) = (m ((c.tc : Thread nD τ).loc main_arg0) (ix2 ⟨t.val * 512 + i.val, ht⟩ ⟨768 + k.val, by omega⟩) : EReal) := by
  blk_ext [iblk, V, idx t]

theorem mem_at (t : Fin cfg0.N) (j : Fin 256) (k : Fin 512) (ht : t.val / 4 * 256 + j.val < 512) :
    (iblk m c 1 t (ix2 j k) : EReal) = (m ((c.tc : Thread nD τ).loc main_arg1) (ix2 ⟨t.val / 4 * 256 + j.val, ht⟩ k) : EReal) := by
  blk_ext [iblk, V, idx t]

/-- Where the call writes nothing, the result holds the third argument. -/
theorem entry : V m c main_v0 = m ((c.tc : Thread nD τ).loc main_arg2) := by
  rfl

/-- The output from the arguments. -/
def at_ (x : FVec Ideal S4096x1024 .f32) (kv : FVec Ideal S512x512 .f32) (R : Fin 4096) (k : Fin 256) : EReal :=
  Cert.Mem.full (fun R k => (x (ix2 R ⟨768 + k.val, by omega⟩) : EReal)) (fun j k => (kv (ix2 j k) : EReal)) R k

theorem block_at (t : Fin cfg0.N) (i : Fin 512) (k : Fin 256) (ht : t.val * 512 + i.val < 4096) :
    (outsAt0 m c t (ix2 i k) : EReal) = at_ (m ((c.tc : Thread nD τ).loc main_arg0)) (m ((c.tc : Thread nD τ).loc main_arg1)) ⟨t.val * 512 + i.val, ht⟩ k := by
  have ht' := (idx t).2.2.2
  have hk : k = ⟨k.val / 64 * 64 + k.val % 64, by omega⟩ := Fin.ext (by dsimp only; omega)
  rw [out_A]
  refine (congrArg (fun k => (step (iblk m c 0 t) (iblk m c 1 t) (ix2 i k) : EReal)) hk).trans
    ((step_at _ _ i ⟨k.val / 64, by omega⟩ ⟨k.val % 64, by omega⟩).trans ?_)
  unfold at_ Cert.Mem.full
  refine congrArg₂ (fun x kv => Cert.Mem.head x kv _ _) (funext fun k => rows_at m c t i k ht) (funext fun j => funext fun k => ?_)
  rw [mem_at m c t j k (by omega)]
  exact congrArg (fun r => (m ((c.tc : Thread nD τ).loc main_arg1) (ix2 r k) : EReal)) (Fin.ext (by dsimp only; omega))

/-- The result after the run. -/
theorem arr : (dats m 0 c).arrAt 2 cfg0.N = fun y : S4096x1024.Idx => if 768 ≤ (y 1).val then
    at_ (m ((c.tc : Thread nD τ).loc main_arg0)) (m ((c.tc : Thread nD τ).loc main_arg1)) ⟨(y 0).val, (y 0).isLt⟩
      ⟨(y 1).val - 768, by have h1 : (y 1).val < 1024 := (y 1).isLt; omega⟩ else V m c main_v0 y := by
  refine (dats m 0 c).arrAt_eq_of_coversWhere 2 (fun y : S4096x1024.Idx =>
      at_ (m ((c.tc : Thread nD τ).loc main_arg0)) (m ((c.tc : Thread nD τ).loc main_arg1)) ⟨(y 0).val, (y 0).isLt⟩
        ⟨(y 1).val - 768, by have h1 : (y 1).val < 1024 := (y 1).isLt; omega⟩)
    (fun i => i 1 = 3) (by decide +kernel) (fun t hf y => ?_) (fun j => by
      blk_simp [Pipeline.Window.cell_apply]
      have h1 : (j 1).val < 1024 := (j 1).isLt
      omega)
  have ht := (idx t).2.2.2
  blk_simp [idx t]
  rw [after0_2]
  idx_vars y
  refine (block_at m c t y0 y1 (by omega)).trans (congrArg (at_ _ _ _) (Fin.ext ?_))
  dsimp only
  omega

end Cert.Kernel22Ideal.Att

namespace Cert.Kernel23Ideal.Att
open Idealize.ShloMosaic Idealize.ShloMosaic.TcCoe Idealize.SL.Sem
open Cert.Kernel23Ideal Cert.Kernel23Ideal.Gen
variable (m : (ℓ : Loc nD τ sig) → Buf (Elt Ideal) ℓ) (c : Dev nD)

theorem out_A (t : Fin cfg0.N) : outsAt0 m c t = Cert.Kernel22Ideal.Att.step (iblk m c 0 t) (iblk m c 1 t) := by
  unfold outsAt0 Cert.Kernel22Ideal.Att.step
  frame_out
  rfl

/-- Where each window's block lies. -/
theorem idx : ∀ t : Fin cfg0.N, win0_0.index t = ![t.val, 6] ∧ win0_1.index t = ![t.val / 4, 0] ∧ win0_2.index t = ![t.val, 3] ∧ t.val < 8 :=
  (by decide +kernel : ∀ t : Fin grid0.N, _)

theorem rows_at (t : Fin cfg0.N) (i : Fin 512) (k : Fin 256) (ht : t.val * 512 + i.val < 4096) :
    (iblk m c 0 t (ix2 i k) : EReal) = (m ((c.tc : Thread nD τ).loc main_arg0) (ix2 ⟨t.val * 512 + i.val, ht⟩ ⟨1536 + k.val, by omega⟩) : EReal) := by
  blk_ext [iblk, V, idx t]

theorem mem_at (t : Fin cfg0.N) (j : Fin 256) (k : Fin 512) (ht : t.val / 4 * 256 + j.val < 512) :
    (iblk m c 1 t (ix2 j k) : EReal) = (m ((c.tc : Thread nD τ).loc main_arg1) (ix2 ⟨t.val / 4 * 256 + j.val, ht⟩ k) : EReal) := by
  blk_ext [iblk, V, idx t]

/-- Where the call writes nothing, the result holds the third argument. -/
theorem entry : V m c main_v0 = m ((c.tc : Thread nD τ).loc main_arg2) := by
  rfl

/-- The output from the arguments. -/
def at_ (x : FVec Ideal S4096x1792 .f32) (kv : FVec Ideal S512x512 .f32) (R : Fin 4096) (k : Fin 256) : EReal :=
  Cert.Mem.full (fun R k => (x (ix2 R ⟨1536 + k.val, by omega⟩) : EReal)) (fun j k => (kv (ix2 j k) : EReal)) R k

theorem block_at (t : Fin cfg0.N) (i : Fin 512) (k : Fin 256) (ht : t.val * 512 + i.val < 4096) :
    (outsAt0 m c t (ix2 i k) : EReal) = at_ (m ((c.tc : Thread nD τ).loc main_arg0)) (m ((c.tc : Thread nD τ).loc main_arg1)) ⟨t.val * 512 + i.val, ht⟩ k := by
  have ht' := (idx t).2.2.2
  have hk : k = ⟨k.val / 64 * 64 + k.val % 64, by omega⟩ := Fin.ext (by dsimp only; omega)
  rw [out_A]
  refine (congrArg (fun k => (Cert.Kernel22Ideal.Att.step (iblk m c 0 t) (iblk m c 1 t) (ix2 i k) : EReal)) hk).trans
    ((Cert.Kernel22Ideal.Att.step_at _ _ i ⟨k.val / 64, by omega⟩ ⟨k.val % 64, by omega⟩).trans ?_)
  unfold at_ Cert.Mem.full
  refine congrArg₂ (fun x kv => Cert.Mem.head x kv _ _) (funext fun k => rows_at m c t i k ht) (funext fun j => funext fun k => ?_)
  rw [mem_at m c t j k (by omega)]
  exact congrArg (fun r => (m ((c.tc : Thread nD τ).loc main_arg1) (ix2 r k) : EReal)) (Fin.ext (by dsimp only; omega))

/-- The result after the run. -/
theorem arr : (dats m 0 c).arrAt 2 cfg0.N = fun y : S4096x1024.Idx => if 768 ≤ (y 1).val then
    at_ (m ((c.tc : Thread nD τ).loc main_arg0)) (m ((c.tc : Thread nD τ).loc main_arg1)) ⟨(y 0).val, (y 0).isLt⟩
      ⟨(y 1).val - 768, by have h1 : (y 1).val < 1024 := (y 1).isLt; omega⟩ else V m c main_v0 y := by
  refine (dats m 0 c).arrAt_eq_of_coversWhere 2 (fun y : S4096x1024.Idx =>
      at_ (m ((c.tc : Thread nD τ).loc main_arg0)) (m ((c.tc : Thread nD τ).loc main_arg1)) ⟨(y 0).val, (y 0).isLt⟩
        ⟨(y 1).val - 768, by have h1 : (y 1).val < 1024 := (y 1).isLt; omega⟩)
    (fun i => i 1 = 3) (by decide +kernel) (fun t hf y => ?_) (fun j => by
      blk_simp [Pipeline.Window.cell_apply]
      have h1 : (j 1).val < 1024 := (j 1).isLt
      omega)
  have ht := (idx t).2.2.2
  blk_simp [idx t]
  rw [after0_2]
  idx_vars y
  refine (block_at m c t y0 y1 (by omega)).trans (congrArg (at_ _ _ _) (Fin.ext ?_))
  dsimp only
  omega

end Cert.Kernel23Ideal.Att

namespace Cert.Reference22Ideal.Att
open Idealize.ShloMosaic Idealize.ShloMosaic.TcCoe Idealize.SL.Sem
open Cert.Reference22Ideal Cert.Reference22Ideal.Gen

/-- The columns of the queries. -/
def qs (x0 : FVec Ideal S4096x1024 .f32) : FVec Ideal S4096x256 .f32 := extractStridedSlice S4096x256 ![0, 768] x0 slices_S4096x1024_S4096x256_0_768
/-- The result with the last columns replaced. -/
def put (x2 : FVec Ideal S4096x1024 .bf16) (y : FVec Ideal S4096x256 .f32) : FVec Ideal S4096x1024 .bf16 :=
  concatenate S4096x1024 1 [⟨S4096x768, (extractStridedSlice S4096x768 ![0, 0] x2 slices_S4096x1024_S4096x768_0_0)⟩, ⟨S4096x256, (truncf .bf16 y bitsLt_bf16_f32)⟩] concatenates_S4096x768_S4096x256_S4096x1024_d1
/-- The reference's result. -/
def out (x0 : FVec Ideal S4096x1024 .f32) (x1 : FVec Ideal S512x512 .f32) (x2 : FVec Ideal S4096x1024 .bf16) : FVec Ideal S4096x1024 .bf16 :=
  put x2 (Cert.Reference22Ideal.Att.att (qs x0) x1)

theorem qs_at (x0 : FVec Ideal S4096x1024 .f32) (R : Fin 4096) (k : Fin 256) :
    (qs x0 (ix2 R k) : EReal) = (x0 (ix2 R ⟨768 + k.val, by omega⟩) : EReal) := by
  unfold qs
  pointwise []

theorem put_lo (x2 : FVec Ideal S4096x1024 .bf16) (y : FVec Ideal S4096x256 .f32) (R : Fin 4096) (k : Fin 1024) (hk : ¬768 ≤ k.val) :
    (put x2 y (ix2 R k) : EReal) = (x2 (ix2 R k) : EReal) := by
  unfold put
  pointwise []
  rw [dif_pos (show k.val < 768 by omega)]

theorem put_hi (x2 : FVec Ideal S4096x1024 .bf16) (y : FVec Ideal S4096x256 .f32) (R : Fin 4096) (k : Fin 1024) (hk : 768 ≤ k.val) :
    (put x2 y (ix2 R k) : EReal) = (y (ix2 R ⟨k.val - 768, by omega⟩) : EReal) := by
  unfold put
  pointwise []
  rw [dif_neg (show ¬k.val < 768 by omega)]

theorem out_hi (x0 : FVec Ideal S4096x1024 .f32) (x1 : FVec Ideal S512x512 .f32) (x2 : FVec Ideal S4096x1024 .bf16) (R : Fin 4096) (k : Fin 1024) (hk : 768 ≤ k.val) :
    (out x0 x1 x2 (ix2 R k) : EReal) = Cert.Kernel22Ideal.Att.at_ x0 x1 R ⟨k.val - 768, by omega⟩ := by
  unfold out Cert.Kernel22Ideal.Att.at_
  rw [put_hi _ _ R k hk, Cert.Reference22Ideal.Att.att_at]
  simp_rw [qs_at]

end Cert.Reference22Ideal.Att

namespace Cert.Proof
open Idealize.ShloMosaic Idealize.ShloMosaic.TcCoe Idealize.SL.Sem

/-- Every run of the reference ends, and leaves its arguments as they were. -/
theorem reference22_quiescent : quiescent_Reference22Ideal (hReference22Ideal := Cert.Reference22Ideal.Gen.facts) := fun m ρ _ =>
  (θ_run Cert.Reference22Ideal.defs _ _).mono
    (fun r h => ⟨fun c => (h c).2, Idealize.ShloMosaic.sem_eq_zero_of_no_sems (by decide) r.2⟩)
    (Cert.Reference22Ideal.Value.run (F := Ideal) m ρ)

/-- The reference's result is the staged one. -/
theorem res22 (m : (ℓ : Loc Cert.Reference22Ideal.nD Cert.Reference22Ideal.τ Cert.Reference22Ideal.sig) → Buf (Elt Ideal) ℓ) (c : Dev Cert.Reference22Ideal.nD) :
    Cert.Reference22Ideal.Value.res_main_v27 m c = Cert.Reference22Ideal.Att.out (m (c.tc.loc Cert.Reference22Ideal.main_arg0)) (m (c.tc.loc Cert.Reference22Ideal.main_arg1)) (m (c.tc.loc Cert.Reference22Ideal.main_arg2)) := by
  rfl

/-- The kernel's result is the reference's. -/
theorem algebraic22 : algebraic_Kernel22Ideal_Reference22Ideal
    (hKernel22Ideal := Cert.Kernel22Ideal.Gen.facts) (hReference22Ideal := Cert.Reference22Ideal.Gen.facts) := by
  intro m g m' g' _ ha
  refine ⟨fun c => (Cert.Kernel22Ideal.Gen.dats m 0 c).arrAt 2 Cert.Kernel22Ideal.cfg0.N,
    Cert.Kernel22Ideal.Value.run_blocks m g, ?_⟩
  refine (θ_run Cert.Reference22Ideal.defs _ _).mono (fun r h c => ⟨?_, (h c).2⟩) (Cert.Reference22Ideal.Value.run (F := Ideal) m' g')
  refine (h c).1.trans ((res22 m' c).trans ?_)
  rw [(ha c).1, (ha c).2.1, (ha c).2.2]
  refine Eq.trans ?_ (Cert.Kernel22Ideal.Att.arr m c).symm
  funext y
  idx_vars y
  by_cases h1 : 768 ≤ y1.val
  · exact (Cert.Reference22Ideal.Att.out_hi _ _ _ y0 y1 h1).trans (if_pos h1).symm
  · exact (Cert.Reference22Ideal.Att.put_lo _ _ y0 y1 h1).trans (Eq.trans (congrFun (Cert.Kernel22Ideal.Att.entry m c) _).symm (if_neg h1).symm)

end Cert.Proof

namespace Cert.Reference23Ideal.Att
open Idealize.ShloMosaic Idealize.ShloMosaic.TcCoe Idealize.SL.Sem
open Cert.Reference23Ideal Cert.Reference23Ideal.Gen

/-- The columns of the queries. -/
def qs (x0 : FVec Ideal S4096x1792 .f32) : FVec Ideal S4096x256 .f32 := extractStridedSlice S4096x256 ![0, 1536] x0 slices_S4096x1792_S4096x256_0_1536
/-- The result with the last columns replaced. -/
def put (x2 : FVec Ideal S4096x1024 .bf16) (y : FVec Ideal S4096x256 .f32) : FVec Ideal S4096x1024 .bf16 :=
  concatenate S4096x1024 1 [⟨S4096x768, (extractStridedSlice S4096x768 ![0, 0] x2 slices_S4096x1024_S4096x768_0_0)⟩, ⟨S4096x256, (truncf .bf16 y bitsLt_bf16_f32)⟩] concatenates_S4096x768_S4096x256_S4096x1024_d1
/-- The reference's result. -/
def out (x0 : FVec Ideal S4096x1792 .f32) (x1 : FVec Ideal S512x512 .f32) (x2 : FVec Ideal S4096x1024 .bf16) : FVec Ideal S4096x1024 .bf16 :=
  put x2 (Cert.Reference22Ideal.Att.att (qs x0) x1)

theorem qs_at (x0 : FVec Ideal S4096x1792 .f32) (R : Fin 4096) (k : Fin 256) :
    (qs x0 (ix2 R k) : EReal) = (x0 (ix2 R ⟨1536 + k.val, by omega⟩) : EReal) := by
  unfold qs
  pointwise []

theorem put_lo (x2 : FVec Ideal S4096x1024 .bf16) (y : FVec Ideal S4096x256 .f32) (R : Fin 4096) (k : Fin 1024) (hk : ¬768 ≤ k.val) :
    (put x2 y (ix2 R k) : EReal) = (x2 (ix2 R k) : EReal) := by
  unfold put
  pointwise []
  rw [dif_pos (show k.val < 768 by omega)]

theorem put_hi (x2 : FVec Ideal S4096x1024 .bf16) (y : FVec Ideal S4096x256 .f32) (R : Fin 4096) (k : Fin 1024) (hk : 768 ≤ k.val) :
    (put x2 y (ix2 R k) : EReal) = (y (ix2 R ⟨k.val - 768, by omega⟩) : EReal) := by
  unfold put
  pointwise []
  rw [dif_neg (show ¬k.val < 768 by omega)]

theorem out_hi (x0 : FVec Ideal S4096x1792 .f32) (x1 : FVec Ideal S512x512 .f32) (x2 : FVec Ideal S4096x1024 .bf16) (R : Fin 4096) (k : Fin 1024) (hk : 768 ≤ k.val) :
    (out x0 x1 x2 (ix2 R k) : EReal) = Cert.Kernel23Ideal.Att.at_ x0 x1 R ⟨k.val - 768, by omega⟩ := by
  unfold out Cert.Kernel23Ideal.Att.at_
  rw [put_hi _ _ R k hk, Cert.Reference22Ideal.Att.att_at]
  simp_rw [qs_at]

end Cert.Reference23Ideal.Att

namespace Cert.Proof
open Idealize.ShloMosaic Idealize.ShloMosaic.TcCoe Idealize.SL.Sem

/-- Every run of the reference ends, and leaves its arguments as they were. -/
theorem reference23_quiescent : quiescent_Reference23Ideal (hReference23Ideal := Cert.Reference23Ideal.Gen.facts) := fun m ρ _ =>
  (θ_run Cert.Reference23Ideal.defs _ _).mono
    (fun r h => ⟨fun c => (h c).2, Idealize.ShloMosaic.sem_eq_zero_of_no_sems (by decide) r.2⟩)
    (Cert.Reference23Ideal.Value.run (F := Ideal) m ρ)

/-- The reference's result is the staged one. -/
theorem res23 (m : (ℓ : Loc Cert.Reference23Ideal.nD Cert.Reference23Ideal.τ Cert.Reference23Ideal.sig) → Buf (Elt Ideal) ℓ) (c : Dev Cert.Reference23Ideal.nD) :
    Cert.Reference23Ideal.Value.res_main_v27 m c = Cert.Reference23Ideal.Att.out (m (c.tc.loc Cert.Reference23Ideal.main_arg0)) (m (c.tc.loc Cert.Reference23Ideal.main_arg1)) (m (c.tc.loc Cert.Reference23Ideal.main_arg2)) := by
  rfl

/-- The kernel's result is the reference's. -/
theorem algebraic23 : algebraic_Kernel23Ideal_Reference23Ideal
    (hKernel23Ideal := Cert.Kernel23Ideal.Gen.facts) (hReference23Ideal := Cert.Reference23Ideal.Gen.facts) := by
  intro m g m' g' _ ha
  refine ⟨fun c => (Cert.Kernel23Ideal.Gen.dats m 0 c).arrAt 2 Cert.Kernel23Ideal.cfg0.N,
    Cert.Kernel23Ideal.Value.run_blocks m g, ?_⟩
  refine (θ_run Cert.Reference23Ideal.defs _ _).mono (fun r h c => ⟨?_, (h c).2⟩) (Cert.Reference23Ideal.Value.run (F := Ideal) m' g')
  refine (h c).1.trans ((res23 m' c).trans ?_)
  rw [(ha c).1, (ha c).2.1, (ha c).2.2]
  refine Eq.trans ?_ (Cert.Kernel23Ideal.Att.arr m c).symm
  funext y
  idx_vars y
  by_cases h1 : 768 ≤ y1.val
  · exact (Cert.Reference23Ideal.Att.out_hi _ _ _ y0 y1 h1).trans (if_pos h1).symm
  · exact (Cert.Reference23Ideal.Att.put_lo _ _ y0 y1 h1).trans (Eq.trans (congrFun (Cert.Kernel23Ideal.Att.entry m c) _).symm (if_neg h1).symm)

end Cert.Proof
-- ==== Proof.SwaRef.lean ====
module
public import proofs.«01_k».proof.Defs
public import proofs.«01_k».proof.Proof.Decode
public import proofs.«01_k».proof.Proof.RefRead
public import proofs.«01_k».proof.Proof.Gen.Reference24Ideal.Run
public import Idealize.ShloMosaic.Lib.Quiescent

/-! # The reference of the banded attention's output

Its weights are those of the gradient's reference on the same arguments. -/

@[expose] public section
set_option maxRecDepth 65536
noncomputable section

namespace Cert.Reference24Ideal.Swa
open Idealize.ShloMosaic Idealize.ShloMosaic.TcCoe Idealize.SL.Sem Idealize.ShloMosaic.StableHlo
open Cert.Reference24Ideal Cert.Reference24Ideal.Gen Cert.Swa

/-- The output as it is returned, of the values and the weights. -/
def put (v : FVec Ideal S2x16x256x4x64 .f32) (w : FVec Ideal S2x16x4x3x128x256 .f32) : FVec Ideal S4096x1024 .bf16 :=
  truncf .bf16 (pad S4096x1024 ![0, 0] ![0, 256] ![0, 0] (shapeCast _ (shapeCast _ (transpose S2x16x128x4x3x64 [0, 1, 5, 2, 4, 3] (Host.dotGeneral (φ₁ := .f32) (φ₂ := .f32) dot_S2x16x256x4x64_S2x16x4x3x128x256_S2x16x4x64x3x128_2_5_4_34_013_012 none v w) transposes_S2x16x4x64x3x128_S2x16x128x4x3x64_0_1_5_2_4_3) shapeCasts_S2x16x128x4x3x64_S2x2048x768) shapeCasts_S2x2048x768_S4096x768) (sitofp .f32 (constantI S_ 32 0#32)) pads_S4096x768_S4096x1024_000_02560 h_S_) bitsLt_bf16_f32

theorem put_at (v : FVec Ideal S2x16x256x4x64 .f32) (w : FVec Ideal S2x16x4x3x128x256 .f32) (R : Fin 4096) (c : Fin 1024) (hc : c.val < 768) :
    (put v w (ix2 R c) : EReal) = ∑ x : Fin 256, (v (ix5 ⟨R.val / 2048, by omega⟩ ⟨R.val / 128 % 16, by omega⟩ x ⟨c.val / 192, by omega⟩ ⟨c.val % 64, by omega⟩)
          * w (ix6 ⟨R.val / 2048, by omega⟩ ⟨R.val / 128 % 16, by omega⟩ ⟨c.val / 192, by omega⟩ ⟨c.val / 64 % 3, by omega⟩ ⟨R.val % 128, by omega⟩ x) : EReal) := by
  unfold put
  pointwise []
  rw [dif_pos hc]

/-- The keys a block reads. -/
def keys (x1 : FVec Ideal S4096x512 .f32) : FVec Ideal S2x16x256x4x64 .f32 :=
  concatenate S2x16x256x4x64 2 [⟨S2x16x128x4x64, (extractStridedSlice S2x16x128x4x64 ![0, 0, 0, 0, 0] (pad S2x17x128x4x64 ![0, 1, 0, 0, 0] ![0, 0, 0, 0, 0] ![0, 0, 0, 0, 0] (shapeCast _ (shapeCast _ (extractStridedSlice S2x2048x1x4x64 ![0, 0, 0, 0, 0] (shapeCast _ x1 shapeCasts_S4096x512_S2x2048x2x4x64) slices_S2x2048x2x4x64_S2x2048x1x4x64_0_0_0_0_0) shapeCasts_S2x2048x1x4x64_S2x2048x4x64) shapeCasts_S2x2048x4x64_S2x16x128x4x64) (sitofp .f32 (constantI S_ 32 0#32)) pads_S2x16x128x4x64_S2x17x128x4x64_000_100_000_000_000 h_S_) slices_S2x17x128x4x64_S2x16x128x4x64_0_0_0_0_0)⟩, ⟨S2x16x128x4x64, (extractStridedSlice S2x16x128x4x64 ![0, 1, 0, 0, 0] (pad S2x17x128x4x64 ![0, 1, 0, 0, 0] ![0, 0, 0, 0, 0] ![0, 0, 0, 0, 0] (shapeCast _ (shapeCast _ (extractStridedSlice S2x2048x1x4x64 ![0, 0, 0, 0, 0] (shapeCast _ x1 shapeCasts_S4096x512_S2x2048x2x4x64) slices_S2x2048x2x4x64_S2x2048x1x4x64_0_0_0_0_0) shapeCasts_S2x2048x1x4x64_S2x2048x4x64) shapeCasts_S2x2048x4x64_S2x16x128x4x64) (sitofp .f32 (constantI S_ 32 0#32)) pads_S2x16x128x4x64_S2x17x128x4x64_000_100_000_000_000 h_S_) slices_S2x17x128x4x64_S2x16x128x4x64_0_1_0_0_0)⟩] concatenates_S2x16x128x4x64_S2x16x128x4x64_S2x16x256x4x64_d2
/-- The values a block reads. -/
def vals (x1 : FVec Ideal S4096x512 .f32) : FVec Ideal S2x16x256x4x64 .f32 :=
  concatenate S2x16x256x4x64 2 [⟨S2x16x128x4x64, (extractStridedSlice S2x16x128x4x64 ![0, 0, 0, 0, 0] (pad S2x17x128x4x64 ![0, 1, 0, 0, 0] ![0, 0, 0, 0, 0] ![0, 0, 0, 0, 0] (shapeCast _ (shapeCast _ (extractStridedSlice S2x2048x1x4x64 ![0, 0, 1, 0, 0] (shapeCast _ x1 shapeCasts_S4096x512_S2x2048x2x4x64) slices_S2x2048x2x4x64_S2x2048x1x4x64_0_0_1_0_0) shapeCasts_S2x2048x1x4x64_S2x2048x4x64) shapeCasts_S2x2048x4x64_S2x16x128x4x64) (sitofp .f32 (constantI S_ 32 0#32)) pads_S2x16x128x4x64_S2x17x128x4x64_000_100_000_000_000 h_S_) slices_S2x17x128x4x64_S2x16x128x4x64_0_0_0_0_0)⟩, ⟨S2x16x128x4x64, (extractStridedSlice S2x16x128x4x64 ![0, 1, 0, 0, 0] (pad S2x17x128x4x64 ![0, 1, 0, 0, 0] ![0, 0, 0, 0, 0] ![0, 0, 0, 0, 0] (shapeCast _ (shapeCast _ (extractStridedSlice S2x2048x1x4x64 ![0, 0, 1, 0, 0] (shapeCast _ x1 shapeCasts_S4096x512_S2x2048x2x4x64) slices_S2x2048x2x4x64_S2x2048x1x4x64_0_0_1_0_0) shapeCasts_S2x2048x1x4x64_S2x2048x4x64) shapeCasts_S2x2048x4x64_S2x16x128x4x64) (sitofp .f32 (constantI S_ 32 0#32)) pads_S2x16x128x4x64_S2x17x128x4x64_000_100_000_000_000 h_S_) slices_S2x17x128x4x64_S2x16x128x4x64_0_1_0_0_0)⟩] concatenates_S2x16x128x4x64_S2x16x128x4x64_S2x16x256x4x64_d2
/-- The queries. -/
def qrs (x0 : FVec Ideal S4096x1024 .f32) : FVec Ideal S2x16x128x4x3x64 .f32 :=
  shapeCast _ (shapeCast _ (extractStridedSlice S4096x768 ![0, 0] x0 slices_S4096x1024_S4096x768_0_0) shapeCasts_S4096x768_S2x2048x12x64) shapeCasts_S2x2048x12x64_S2x16x128x4x3x64
/-- The mask. -/
def msk : IVec S2x16x4x3x128x256 1 :=
  broadcastInDim S2x16x4x3x128x256 ![0, 1, 2, 3, 4, 5] bcast_S1x16x1x1x128x256_S2x16x4x3x128x256_0_1_2_3_4_5 (broadcastInDim S1x16x1x1x128x256 ![1, 4, 5] bcast_S16x128x256_S1x16x1x1x128x256_1_4_5 (andi (broadcastInDim S16x128x256 ![0, 1, 2] bcast_S1x128x256_S16x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S16x128x256 ![0, 1, 2] bcast_S16x1x256_S16x128x256_0_1_2 (ori (broadcastInDim S16x1x256 ![0, 1, 2] bcast_S16x1x1_S16x1x256_0_1_2 (cmpi .sgt (broadcastInDim S16x1x1 ![0] bcast_S16_S16x1x1_0 (iotaInDim S16 32 0)) (broadcastInDim S16x1x1 ![] bcast_S_S16x1x1 (constantI S_ 32 0#32)))) (broadcastInDim S16x1x256 ![0, 1, 2] bcast_S1x1x256_S16x1x256_0_1_2 (cmpi .sge (broadcastInDim S1x1x256 ![1, 2] bcast_S1x256_S1x1x256_1_2 (broadcastInDim S1x256 ![1] bcast_S256_S1x256_1 (iotaInDim S256 32 0))) (broadcastInDim S1x1x256 ![] bcast_S_S1x1x256 (constantI S_ 32 128#32))))))))
/-- The masked scores. -/
def scs (y_msk : IVec S2x16x4x3x128x256 1) (y_keys : FVec Ideal S2x16x256x4x64 .f32) (y_qrs : FVec Ideal S2x16x128x4x3x64 .f32) : FVec Ideal S2x16x4x3x128x256 .f32 :=
  select y_msk (addf (mulf (transpose S2x16x4x3x128x256 [0, 1, 2, 5, 4, 3] (Host.dotGeneral (φ₁ := .f32) (φ₂ := .f32) dot_S2x16x256x4x64_S2x16x128x4x3x64_S2x16x4x256x128x3_4_5_2_24_013_013 none y_keys y_qrs) transposes_S2x16x4x256x128x3_S2x16x4x3x128x256_0_1_2_5_4_3) (broadcastInDim S2x16x4x3x128x256 ![] bcast_S_S2x16x4x3x128x256 (constant (F := Ideal) S_ .f32 0x3E000000#32))) (broadcastInDim S2x16x4x3x128x256 ![0, 1, 2, 3, 4, 5] bcast_S1x1x4x3x128x256_S2x16x4x3x128x256_0_1_2_3_4_5 (broadcastInDim S1x1x4x3x128x256 ![2, 3, 4, 5] bcast_S4x3x128x256_S1x1x4x3x128x256_2_3_4_5 (mulf (broadcastInDim S4x3x128x256 ![0, 1, 2, 3] bcast_S4x3x1x1_S4x3x128x256_0_1_2_3 (Host.negf (shapeCast _ ((concatenate S12 0 [⟨S1, ((broadcastInDim S1 ![] bcast_S_S1 (constant (F := Ideal) S_ .f32 0x3F000000#32)) : (⟨S1, .f32⟩ : BufTy).Contents (Elt Ideal))⟩, ⟨S1, ((broadcastInDim S1 ![] bcast_S_S1 (constant (F := Ideal) S_ .f32 0x3E800000#32)) : (⟨S1, .f32⟩ : BufTy).Contents (Elt Ideal))⟩, ⟨S1, ((broadcastInDim S1 ![] bcast_S_S1 (constant (F := Ideal) S_ .f32 0x3E000000#32)) : (⟨S1, .f32⟩ : BufTy).Contents (Elt Ideal))⟩, ⟨S1, ((broadcastInDim S1 ![] bcast_S_S1 (constant (F := Ideal) S_ .f32 0x3D800000#32)) : (⟨S1, .f32⟩ : BufTy).Contents (Elt Ideal))⟩, ⟨S1, ((broadcastInDim S1 ![] bcast_S_S1 (constant (F := Ideal) S_ .f32 0x3D000000#32)) : (⟨S1, .f32⟩ : BufTy).Contents (Elt Ideal))⟩, ⟨S1, ((broadcastInDim S1 ![] bcast_S_S1 (constant (F := Ideal) S_ .f32 0x3C800000#32)) : (⟨S1, .f32⟩ : BufTy).Contents (Elt Ideal))⟩, ⟨S1, ((broadcastInDim S1 ![] bcast_S_S1 (constant (F := Ideal) S_ .f32 0x3C000000#32)) : (⟨S1, .f32⟩ : BufTy).Contents (Elt Ideal))⟩, ⟨S1, ((broadcastInDim S1 ![] bcast_S_S1 (constant (F := Ideal) S_ .f32 0x3B800000#32)) : (⟨S1, .f32⟩ : BufTy).Contents (Elt Ideal))⟩, ⟨S1, ((broadcastInDim S1 ![] bcast_S_S1 (constant (F := Ideal) S_ .f32 0x3F3504F3#32)) : (⟨S1, .f32⟩ : BufTy).Contents (Elt Ideal))⟩, ⟨S1, ((broadcastInDim S1 ![] bcast_S_S1 (constant (F := Ideal) S_ .f32 0x3EB504F3#32)) : (⟨S1, .f32⟩ : BufTy).Contents (Elt Ideal))⟩, ⟨S1, ((broadcastInDim S1 ![] bcast_S_S1 (constant (F := Ideal) S_ .f32 0x3E3504F3#32)) : (⟨S1, .f32⟩ : BufTy).Contents (Elt Ideal))⟩, ⟨S1, ((broadcastInDim S1 ![] bcast_S_S1 (constant (F := Ideal) S_ .f32 0x3DB504F3#32)) : (⟨S1, .f32⟩ : BufTy).Contents (Elt Ideal))⟩] concatenates_S1_S1_S1_S1_S1_S1_S1_S1_S1_S1_S1_S1_S12_d0 : (⟨S12, .f32⟩ : BufTy).Contents (Elt Ideal))) shapeCasts_S12_S4x3x1x1))) (broadcastInDim S4x3x128x256 ![0, 1, 2, 3] bcast_S1x1x128x256_S4x3x128x256_0_1_2_3 (broadcastInDim S1x1x128x256 ![2, 3] bcast_S128x256_S1x1x128x256_2_3 (sitofp .f32 (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0))))))))))) (broadcastInDim S2x16x4x3x128x256 ![] bcast_S_S2x16x4x3x128x256 (id (constant (F := Ideal) S_ .f32 0xFF800000#32)))
/-- The largest score, the sink included. -/
def top (x2 : FVec Ideal S12 .f32) (y_scs : FVec Ideal S2x16x4x3x128x256 .f32) : FVec Ideal S2x16x4x3x128x1 .f32 :=
  maximumf (broadcastInDim S2x16x4x3x128x1 ![0, 1, 2, 3, 4] bcast_S2x16x4x3x128_S2x16x4x3x128x1_0_1_2_3_4 (Host.reduce FloatOps.maximumf y_scs (constant (F := Ideal) S_ .f32 0xFF800000#32) reducesTo_S2x16x4x3x128x256_S2x16x4x3x128_d5 h_S_)) (broadcastInDim S2x16x4x3x128x1 ![0, 1, 2, 3, 4, 5] bcast_S1x1x4x3x1x1_S2x16x4x3x128x1_0_1_2_3_4_5 (shapeCast _ x2 shapeCasts_S12_S1x1x4x3x1x1))
/-- The exponentials. -/
def exs (y_scs : FVec Ideal S2x16x4x3x128x256 .f32) (y_top : FVec Ideal S2x16x4x3x128x1 .f32) : FVec Ideal S2x16x4x3x128x256 .f32 :=
  Host.exp (subf y_scs (broadcastInDim S2x16x4x3x128x256 ![0, 1, 2, 3, 4, 5] bcast_S2x16x4x3x128x1_S2x16x4x3x128x256_0_1_2_3_4_5 y_top))
/-- The denominators. -/
def den (x2 : FVec Ideal S12 .f32) (y_exs : FVec Ideal S2x16x4x3x128x256 .f32) (y_top : FVec Ideal S2x16x4x3x128x1 .f32) : FVec Ideal S2x16x4x3x128x1 .f32 :=
  addf (broadcastInDim S2x16x4x3x128x1 ![0, 1, 2, 3, 4] bcast_S2x16x4x3x128_S2x16x4x3x128x1_0_1_2_3_4 (Host.reduceAdd y_exs (constant (F := Ideal) S_ .f32 0x00000000#32) reducesTo_S2x16x4x3x128x256_S2x16x4x3x128_d5 h_S_)) (Host.exp (subf (broadcastInDim S2x16x4x3x128x1 ![0, 1, 2, 3, 4, 5] bcast_S1x1x4x3x1x1_S2x16x4x3x128x1_0_1_2_3_4_5 (shapeCast _ x2 shapeCasts_S12_S1x1x4x3x1x1)) y_top))
/-- The weights. -/
def wts (y_exs : FVec Ideal S2x16x4x3x128x256 .f32) (y_den : FVec Ideal S2x16x4x3x128x1 .f32) : FVec Ideal S2x16x4x3x128x256 .f32 :=
  Host.divf y_exs (broadcastInDim S2x16x4x3x128x256 ![0, 1, 2, 3, 4, 5] bcast_S2x16x4x3x128x1_S2x16x4x3x128x256_0_1_2_3_4_5 y_den)

/-- The reference's result, in stages. -/
theorem res_put (m : (ℓ : Loc nD τ sig) → Buf (Elt Ideal) ℓ) (c : Dev nD) (x0 : FVec Ideal S4096x1024 .f32) (x1 : FVec Ideal S4096x512 .f32) (x2 : FVec Ideal S12 .f32)
    (h0 : m (c.tc.loc main_arg0) = x0) (h1 : m (c.tc.loc main_arg1) = x1) (h2 : m (c.tc.loc main_arg2) = x2) :
    Value.res_main_v96 m c = put (vals x1) (wts (exs (scs (msk) (keys x1) (qrs x0)) (top x2 (scs (msk) (keys x1) (qrs x0)))) (den x2 (exs (scs (msk) (keys x1) (qrs x0)) (top x2 (scs (msk) (keys x1) (qrs x0)))) (top x2 (scs (msk) (keys x1) (qrs x0))))) := by
  unfold Value.res_main_v96
  rw [h0, h1, h2]
  rfl

variable (V : Valuation Cert.ReferenceIdeal.τ Cert.ReferenceIdeal.sig (Elt Ideal))
theorem keys_eq : Cert.ReferenceIdeal.Value.res_main_v9 V = keys (V (Proc.devRef .tc Cert.ReferenceIdeal.main_arg1)) := rfl
theorem vals_eq : Cert.ReferenceIdeal.Value.res_main_v16 V = vals (V (Proc.devRef .tc Cert.ReferenceIdeal.main_arg1)) := rfl
theorem qrs_eq : Cert.ReferenceIdeal.Value.res_main_v33 V = qrs (V (Proc.devRef .tc Cert.ReferenceIdeal.main_arg0)) := rfl
theorem msk_eq : Cert.ReferenceIdeal.Value.res_main_v77_1 V = msk := rfl
theorem scs_eq : Cert.ReferenceIdeal.Value.res_main_v77_0 V = scs (Cert.ReferenceIdeal.Value.res_main_v77_1 V) (Cert.ReferenceIdeal.Value.res_main_v9 V) (Cert.ReferenceIdeal.Value.res_main_v33 V) := rfl
theorem top_eq : Cert.ReferenceIdeal.Value.res_main_v87 V = top (V (Proc.devRef .tc Cert.ReferenceIdeal.main_arg2)) (Cert.ReferenceIdeal.Value.res_main_v77_0 V) := rfl
theorem exs_eq : Cert.ReferenceIdeal.Value.res_main_v108 V = exs (Cert.ReferenceIdeal.Value.res_main_v77_0 V) (Cert.ReferenceIdeal.Value.res_main_v87 V) := rfl
theorem den_eq : Cert.ReferenceIdeal.Value.res_main_v114 V = den (V (Proc.devRef .tc Cert.ReferenceIdeal.main_arg2)) (Cert.ReferenceIdeal.Value.res_main_v108 V) (Cert.ReferenceIdeal.Value.res_main_v87 V) := rfl
theorem wts_eq : Cert.ReferenceIdeal.Value.res_main_v116 V = wts (Cert.ReferenceIdeal.Value.res_main_v108 V) (Cert.ReferenceIdeal.Value.res_main_v114 V) := rfl

theorem weights_eq : Cert.ReferenceIdeal.Value.res_main_v116 V = (wts (exs (scs (msk) (keys (V (Proc.devRef .tc Cert.ReferenceIdeal.main_arg1))) (qrs (V (Proc.devRef .tc Cert.ReferenceIdeal.main_arg0)))) (top (V (Proc.devRef .tc Cert.ReferenceIdeal.main_arg2)) (scs (msk) (keys (V (Proc.devRef .tc Cert.ReferenceIdeal.main_arg1))) (qrs (V (Proc.devRef .tc Cert.ReferenceIdeal.main_arg0)))))) (den (V (Proc.devRef .tc Cert.ReferenceIdeal.main_arg2)) (exs (scs (msk) (keys (V (Proc.devRef .tc Cert.ReferenceIdeal.main_arg1))) (qrs (V (Proc.devRef .tc Cert.ReferenceIdeal.main_arg0)))) (top (V (Proc.devRef .tc Cert.ReferenceIdeal.main_arg2)) (scs (msk) (keys (V (Proc.devRef .tc Cert.ReferenceIdeal.main_arg1))) (qrs (V (Proc.devRef .tc Cert.ReferenceIdeal.main_arg0)))))) (top (V (Proc.devRef .tc Cert.ReferenceIdeal.main_arg2)) (scs (msk) (keys (V (Proc.devRef .tc Cert.ReferenceIdeal.main_arg1))) (qrs (V (Proc.devRef .tc Cert.ReferenceIdeal.main_arg0))))))) := by
  rw [wts_eq, den_eq, exs_eq, top_eq, scs_eq, msk_eq, qrs_eq, keys_eq]

variable {V}

/-- The reference's result, of the values and the weights of the gradient's reference. -/
theorem res_eq (m : (ℓ : Loc nD τ sig) → Buf (Elt Ideal) ℓ) (c : Dev nD) (x0 : FVec Ideal S4096x1024 .f32) (x1 : FVec Ideal S4096x512 .f32) (x2 : FVec Ideal S12 .f32)
    (h0 : m (c.tc.loc main_arg0) = x0) (h1 : m (c.tc.loc main_arg1) = x1) (h2 : m (c.tc.loc main_arg2) = x2)
    (k0 : V (Proc.devRef .tc Cert.ReferenceIdeal.main_arg0) = x0) (k1 : V (Proc.devRef .tc Cert.ReferenceIdeal.main_arg1) = x1)
    (k2 : V (Proc.devRef .tc Cert.ReferenceIdeal.main_arg2) = x2) :
    Value.res_main_v96 m c = put (Cert.ReferenceIdeal.Value.res_main_v16 V) (Cert.ReferenceIdeal.Value.res_main_v116 V) := by
  rw [res_put m c x0 x1 x2 h0 h1 h2, weights_eq, vals_eq, k0, k1, k2]

end Cert.Reference24Ideal.Swa
-- ==== Proof.SwaFwd.lean ====
module
public import proofs.«01_k».proof.Defs
public import proofs.«01_k».proof.Proof.Decode
public import proofs.«01_k».proof.Proof.StepAll
public import proofs.«01_k».proof.Proof.SwaRef
public import proofs.«01_k».proof.Proof.Gen.Kernel24Ideal.Value
public import Idealize.ShloMosaic.Lib.Quiescent

/-! # The forward pass of the banded attention with sinks

The heads, the steps and the reference's weights are those of the gradient's proof, with cotangents of zero. -/

@[expose] public section
set_option maxRecDepth 65536
noncomputable section

namespace Cert.KernelIdeal.Swa
open Idealize.ShloMosaic Idealize.ShloMosaic.TcCoe Idealize.SL.Sem
open Cert.KernelIdeal Cert.KernelIdeal.Gen Cert.Swa

/-- The product of a head's weights with its values. -/
def hOut {F : FTy → Type} [FloatOps F] (p : FVec F S128x256 .f32) (v : FVec F S256x64 .bf16) : FVec F S128x64 .f32 :=
  matmul dot_S128x256_S256x64_S128x64_1_0_0_1_n_n none (truncf .bf16 p bitsLt_bf16_f32) v (constant S128x64 .f32 0x00000000#32)
/-- A head's output. -/
def Step.o {F : FTy → Type} [FloatOps F] (s : Step F) (h : Fin 12) : FVec F S128x64 .f32 :=
  hOut (hW (slopeBits h) s.mask k0_pay4 (s.sink h) (s.qh h) (s.kh h)) (s.vh h)
/-- The output of all heads. -/
def Step.oAll {F : FTy → Type} [FloatOps F] (s : Step F) : FVec F S128x768 .bf16 :=
  k0_pay209 (s.o 0) (s.o 1) (s.o 2) (s.o 3) (s.o 4) (s.o 5) (s.o 6) (s.o 7) (s.o 8) (s.o 9) (s.o 10) (s.o 11)

theorem hOut_eq (p : FVec Ideal S128x256 .f32) (v : FVec Ideal S256x64 .bf16) (i : Fin 128) (d : Fin 64) :
    (hOut p v (ix2 i d) : EReal) = ∑ j : Fin 256, (p (ix2 i j) : EReal) * (v (ix2 j d) : EReal) := by pointwise [hOut]

theorem Reads.o_eq {s : Step Ideal} {B : Blk} (R : Reads s B) (h : Fin 12) (i : Fin 128) (d : Fin 64) :
    (s.o h (ix2 i d) : EReal) = (B.o h i d : EReal) := by
  rw [Step.o, hOut_eq, Blk.o, ← coe_sum]
  exact Finset.sum_congr rfl fun j _ => by rw [R.weight, R.vh_eq, EReal.coe_mul]

end Cert.KernelIdeal.Swa

namespace Cert.Kernel24Ideal.Swa
open Idealize.ShloMosaic Idealize.ShloMosaic.TcCoe Idealize.SL.Sem
open Cert.Kernel24Ideal Cert.Kernel24Ideal.Gen Cert.Swa
open Cert.KernelIdeal.Swa (Step Reads)
variable (m : (ℓ : Loc nD τ sig) → Buf (Elt Ideal) ℓ) (c : Dev nD)

/-- What a point of the grid reads. -/
def stepAt (t : Fin cfg0.N) : Step Ideal where
  sinks := iblk m c 0 t
  q := X0_1 m c t
  prev := iblk m c 2 t
  cur := iblk m c 3 t
  ct := fun _ => (0 : EReal)
  at_ := grid0.coords t

theorem out_eq (t : Fin cfg0.N) : outsAt0 m c t = (stepAt m c t).oAll := by
  unfold outsAt0
  frame_out
  rfl

/-- Where each window's block lies. -/
theorem idx : ∀ t : Fin cfg0.N, win0_0.index t = ![0] ∧ win0_1.index t = ![t.val, 0]
    ∧ win0_2.index t = ![t.val / 16 * 16 + (t.val % 16 - 1), 0] ∧ win0_3.index t = ![t.val, 0] ∧ win0_4.index t = ![t.val, 0]
    ∧ (grid0.coords t 1).val = t.val % 16 ∧ t.val < 32 :=
  (by decide +kernel : ∀ t : Fin grid0.N, _)

/-- The arguments in memory are these real numbers. -/
structure Holds (A : Args) : Prop where
  x : ∀ i k, (m ((c.tc : Thread nD τ).loc main_arg0) (ix2 i k) : EReal) = (A.x i k : EReal)
  kv : ∀ i k, (m ((c.tc : Thread nD τ).loc main_arg1) (ix2 i k) : EReal) = (A.kv i k : EReal)
  sk : ∀ h, (m ((c.tc : Thread nD τ).loc main_arg2) (ix1 h) : EReal) = (A.sk h : EReal)
  ct : ∀ i k, A.ct i k = 0

/-- The sequence and the block of a point. -/
def tb (t : Fin cfg0.N) : Fin 2 := ⟨t.val / 16, by have := (idx t).2.2.2.2.2.2; omega⟩
def tn (t : Fin cfg0.N) : Fin 16 := ⟨t.val % 16, by omega⟩

variable {m c} {A : Args} (H : Holds m c A)
include H

theorem Holds.reads (t : Fin cfg0.N) : Reads (stepAt m c t) (A.blk false (tb t) (tn t)) where
  q i k := by
    have ht := (idx t).2.2.2.2.2.2
    have e : (X0_1 m c t (ix2 i k) : EReal) = (m ((c.tc : Thread nD τ).loc main_arg0) (ix2 ⟨t.val * 128 + i.val, by omega⟩ ⟨k.val, by omega⟩) : EReal) := by
      unfold X0_1 Pipeline.Window.fill
      rw [dif_pos (moved0_1 t (ix2 i k))]
      blk_ext [iblk, V, idx t]
    refine e.trans ((H.x _ _).trans ?_)
    exact congrArg (fun r => ((A.x r _ : ℝ) : EReal)) (Fin.ext (by simp only [Args.at_, tb, tn]; omega))
  ct i k := (congrArg (fun r : ℝ => (r : EReal)) (H.ct _ _)).symm
  prev j k := by
    have ht := (idx t).2.2.2.2.2.2
    have e : (iblk m c 2 t (ix2 j k) : EReal) = (m ((c.tc : Thread nD τ).loc main_arg1) (ix2 ⟨(t.val / 16 * 16 + (t.val % 16 - 1)) * 128 + j.val, by omega⟩ k) : EReal) := by
      blk_ext [iblk, V, idx t]
    refine e.trans ((H.kv _ _).trans ?_)
    show _ = ((A.keys false _ _ _ k : ℝ) : EReal)
    unfold Args.keys
    rw [dif_pos (show j.val < 128 from j.isLt), if_neg (fun h => Bool.false_ne_true h.1)]
    exact congrArg (fun r => ((A.kv r _ : ℝ) : EReal)) (Fin.ext (by simp only [Args.before, tb, tn]; omega))
  cur j k := by
    have ht := (idx t).2.2.2.2.2.2
    have e : (iblk m c 3 t (ix2 j k) : EReal) = (m ((c.tc : Thread nD τ).loc main_arg1) (ix2 ⟨t.val * 128 + j.val, by omega⟩ k) : EReal) := by
      blk_ext [iblk, V, idx t]
    refine e.trans ((H.kv _ _).trans ?_)
    show _ = ((A.keys false _ _ _ k : ℝ) : EReal)
    unfold Args.keys
    rw [dif_neg (show ¬ (128 + j.val < 128) by omega)]
    exact congrArg (fun r => ((A.kv r _ : ℝ) : EReal)) (Fin.ext (by simp only [Args.at_, tb, tn]; omega))
  sinks h := by
    have e : (iblk m c 0 t (ix1 h) : EReal) = (m ((c.tc : Thread nD τ).loc main_arg2) (ix1 h) : EReal) := by blk_ext [iblk, V, idx t]
    exact e.trans (H.sk h)
  at_ := (idx t).2.2.2.2.2.1

/-- The output of one step. -/
theorem oAll_at (t : Fin cfg0.N) (i : Fin 128) (k : Fin 768) (ht : t.val * 128 + i.val < 4096) :
    ((stepAt m c t).oAll (ix2 i k) : EReal) = ((A.go ⟨t.val * 128 + i.val, ht⟩ k : ℝ) : EReal) := by
  refine (Cert.KernelIdeal.Swa.cols_eq (stepAt m c t).o i k ⟨k.val / 64, by omega⟩ ⟨k.val % 64, by omega⟩ (by dsimp only; omega)).trans ?_
  rw [(H.reads t).o_eq]
  unfold Args.go
  have e1 : tb t = Args.rb ⟨t.val * 128 + i.val, ht⟩ := Fin.ext (by simp only [tb, Args.rb]; omega)
  have e2 : tn t = Args.rn ⟨t.val * 128 + i.val, ht⟩ := Fin.ext (by simp only [tn, Args.rn]; omega)
  have e3 : i = Args.ri ⟨t.val * 128 + i.val, ht⟩ := Fin.ext (by simp only [Args.ri]; omega)
  rw [← e1, ← e2, ← e3]

omit H in
theorem size4 : ∀ t : Fin cfg0.N, ∀ a, (cfg0.win 4).xsize (cfg0.grid.coords t) a = (cfg0.win 4).size a := by decide +kernel

/-- The output after the run: the first 768 columns. -/
theorem arr : (dats m 0 c).arrAt 4 cfg0.N = fun y : S4096x1024.Idx => if (y 1).val < 768 then
    ((if h : (y 1).val < 768 then A.go ⟨(y 0).val, (y 0).isLt⟩ ⟨(y 1).val, h⟩ else 0 : ℝ) : EReal) else V m c main_v0 y := by
  refine (dats m 0 c).arrAt_eq_of_coversWhere 4 (fun y : S4096x1024.Idx =>
      ((if h : (y 1).val < 768 then A.go ⟨(y 0).val, (y 0).isLt⟩ ⟨(y 1).val, h⟩ else 0 : ℝ) : EReal))
    (fun i => i 1 < 1) (by decide +kernel) (fun t hf y => ?_) (fun j => by blk_simp [Pipeline.Window.cell_apply]; omega)
  blk_simp [idx t]
  rw [after0_4, out_eq]
  have ht := (idx t).2.2.2.2.2.2
  have h0 : (y 0).val < 128 := lt_of_lt_of_eq (y 0).isLt (size4 t 0)
  have h1 : (y 1).val < 768 := lt_of_lt_of_eq (y 1).isLt (size4 t 1)
  have hx : ((cfg0.win 4).xinj (cfg0.grid.coords t) y : S128x768.Idx) = ix2 ⟨(y 0).val, h0⟩ ⟨(y 1).val, h1⟩ :=
    funext fun a => Fin.ext (by match a with | ⟨0, _⟩ => rfl | ⟨1, _⟩ => rfl)
  rw [dif_pos h1]
  exact (congrArg (stepAt m c t).oAll hx).trans (oAll_at H t ⟨(y 0).val, h0⟩ ⟨(y 1).val, h1⟩ (by dsimp only; omega))

end Cert.Kernel24Ideal.Swa

namespace Cert.Reference24Ideal.Swa
open Idealize.ShloMosaic Idealize.ShloMosaic.TcCoe Idealize.SL.Sem Idealize.ShloMosaic.StableHlo
open Cert.Reference24Ideal Cert.Reference24Ideal.Gen Cert.Swa

/-- Some valuation of the gradient's reference has these arguments. -/
theorem exists_valuation (x0 : FVec Ideal S4096x1024 .f32) (x1 : FVec Ideal S4096x512 .f32) (x2 : FVec Ideal S12 .f32) (x3 : FVec Ideal S4096x1024 .bf16) :
    ∃ V : Valuation Cert.ReferenceIdeal.τ Cert.ReferenceIdeal.sig (Elt Ideal), V (Proc.devRef .tc Cert.ReferenceIdeal.main_arg0) = x0
      ∧ V (Proc.devRef .tc Cert.ReferenceIdeal.main_arg1) = x1 ∧ V (Proc.devRef .tc Cert.ReferenceIdeal.main_arg2) = x2
      ∧ V (Proc.devRef .tc Cert.ReferenceIdeal.main_arg3) = x3 := by
  classical
  have base : Valuation Cert.ReferenceIdeal.τ Cert.ReferenceIdeal.sig (Elt Ideal) := fun b _ => by
    cases b.ty.elt <;> first | exact (0 : EReal) | exact 0#_
  refine ⟨Function.update (Function.update (Function.update (Function.update base (Proc.devRef .tc Cert.ReferenceIdeal.main_arg0) x0) (Proc.devRef .tc Cert.ReferenceIdeal.main_arg1) x1)
    (Proc.devRef .tc Cert.ReferenceIdeal.main_arg2) x2) (Proc.devRef .tc Cert.ReferenceIdeal.main_arg3) x3, ?_, ?_, ?_, Function.update_self ..⟩
  · rw [Function.update_of_ne (by decide), Function.update_of_ne (by decide), Function.update_of_ne (by decide), Function.update_self]
  · rw [Function.update_of_ne (by decide), Function.update_of_ne (by decide), Function.update_self]
  · rw [Function.update_of_ne (by decide), Function.update_self]

theorem go_eq {V : Valuation Cert.ReferenceIdeal.τ Cert.ReferenceIdeal.sig (Elt Ideal)} {A : Args} (H : Cert.ReferenceIdeal.Swa.Holds V A) (R : Fin 4096) (k : Fin 1024)
    (h : k.val < 768) : (put (Cert.ReferenceIdeal.Value.res_main_v16 V) (Cert.ReferenceIdeal.Value.res_main_v116 V) (ix2 R k) : EReal) = ((A.go R ⟨k.val, h⟩ : ℝ) : EReal) := by
  refine (put_at _ _ R k h).trans ?_
  have e1 : (⟨R.val / 128 % 16, by omega⟩ : Fin 16) = Args.rn R := Fin.ext (by simp only [Args.rn]; omega)
  have e2 : head ⟨k.val / 192, by omega⟩ ⟨k.val / 64 % 3, by omega⟩ = ⟨k.val / 64, by omega⟩ := Fin.ext (by simp only [head]; omega)
  unfold Args.go
  rw [A.o_eq _ _ false true, ← e1, ← e2]
  unfold Blk.o
  rw [← coe_sum, grp_head]
  refine Finset.sum_congr rfl fun x _ => ?_
  refine Eq.trans (congrArg₂ (fun a b : EReal => a * b)
    (Cert.ReferenceIdeal.Swa.value_eq H ⟨R.val / 2048, by omega⟩ ⟨R.val / 128 % 16, by omega⟩ ⟨k.val / 192, by omega⟩ x ⟨k.val % 64, by omega⟩)
    (Cert.ReferenceIdeal.Swa.weight_eq H ⟨R.val / 2048, by omega⟩ ⟨R.val / 128 % 16, by omega⟩ ⟨k.val / 192, by omega⟩ ⟨k.val / 64 % 3, by omega⟩ ⟨R.val % 128, by omega⟩ x)) ?_
  exact (mul_comm _ _).trans (EReal.coe_mul _ _).symm

/-- The reference's result at an index. -/
theorem out_at (m : (ℓ : Loc nD τ sig) → Buf (Elt Ideal) ℓ) (c : Dev nD) (A : Args)
    (hx : ∀ i k, (m (c.tc.loc main_arg0) (ix2 i k) : EReal) = (A.x i k : EReal)) (hk : ∀ i k, (m (c.tc.loc main_arg1) (ix2 i k) : EReal) = (A.kv i k : EReal))
    (hs : ∀ h, (m (c.tc.loc main_arg2) (ix1 h) : EReal) = (A.sk h : EReal)) (hc : ∀ i k, A.ct i k = 0)
    (R : Fin 4096) (k : Fin 1024) (h : k.val < 768) : (Value.res_main_v96 m c (ix2 R k) : EReal) = ((A.go R ⟨k.val, h⟩ : ℝ) : EReal) := by
  obtain ⟨V, k0, k1, k2, k3⟩ := exists_valuation (m (c.tc.loc main_arg0)) (m (c.tc.loc main_arg1)) (m (c.tc.loc main_arg2)) (fun _ => (0 : EReal))
  have H : Cert.ReferenceIdeal.Swa.Holds V A := ⟨fun i j => (congrFun k0 (ix2 i j)).trans (hx i j), fun i j => (congrFun k1 (ix2 i j)).trans (hk i j),
    fun i => (congrFun k2 (ix1 i)).trans (hs i), fun i j => (congrFun k3 (ix2 i j)).trans (congrArg (fun r : ℝ => (r : EReal)) (hc i j)).symm⟩
  exact (congrFun (res_eq m c _ _ _ rfl rfl rfl k0 k1 k2) (ix2 R k)).trans (go_eq H R k h)

end Cert.Reference24Ideal.Swa

namespace Cert.Pre_finite24

/-- The shape relations the precondition states. -/
instance facts : Facts where
  bcast_S_S4096x1024 := by decide
  reducesTo_S4096x1024_S_d0_1 := by decide
  h_S_ := by decide
  bcast_S_S4096x512 := by decide
  reducesTo_S4096x512_S_d0_1 := by decide
  bcast_S_S12 := by decide
  reducesTo_S12_S_d0 := by decide

open Idealize.ShloMosaic Cert.Pre_finite in
/-- Under the precondition every argument is real. -/
theorem real (x : FVec Ideal S4096x1024 .f32) (y : FVec Ideal S4096x512 .f32) (z : FVec Ideal S12 .f32) (h : fn x y z = fun _ => 1#1) :
    (∀ i, (x i : EReal) = ((x i : EReal).toReal : EReal)) ∧ (∀ i, (y i : EReal) = ((y i : EReal).toReal : EReal))
      ∧ (∀ i, (z i : EReal) = ((z i : EReal).toReal : EReal)) := by
  have e := congrFun h (fun a => a.elim0)
  haveI : Subsingleton S_.Idx := ⟨fun a b => funext fun k => k.elim0⟩
  obtain ⟨e, e2⟩ := and_eq_one _ _ e
  obtain ⟨e0, e1⟩ := and_eq_one _ _ e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i)⟩

end Cert.Pre_finite24

/-- The shape relation the mask states. -/
instance Cert.On_written24.facts : Cert.On_written24.Facts where
  bcast_S_S4096x1024 := by decide

namespace Cert.Proof
open Idealize.ShloMosaic Idealize.ShloMosaic.TcCoe Idealize.SL.Sem Cert.Swa

/-- Every run of the reference ends, and leaves its arguments as they were. -/
theorem reference24_quiescent : quiescent_Reference24Ideal (hReference24Ideal := Cert.Reference24Ideal.Gen.facts) := fun m ρ _ =>
  (θ_run Cert.Reference24Ideal.defs _ _).mono
    (fun r h => ⟨fun c => (h c).2, Idealize.ShloMosaic.sem_eq_zero_of_no_sems (by decide) r.2⟩)
    (Cert.Reference24Ideal.Value.run (F := Ideal) m ρ)

/-- The mask: one of the first 768 columns. -/
theorem written24_iff (x : FVec Ideal Cert.On_written24.S4096x1024 .f32) (y : FVec Ideal Cert.On_written24.S4096x512 .f32) (z : FVec Ideal Cert.On_written24.S12 .f32)
    (i : Cert.On_written24.S4096x1024.Idx) : Cert.On_written24.fn x y z i = 1#1 ↔ (i 1).val < 768 := by
  have key : ∀ r : Fin 1024, IntOp.cmpi .slt (BitVec.ofNat 32 r.val) 768#32 = 1#1 ↔ r.val < 768 := by decide +kernel
  exact key (i 1)

/-- The kernel's result is the reference's where the call writes. -/
theorem algebraic24 : algebraic_Kernel24Ideal_Reference24Ideal_on_written24_pre_finite24
    (hKernel24Ideal := Cert.Kernel24Ideal.Gen.facts) (hReference24Ideal := Cert.Reference24Ideal.Gen.facts) := by
  intro m g m' g' hp ha
  refine ⟨fun c => (Cert.Kernel24Ideal.Gen.dats m 0 c).arrAt 4 Cert.Kernel24Ideal.cfg0.N,
    (θ_run Cert.Kernel24Ideal.defs _ _).mono (fun r h c => ⟨fun i _ => congrFun (h c).1 i, (h c).2⟩) (Cert.Kernel24Ideal.Value.run_blocks m g), ?_⟩
  refine (θ_run Cert.Reference24Ideal.defs _ _).mono (fun r h c => ⟨fun y hy => ?_, (h c).2⟩) (Cert.Reference24Ideal.Value.run (F := Ideal) m' g')
  have hc := (written24_iff _ _ _ y).1 hy
  obtain ⟨e0, e1, e2⟩ := Cert.Pre_finite24.real _ _ _ (hp c)
  have H : Cert.Kernel24Ideal.Swa.Holds m c
      ⟨fun R k => EReal.toReal (m ((c.tc : Thread Kernel24Ideal.nD Kernel24Ideal.τ).loc Kernel24Ideal.main_arg0) (ix2 R k)),
        fun R k => EReal.toReal (m ((c.tc : Thread Kernel24Ideal.nD Kernel24Ideal.τ).loc Kernel24Ideal.main_arg1) (ix2 R k)),
        fun k => EReal.toReal (m ((c.tc : Thread Kernel24Ideal.nD Kernel24Ideal.τ).loc Kernel24Ideal.main_arg2) (ix1 k)), fun _ _ => 0⟩ :=
    ⟨fun R k => e0 (ix2 R k), fun R k => e1 (ix2 R k), fun k => e2 (ix1 k), fun _ _ => rfl⟩
  refine (congrFun (h c).1 y).trans (Eq.trans ?_ (congrFun (Cert.Kernel24Ideal.Swa.arr H) y).symm)
  idx_vars y
  have hc' : y1.val < 768 := hc
  refine (Cert.Reference24Ideal.Swa.out_at m' c _ (fun R k => (congrFun (ha c).1 (ix2 R k)).trans (H.x R k)) (fun R k => (congrFun (ha c).2.1 (ix2 R k)).trans (H.kv R k))
    (fun k => (congrFun (ha c).2.2 (ix1 k)).trans (H.sk k)) H.ct y0 y1 hc').trans ?_
  refine Eq.trans ?_ (if_pos hc').symm
  show _ = ((if h : y1.val < 768 then Args.go _ y0 ⟨y1.val, h⟩ else 0 : ℝ) : EReal)
  rw [dif_pos hc']

end Cert.Proof
-- ==== Proof.MemBwd.lean ====
module
public import proofs.«01_k».proof.Defs
public import proofs.«01_k».proof.Proof.Gen.Kernel25Ideal.Value
public import proofs.«01_k».proof.Proof.Gen.Kernel26Ideal.Value
public import proofs.«01_k».proof.Proof.MemSpec
public import Idealize.ShloMosaic.Lib.Pipeline.ValueKit
public import Idealize.ShloMosaic.Lib.Pointwise

/-! # The gradient of the attention to the memory: one point of the grid -/

@[expose] public section
set_option maxRecDepth 65536
noncomputable section
namespace Cert.Kernel25Ideal.Att
open Idealize.ShloMosaic Idealize.ShloMosaic.TcCoe Idealize.SL.Sem
open Cert.Kernel25Ideal Cert.Kernel25Ideal.Gen
variable (m : (ℓ : Loc nD τ sig) → Buf (Elt Ideal) ℓ) (c : Dev nD)

/-- A head's weights. -/
def W (q : Vec Ideal S512x64 .f32) (k : Vec Ideal S256x64 .f32) : FVec Ideal S512x256 .f32 := k0_pay17 (k0_pay7 q) (k0_pay11 k)
/-- A head's derivatives of the scores. -/
def g (q : Vec Ideal S512x64 .f32) (k v : Vec Ideal S256x64 .f32) (y : Vec Ideal S512x64 .bf16) : FVec Ideal S512x256 .bf16 := k0_pay22 y (W q k) v

theorem W_at (q : Vec Ideal S512x64 .f32) (k : Vec Ideal S256x64 .f32) (i : Fin 512) (j : Fin 256) :
    (W q k (ix2 i j) : EReal) = Cert.Mem.wt (Cert.Mem.sc (fun d => (q (ix2 i d) : EReal)) (fun j d => (k (ix2 j d) : EReal))) j := by
  unfold Cert.Mem.wt Cert.Mem.ex Cert.Mem.mx Cert.Mem.sc
  pointwise [W, k0_pay17, k0_pay7, k0_pay11]

theorem pay22_at (y : Vec Ideal S512x64 .bf16) (p : FVec Ideal S512x256 .f32) (v : Vec Ideal S256x64 .f32) (i : Fin 512) (j : Fin 256) :
    (k0_pay22 y p v (ix2 i j) : EReal)
      = Cert.Mem.grad (fun j => (p (ix2 i j) : EReal)) (fun j => ∑ d : Fin 64, (y (ix2 i d) : EReal) * (v (ix2 j d) : EReal)) j := by
  unfold Cert.Mem.grad
  pointwise [k0_pay22]

theorem pay3_at (k : Fin 4 → FVec Ideal S256x64 .bf16) (g : Fin 4 → FVec Ideal S512x256 .bf16) (i : Fin 512) (h : Fin 4) (d : Fin 64) :
    (k0_pay3 (F := Ideal) (k 0) (k 1) (k 2) (k 3) (g 0) (g 1) (g 2) (g 3) (ix2 i ⟨h.val * 64 + d.val, by omega⟩) : EReal)
      = ∑ j : Fin 256, (g h (ix2 i j) : EReal) * (k h (ix2 j d) : EReal) := by
  match h with
  | 0 => pointwise [k0_pay3]
  | 1 => pointwise [k0_pay3]
  | 2 =>
    pointwise [k0_pay3]
    rw [dif_neg (by omega), dif_neg (by omega), dif_pos (by omega)]
    exact Finset.sum_congr rfl fun j _ => congrArg (fun d => (g 2 (ix2 i j) : EReal) * (k 2 (ix2 j d) : EReal)) (Fin.ext (by dsimp only; omega))
  | 3 =>
    pointwise [k0_pay3]
    rw [dif_neg (by omega), dif_neg (by omega), dif_neg (by omega)]
    exact Finset.sum_congr rfl fun j _ => congrArg (fun d => (g 3 (ix2 i j) : EReal) * (k 3 (ix2 j d) : EReal)) (Fin.ext (by dsimp only; omega))

theorem pay2_at (y : Vec Ideal S512x64 .bf16) (p : FVec Ideal S512x256 .f32) (j : Fin 256) (d : Fin 64) :
    (k0_pay2 (F := Ideal) y p (ix2 j d) : EReal) = ∑ i : Fin 512, (p (ix2 i j) : EReal) * (y (ix2 i d) : EReal) := by
  pointwise [k0_pay2]

theorem pay4_key (q : Fin 4 → FVec Ideal S512x64 .bf16) (y : Fin 4 → Vec Ideal S512x64 .bf16) (w : Fin 4 → FVec Ideal S512x256 .f32)
    (g : Fin 4 → FVec Ideal S512x256 .bf16) (acc : Vec Ideal S256x512 .f32) (j : Fin 256) (h : Fin 4) (d : Fin 64) :
    (k0_pay4 (F := Ideal) (q 0) (q 1) (q 2) (q 3) (y 1) (y 2) (y 3) (w 1) (w 2) (w 3) (g 0) (g 1) (g 2) (g 3) (k0_pay2 (y 0) (w 0)) acc
        (ix2 j ⟨h.val * 64 + d.val, by omega⟩) : EReal)
      = (acc (ix2 j ⟨h.val * 64 + d.val, by omega⟩) : EReal) + ∑ i : Fin 512, (g h (ix2 i j) : EReal) * (q h (ix2 i d) : EReal) := by
  match h with
  | 0 => pointwise [k0_pay4]
  | 1 => pointwise [k0_pay4]
  | 2 =>
    pointwise [k0_pay4]
    rw [dif_neg (by omega), dif_neg (by omega), dif_pos (by omega)]
    exact congrArg (_ + ·) (Finset.sum_congr rfl fun i _ => congrArg (fun d => (g 2 (ix2 i j) : EReal) * (q 2 (ix2 i d) : EReal)) (Fin.ext (by dsimp only; omega)))
  | 3 =>
    pointwise [k0_pay4]
    rw [dif_neg (by omega), dif_neg (by omega), dif_neg (by omega), dif_pos (by omega)]
    exact congrArg (_ + ·) (Finset.sum_congr rfl fun i _ => congrArg (fun d => (g 3 (ix2 i j) : EReal) * (q 3 (ix2 i d) : EReal)) (Fin.ext (by dsimp only; omega)))

theorem pay4_value (q : Fin 4 → FVec Ideal S512x64 .bf16) (y : Fin 4 → Vec Ideal S512x64 .bf16) (w : Fin 4 → FVec Ideal S512x256 .f32)
    (g : Fin 4 → FVec Ideal S512x256 .bf16) (acc : Vec Ideal S256x512 .f32) (j : Fin 256) (h : Fin 4) (d : Fin 64) :
    (k0_pay4 (F := Ideal) (q 0) (q 1) (q 2) (q 3) (y 1) (y 2) (y 3) (w 1) (w 2) (w 3) (g 0) (g 1) (g 2) (g 3) (k0_pay2 (y 0) (w 0)) acc
        (ix2 j ⟨256 + h.val * 64 + d.val, by omega⟩) : EReal)
      = (acc (ix2 j ⟨256 + h.val * 64 + d.val, by omega⟩) : EReal) + ∑ i : Fin 512, (w h (ix2 i j) : EReal) * (y h (ix2 i d) : EReal) := by
  match h with
  | 0 =>
    pointwise [k0_pay4]
    rw [dif_neg (by omega), dif_neg (by omega), dif_neg (by omega), dif_neg (by omega), dif_pos (by omega)]
    exact congrArg (_ + ·) ((congrArg (fun d => (k0_pay2 (F := Ideal) (y 0) (w 0) (ix2 j d) : EReal)) (Fin.ext (by dsimp only; omega))).trans (pay2_at (y 0) (w 0) j d))
  | 1 =>
    pointwise [k0_pay4]
    rw [dif_neg (by omega), dif_neg (by omega), dif_neg (by omega), dif_neg (by omega), dif_neg (by omega), dif_pos (by omega)]
    exact congrArg (_ + ·) (Finset.sum_congr rfl fun i _ => congrArg (fun d => (w 1 (ix2 i j) : EReal) * (y 1 (ix2 i d) : EReal)) (Fin.ext (by dsimp only; omega)))
  | 2 =>
    pointwise [k0_pay4]
    rw [dif_neg (by omega), dif_neg (by omega), dif_neg (by omega), dif_neg (by omega), dif_neg (by omega), dif_neg (by omega), dif_pos (by omega)]
    exact congrArg (_ + ·) (Finset.sum_congr rfl fun i _ => congrArg (fun d => (w 2 (ix2 i j) : EReal) * (y 2 (ix2 i d) : EReal)) (Fin.ext (by dsimp only; omega)))
  | 3 =>
    pointwise [k0_pay4]
    rw [dif_neg (by omega), dif_neg (by omega), dif_neg (by omega), dif_neg (by omega), dif_neg (by omega), dif_neg (by omega), dif_neg (by omega)]
    exact congrArg (_ + ·) (Finset.sum_congr rfl fun i _ => congrArg (fun d => (w 3 (ix2 i j) : EReal) * (y 3 (ix2 i d) : EReal)) (Fin.ext (by dsimp only; omega)))

/-- A head's columns of the queries, of the keys, of the values and of the output's derivative. -/
def qc (x : Vec Ideal S512x256 .f32) (h : Fin 4) : Vec Ideal S512x64 .f32 := View.ld x (Rect.unit ![0, h.val * 64] ![512, 64] (by decide +revert))
def kc (kv : Vec Ideal S256x512 .f32) (h : Fin 4) : Vec Ideal S256x64 .f32 := View.ld kv (Rect.unit ![0, h.val * 64] ![256, 64] (by decide +revert))
def vc (kv : Vec Ideal S256x512 .f32) (h : Fin 4) : Vec Ideal S256x64 .f32 := View.ld kv (Rect.unit ![0, 256 + h.val * 64] ![256, 64] (by decide +revert))
def yc (y : Vec Ideal S512x256 .bf16) (h : Fin 4) : Vec Ideal S512x64 .bf16 := View.ld y (Rect.unit ![0, h.val * 64] ![512, 64] (by decide +revert))

theorem qc_at (x : Vec Ideal S512x256 .f32) (h : Fin 4) (i : Fin 512) (d : Fin 64) : (qc x h (ix2 i d) : EReal) = (x (ix2 i ⟨h.val * 64 + d.val, by omega⟩) : EReal) := by
  pointwise [qc]
theorem kc_at (kv : Vec Ideal S256x512 .f32) (h : Fin 4) (j : Fin 256) (d : Fin 64) : (kc kv h (ix2 j d) : EReal) = (kv (ix2 j ⟨h.val * 64 + d.val, by omega⟩) : EReal) := by
  pointwise [kc]
theorem vc_at (kv : Vec Ideal S256x512 .f32) (h : Fin 4) (j : Fin 256) (d : Fin 64) : (vc kv h (ix2 j d) : EReal) = (kv (ix2 j ⟨256 + h.val * 64 + d.val, by omega⟩) : EReal) := by
  pointwise [vc]
theorem yc_at (y : Vec Ideal S512x256 .bf16) (h : Fin 4) (i : Fin 512) (d : Fin 64) : (yc y h (ix2 i d) : EReal) = (y (ix2 i ⟨h.val * 64 + d.val, by omega⟩) : EReal) := by
  pointwise [yc]

theorem Wc_at (x : Vec Ideal S512x256 .f32) (kv : Vec Ideal S256x512 .f32) (h : Fin 4) (i : Fin 512) (j : Fin 256) :
    (W (qc x h) (kc kv h) (ix2 i j) : EReal) = Cert.Mem.P (fun k => (x (ix2 i k) : EReal)) (fun j k => (kv (ix2 j k) : EReal)) h j := by
  rw [W_at]
  unfold Cert.Mem.P
  simp_rw [qc_at, kc_at]

theorem gc_at (x : Vec Ideal S512x256 .f32) (kv : Vec Ideal S256x512 .f32) (y : Vec Ideal S512x256 .bf16) (h : Fin 4) (i : Fin 512) (j : Fin 256) :
    (g (qc x h) (kc kv h) (vc kv h) (yc y h) (ix2 i j) : EReal)
      = Cert.Mem.G (fun k => (x (ix2 i k) : EReal)) (fun k => (y (ix2 i k) : EReal)) (fun j k => (kv (ix2 j k) : EReal)) h j := by
  unfold g
  rw [pay22_at]
  unfold Cert.Mem.G Cert.Mem.DP
  simp_rw [Wc_at, yc_at, vc_at]

/-- What one point stores of the queries' gradient. -/
def stepQ (x : Vec Ideal S512x256 .f32) (kv : Vec Ideal S256x512 .f32) (y : Vec Ideal S512x256 .bf16) : Vec Ideal S512x256 .bf16 :=
  k0_pay3 (F := Ideal) (k0_pay11 (kc kv 0)) (k0_pay11 (kc kv 1))
    (k0_pay11 (kc kv 2)) (k0_pay11 (kc kv 3))
    (g (qc x 0) (kc kv 0) (vc kv 0) (yc y 0)) (g (qc x 1) (kc kv 1) (vc kv 1) (yc y 1))
    (g (qc x 2) (kc kv 2) (vc kv 2) (yc y 2)) (g (qc x 3) (kc kv 3) (vc kv 3) (yc y 3))
/-- What the gradient of the keys and the values is after one point. -/
def stepKV (x : Vec Ideal S512x256 .f32) (kv : Vec Ideal S256x512 .f32) (y : Vec Ideal S512x256 .bf16) (acc : Vec Ideal S256x512 .f32) : Vec Ideal S256x512 .f32 :=
  k0_pay4 (F := Ideal) (k0_pay7 (qc x 0)) (k0_pay7 (qc x 1))
    (k0_pay7 (qc x 2)) (k0_pay7 (qc x 3))
    (yc y 1) (yc y 2) (yc y 3) (W (qc x 1) (kc kv 1)) (W (qc x 2) (kc kv 2)) (W (qc x 3) (kc kv 3))
    (g (qc x 0) (kc kv 0) (vc kv 0) (yc y 0)) (g (qc x 1) (kc kv 1) (vc kv 1) (yc y 1))
    (g (qc x 2) (kc kv 2) (vc kv 2) (yc y 2)) (g (qc x 3) (kc kv 3) (vc kv 3) (yc y 3))
    (k0_pay2 (yc y 0) (W (qc x 0) (kc kv 0))) acc

theorem stepQ_at (x : Vec Ideal S512x256 .f32) (kv : Vec Ideal S256x512 .f32) (y : Vec Ideal S512x256 .bf16) (i : Fin 512) (h : Fin 4) (d : Fin 64) :
    (stepQ x kv y (ix2 i ⟨h.val * 64 + d.val, by omega⟩) : EReal)
      = ∑ j : Fin 256, Cert.Mem.G (fun k => (x (ix2 i k) : EReal)) (fun k => (y (ix2 i k) : EReal)) (fun j k => (kv (ix2 j k) : EReal)) h j
        * (kv (ix2 j ⟨h.val * 64 + d.val, by omega⟩) : EReal) := by
  refine (pay3_at (fun h => k0_pay11 (kc kv h)) (fun h => g (qc x h) (kc kv h) (vc kv h) (yc y h)) i h d).trans (Finset.sum_congr rfl fun j _ => ?_)
  exact congrArg₂ (· * ·) (gc_at x kv y h i j) (kc_at kv h j d)

theorem stepKV_key (x : Vec Ideal S512x256 .f32) (kv : Vec Ideal S256x512 .f32) (y : Vec Ideal S512x256 .bf16) (acc : Vec Ideal S256x512 .f32)
    (j : Fin 256) (h : Fin 4) (d : Fin 64) :
    (stepKV x kv y acc (ix2 j ⟨h.val * 64 + d.val, by omega⟩) : EReal) = (acc (ix2 j ⟨h.val * 64 + d.val, by omega⟩) : EReal)
      + ∑ i : Fin 512, Cert.Mem.G (fun k => (x (ix2 i k) : EReal)) (fun k => (y (ix2 i k) : EReal)) (fun j k => (kv (ix2 j k) : EReal)) h j
        * (x (ix2 i ⟨h.val * 64 + d.val, by omega⟩) : EReal) := by
  refine (pay4_key (fun h => k0_pay7 (qc x h)) (yc y) (fun h => W (qc x h) (kc kv h)) (fun h => g (qc x h) (kc kv h) (vc kv h) (yc y h)) acc j h d).trans
    (congrArg (_ + ·) (Finset.sum_congr rfl fun i _ => ?_))
  exact congrArg₂ (· * ·) (gc_at x kv y h i j) (qc_at x h i d)

theorem stepKV_value (x : Vec Ideal S512x256 .f32) (kv : Vec Ideal S256x512 .f32) (y : Vec Ideal S512x256 .bf16) (acc : Vec Ideal S256x512 .f32)
    (j : Fin 256) (h : Fin 4) (d : Fin 64) :
    (stepKV x kv y acc (ix2 j ⟨256 + h.val * 64 + d.val, by omega⟩) : EReal) = (acc (ix2 j ⟨256 + h.val * 64 + d.val, by omega⟩) : EReal)
      + ∑ i : Fin 512, Cert.Mem.P (fun k => (x (ix2 i k) : EReal)) (fun j k => (kv (ix2 j k) : EReal)) h j
        * (y (ix2 i ⟨h.val * 64 + d.val, by omega⟩) : EReal) := by
  refine (pay4_value (fun h => k0_pay7 (qc x h)) (yc y) (fun h => W (qc x h) (kc kv h)) (fun h => g (qc x h) (kc kv h) (vc kv h) (yc y h)) acc j h d).trans
    (congrArg (_ + ·) (Finset.sum_congr rfl fun i _ => ?_))
  exact congrArg₂ (· * ·) (Wc_at x kv h i j) (yc_at y h i d)

/-- The points' blocks in terms of whole arrays. -/
theorem stepQ_full (x : Vec Ideal S512x256 .f32) (kv : Vec Ideal S256x512 .f32) (y : Vec Ideal S512x256 .bf16) (X Y : Fin 4096 → Fin 256 → EReal)
    (KV : Fin 512 → Fin 512 → EReal) (t : ℕ) (ht : t < 8) (hx : ∀ (i : Fin 512) (k : Fin 256), (x (ix2 i k) : EReal) = X ⟨t * 512 + i.val, by omega⟩ k)
    (hkv : ∀ (j : Fin 256) (k : Fin 512), (kv (ix2 j k) : EReal) = KV ⟨t / 4 * 256 + j.val, by omega⟩ k)
    (hy : ∀ (i : Fin 512) (k : Fin 256), (y (ix2 i k) : EReal) = Y ⟨t * 512 + i.val, by omega⟩ k) (i : Fin 512) (k : Fin 256) :
    (stepQ x kv y (ix2 i k) : EReal) = Cert.Mem.fullQ X Y KV ⟨t * 512 + i.val, by omega⟩ k := by
  have hk : (⟨k.val / 64 * 64 + k.val % 64, by omega⟩ : Fin 256) = k := Fin.ext (by dsimp only; omega)
  have hk' : (⟨k.val / 64 * 64 + k.val % 64, by omega⟩ : Fin 512) = ⟨k.val, by omega⟩ := Fin.ext (by dsimp only; omega)
  have e := stepQ_at x kv y i ⟨k.val / 64, by omega⟩ ⟨k.val % 64, by omega⟩
  simp only [hk, hk'] at e
  rw [e]
  unfold Cert.Mem.fullQ
  have hj : ∀ j : Fin 256, (⟨(t * 512 + i.val) / 2048 * 256 + j.val, by omega⟩ : Fin 512) = ⟨t / 4 * 256 + j.val, by omega⟩ := fun j => Fin.ext (by dsimp only; omega)
  simp only [hx, hkv, hy, hj]

theorem stepKV_full (x : Vec Ideal S512x256 .f32) (kv : Vec Ideal S256x512 .f32) (y : Vec Ideal S512x256 .bf16) (acc : Vec Ideal S256x512 .f32) (X Y : Fin 4096 → Fin 256 → EReal)
    (KV : Fin 512 → Fin 512 → EReal) (t : ℕ) (ht : t < 8) (hx : ∀ (i : Fin 512) (k : Fin 256), (x (ix2 i k) : EReal) = X ⟨t * 512 + i.val, by omega⟩ k)
    (hkv : ∀ (j : Fin 256) (k : Fin 512), (kv (ix2 j k) : EReal) = KV ⟨t / 4 * 256 + j.val, by omega⟩ k)
    (hy : ∀ (i : Fin 512) (k : Fin 256), (y (ix2 i k) : EReal) = Y ⟨t * 512 + i.val, by omega⟩ k) (j : Fin 256) (k : Fin 512) :
    (stepKV x kv y acc (ix2 j k) : EReal) = (acc (ix2 j k) : EReal) + Cert.Mem.blockKV X Y KV t ht j k := by
  unfold Cert.Mem.blockKV Cert.Mem.addKV
  split
  · rename_i h
    have hk : (⟨k.val / 64 * 64 + k.val % 64, by omega⟩ : Fin 512) = k := Fin.ext (by dsimp only; omega)
    have hk' : (⟨k.val / 64 * 64 + k.val % 64, by omega⟩ : Fin 256) = ⟨k.val, h⟩ := Fin.ext (by dsimp only; omega)
    have e := stepKV_key x kv y acc j ⟨k.val / 64, by omega⟩ ⟨k.val % 64, by omega⟩
    simp only [hk, hk'] at e
    rw [e]
    simp only [hx, hkv, hy]
  · rename_i h
    have hk : (⟨256 + (k.val - 256) / 64 * 64 + (k.val - 256) % 64, by omega⟩ : Fin 512) = k := Fin.ext (by dsimp only; omega)
    have hk' : (⟨(k.val - 256) / 64 * 64 + (k.val - 256) % 64, by omega⟩ : Fin 256) = ⟨k.val - 256, by omega⟩ := Fin.ext (by dsimp only; omega)
    have e := stepKV_value x kv y acc j ⟨(k.val - 256) / 64, by omega⟩ ⟨(k.val - 256) % 64, by omega⟩
    simp only [hk, hk'] at e
    rw [e]
    simp only [hx, hkv, hy]

theorem zero_at (j : S256x512.Idx) : (k0_pay5 (F := Ideal) j : EReal) = 0 := by
  idx_vars j
  pointwise [k0_pay5]

theorem out_A (t : Fin cfg0.N) (h0 : t.val % 4 = 0) :
    outsAt0 m c t.val t.isLt = (stepQ (iblk m c 0 t) (iblk m c 1 t) (iblk m c 2 t), stepKV (iblk m c 0 t) (iblk m c 1 t) (iblk m c 2 t) (Cert.Kernel25Ideal.Gen.k0_pay5 (F := Ideal))) := by
  rw [outsAt0_A m c t h0]
  unfold stepQ stepKV
  frame_out
  rfl

theorem out_B (t : Fin cfg0.N) (h0 : ¬t.val % 4 = 0) :
    outsAt0 m c t.val t.isLt = (stepQ (iblk m c 0 t) (iblk m c 1 t) (iblk m c 2 t),
      stepKV (iblk m c 0 t) (iblk m c 1 t) (iblk m c 2 t) (outsAt0 m c (t.val - 1) (Nat.lt_of_le_of_lt (Nat.sub_le _ _) t.isLt)).2) := by
  rw [outsAt0_B m c t h0]
  unfold stepQ stepKV
  frame_out
  rfl

/-- Where each window's block lies. -/
theorem idx : ∀ t : Fin cfg0.N, win0_0.index t = ![t.val, 3] ∧ win0_1.index t = ![t.val / 4, 0] ∧ win0_2.index t = ![t.val, 3]
    ∧ win0_3.index t = ![t.val, 3] ∧ win0_4.index t = ![t.val / 4, 0] ∧ t.val < 8 :=
  (by decide +kernel : ∀ t : Fin grid0.N, _)

/-- The arguments by rows: the queries, the derivative of the output, the keys and values. -/
def X (x : FVec Ideal S4096x1024 .f32) (R : Fin 4096) (k : Fin 256) : EReal := (x (ix2 R ⟨768 + k.val, by omega⟩) : EReal)
def Y (y : FVec Ideal S4096x1024 .bf16) (R : Fin 4096) (k : Fin 256) : EReal := (y (ix2 R ⟨768 + k.val, by omega⟩) : EReal)
def KV (kv : FVec Ideal S512x512 .f32) (j k : Fin 512) : EReal := (kv (ix2 j k) : EReal)

theorem rows_at (t : Fin cfg0.N) (i : Fin 512) (k : Fin 256) (ht : t.val * 512 + i.val < 4096) :
    (iblk m c 0 t (ix2 i k) : EReal) = X (m ((c.tc : Thread nD τ).loc main_arg0)) ⟨t.val * 512 + i.val, ht⟩ k := by
  unfold X
  blk_ext [iblk, V, idx t]

theorem mem_at (t : Fin cfg0.N) (j : Fin 256) (k : Fin 512) (ht : t.val / 4 * 256 + j.val < 512) :
    (iblk m c 1 t (ix2 j k) : EReal) = KV (m ((c.tc : Thread nD τ).loc main_arg1)) ⟨t.val / 4 * 256 + j.val, ht⟩ k := by
  unfold KV
  blk_ext [iblk, V, idx t]

theorem dy_at (t : Fin cfg0.N) (i : Fin 512) (k : Fin 256) (ht : t.val * 512 + i.val < 4096) :
    (iblk m c 2 t (ix2 i k) : EReal) = Y (m ((c.tc : Thread nD τ).loc main_arg2)) ⟨t.val * 512 + i.val, ht⟩ k := by
  unfold Y
  blk_ext [iblk, V, idx t]

/-- Where the call writes nothing, the result holds the fourth argument. -/
theorem entry : V m c main_v0_0 = m ((c.tc : Thread nD τ).loc main_arg3) := by
  rfl

/-- The gradients from the arguments. -/
def dq_ (x : FVec Ideal S4096x1024 .f32) (kv : FVec Ideal S512x512 .f32) (y : FVec Ideal S4096x1024 .bf16) (R : Fin 4096) (k : Fin 256) : EReal := Cert.Mem.fullQ (X x) (Y y) (KV kv) R k
def dkv_ (x : FVec Ideal S4096x1024 .f32) (kv : FVec Ideal S512x512 .f32) (y : FVec Ideal S4096x1024 .bf16) (j k : Fin 512) : EReal := Cert.Mem.fullKV (X x) (Y y) (KV kv) j k

theorem dq_block (t : Fin cfg0.N) (i : Fin 512) (k : Fin 256) (ht : t.val * 512 + i.val < 4096) :
    ((outsAt0 m c t.val t.isLt).1 (ix2 i k) : EReal)
      = dq_ (m ((c.tc : Thread nD τ).loc main_arg0)) (m ((c.tc : Thread nD τ).loc main_arg1)) (m ((c.tc : Thread nD τ).loc main_arg2)) ⟨t.val * 512 + i.val, ht⟩ k := by
  have h8 := (idx t).2.2.2.2.2
  have e : (outsAt0 m c t.val t.isLt).1 = stepQ (iblk m c 0 t) (iblk m c 1 t) (iblk m c 2 t) := by
    by_cases h0 : t.val % 4 = 0
    · rw [out_A m c t h0]
    · rw [out_B m c t h0]
  rw [e]
  exact stepQ_full _ _ _ _ _ _ t.val h8 (fun i k => rows_at m c t i k _) (fun j k => mem_at m c t j k _) (fun i k => dy_at m c t i k _) i k

/-- The queries' gradient after the run. -/
theorem arr3 : (dats m 0 c).arrAt 3 cfg0.N = fun y : S4096x1024.Idx => if 768 ≤ (y 1).val then
    dq_ (m ((c.tc : Thread nD τ).loc main_arg0)) (m ((c.tc : Thread nD τ).loc main_arg1)) (m ((c.tc : Thread nD τ).loc main_arg2)) ⟨(y 0).val, (y 0).isLt⟩
      ⟨(y 1).val - 768, by have h1 : (y 1).val < 1024 := (y 1).isLt; omega⟩ else V m c main_v0_0 y := by
  refine (dats m 0 c).arrAt_eq_of_coversWhere 3 (fun y : S4096x1024.Idx =>
      dq_ (m ((c.tc : Thread nD τ).loc main_arg0)) (m ((c.tc : Thread nD τ).loc main_arg1)) (m ((c.tc : Thread nD τ).loc main_arg2)) ⟨(y 0).val, (y 0).isLt⟩
        ⟨(y 1).val - 768, by have h1 : (y 1).val < 1024 := (y 1).isLt; omega⟩)
    (fun i => i 1 = 3) (by decide +kernel) (fun t hf y => ?_) (fun j => by
      blk_simp [Pipeline.Window.cell_apply]
      have h1 : (j 1).val < 1024 := (j 1).isLt
      omega)
  have ht := (idx t).2.2.2.2.2
  blk_simp [idx t]
  rw [after0_3]
  idx_vars y
  refine (dq_block m c t y0 y1 (by omega)).trans (congrArg (dq_ _ _ _ _) (Fin.ext ?_))
  dsimp only
  omega

/-- The gradient of the keys and the values after the run. -/
theorem arr4 : (dats m 0 c).arrAt 4 cfg0.N = fun y : S512x512.Idx =>
    dkv_ (m ((c.tc : Thread nD τ).loc main_arg0)) (m ((c.tc : Thread nD τ).loc main_arg1)) (m ((c.tc : Thread nD τ).loc main_arg2)) ⟨(y 0).val, (y 0).isLt⟩ ⟨(y 1).val, (y 1).isLt⟩ := by
  have full : ∀ (t : Fin cfg0.N) (acc : Vec Ideal S256x512 .f32) (j : S256x512.Idx),
      (stepKV (iblk m c 0 t) (iblk m c 1 t) (iblk m c 2 t) acc j : EReal) = (acc j : EReal)
        + Cert.Mem.blockKV (X (m ((c.tc : Thread nD τ).loc main_arg0))) (Y (m ((c.tc : Thread nD τ).loc main_arg2))) (KV (m ((c.tc : Thread nD τ).loc main_arg1)))
          t.val (idx t).2.2.2.2.2 ⟨(j 0).val, (j 0).isLt⟩ ⟨(j 1).val, (j 1).isLt⟩ := fun t acc j => by
    idx_vars j
    exact stepKV_full _ _ _ acc _ _ _ t.val (idx t).2.2.2.2.2 (fun i k => rows_at m c t i k _) (fun j k => mem_at m c t j k _) (fun i k => dy_at m c t i k _) j0 j1
  refine (dats m 0 c).arrAt_eq_of_covers 4 _ (by decide +kernel) fun t hf y => ?_
  have ht := (idx t).2.2.2.2.2
  blk_simp [idx t]
  rw [after0_4, Pipeline.eq_sum_fin_of_reset_step_apply_of_flush (fun n h => (outsAt0 m c n h).2) 4 (fun _ => (0 : EReal)) (fun p j =>
      Cert.Mem.blockKV (X (m ((c.tc : Thread nD τ).loc main_arg0))) (Y (m ((c.tc : Thread nD τ).loc main_arg2))) (KV (m ((c.tc : Thread nD τ).loc main_arg1)))
          p.val (idx p).2.2.2.2.2 ⟨(j 0).val, (j 0).isLt⟩ ⟨(j 1).val, (j 1).isLt⟩)
    (fun t h j => by rw [out_A m c t h]; exact (full t _ j).trans (congrArg (· + _) (zero_at j)))
    (fun t h j => by rw [out_B m c t h]; exact full t _ j)
    t ((flush0_4 t).mp hf) _, zero_add]
  idx_vars y
  exact Cert.Mem.blockKV_sum _ _ _ ⟨t.val / 4, by omega⟩ (fun s => 4 * (t.val / 4) + s.val) _ (fun s => rfl) y0 _ _ rfl

end Cert.Kernel25Ideal.Att

namespace Cert.Kernel26Ideal.Att
open Idealize.ShloMosaic Idealize.ShloMosaic.TcCoe Idealize.SL.Sem
open Cert.Kernel26Ideal Cert.Kernel26Ideal.Gen
variable (m : (ℓ : Loc nD τ sig) → Buf (Elt Ideal) ℓ) (c : Dev nD)

theorem out_A (t : Fin cfg0.N) (h0 : t.val % 4 = 0) :
    outsAt0 m c t.val t.isLt = (Cert.Kernel25Ideal.Att.stepQ (iblk m c 0 t) (iblk m c 1 t) (iblk m c 2 t), Cert.Kernel25Ideal.Att.stepKV (iblk m c 0 t) (iblk m c 1 t) (iblk m c 2 t) (Cert.Kernel25Ideal.Gen.k0_pay5 (F := Ideal))) := by
  rw [outsAt0_A m c t h0]
  unfold Cert.Kernel25Ideal.Att.stepQ Cert.Kernel25Ideal.Att.stepKV
  frame_out
  rfl

theorem out_B (t : Fin cfg0.N) (h0 : ¬t.val % 4 = 0) :
    outsAt0 m c t.val t.isLt = (Cert.Kernel25Ideal.Att.stepQ (iblk m c 0 t) (iblk m c 1 t) (iblk m c 2 t),
      Cert.Kernel25Ideal.Att.stepKV (iblk m c 0 t) (iblk m c 1 t) (iblk m c 2 t) (outsAt0 m c (t.val - 1) (Nat.lt_of_le_of_lt (Nat.sub_le _ _) t.isLt)).2) := by
  rw [outsAt0_B m c t h0]
  unfold Cert.Kernel25Ideal.Att.stepQ Cert.Kernel25Ideal.Att.stepKV
  frame_out
  rfl

/-- Where each window's block lies. -/
theorem idx : ∀ t : Fin cfg0.N, win0_0.index t = ![t.val, 6] ∧ win0_1.index t = ![t.val / 4, 0] ∧ win0_2.index t = ![t.val, 3]
    ∧ win0_3.index t = ![t.val, 6] ∧ win0_4.index t = ![t.val / 4, 0] ∧ t.val < 8 :=
  (by decide +kernel : ∀ t : Fin grid0.N, _)

/-- The arguments by rows: the queries, the derivative of the output, the keys and values. -/
def X (x : FVec Ideal S4096x1792 .f32) (R : Fin 4096) (k : Fin 256) : EReal := (x (ix2 R ⟨1536 + k.val, by omega⟩) : EReal)
def Y (y : FVec Ideal S4096x1024 .bf16) (R : Fin 4096) (k : Fin 256) : EReal := (y (ix2 R ⟨768 + k.val, by omega⟩) : EReal)
def KV (kv : FVec Ideal S512x512 .f32) (j k : Fin 512) : EReal := (kv (ix2 j k) : EReal)

theorem rows_at (t : Fin cfg0.N) (i : Fin 512) (k : Fin 256) (ht : t.val * 512 + i.val < 4096) :
    (iblk m c 0 t (ix2 i k) : EReal) = X (m ((c.tc : Thread nD τ).loc main_arg0)) ⟨t.val * 512 + i.val, ht⟩ k := by
  unfold X
  blk_ext [iblk, V, idx t]

theorem mem_at (t : Fin cfg0.N) (j : Fin 256) (k : Fin 512) (ht : t.val / 4 * 256 + j.val < 512) :
    (iblk m c 1 t (ix2 j k) : EReal) = KV (m ((c.tc : Thread nD τ).loc main_arg1)) ⟨t.val / 4 * 256 + j.val, ht⟩ k := by
  unfold KV
  blk_ext [iblk, V, idx t]

theorem dy_at (t : Fin cfg0.N) (i : Fin 512) (k : Fin 256) (ht : t.val * 512 + i.val < 4096) :
    (iblk m c 2 t (ix2 i k) : EReal) = Y (m ((c.tc : Thread nD τ).loc main_arg2)) ⟨t.val * 512 + i.val, ht⟩ k := by
  unfold Y
  blk_ext [iblk, V, idx t]

/-- Where the call writes nothing, the result holds the fourth argument. -/
theorem entry : V m c main_v0_0 = m ((c.tc : Thread nD τ).loc main_arg3) := by
  rfl

/-- The gradients from the arguments. -/
def dq_ (x : FVec Ideal S4096x1792 .f32) (kv : FVec Ideal S512x512 .f32) (y : FVec Ideal S4096x1024 .bf16) (R : Fin 4096) (k : Fin 256) : EReal := Cert.Mem.fullQ (X x) (Y y) (KV kv) R k
def dkv_ (x : FVec Ideal S4096x1792 .f32) (kv : FVec Ideal S512x512 .f32) (y : FVec Ideal S4096x1024 .bf16) (j k : Fin 512) : EReal := Cert.Mem.fullKV (X x) (Y y) (KV kv) j k

theorem dq_block (t : Fin cfg0.N) (i : Fin 512) (k : Fin 256) (ht : t.val * 512 + i.val < 4096) :
    ((outsAt0 m c t.val t.isLt).1 (ix2 i k) : EReal)
      = dq_ (m ((c.tc : Thread nD τ).loc main_arg0)) (m ((c.tc : Thread nD τ).loc main_arg1)) (m ((c.tc : Thread nD τ).loc main_arg2)) ⟨t.val * 512 + i.val, ht⟩ k := by
  have h8 := (idx t).2.2.2.2.2
  have e : (outsAt0 m c t.val t.isLt).1 = Cert.Kernel25Ideal.Att.stepQ (iblk m c 0 t) (iblk m c 1 t) (iblk m c 2 t) := by
    by_cases h0 : t.val % 4 = 0
    · rw [out_A m c t h0]
    · rw [out_B m c t h0]
  rw [e]
  exact Cert.Kernel25Ideal.Att.stepQ_full _ _ _ _ _ _ t.val h8 (fun i k => rows_at m c t i k _) (fun j k => mem_at m c t j k _) (fun i k => dy_at m c t i k _) i k

/-- The queries' gradient after the run. -/
theorem arr3 : (dats m 0 c).arrAt 3 cfg0.N = fun y : S4096x1792.Idx => if 1536 ≤ (y 1).val then
    dq_ (m ((c.tc : Thread nD τ).loc main_arg0)) (m ((c.tc : Thread nD τ).loc main_arg1)) (m ((c.tc : Thread nD τ).loc main_arg2)) ⟨(y 0).val, (y 0).isLt⟩
      ⟨(y 1).val - 1536, by have h1 : (y 1).val < 1792 := (y 1).isLt; omega⟩ else V m c main_v0_0 y := by
  refine (dats m 0 c).arrAt_eq_of_coversWhere 3 (fun y : S4096x1792.Idx =>
      dq_ (m ((c.tc : Thread nD τ).loc main_arg0)) (m ((c.tc : Thread nD τ).loc main_arg1)) (m ((c.tc : Thread nD τ).loc main_arg2)) ⟨(y 0).val, (y 0).isLt⟩
        ⟨(y 1).val - 1536, by have h1 : (y 1).val < 1792 := (y 1).isLt; omega⟩)
    (fun i => i 1 = 6) (by decide +kernel) (fun t hf y => ?_) (fun j => by
      blk_simp [Pipeline.Window.cell_apply]
      have h1 : (j 1).val < 1792 := (j 1).isLt
      omega)
  have ht := (idx t).2.2.2.2.2
  blk_simp [idx t]
  rw [after0_3]
  idx_vars y
  refine (dq_block m c t y0 y1 (by omega)).trans (congrArg (dq_ _ _ _ _) (Fin.ext ?_))
  dsimp only
  omega

/-- The gradient of the keys and the values after the run. -/
theorem arr4 : (dats m 0 c).arrAt 4 cfg0.N = fun y : S512x512.Idx =>
    dkv_ (m ((c.tc : Thread nD τ).loc main_arg0)) (m ((c.tc : Thread nD τ).loc main_arg1)) (m ((c.tc : Thread nD τ).loc main_arg2)) ⟨(y 0).val, (y 0).isLt⟩ ⟨(y 1).val, (y 1).isLt⟩ := by
  have full : ∀ (t : Fin cfg0.N) (acc : Vec Ideal S256x512 .f32) (j : S256x512.Idx),
      (Cert.Kernel25Ideal.Att.stepKV (iblk m c 0 t) (iblk m c 1 t) (iblk m c 2 t) acc j : EReal) = (acc j : EReal)
        + Cert.Mem.blockKV (X (m ((c.tc : Thread nD τ).loc main_arg0))) (Y (m ((c.tc : Thread nD τ).loc main_arg2))) (KV (m ((c.tc : Thread nD τ).loc main_arg1)))
          t.val (idx t).2.2.2.2.2 ⟨(j 0).val, (j 0).isLt⟩ ⟨(j 1).val, (j 1).isLt⟩ := fun t acc j => by
    idx_vars j
    exact Cert.Kernel25Ideal.Att.stepKV_full _ _ _ acc _ _ _ t.val (idx t).2.2.2.2.2 (fun i k => rows_at m c t i k _) (fun j k => mem_at m c t j k _) (fun i k => dy_at m c t i k _) j0 j1
  refine (dats m 0 c).arrAt_eq_of_covers 4 _ (by decide +kernel) fun t hf y => ?_
  have ht := (idx t).2.2.2.2.2
  blk_simp [idx t]
  rw [after0_4, Pipeline.eq_sum_fin_of_reset_step_apply_of_flush (fun n h => (outsAt0 m c n h).2) 4 (fun _ => (0 : EReal)) (fun p j =>
      Cert.Mem.blockKV (X (m ((c.tc : Thread nD τ).loc main_arg0))) (Y (m ((c.tc : Thread nD τ).loc main_arg2))) (KV (m ((c.tc : Thread nD τ).loc main_arg1)))
          p.val (idx p).2.2.2.2.2 ⟨(j 0).val, (j 0).isLt⟩ ⟨(j 1).val, (j 1).isLt⟩)
    (fun t h j => by rw [out_A m c t h]; exact (full t _ j).trans (congrArg (· + _) (Cert.Kernel25Ideal.Att.zero_at j)))
    (fun t h j => by rw [out_B m c t h]; exact full t _ j)
    t ((flush0_4 t).mp hf) _, zero_add]
  idx_vars y
  exact Cert.Mem.blockKV_sum _ _ _ ⟨t.val / 4, by omega⟩ (fun s => 4 * (t.val / 4) + s.val) _ (fun s => rfl) y0 _ _ rfl

end Cert.Kernel26Ideal.Att
-- ==== Proof.MemBwdRef.lean ====
module
public import proofs.«01_k».proof.Defs
public import proofs.«01_k».proof.Proof.Gen.Reference25Ideal.Run
public import proofs.«01_k».proof.Proof.Gen.Reference26Ideal.Run
public import proofs.«01_k».proof.Proof.MemRef
public import Idealize.ShloMosaic.Lib.Pipeline.ValueKit
public import Idealize.ShloMosaic.Lib.Pointwise
public import Idealize.ShloMosaic.Lib.Quiescent

/-! # What the reference's gradient of the attention to the memory computes -/

@[expose] public section
set_option maxRecDepth 65536
noncomputable section
namespace Cert.Reference25Ideal.Att
open Idealize.ShloMosaic Idealize.ShloMosaic.TcCoe Idealize.SL.Sem
open Cert.Reference25Ideal Cert.Reference25Ideal.Gen
open Cert.Reference22Ideal.Att (rq rk rv rS rE rP rq_at rk_at rv_at rS_at rE_at rP_at)

/-- The derivative of the output, by heads. -/
def rY (y : FVec Ideal S4096x256 .bf16) : FVec Ideal S2x4x64x2048 .f32 :=
  transpose S2x4x64x2048 [0, 2, 3, 1] (shapeCast S2x2048x4x64 (shapeCast S2x2048x256 (extf .f32 y bitsLt_bf16_f32) shapeCasts_S4096x256_S2x2048x256) shapeCasts_S2x2048x256_S2x2048x4x64) transposes_S2x2048x4x64_S2x4x64x2048_0_2_3_1
/-- The derivatives of the weights. -/
def rDP (y : FVec Ideal S2x4x64x2048 .f32) (v : FVec Ideal S2x256x4x64 .f32) : FVec Ideal S2x4x2048x256 .f32 :=
  Host.dotGeneral (φ₁ := .f32) (φ₂ := .f32) dot_S2x4x64x2048_S2x256x4x64_S2x4x2048x256_2_3_3_1_01_02 none y v
/-- The normalizers, along a last axis of one. -/
def rT (e : FVec Ideal S2x4x2048x256 .f32) : FVec Ideal S2x4x2048x1 .f32 :=
  broadcastInDim S2x4x2048x1 ![0, 1, 2] bcast_S2x4x2048_S2x4x2048x1_0_1_2 (Host.reduceAdd e (constant (F := Ideal) S_ .f32 0x00000000#32) reducesTo_S2x4x2048x256_S2x4x2048_d3 h_S_)
/-- What is subtracted in the derivative of the normalization. -/
def rN (dp e : FVec Ideal S2x4x2048x256 .f32) (t : FVec Ideal S2x4x2048x1 .f32) : FVec Ideal S2x4x2048 .f32 :=
  Host.reduceAdd (Host.negf (shapeCast S2x4x2048x1 (Host.reduceAdd (mulf (mulf dp (broadcastInDim S2x4x2048x256 ![0, 1, 2, 3] bcast_S2x4x2048x1_S2x4x2048x256_0_1_2_3 (Host.divf (broadcastInDim S2x4x2048x1 ![] bcast_S_S2x4x2048x1 (constant (F := Ideal) S_ .f32 0x3F800000#32)) (mulf t t)))) e) (constant (F := Ideal) S_ .f32 0x00000000#32) reducesTo_S2x4x2048x256_S2x4x2048_d3 h_S_) shapeCasts_S2x4x2048_S2x4x2048x1)) (constant (F := Ideal) S_ .f32 0x00000000#32) reducesTo_S2x4x2048x1_S2x4x2048_d3 h_S_
/-- The derivatives of the unscaled scores. -/
def rG (dp e : FVec Ideal S2x4x2048x256 .f32) : FVec Ideal S2x4x2048x256 .f32 :=
  mulf (mulf (addf (Host.divf dp (broadcastInDim S2x4x2048x256 ![0, 1, 2, 3] bcast_S2x4x2048x1_S2x4x2048x256_0_1_2_3 (rT e))) (broadcastInDim S2x4x2048x256 ![0, 1, 2] bcast_S2x4x2048_S2x4x2048x256_0_1_2 (rN dp e (rT e)))) e)
    (broadcastInDim S2x4x2048x256 ![] bcast_S_S2x4x2048x256 (constant (F := Ideal) S_ .f32 0x3E000000#32))
def rQ (g : FVec Ideal S2x4x2048x256 .f32) (k : FVec Ideal S2x256x4x64 .f32) : FVec Ideal S4096x256 .bf16 :=
  truncf .bf16 (shapeCast S4096x256 (transpose S2x2048x4x64 [0, 2, 1, 3] (Host.dotGeneral (φ₁ := .f32) (φ₂ := .f32) dot_S2x4x2048x256_S2x256x4x64_S2x4x2048x64_3_1_2_3_01_02 none g k) transposes_S2x4x2048x64_S2x2048x4x64_0_2_1_3) shapeCasts_S2x2048x4x64_S4096x256) bitsLt_bf16_f32
def rVt (y : FVec Ideal S2x4x64x2048 .f32) (p : FVec Ideal S2x4x2048x256 .f32) : FVec Ideal S2x256x4x64 .f32 :=
  transpose S2x256x4x64 [0, 3, 1, 2] (Host.dotGeneral (φ₁ := .f32) (φ₂ := .f32) dot_S2x4x64x2048_S2x4x2048x256_S2x4x64x256_3_2_2_3_01_01 none y p) transposes_S2x4x64x256_S2x256x4x64_0_3_1_2
def rKt (g : FVec Ideal S2x4x2048x256 .f32) (q : FVec Ideal S2x2048x4x64 .f32) : FVec Ideal S2x256x4x64 .f32 :=
  transpose S2x256x4x64 [0, 2, 1, 3] (Host.dotGeneral (φ₁ := .f32) (φ₂ := .f32) dot_S2x4x2048x256_S2x2048x4x64_S2x4x256x64_2_1_3_3_01_02 none g q) transposes_S2x4x256x64_S2x256x4x64_0_2_1_3
def rKV (dv dk : FVec Ideal S2x256x4x64 .f32) : FVec Ideal S512x512 .f32 :=
  shapeCast S512x512 (addf (pad S2x256x2x4x64 ![0, 0, 1, 0, 0] ![0, 0, 0, 0, 0] ![0, 0, 0, 0, 0] (broadcastInDim S2x256x1x4x64 ![0, 1, 3, 4] bcast_S2x256x4x64_S2x256x1x4x64_0_1_3_4 dv) (constant (F := Ideal) S_ .f32 0x00000000#32) pads_S2x256x1x4x64_S2x256x2x4x64_000_000_100_000_000 h_S_)
    (pad S2x256x2x4x64 ![0, 0, 0, 0, 0] ![0, 0, 1, 0, 0] ![0, 0, 0, 0, 0] (broadcastInDim S2x256x1x4x64 ![0, 1, 3, 4] bcast_S2x256x4x64_S2x256x1x4x64_0_1_3_4 dk) (constant (F := Ideal) S_ .f32 0x00000000#32) pads_S2x256x1x4x64_S2x256x2x4x64_000_000_010_000_000 h_S_)) shapeCasts_S2x256x2x4x64_S512x512

/-- The derivatives of the unscaled scores from the queries, the keys and values, and the derivative of the output. -/
def ds (x : FVec Ideal S4096x256 .f32) (kv : FVec Ideal S512x512 .f32) (y : FVec Ideal S4096x256 .bf16) : FVec Ideal S2x4x2048x256 .f32 :=
  rG (rDP (rY y) (rv kv)) (rE (rS (rq x) (rk kv)))
def gq (x : FVec Ideal S4096x256 .f32) (kv : FVec Ideal S512x512 .f32) (y : FVec Ideal S4096x256 .bf16) : FVec Ideal S4096x256 .bf16 := rQ (ds x kv y) (rk kv)
def gkv (x : FVec Ideal S4096x256 .f32) (kv : FVec Ideal S512x512 .f32) (y : FVec Ideal S4096x256 .bf16) : FVec Ideal S512x512 .f32 :=
  rKV (rVt (rY y) (rP (rS (rq x) (rk kv)))) (rKt (ds x kv y) (rq x))

theorem rY_at (y : FVec Ideal S4096x256 .bf16) (b : Fin 2) (h : Fin 4) (d : Fin 64) (t : Fin 2048) :
    (rY y (ix4 b h d t) : EReal) = (y (ix2 ⟨b.val * 2048 + t.val, by omega⟩ ⟨h.val * 64 + d.val, by omega⟩) : EReal) := by
  unfold rY
  pointwise []

theorem rDP_at (y : FVec Ideal S2x4x64x2048 .f32) (v : FVec Ideal S2x256x4x64 .f32) (b : Fin 2) (h : Fin 4) (t : Fin 2048) (j : Fin 256) :
    (rDP y v (ix4 b h t j) : EReal) = ∑ d : Fin 64, (y (ix4 b h d t) : EReal) * (v (ix4 b j h d) : EReal) := by
  unfold rDP
  pointwise []

theorem rT_at (e : FVec Ideal S2x4x2048x256 .f32) (b : Fin 2) (h : Fin 4) (t : Fin 2048) (z : Fin 1) :
    (rT e (ix4 b h t z) : EReal) = ∑ x : Fin 256, (e (ix4 b h t x) : EReal) := by
  unfold rT
  pointwise []

theorem rN_at (dp e : FVec Ideal S2x4x2048x256 .f32) (n : FVec Ideal S2x4x2048x1 .f32) (b : Fin 2) (h : Fin 4) (t : Fin 2048) :
    (rN dp e n (ix3 b h t) : EReal) = -(∑ x : Fin 256, (dp (ix4 b h t x) : EReal) * Ideal.div 1 ((n (ix4 b h t 0) : EReal) * (n (ix4 b h t 0) : EReal)) * (e (ix4 b h t x) : EReal)) := by
  unfold rN
  pointwise []
  exact Fin.sum_univ_one _

theorem rG_at (dp e : FVec Ideal S2x4x2048x256 .f32) (b : Fin 2) (h : Fin 4) (t : Fin 2048) (j : Fin 256) :
    (rG dp e (ix4 b h t j) : EReal) = Cert.Mem.refGrad (fun x => (dp (ix4 b h t x) : EReal)) (fun x => (e (ix4 b h t x) : EReal)) j := by
  unfold rG Cert.Mem.refGrad
  pointwise []
  rw [rT_at, rN_at, rT_at]

theorem rQ_at (g : FVec Ideal S2x4x2048x256 .f32) (k : FVec Ideal S2x256x4x64 .f32) (b : Fin 2) (t : Fin 2048) (h : Fin 4) (d : Fin 64) :
    (rQ g k (ix2 ⟨b.val * 2048 + t.val, by omega⟩ ⟨h.val * 64 + d.val, by omega⟩) : EReal) = ∑ j : Fin 256, (g (ix4 b h t j) : EReal) * (k (ix4 b j h d) : EReal) := by
  unfold rQ
  pointwise []

theorem rVt_at (y : FVec Ideal S2x4x64x2048 .f32) (p : FVec Ideal S2x4x2048x256 .f32) (b : Fin 2) (j : Fin 256) (h : Fin 4) (d : Fin 64) :
    (rVt y p (ix4 b j h d) : EReal) = ∑ t : Fin 2048, (y (ix4 b h d t) : EReal) * (p (ix4 b h t j) : EReal) := by
  unfold rVt
  pointwise []

theorem rKt_at (g : FVec Ideal S2x4x2048x256 .f32) (q : FVec Ideal S2x2048x4x64 .f32) (b : Fin 2) (j : Fin 256) (h : Fin 4) (d : Fin 64) :
    (rKt g q (ix4 b j h d) : EReal) = ∑ t : Fin 2048, (g (ix4 b h t j) : EReal) * (q (ix4 b t h d) : EReal) := by
  unfold rKt
  pointwise []

theorem rKV_key (dv dk : FVec Ideal S2x256x4x64 .f32) (b : Fin 2) (j : Fin 256) (h : Fin 4) (d : Fin 64) :
    (rKV dv dk (ix2 ⟨b.val * 256 + j.val, by omega⟩ ⟨h.val * 64 + d.val, by omega⟩) : EReal) = (dk (ix4 b j h d) : EReal) := by
  unfold rKV
  pointwise []
  rw [dif_neg (by omega), dif_pos (by omega), zero_add]

theorem rKV_value (dv dk : FVec Ideal S2x256x4x64 .f32) (b : Fin 2) (j : Fin 256) (h : Fin 4) (d : Fin 64) :
    (rKV dv dk (ix2 ⟨b.val * 256 + j.val, by omega⟩ ⟨256 + h.val * 64 + d.val, by omega⟩) : EReal) = (dv (ix4 b j h d) : EReal) := by
  unfold rKV
  pointwise []
  rw [dif_pos (by omega), dif_neg (by omega), add_zero]

variable (x : FVec Ideal S4096x256 .f32) (kv : FVec Ideal S512x512 .f32) (y : FVec Ideal S4096x256 .bf16)

theorem ds_at (hx : ∀ i, ∃ r : ℝ, (x i : EReal) = (r : EReal)) (hkv : ∀ i, ∃ r : ℝ, (kv i : EReal) = (r : EReal)) (hy : ∀ i, ∃ r : ℝ, (y i : EReal) = (r : EReal))
    (b : Fin 2) (h : Fin 4) (t : Fin 2048) (j : Fin 256) :
    (ds x kv y (ix4 b h t j) : EReal) = Cert.Mem.G (fun k => (x (ix2 ⟨b.val * 2048 + t.val, by omega⟩ k) : EReal)) (fun k => (y (ix2 ⟨b.val * 2048 + t.val, by omega⟩ k) : EReal))
      (fun j k => (kv (ix2 ⟨b.val * 256 + j.val, by omega⟩ k) : EReal)) h j := by
  refine Eq.trans ?_ (Cert.Mem.G_eq _ _ _ (fun k => hx _) (fun k => hy _) (fun j k => hkv _) h j)
  unfold ds
  rw [rG_at]
  unfold Cert.Mem.DP
  simp_rw [rDP_at, rY_at, rv_at, rE_at, rS_at, rq_at, rk_at]

theorem gq_at (hx : ∀ i, ∃ r : ℝ, (x i : EReal) = (r : EReal)) (hkv : ∀ i, ∃ r : ℝ, (kv i : EReal) = (r : EReal)) (hy : ∀ i, ∃ r : ℝ, (y i : EReal) = (r : EReal))
    (R : Fin 4096) (k : Fin 256) :
    (gq x kv y (ix2 R k) : EReal) = Cert.Mem.fullQ (fun R k => (x (ix2 R k) : EReal)) (fun R k => (y (ix2 R k) : EReal)) (fun j k => (kv (ix2 j k) : EReal)) R k := by
  have hR : (⟨R.val / 2048 * 2048 + R.val % 2048, by omega⟩ : Fin 4096) = R := Fin.ext (by dsimp only; omega)
  have hk : (⟨k.val / 64 * 64 + k.val % 64, by omega⟩ : Fin 256) = k := Fin.ext (by dsimp only; omega)
  have hk' : (⟨k.val / 64 * 64 + k.val % 64, by omega⟩ : Fin 512) = ⟨k.val, by omega⟩ := Fin.ext (by dsimp only; omega)
  have e := rQ_at (ds x kv y) (rk kv) ⟨R.val / 2048, by omega⟩ ⟨R.val % 2048, by omega⟩ ⟨k.val / 64, by omega⟩ ⟨k.val % 64, by omega⟩
  simp only [hR, hk] at e
  unfold gq Cert.Mem.fullQ
  rw [e]
  simp_rw [ds_at x kv y hx hkv hy, rk_at, hR, hk']

theorem gkv_at (hx : ∀ i, ∃ r : ℝ, (x i : EReal) = (r : EReal)) (hkv : ∀ i, ∃ r : ℝ, (kv i : EReal) = (r : EReal)) (hy : ∀ i, ∃ r : ℝ, (y i : EReal) = (r : EReal))
    (J k : Fin 512) :
    (gkv x kv y (ix2 J k) : EReal) = Cert.Mem.fullKV (fun R k => (x (ix2 R k) : EReal)) (fun R k => (y (ix2 R k) : EReal)) (fun j k => (kv (ix2 j k) : EReal)) J k := by
  have hJ : (⟨J.val / 256 * 256 + J.val % 256, by omega⟩ : Fin 512) = J := Fin.ext (by dsimp only; omega)
  unfold gkv Cert.Mem.fullKV Cert.Mem.addKV
  split
  · rename_i h
    have hk : (⟨k.val / 64 * 64 + k.val % 64, by omega⟩ : Fin 512) = k := Fin.ext (by dsimp only; omega)
    have hk' : (⟨k.val / 64 * 64 + k.val % 64, by omega⟩ : Fin 256) = ⟨k.val, h⟩ := Fin.ext (by dsimp only; omega)
    have e := rKV_key (rVt (rY y) (rP (rS (rq x) (rk kv)))) (rKt (ds x kv y) (rq x)) ⟨J.val / 256, by omega⟩ ⟨J.val % 256, by omega⟩ ⟨k.val / 64, by omega⟩ ⟨k.val % 64, by omega⟩
    simp only [hJ, hk] at e
    rw [e, rKt_at]
    simp_rw [ds_at x kv y hx hkv hy, rq_at, hk']
  · rename_i h
    have hk : (⟨256 + (k.val - 256) / 64 * 64 + (k.val - 256) % 64, by omega⟩ : Fin 512) = k := Fin.ext (by dsimp only; omega)
    have hk' : (⟨(k.val - 256) / 64 * 64 + (k.val - 256) % 64, by omega⟩ : Fin 256) = ⟨k.val - 256, by omega⟩ := Fin.ext (by dsimp only; omega)
    have e := rKV_value (rVt (rY y) (rP (rS (rq x) (rk kv)))) (rKt (ds x kv y) (rq x)) ⟨J.val / 256, by omega⟩ ⟨J.val % 256, by omega⟩ ⟨(k.val - 256) / 64, by omega⟩ ⟨(k.val - 256) % 64, by omega⟩
    simp only [hJ, hk] at e
    rw [e, rVt_at]
    refine Finset.sum_congr rfl fun t _ => (mul_comm _ _).trans ?_
    rw [rP_at, rY_at]
    unfold Cert.Mem.P
    simp_rw [rS_at, rq_at, rk_at, hk']

/-- The result with the last columns replaced. -/
def put (x3 : FVec Ideal S4096x1024 .bf16) (y : FVec Ideal S4096x256 .bf16) : FVec Ideal S4096x1024 .bf16 :=
  concatenate S4096x1024 1 [⟨S4096x768, (extractStridedSlice S4096x768 ![0, 0] x3 slices_S4096x1024_S4096x768_0_0)⟩, ⟨S4096x256, y⟩] concatenates_S4096x768_S4096x256_S4096x1024_d1
/-- The columns of the memory's part. -/
def cols {φ : FTy} (x : FVec Ideal S4096x1024 φ) : FVec Ideal S4096x256 φ := extractStridedSlice S4096x256 ![0, 768] x slices_S4096x1024_S4096x256_0_768

theorem cols_at {φ : FTy} (x : FVec Ideal S4096x1024 φ) (R : Fin 4096) (k : Fin 256) : (cols x (ix2 R k) : EReal) = (x (ix2 R ⟨768 + k.val, by omega⟩) : EReal) := by
  unfold cols
  pointwise []

theorem put_lo (x3 : FVec Ideal S4096x1024 .bf16) (y : FVec Ideal S4096x256 .bf16) (R : Fin 4096) (k : Fin 1024) (hk : ¬768 ≤ k.val) :
    (put x3 y (ix2 R k) : EReal) = (x3 (ix2 R k) : EReal) := by
  unfold put
  pointwise []
  rw [dif_pos (show k.val < 768 by omega)]

theorem put_hi (x3 : FVec Ideal S4096x1024 .bf16) (y : FVec Ideal S4096x256 .bf16) (R : Fin 4096) (k : Fin 1024) (hk : 768 ≤ k.val) :
    (put x3 y (ix2 R k) : EReal) = (y (ix2 R ⟨k.val - 768, by omega⟩) : EReal) := by
  unfold put
  pointwise []
  rw [dif_neg (show ¬k.val < 768 by omega)]

theorem res1 (m : (ℓ : Loc nD τ sig) → Buf (Elt Ideal) ℓ) (c : Dev nD) : Value.res_main_v74 m c
    = gkv (cols (φ := .f32) (m (c.tc.loc main_arg0))) (m (c.tc.loc main_arg1)) (cols (φ := .bf16) (m (c.tc.loc main_arg2))) := by
  rfl

theorem res0 (m : (ℓ : Loc nD τ sig) → Buf (Elt Ideal) ℓ) (c : Dev nD) : Value.res_main_v77 m c
    = put (m (c.tc.loc main_arg3)) (gq (cols (φ := .f32) (m (c.tc.loc main_arg0))) (m (c.tc.loc main_arg1)) (cols (φ := .bf16) (m (c.tc.loc main_arg2)))) := by
  rfl

end Cert.Reference25Ideal.Att

namespace Cert.Reference26Ideal.Att
open Idealize.ShloMosaic Idealize.ShloMosaic.TcCoe Idealize.SL.Sem
open Cert.Reference26Ideal Cert.Reference26Ideal.Gen
open Cert.Reference25Ideal.Att (gq gkv)

/-- The result with the last columns replaced. -/
def put (x3 : FVec Ideal S4096x1792 .bf16) (y : FVec Ideal S4096x256 .bf16) : FVec Ideal S4096x1792 .bf16 :=
  concatenate S4096x1792 1 [⟨S4096x1536, (extractStridedSlice S4096x1536 ![0, 0] x3 slices_S4096x1792_S4096x1536_0_0)⟩, ⟨S4096x256, y⟩] concatenates_S4096x1536_S4096x256_S4096x1792_d1
/-- The columns of the queries. -/
def qs (x : FVec Ideal S4096x1792 .f32) : FVec Ideal S4096x256 .f32 := extractStridedSlice S4096x256 ![0, 1536] x slices_S4096x1792_S4096x256_0_1536
/-- The columns of the memory's part of the output's derivative. -/
def ys (x : FVec Ideal S4096x1024 .bf16) : FVec Ideal S4096x256 .bf16 := extractStridedSlice S4096x256 ![0, 768] x slices_S4096x1024_S4096x256_0_768

theorem qs_at (x : FVec Ideal S4096x1792 .f32) (R : Fin 4096) (k : Fin 256) : (qs x (ix2 R k) : EReal) = (x (ix2 R ⟨1536 + k.val, by omega⟩) : EReal) := by
  unfold qs
  pointwise []

theorem ys_at (x : FVec Ideal S4096x1024 .bf16) (R : Fin 4096) (k : Fin 256) : (ys x (ix2 R k) : EReal) = (x (ix2 R ⟨768 + k.val, by omega⟩) : EReal) := by
  unfold ys
  pointwise []

theorem put_lo (x3 : FVec Ideal S4096x1792 .bf16) (y : FVec Ideal S4096x256 .bf16) (R : Fin 4096) (k : Fin 1792) (hk : ¬1536 ≤ k.val) :
    (put x3 y (ix2 R k) : EReal) = (x3 (ix2 R k) : EReal) := by
  unfold put
  pointwise []
  rw [dif_pos (show k.val < 1536 by omega)]

theorem put_hi (x3 : FVec Ideal S4096x1792 .bf16) (y : FVec Ideal S4096x256 .bf16) (R : Fin 4096) (k : Fin 1792) (hk : 1536 ≤ k.val) :
    (put x3 y (ix2 R k) : EReal) = (y (ix2 R ⟨k.val - 1536, by omega⟩) : EReal) := by
  unfold put
  pointwise []
  rw [dif_neg (show ¬k.val < 1536 by omega)]

theorem res1 (m : (ℓ : Loc nD τ sig) → Buf (Elt Ideal) ℓ) (c : Dev nD) : Value.res_main_v74 m c
    = gkv (qs (m (c.tc.loc main_arg0))) (m (c.tc.loc main_arg1)) (ys (m (c.tc.loc main_arg2))) := by
  rfl

theorem res0 (m : (ℓ : Loc nD τ sig) → Buf (Elt Ideal) ℓ) (c : Dev nD) : Value.res_main_v77 m c
    = put (m (c.tc.loc main_arg3)) (gq (qs (m (c.tc.loc main_arg0))) (m (c.tc.loc main_arg1)) (ys (m (c.tc.loc main_arg2)))) := by
  rfl

end Cert.Reference26Ideal.Att

namespace Cert.Proof
open Idealize.ShloMosaic Idealize.ShloMosaic.TcCoe Idealize.SL.Sem

/-- Every run of the references ends, and leaves its arguments as they were. -/
theorem reference25_quiescent : quiescent_Reference25Ideal (hReference25Ideal := Cert.Reference25Ideal.Gen.facts) := fun m ρ _ =>
  (θ_run Cert.Reference25Ideal.defs _ _).mono
    (fun r h => ⟨fun c => (h c).2.2, Idealize.ShloMosaic.sem_eq_zero_of_no_sems (by decide) r.2⟩)
    (Cert.Reference25Ideal.Value.run (F := Ideal) m ρ)
theorem reference26_quiescent : quiescent_Reference26Ideal (hReference26Ideal := Cert.Reference26Ideal.Gen.facts) := fun m ρ _ =>
  (θ_run Cert.Reference26Ideal.defs _ _).mono
    (fun r h => ⟨fun c => (h c).2.2, Idealize.ShloMosaic.sem_eq_zero_of_no_sems (by decide) r.2⟩)
    (Cert.Reference26Ideal.Value.run (F := Ideal) m ρ)

end Cert.Proof
-- ==== Proof.MemBwdEq.lean ====
module
public import proofs.«01_k».proof.Proof.MemBwd
public import proofs.«01_k».proof.Proof.MemBwdRef
public import proofs.«01_k».proof.Proof.Decode

/-! # The gradient of the attention to the memory: the kernel's is the reference's -/

@[expose] public section
set_option maxRecDepth 65536
noncomputable section

namespace Cert.Pre_finite25

/-- The shape relations the precondition states. -/
instance facts : Facts := by
  constructor <;> decide

open Idealize.ShloMosaic Cert.Pre_finite in
/-- Under the precondition the queries, the keys and values, and the derivative of the output are real. -/
theorem real (x : FVec Ideal S4096x1024 .f32) (kv : FVec Ideal S512x512 .f32) (y : FVec Ideal S4096x1024 .bf16) (z : FVec Ideal S4096x1024 .bf16) (h : fn x kv y z = fun _ => 1#1) :
    (∀ i, ∃ r : ℝ, (x i : EReal) = (r : EReal)) ∧ (∀ i, ∃ r : ℝ, (kv i : EReal) = (r : EReal)) ∧ (∀ i, ∃ r : ℝ, (y i : EReal) = (r : EReal)) := by
  have e := congrFun h (fun a => a.elim0)
  haveI : Subsingleton S_.Idx := ⟨fun a b => funext fun k => k.elim0⟩
  obtain ⟨e, e2⟩ := and_eq_one _ _ e
  obtain ⟨e0, e1⟩ := and_eq_one _ _ e
  exact ⟨fun i => ⟨_, real_of_lt _ (Host.reduce_andi_all _ _ _ _ _ e0 i)⟩, fun i => ⟨_, real_of_lt _ (Host.reduce_andi_all _ _ _ _ _ e1 i)⟩,
    fun i => ⟨_, real_of_lt _ (Host.reduce_andi_all _ _ _ _ _ e2 i)⟩⟩

end Cert.Pre_finite25

namespace Cert.Pre_finite26

/-- The shape relations the precondition states. -/
instance facts : Facts := by
  constructor <;> decide

open Idealize.ShloMosaic Cert.Pre_finite in
/-- Under the precondition the queries, the keys and values, and the derivative of the output are real. -/
theorem real (x : FVec Ideal S4096x1792 .f32) (kv : FVec Ideal S512x512 .f32) (y : FVec Ideal S4096x1024 .bf16) (z : FVec Ideal S4096x1792 .bf16) (h : fn x kv y z = fun _ => 1#1) :
    (∀ i, ∃ r : ℝ, (x i : EReal) = (r : EReal)) ∧ (∀ i, ∃ r : ℝ, (kv i : EReal) = (r : EReal)) ∧ (∀ i, ∃ r : ℝ, (y i : EReal) = (r : EReal)) := by
  have e := congrFun h (fun a => a.elim0)
  haveI : Subsingleton S_.Idx := ⟨fun a b => funext fun k => k.elim0⟩
  obtain ⟨e, e2⟩ := and_eq_one _ _ e
  obtain ⟨e0, e1⟩ := and_eq_one _ _ e
  exact ⟨fun i => ⟨_, real_of_lt _ (Host.reduce_andi_all _ _ _ _ _ e0 i)⟩, fun i => ⟨_, real_of_lt _ (Host.reduce_andi_all _ _ _ _ _ e1 i)⟩,
    fun i => ⟨_, real_of_lt _ (Host.reduce_andi_all _ _ _ _ _ e2 i)⟩⟩

end Cert.Pre_finite26

namespace Cert.Reference25Ideal.Att
open Idealize.ShloMosaic Idealize.ShloMosaic.TcCoe Idealize.SL.Sem
open Cert.Reference25Ideal Cert.Reference25Ideal.Gen

theorem gq_at' (x : FVec Ideal S4096x1024 .f32) (kv : FVec Ideal S512x512 .f32) (y : FVec Ideal S4096x1024 .bf16) (hx : ∀ i, ∃ r : ℝ, (x i : EReal) = (r : EReal))
    (hkv : ∀ i, ∃ r : ℝ, (kv i : EReal) = (r : EReal)) (hy : ∀ i, ∃ r : ℝ, (y i : EReal) = (r : EReal)) (R : Fin 4096) (k : Fin 256) :
    (Cert.Reference25Ideal.Att.gq (cols (φ := .f32) x) kv (cols (φ := .bf16) y) (ix2 R k) : EReal) = Cert.Kernel25Ideal.Att.dq_ x kv y R k := by
  rw [Cert.Reference25Ideal.Att.gq_at (cols (φ := .f32) x) kv (cols (φ := .bf16) y) (fun i => hx _) hkv (fun i => hy _)]
  unfold Cert.Kernel25Ideal.Att.dq_ Cert.Kernel25Ideal.Att.X Cert.Kernel25Ideal.Att.Y Cert.Kernel25Ideal.Att.KV
  simp_rw [cols_at]

theorem gkv_at' (x : FVec Ideal S4096x1024 .f32) (kv : FVec Ideal S512x512 .f32) (y : FVec Ideal S4096x1024 .bf16) (hx : ∀ i, ∃ r : ℝ, (x i : EReal) = (r : EReal))
    (hkv : ∀ i, ∃ r : ℝ, (kv i : EReal) = (r : EReal)) (hy : ∀ i, ∃ r : ℝ, (y i : EReal) = (r : EReal)) (j k : Fin 512) :
    (Cert.Reference25Ideal.Att.gkv (cols (φ := .f32) x) kv (cols (φ := .bf16) y) (ix2 j k) : EReal) = Cert.Kernel25Ideal.Att.dkv_ x kv y j k := by
  rw [Cert.Reference25Ideal.Att.gkv_at (cols (φ := .f32) x) kv (cols (φ := .bf16) y) (fun i => hx _) hkv (fun i => hy _)]
  unfold Cert.Kernel25Ideal.Att.dkv_ Cert.Kernel25Ideal.Att.X Cert.Kernel25Ideal.Att.Y Cert.Kernel25Ideal.Att.KV
  simp_rw [cols_at]

end Cert.Reference25Ideal.Att

namespace Cert.Reference26Ideal.Att
open Idealize.ShloMosaic Idealize.ShloMosaic.TcCoe Idealize.SL.Sem
open Cert.Reference26Ideal Cert.Reference26Ideal.Gen

theorem gq_at' (x : FVec Ideal S4096x1792 .f32) (kv : FVec Ideal S512x512 .f32) (y : FVec Ideal S4096x1024 .bf16) (hx : ∀ i, ∃ r : ℝ, (x i : EReal) = (r : EReal))
    (hkv : ∀ i, ∃ r : ℝ, (kv i : EReal) = (r : EReal)) (hy : ∀ i, ∃ r : ℝ, (y i : EReal) = (r : EReal)) (R : Fin 4096) (k : Fin 256) :
    (Cert.Reference25Ideal.Att.gq (qs x) kv (ys y) (ix2 R k) : EReal) = Cert.Kernel26Ideal.Att.dq_ x kv y R k := by
  rw [Cert.Reference25Ideal.Att.gq_at (qs x) kv (ys y) (fun i => hx _) hkv (fun i => hy _)]
  unfold Cert.Kernel26Ideal.Att.dq_ Cert.Kernel26Ideal.Att.X Cert.Kernel26Ideal.Att.Y Cert.Kernel26Ideal.Att.KV
  simp_rw [qs_at, ys_at]

theorem gkv_at' (x : FVec Ideal S4096x1792 .f32) (kv : FVec Ideal S512x512 .f32) (y : FVec Ideal S4096x1024 .bf16) (hx : ∀ i, ∃ r : ℝ, (x i : EReal) = (r : EReal))
    (hkv : ∀ i, ∃ r : ℝ, (kv i : EReal) = (r : EReal)) (hy : ∀ i, ∃ r : ℝ, (y i : EReal) = (r : EReal)) (j k : Fin 512) :
    (Cert.Reference25Ideal.Att.gkv (qs x) kv (ys y) (ix2 j k) : EReal) = Cert.Kernel26Ideal.Att.dkv_ x kv y j k := by
  rw [Cert.Reference25Ideal.Att.gkv_at (qs x) kv (ys y) (fun i => hx _) hkv (fun i => hy _)]
  unfold Cert.Kernel26Ideal.Att.dkv_ Cert.Kernel26Ideal.Att.X Cert.Kernel26Ideal.Att.Y Cert.Kernel26Ideal.Att.KV
  simp_rw [qs_at, ys_at]

end Cert.Reference26Ideal.Att

namespace Cert.Proof
open Idealize.ShloMosaic Idealize.ShloMosaic.TcCoe Idealize.SL.Sem

/-- The kernel's results are the reference's. -/
theorem algebraic25 : algebraic_Kernel25Ideal_Reference25Ideal_pre_finite25
    (hKernel25Ideal := Cert.Kernel25Ideal.Gen.facts) (hReference25Ideal := Cert.Reference25Ideal.Gen.facts) := by
  intro m g m' g' hp ha
  refine ⟨fun c => (Cert.Kernel25Ideal.Gen.dats m 0 c).arrAt 3 Cert.Kernel25Ideal.cfg0.N, fun c => (Cert.Kernel25Ideal.Gen.dats m 0 c).arrAt 4 Cert.Kernel25Ideal.cfg0.N,
    Cert.Kernel25Ideal.Value.run_blocks m g, ?_⟩
  refine (θ_run Cert.Reference25Ideal.defs _ _).mono (fun r h c => ⟨?_, ?_, (h c).2.2⟩) (Cert.Reference25Ideal.Value.run (F := Ideal) m' g')
  · obtain ⟨e0, e1, e2⟩ := Cert.Pre_finite25.real _ _ _ _ (hp c)
    refine (h c).1.trans ((Cert.Reference25Ideal.Att.res0 m' c).trans ?_)
    rw [(ha c).1, (ha c).2.1, (ha c).2.2.1, (ha c).2.2.2]
    refine Eq.trans ?_ (Cert.Kernel25Ideal.Att.arr3 m c).symm
    funext y
    idx_vars y
    by_cases h1 : 768 ≤ y1.val
    · refine ((Cert.Reference25Ideal.Att.put_hi _ _ y0 y1 h1).trans ?_).trans (if_pos h1).symm
      exact Cert.Reference25Ideal.Att.gq_at' _ _ _ e0 e1 e2 y0 ⟨y1.val - 768, by omega⟩
    · exact (Cert.Reference25Ideal.Att.put_lo _ _ y0 y1 h1).trans (Eq.trans (congrFun (Cert.Kernel25Ideal.Att.entry m c) _).symm (if_neg h1).symm)
  · obtain ⟨e0, e1, e2⟩ := Cert.Pre_finite25.real _ _ _ _ (hp c)
    refine (h c).2.1.trans ((Cert.Reference25Ideal.Att.res1 m' c).trans ?_)
    rw [(ha c).1, (ha c).2.1, (ha c).2.2.1]
    refine Eq.trans ?_ (Cert.Kernel25Ideal.Att.arr4 m c).symm
    funext y
    idx_vars y
    exact Cert.Reference25Ideal.Att.gkv_at' _ _ _ e0 e1 e2 y0 y1

/-- The kernel's results are the reference's. -/
theorem algebraic26 : algebraic_Kernel26Ideal_Reference26Ideal_pre_finite26
    (hKernel26Ideal := Cert.Kernel26Ideal.Gen.facts) (hReference26Ideal := Cert.Reference26Ideal.Gen.facts) := by
  intro m g m' g' hp ha
  refine ⟨fun c => (Cert.Kernel26Ideal.Gen.dats m 0 c).arrAt 3 Cert.Kernel26Ideal.cfg0.N, fun c => (Cert.Kernel26Ideal.Gen.dats m 0 c).arrAt 4 Cert.Kernel26Ideal.cfg0.N,
    Cert.Kernel26Ideal.Value.run_blocks m g, ?_⟩
  refine (θ_run Cert.Reference26Ideal.defs _ _).mono (fun r h c => ⟨?_, ?_, (h c).2.2⟩) (Cert.Reference26Ideal.Value.run (F := Ideal) m' g')
  · obtain ⟨e0, e1, e2⟩ := Cert.Pre_finite26.real _ _ _ _ (hp c)
    refine (h c).1.trans ((Cert.Reference26Ideal.Att.res0 m' c).trans ?_)
    rw [(ha c).1, (ha c).2.1, (ha c).2.2.1, (ha c).2.2.2]
    refine Eq.trans ?_ (Cert.Kernel26Ideal.Att.arr3 m c).symm
    funext y
    idx_vars y
    by_cases h1 : 1536 ≤ y1.val
    · refine ((Cert.Reference26Ideal.Att.put_hi _ _ y0 y1 h1).trans ?_).trans (if_pos h1).symm
      exact Cert.Reference26Ideal.Att.gq_at' _ _ _ e0 e1 e2 y0 ⟨y1.val - 1536, by omega⟩
    · exact (Cert.Reference26Ideal.Att.put_lo _ _ y0 y1 h1).trans (Eq.trans (congrFun (Cert.Kernel26Ideal.Att.entry m c) _).symm (if_neg h1).symm)
  · obtain ⟨e0, e1, e2⟩ := Cert.Pre_finite26.real _ _ _ _ (hp c)
    refine (h c).2.1.trans ((Cert.Reference26Ideal.Att.res1 m' c).trans ?_)
    rw [(ha c).1, (ha c).2.1, (ha c).2.2.1]
    refine Eq.trans ?_ (Cert.Kernel26Ideal.Att.arr4 m c).symm
    funext y
    idx_vars y
    exact Cert.Reference26Ideal.Att.gkv_at' _ _ _ e0 e1 e2 y0 y1

end Cert.Proof
-- ==== Proof.lean ====
/- The proof of the claims, from the modules of Proof. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Reference6Ideal
public import proofs.«01_k».proof.Proof.Gen.Reference6Ideal.Run
public import proofs.«01_k».proof.Proof.Gen.Reference7Ideal
public import proofs.«01_k».proof.Proof.Gen.Reference7Ideal.Run
public import proofs.«01_k».proof.Proof.Gen.Reference8Ideal
public import proofs.«01_k».proof.Proof.Gen.Reference8Ideal.Run
public import Idealize.ShloMosaic.Adequacy
public import Idealize.ShloMosaic.Init
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.Gen.Reference26Ideal.Run
public import proofs.«01_k».proof.Proof.Algebraic
public import proofs.«01_k».proof.Proof.FfnDh
public import proofs.«01_k».proof.Proof.FfnDwUpG
public import proofs.«01_k».proof.Proof.FfnDwUpV
public import proofs.«01_k».proof.Proof.FfnDact
public import proofs.«01_k».proof.Proof.FfnDwDown
public import proofs.«01_k».proof.Proof.FfnUp
public import proofs.«01_k».proof.Proof.FfnDown
public import proofs.«01_k».proof.Proof.Proj
public import proofs.«01_k».proof.Proof.ProjDx
public import proofs.«01_k».proof.Proof.ProjDw
public import proofs.«01_k».proof.Proof.MemFwd
public import proofs.«01_k».proof.Proof.SwaFwd
public import proofs.«01_k».proof.Proof.MemBwdEq

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Pre_finite.facts, Cert.Pre_finite24.facts, Cert.Pre_finite25.facts, Cert.Pre_finite26.facts, Cert.On_written.facts, Cert.On_written3.facts, Cert.On_written24.facts,
  fun m ρ _ => Cert.Kernel.Gen.frame m ρ,
  fun m ρ _ => Cert.KernelIdeal.Gen.frame m ρ,
  fun m ρ _ => Cert.KernelIdeal.Gen.frame m ρ,
  reference_quiescent,
  fun m ρ _ => reference_quiescent m ρ trivial,
  fun m ρ _ => Cert.Kernel2.Gen.frame m ρ,
  fun m ρ _ => Cert.Kernel2Ideal.Gen.frame m ρ,
  reference2_quiescent,
  fun m ρ _ => Cert.Kernel3.Gen.frame m ρ,
  fun m ρ _ => Cert.Kernel3Ideal.Gen.frame m ρ,
  reference3_quiescent,
  fun m ρ _ => Cert.Kernel4.Gen.frame m ρ,
  fun m ρ _ => Cert.Kernel4Ideal.Gen.frame m ρ,
  reference4_quiescent,
  fun m ρ _ => Cert.Kernel5.Gen.frame m ρ,
  fun m ρ _ => Cert.Kernel5Ideal.Gen.frame m ρ,
  reference5_quiescent,
  fun m ρ _ => Cert.Kernel6.Gen.frame m ρ,
  fun m ρ _ => Cert.Kernel6Ideal.Gen.frame m ρ,
  reference6_quiescent,
  fun m ρ _ => Cert.Kernel7.Gen.frame m ρ,
  fun m ρ _ => Cert.Kernel7Ideal.Gen.frame m ρ,
  reference7_quiescent,
  fun m ρ _ => Cert.Kernel8.Gen.frame m ρ,
  fun m ρ _ => Cert.Kernel8Ideal.Gen.frame m ρ,
  reference8_quiescent,
  fun m ρ _ => Cert.Kernel9.Gen.frame m ρ,
  fun m ρ _ => Cert.Kernel9Ideal.Gen.frame m ρ,
  reference9_quiescent,
  fun m ρ _ => Cert.Kernel10.Gen.frame m ρ,
  fun m ρ _ => Cert.Kernel10Ideal.Gen.frame m ρ,
  reference10_quiescent,
  fun m ρ _ => Cert.Kernel11.Gen.frame m ρ,
  fun m ρ _ => Cert.Kernel11Ideal.Gen.frame m ρ,
  reference11_quiescent,
  fun m ρ _ => Cert.Kernel12.Gen.frame m ρ,
  fun m ρ _ => Cert.Kernel12Ideal.Gen.frame m ρ,
  reference12_quiescent,
  fun m ρ _ => Cert.Kernel13.Gen.frame m ρ,
  fun m ρ _ => Cert.Kernel13Ideal.Gen.frame m ρ,
  reference13_quiescent,
  fun m ρ _ => Cert.Kernel14.Gen.frame m ρ,
  fun m ρ _ => Cert.Kernel14Ideal.Gen.frame m ρ,
  reference14_quiescent,
  fun m ρ _ => Cert.Kernel15.Gen.frame m ρ,
  fun m ρ _ => Cert.Kernel15Ideal.Gen.frame m ρ,
  reference15_quiescent,
  fun m ρ _ => Cert.Kernel16.Gen.frame m ρ,
  fun m ρ _ => Cert.Kernel16Ideal.Gen.frame m ρ,
  reference16_quiescent,
  fun m ρ _ => Cert.Kernel17.Gen.frame m ρ,
  fun m ρ _ => Cert.Kernel17Ideal.Gen.frame m ρ,
  reference17_quiescent,
  fun m ρ _ => Cert.Kernel18.Gen.frame m ρ,
  fun m ρ _ => Cert.Kernel18Ideal.Gen.frame m ρ,
  reference18_quiescent,
  fun m ρ _ => Cert.Kernel19.Gen.frame m ρ,
  fun m ρ _ => Cert.Kernel19Ideal.Gen.frame m ρ,
  reference19_quiescent,
  fun m ρ _ => Cert.Kernel20.Gen.frame m ρ,
  fun m ρ _ => Cert.Kernel20Ideal.Gen.frame m ρ,
  reference20_quiescent,
  fun m ρ _ => Cert.Kernel21.Gen.frame m ρ,
  fun m ρ _ => Cert.Kernel21Ideal.Gen.frame m ρ,
  reference21_quiescent,
  fun m ρ _ => Cert.Kernel22.Gen.frame m ρ,
  fun m ρ _ => Cert.Kernel22Ideal.Gen.frame m ρ,
  reference22_quiescent,
  fun m ρ _ => Cert.Kernel23.Gen.frame m ρ,
  fun m ρ _ => Cert.Kernel23Ideal.Gen.frame m ρ,
  reference23_quiescent,
  fun m ρ _ => Cert.Kernel24.Gen.frame m ρ,
  fun m ρ _ => Cert.Kernel24Ideal.Gen.frame m ρ,
  fun m ρ _ => Cert.Kernel24Ideal.Gen.frame m ρ,
  reference24_quiescent,
  fun m ρ _ => reference24_quiescent m ρ trivial,
  fun m ρ _ => Cert.Kernel25.Gen.frame m ρ,
  fun m ρ _ => Cert.Kernel25Ideal.Gen.frame m ρ,
  fun m ρ _ => Cert.Kernel25Ideal.Gen.frame m ρ,
  reference25_quiescent,
  fun m ρ _ => reference25_quiescent m ρ trivial,
  fun m ρ _ => Cert.Kernel26.Gen.frame m ρ,
  fun m ρ _ => Cert.Kernel26Ideal.Gen.frame m ρ,
  fun m ρ _ => Cert.Kernel26Ideal.Gen.frame m ρ,
  reference26_quiescent,
  fun m ρ _ => reference26_quiescent m ρ trivial,
  trivial,
  algebraic,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10,
  trivial,
  algebraic11,
  trivial,
  algebraic12,
  trivial,
  algebraic13,
  trivial,
  algebraic14,
  trivial,
  algebraic15,
  trivial,
  algebraic16,
  trivial,
  algebraic17,
  trivial,
  algebraic18,
  trivial,
  algebraic19,
  trivial,
  algebraic20,
  trivial,
  algebraic21,
  trivial,
  algebraic22,
  trivial,
  algebraic23,
  trivial,
  algebraic24,
  trivial,
  algebraic25,
  trivial,
  algebraic26⟩

end Cert.Proof

end
